-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![2, 512, 4096]⟩ ⟨3, ![2, 4096, 4096]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 512, 4096]⟩ ⟨3, ![2, 4096, 4096]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x512x768 : Shape := ⟨3, ![2, 512, 768]⟩
abbrev S768x512 : Shape := ⟨2, ![768, 512]⟩
abbrev S2x512x4096 : Shape := ⟨3, ![2, 512, 4096]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x4096 : S_.BroadcastsInDim S2x512x4096 (![] : Fin 0 → Fin S2x512x4096.rank)

variable [Facts]

def fn {F : FTy → Type} [FloatOps F] (main_arg0 : FVec F S2x512x768 .f32) (main_arg1 : FVec F S768x512 .f32) (main_arg2 : FVec F S2x512x4096 .f32) (main_arg3 : FVec F S2x512x4096 .f32) (main_arg4 : FVec F S512x768 .f32) : IVec S2x512x768 1 × IVec S768x512 1 × IVec S2x512x4096 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S2x512x4096 .f32 := Host.absf main_arg2
  let main_cst_1 : FVec F S_ .f32 := constant S_ .f32 0x7F800000#32
  let main_v7 : FVec F S2x512x4096 .f32 := broadcastInDim S2x512x4096 ![] bcast_S_S2x512x4096 main_cst_1
  let main_v8 : IVec S2x512x4096 1 := cmpf .olt main_v6 main_v7
  (main_v2, main_v5, main_v8)
-- ==== Pre_scores_finite_ReferenceIdeal.lean ====
abbrev S2x512x768 : Shape := ⟨3, ![2, 512, 768]⟩
abbrev S768x4096 : Shape := ⟨2, ![768, 4096]⟩
abbrev S2x4096x4096 : Shape := ⟨3, ![2, 4096, 4096]⟩
abbrev S4096x768 : Shape := ⟨2, ![4096, 768]⟩
abbrev S_ : Shape := ⟨0, ![]⟩

class Facts : Prop where
  bcast_S_S2x512x768 : S_.BroadcastsInDim S2x512x768 (![] : Fin 0 → Fin S2x512x768.rank)
  bcast_S_S768x4096 : S_.BroadcastsInDim S768x4096 (![] : Fin 0 → Fin S768x4096.rank)
  bcast_S_S2x4096x4096 : S_.BroadcastsInDim S2x4096x4096 (![] : Fin 0 → Fin S2x4096x4096.rank)

variable [Facts]

def fn {F : FTy → Type} [FloatOps F] (main_arg0 : FVec F S2x512x768 .f32) (main_arg1 : FVec F S768x4096 .f32) (main_arg2 : FVec F S2x4096x4096 .f32) (main_arg3 : FVec F S2x4096x4096 .f32) (main_arg4 : FVec F S4096x768 .f32) : IVec S2x512x768 1 × IVec S768x4096 1 × IVec S2x4096x4096 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x4096 .f32 := Host.absf main_arg1
  let main_cst_0 : FVec F S_ .f32 := constant S_ .f32 0x7F800000#32
  let main_v4 : FVec F S768x4096 .f32 := broadcastInDim S768x4096 ![] bcast_S_S768x4096 main_cst_0
  let main_v5 : IVec S768x4096 1 := cmpf .olt main_v3 main_v4
  let main_v6 : FVec F S2x4096x4096 .f32 := Host.absf main_arg2
  let main_cst_1 : FVec F S_ .f32 := constant S_ .f32 0x7F800000#32
  let main_v7 : FVec F S2x4096x4096 .f32 := broadcastInDim S2x4096x4096 ![] bcast_S_S2x4096x4096 main_cst_1
  let main_v8 : IVec S2x4096x4096 1 := cmpf .olt main_v6 main_v7
  (main_v2, main_v5, main_v8)
-- ==== Kernel.lean ====
abbrev S2x512x768 : Shape := ⟨3, ![2, 512, 768]⟩
abbrev S768x512 : Shape := ⟨2, ![768, 512]⟩
abbrev S2x512x4096 : Shape := ⟨3, ![2, 512, 4096]⟩
abbrev S512x768 : Shape := ⟨2, ![512, 768]⟩
abbrev S2x640x512 : Shape := ⟨3, ![2, 640, 512]⟩
abbrev S2x512x512 : Shape := ⟨3, ![2, 512, 512]⟩
abbrev S512x512 : Shape := ⟨2, ![512, 512]⟩
abbrev S8x2x512x512 : Shape := ⟨4, ![8, 2, 512, 512]⟩
abbrev S2x2x2x512x512 : Shape := ⟨5, ![2, 2, 2, 512, 512]⟩
abbrev S2x256x768 : Shape := ⟨3, ![2, 256, 768]⟩
abbrev S3x2x512x512 : Shape := ⟨4, ![3, 2, 512, 512]⟩
abbrev S4 : Shape := ⟨1, ![4]⟩
abbrev S14 : Shape := ⟨1, ![14]⟩
abbrev S3 : Shape := ⟨1, ![3]⟩
abbrev S3x2 : Shape := ⟨2, ![3, 2]⟩
abbrev S_ : Shape := ⟨0, ![]⟩
abbrev S1 : Shape := ⟨1, ![1]⟩
abbrev S1x1x2x512x512 : Shape := ⟨5, ![1, 1, 2, 512, 512]⟩
abbrev S1x2x512x512 : Shape := ⟨4, ![1, 2, 512, 512]⟩
abbrev S1x1x2x128x512 : Shape := ⟨5, ![1, 1, 2, 128, 512]⟩
abbrev S2x128x512 : Shape := ⟨3, ![2, 128, 512]⟩
abbrev S1x2x128x512 : Shape := ⟨4, ![1, 2, 128, 512]⟩
abbrev S1x512x768 : Shape := ⟨3, ![1, 512, 768]⟩
abbrev S1x512x512 : Shape := ⟨3, ![1, 512, 512]⟩
abbrev S512x640 : Shape := ⟨2, ![512, 640]⟩
abbrev S1x512x64 : Shape := ⟨3, ![1, 512, 64]⟩
abbrev S512x64 : Shape := ⟨2, ![512, 64]⟩
abbrev S1x640x64 : Shape := ⟨3, ![1, 640, 64]⟩
abbrev S640x64 : Shape := ⟨2, ![640, 64]⟩
abbrev S512 : Shape := ⟨1, ![512]⟩
abbrev S512x1 : Shape := ⟨2, ![512, 1]⟩
abbrev S1x256x768 : Shape := ⟨3, ![1, 256, 768]⟩
abbrev S256x768 : Shape := ⟨2, ![256, 768]⟩
abbrev S1x1 : Shape := ⟨2, ![1, 1]⟩
abbrev S1x128x768 : Shape := ⟨3, ![1, 128, 768]⟩
abbrev S128x768 : Shape := ⟨2, ![128, 768]⟩
abbrev S1x64x768 : Shape := ⟨3, ![1, 64, 768]⟩
abbrev S64x768 : Shape := ⟨2, ![64, 768]⟩

abbrev nBuf : Space → Nat
  | .hbm => 6
  | .vmem => 16
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x4096, .f32⟩
  | .hbm, ⟨3, _⟩ => ⟨S2x512x4096, .f32⟩
  | .hbm, ⟨4, _⟩ => ⟨S512x768, .f32⟩
  | .hbm, ⟨5, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S512x768, .f32⟩
  | .local _ .vmem, ⟨3, _⟩ => ⟨S2x512x768, .f32⟩
  | .local _ .vmem, ⟨4, _⟩ => ⟨S2x640x512, .bf16⟩
  | .local _ .vmem, ⟨5, _⟩ => ⟨S2x640x512, .bf16⟩
  | .local _ .vmem, ⟨6, _⟩ => ⟨S2x512x512, .bf16⟩
  | .local _ .vmem, ⟨7, _⟩ => ⟨S512x512, .bf16⟩
  | .local _ .vmem, ⟨8, _⟩ => ⟨S512x768, .bf16⟩
  | .local _ .vmem, ⟨9, _⟩ => ⟨S8x2x512x512, .bf16⟩
  | .local _ .vmem, ⟨10, _⟩ => ⟨S8x2x512x512, .bf16⟩
  | .local _ .vmem, ⟨11, _⟩ => ⟨S2x2x2x512x512, .f32⟩
  | .local _ .vmem, ⟨12, _⟩ => ⟨S2x512x768, .bf16⟩
  | .local _ .vmem, ⟨13, _⟩ => ⟨S2x256x768, .bf16⟩
  | .local _ .vmem, ⟨14, _⟩ => ⟨S2x512x768, .bf16⟩
  | .local _ .vmem, ⟨15, _⟩ => ⟨S3x2x512x512, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_26 : BitVec 32 := 0#32
  let v20 : BitVec 1 := Scalar.cmpi .eq v2 c0_i32_26
  let v21 : BitVec 32 := Scalar.extui v20
  let c0_i32_27 : BitVec 32 := 0#32
  let v22 : BitVec 1 := Scalar.cmpi .ne v21 c0_i32_27
  v22

def k0_dev9 : Nat :=
  let c0_i32_958 : BitVec 32 := 0#32
  let c7_i32_956 : BitVec 32 := 7#32
  let c1_i32_957 : BitVec 32 := 1#32
  let v1079 : BitVec 32 := Scalar.muli c7_i32_956 c1_i32_957
  let v1080 : BitVec 32 := Scalar.addi c0_i32_958 v1079
  v1080.toNat
def k0_dev10 : Nat :=
  let c0_i32_971 : BitVec 32 := 0#32
  let c4_i32_969 : BitVec 32 := 4#32
  let c1_i32_970 : BitVec 32 := 1#32
  let v1089 : BitVec 32 := Scalar.muli c4_i32_969 c1_i32_970
  let v1090 : BitVec 32 := Scalar.addi c0_i32_971 v1089
  v1090.toNat
def k0_dev11 : Nat :=
  let c0_i32_1036 : BitVec 32 := 0#32
  let c4_i32_1034 : BitVec 32 := 4#32
  let c1_i32_1035 : BitVec 32 := 1#32
  let v1131 : BitVec 32 := Scalar.muli c4_i32_1034 c1_i32_1035
  let v1132 : BitVec 32 := Scalar.addi c0_i32_1036 v1131
  v1132.toNat
def k0_dev12 : Nat :=
  let c0_i32_1049 : BitVec 32 := 0#32
  let c4_i32_1047 : BitVec 32 := 4#32
  let c1_i32_1048 : BitVec 32 := 1#32
  let v1141 : BitVec 32 := Scalar.muli c4_i32_1047 c1_i32_1048
  let v1142 : BitVec 32 := Scalar.addi c0_i32_1049 v1141
  v1142.toNat
def k0_dev13 : Nat :=
  let c0_i32_1114 : BitVec 32 := 0#32
  let c1_i32_1112 : BitVec 32 := 1#32
  let c1_i32_1113 : BitVec 32 := 1#32
  let v1183 : BitVec 32 := Scalar.muli c1_i32_1112 c1_i32_1113
  let v1184 : BitVec 32 := Scalar.addi c0_i32_1114 v1183
  v1184.toNat
def k0_dev14 : Nat :=
  let c0_i32_1126 : BitVec 32 := 0#32
  let c1_i32_1124 : BitVec 32 := 1#32
  let c1_i32_1125 : BitVec 32 := 1#32
  let v1192 : BitVec 32 := Scalar.muli c1_i32_1124 c1_i32_1125
  let v1193 : BitVec 32 := Scalar.addi c0_i32_1126 v1192
  v1193.toNat
def k0_dev15 : Nat :=
  let c0_i32_1190 : BitVec 32 := 0#32
  let c3_i32_1188 : BitVec 32 := 3#32
  let c1_i32_1189 : BitVec 32 := 1#32
  let v1233 : BitVec 32 := Scalar.muli c3_i32_1188 c1_i32_1189
  let v1234 : BitVec 32 := Scalar.addi c0_i32_1190 v1233
  v1234.toNat
def k0_dev16 : Nat :=
  let c0_i32_1202 : BitVec 32 := 0#32
  let c3_i32_1200 : BitVec 32 := 3#32
  let c1_i32_1201 : BitVec 32 := 1#32
  let v1242 : BitVec 32 := Scalar.muli c3_i32_1200 c1_i32_1201
  let v1243 : BitVec 32 := Scalar.addi c0_i32_1202 v1242
  v1243.toNat
def k0_dev17 : Nat :=
  let c0_i32_1266 : BitVec 32 := 0#32
  let c4_i32_1264 : BitVec 32 := 4#32
  let c1_i32_1265 : BitVec 32 := 1#32
  let v1283 : BitVec 32 := Scalar.muli c4_i32_1264 c1_i32_1265
  let v1284 : BitVec 32 := Scalar.addi c0_i32_1266 v1283
  v1284.toNat
def k0_dev18 : Nat :=
  let c0_i32_1277 : BitVec 32 := 0#32
  let c4_i32_1275 : BitVec 32 := 4#32
  let c1_i32_1276 : BitVec 32 := 1#32
  let v1292 : BitVec 32 := Scalar.muli c4_i32_1275 c1_i32_1276
  let v1293 : BitVec 32 := Scalar.addi c0_i32_1277 v1292
  v1293.toNat
def k0_dev19 : Nat :=
  let c0_i32_1340 : BitVec 32 := 0#32
  let c2_i32_1338 : BitVec 32 := 2#32
  let c1_i32_1339 : BitVec 32 := 1#32
  let v1333 : BitVec 32 := Scalar.muli c2_i32_1338 c1_i32_1339
  let v1334 : BitVec 32 := Scalar.addi c0_i32_1340 v1333
  v1334.toNat
def k0_dev20 : Nat :=
  let c0_i32_1351 : BitVec 32 := 0#32
  let c2_i32_1349 : BitVec 32 := 2#32
  let c1_i32_1350 : BitVec 32 := 1#32
  let v1342 : BitVec 32 := Scalar.muli c2_i32_1349 c1_i32_1350
  let v1343 : BitVec 32 := Scalar.addi c0_i32_1351 v1342
  v1343.toNat
def k0_dev21 : Nat :=
  let c0_i32_1415 : BitVec 32 := 0#32
  let c7_i32_1413 : BitVec 32 := 7#32
  let c1_i32_1414 : BitVec 32 := 1#32
  let v1383 : BitVec 32 := Scalar.muli c7_i32_1413 c1_i32_1414
  let v1384 : BitVec 32 := Scalar.addi c0_i32_1415 v1383
  v1384.toNat
def k0_dev22 : Nat :=
  let c0_i32_1426 : BitVec 32 := 0#32
  let c7_i32_1424 : BitVec 32 := 7#32
  let c1_i32_1425 : BitVec 32 := 1#32
  let v1392 : BitVec 32 := Scalar.muli c7_i32_1424 c1_i32_1425
  let v1393 : BitVec 32 := Scalar.addi c0_i32_1426 v1392
  v1393.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v23 : BitVec 1 := Scalar.cmpi .eq v2 c1_i32_28
  let v24 : BitVec 32 := Scalar.extui v23
  let c0_i32_29 : BitVec 32 := 0#32
  let v25 : BitVec 1 := Scalar.cmpi .ne v24 c0_i32_29
  v25

def k0_dev23 : Nat :=
  let c0_i32_959 : BitVec 32 := 0#32
  let c0_i32_957 : BitVec 32 := 0#32
  let c1_i32_958 : BitVec 32 := 1#32
  let v1079 : BitVec 32 := Scalar.muli c0_i32_957 c1_i32_958
  let v1080 : BitVec 32 := Scalar.addi c0_i32_959 v1079
  v1080.toNat
def k0_dev24 : Nat :=
  let c0_i32_970 : BitVec 32 := 0#32
  let c0_i32_968 : BitVec 32 := 0#32
  let c1_i32_969 : BitVec 32 := 1#32
  let v1088 : BitVec 32 := Scalar.muli c0_i32_968 c1_i32_969
  let v1089 : BitVec 32 := Scalar.addi c0_i32_970 v1088
  v1089.toNat
def k0_dev25 : Nat :=
  let c0_i32_1034 : BitVec 32 := 0#32
  let c2_i32_1032 : BitVec 32 := 2#32
  let c1_i32_1033 : BitVec 32 := 1#32
  let v1129 : BitVec 32 := Scalar.muli c2_i32_1032 c1_i32_1033
  let v1130 : BitVec 32 := Scalar.addi c0_i32_1034 v1129
  v1130.toNat
def k0_dev26 : Nat :=
  let c0_i32_1046 : BitVec 32 := 0#32
  let c2_i32_1044 : BitVec 32 := 2#32
  let c1_i32_1045 : BitVec 32 := 1#32
  let v1138 : BitVec 32 := Scalar.muli c2_i32_1044 c1_i32_1045
  let v1139 : BitVec 32 := Scalar.addi c0_i32_1046 v1138
  v1139.toNat
def k0_dev27 : Nat :=
  let c0_i32_1110 : BitVec 32 := 0#32
  let c3_i32_1108 : BitVec 32 := 3#32
  let c1_i32_1109 : BitVec 32 := 1#32
  let v1179 : BitVec 32 := Scalar.muli c3_i32_1108 c1_i32_1109
  let v1180 : BitVec 32 := Scalar.addi c0_i32_1110 v1179
  v1180.toNat
def k0_dev28 : Nat :=
  let c0_i32_1122 : BitVec 32 := 0#32
  let c3_i32_1120 : BitVec 32 := 3#32
  let c1_i32_1121 : BitVec 32 := 1#32
  let v1188 : BitVec 32 := Scalar.muli c3_i32_1120 c1_i32_1121
  let v1189 : BitVec 32 := Scalar.addi c0_i32_1122 v1188
  v1189.toNat
def k0_dev29 : Nat :=
  let c0_i32_1186 : BitVec 32 := 0#32
  let c4_i32_1184 : BitVec 32 := 4#32
  let c1_i32_1185 : BitVec 32 := 1#32
  let v1229 : BitVec 32 := Scalar.muli c4_i32_1184 c1_i32_1185
  let v1230 : BitVec 32 := Scalar.addi c0_i32_1186 v1229
  v1230.toNat
def k0_dev30 : Nat :=
  let c0_i32_1198 : BitVec 32 := 0#32
  let c4_i32_1196 : BitVec 32 := 4#32
  let c1_i32_1197 : BitVec 32 := 1#32
  let v1238 : BitVec 32 := Scalar.muli c4_i32_1196 c1_i32_1197
  let v1239 : BitVec 32 := Scalar.addi c0_i32_1198 v1238
  v1239.toNat
def k0_dev31 : Nat :=
  let c0_i32_1262 : BitVec 32 := 0#32
  let c5_i32_1260 : BitVec 32 := 5#32
  let c1_i32_1261 : BitVec 32 := 1#32
  let v1279 : BitVec 32 := Scalar.muli c5_i32_1260 c1_i32_1261
  let v1280 : BitVec 32 := Scalar.addi c0_i32_1262 v1279
  v1280.toNat
def k0_dev32 : Nat :=
  let c0_i32_1273 : BitVec 32 := 0#32
  let c5_i32_1271 : BitVec 32 := 5#32
  let c1_i32_1272 : BitVec 32 := 1#32
  let v1288 : BitVec 32 := Scalar.muli c5_i32_1271 c1_i32_1272
  let v1289 : BitVec 32 := Scalar.addi c0_i32_1273 v1288
  v1289.toNat
def k0_dev33 : Nat :=
  let c0_i32_1336 : BitVec 32 := 0#32
  let c6_i32_1334 : BitVec 32 := 6#32
  let c1_i32_1335 : BitVec 32 := 1#32
  let v1329 : BitVec 32 := Scalar.muli c6_i32_1334 c1_i32_1335
  let v1330 : BitVec 32 := Scalar.addi c0_i32_1336 v1329
  v1330.toNat
def k0_dev34 : Nat :=
  let c0_i32_1347 : BitVec 32 := 0#32
  let c6_i32_1345 : BitVec 32 := 6#32
  let c1_i32_1346 : BitVec 32 := 1#32
  let v1338 : BitVec 32 := Scalar.muli c6_i32_1345 c1_i32_1346
  let v1339 : BitVec 32 := Scalar.addi c0_i32_1347 v1338
  v1339.toNat
def k0_dev35 : Nat :=
  let c0_i32_1411 : BitVec 32 := 0#32
  let c7_i32_1409 : BitVec 32 := 7#32
  let c1_i32_1410 : BitVec 32 := 1#32
  let v1379 : BitVec 32 := Scalar.muli c7_i32_1409 c1_i32_1410
  let v1380 : BitVec 32 := Scalar.addi c0_i32_1411 v1379
  v1380.toNat
def k0_dev36 : Nat :=
  let c0_i32_1422 : BitVec 32 := 0#32
  let c7_i32_1420 : BitVec 32 := 7#32
  let c1_i32_1421 : BitVec 32 := 1#32
  let v1388 : BitVec 32 := Scalar.muli c7_i32_1420 c1_i32_1421
  let v1389 : BitVec 32 := Scalar.addi c0_i32_1422 v1388
  v1389.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_30 : BitVec 32 := 4#32
  let v26 : BitVec 1 := Scalar.cmpi .eq v2 c4_i32_30
  let v27 : BitVec 32 := Scalar.extui v26
  let c0_i32_31 : BitVec 32 := 0#32
  let v28 : BitVec 1 := Scalar.cmpi .ne v27 c0_i32_31
  v28

def k0_dev37 : Nat :=
  let c0_i32_901 : BitVec 32 := 0#32
  let c5_i32_899 : BitVec 32 := 5#32
  let c1_i32_900 : BitVec 32 := 1#32
  let v1045 : BitVec 32 := Scalar.muli c5_i32_899 c1_i32_900
  let v1046 : BitVec 32 := Scalar.addi c0_i32_901 v1045
  v1046.toNat
def k0_dev38 : Nat :=
  let c0_i32_926 : BitVec 32 := 0#32
  let c5_i32_924 : BitVec 32 := 5#32
  let c1_i32_925 : BitVec 32 := 1#32
  let v1062 : BitVec 32 := Scalar.muli c5_i32_924 c1_i32_925
  let v1063 : BitVec 32 := Scalar.addi c0_i32_926 v1062
  v1063.toNat
def k0_dev39 : Nat :=
  let c0_i32_951 : BitVec 32 := 0#32
  let c6_i32_949 : BitVec 32 := 6#32
  let c1_i32_950 : BitVec 32 := 1#32
  let v1079 : BitVec 32 := Scalar.muli c6_i32_949 c1_i32_950
  let v1080 : BitVec 32 := Scalar.addi c0_i32_951 v1079
  v1080.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_32 : BitVec 32 := 7#32
  let v29 : BitVec 1 := Scalar.cmpi .eq v2 c7_i32_32
  let v30 : BitVec 32 := Scalar.extui v29
  let c0_i32_33 : BitVec 32 := 0#32
  let v31 : BitVec 1 := Scalar.cmpi .ne v30 c0_i32_33
  v31

def k0_dev40 : Nat :=
  let c0_i32_901 : BitVec 32 := 0#32
  let c6_i32_899 : BitVec 32 := 6#32
  let c1_i32_900 : BitVec 32 := 1#32
  let v1045 : BitVec 32 := Scalar.muli c6_i32_899 c1_i32_900
  let v1046 : BitVec 32 := Scalar.addi c0_i32_901 v1045
  v1046.toNat
def k0_off1 (d0 : Dev nD) : Fin 3 → Nat :=
  let c0_228 : Index := 0#32
  let c0_i32_227 : BitVec 32 := 0#32
  let c1_i32_226 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_57 : BitVec 32 := 2#32
  let c0_i32_58 : BitVec 32 := 0#32
  let v68 : BitVec 1 := Scalar.cmpi .eq c2_i32_57 c0_i32_58
  let c1_i32_59 : BitVec 32 := 1#32
  let v69 : BitVec 32 := Scalar.select v68 c1_i32_59 c2_i32_57
  let v70 : BitVec 32 := Scalar.remsi v2 v69
  let c0_i32_61 : BitVec 32 := 0#32
  let v72 : BitVec 1 := Scalar.cmpi .slt v70 c0_i32_61
  let c0_i32_62 : BitVec 32 := 0#32
  let v73 : BitVec 1 := Scalar.cmpi .slt v69 c0_i32_62
  let v74 : BitVec 1 := Scalar.xori v72 v73
  let c0_i32_60 : BitVec 32 := 0#32
  let v71 : BitVec 1 := Scalar.cmpi .ne v70 c0_i32_60
  let v75 : BitVec 1 := Scalar.andi v74 v71
  let v76 : BitVec 32 := Scalar.addi v70 v69
  let v77 : BitVec 32 := Scalar.select v75 v76 v70
  let v346 : BitVec 32 := Scalar.subi c1_i32_226 v77
  let c256_i32 : BitVec 32 := 256#32
  let v347 : BitVec 32 := Scalar.muli v346 c256_i32
  let v348 : BitVec 32 := Scalar.addi c0_i32_227 v347
  let v349 : Index := Scalar.indexCast v348
  let c0_229 : Index := 0#32
  ![0, v349.toNat, 0]
def k0_dev41 (d0 : Dev nD) : Nat :=
  let c0_i32_241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_233 : BitVec 32 := 1#32
  let v356 : BitVec 32 := Scalar.xori v2 c1_i32_233
  let c1_i32_240 : BitVec 32 := 1#32
  let v357 : BitVec 32 := Scalar.muli v356 c1_i32_240
  let v358 : BitVec 32 := Scalar.addi c0_i32_241 v357
  v358.toNat
def k0_off2 (d0 : Dev nD) : Fin 3 → Nat :=
  let c1_393 : Index := 1#32
  let c0_i32_392 : BitVec 32 := 0#32
  let c1_i32_390 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_57 : BitVec 32 := 2#32
  let c0_i32_58 : BitVec 32 := 0#32
  let v68 : BitVec 1 := Scalar.cmpi .eq c2_i32_57 c0_i32_58
  let c1_i32_59 : BitVec 32 := 1#32
  let v69 : BitVec 32 := Scalar.select v68 c1_i32_59 c2_i32_57
  let v70 : BitVec 32 := Scalar.remsi v2 v69
  let c0_i32_61 : BitVec 32 := 0#32
  let v72 : BitVec 1 := Scalar.cmpi .slt v70 c0_i32_61
  let c0_i32_62 : BitVec 32 := 0#32
  let v73 : BitVec 1 := Scalar.cmpi .slt v69 c0_i32_62
  let v74 : BitVec 1 := Scalar.xori v72 v73
  let c0_i32_60 : BitVec 32 := 0#32
  let v71 : BitVec 1 := Scalar.cmpi .ne v70 c0_i32_60
  let v75 : BitVec 1 := Scalar.andi v74 v71
  let v76 : BitVec 32 := Scalar.addi v70 v69
  let v77 : BitVec 32 := Scalar.select v75 v76 v70
  let v581 : BitVec 32 := Scalar.subi c1_i32_390 v77
  let c256_i32_391 : BitVec 32 := 256#32
  let v582 : BitVec 32 := Scalar.muli v581 c256_i32_391
  let v583 : BitVec 32 := Scalar.addi c0_i32_392 v582
  let v584 : Index := Scalar.indexCast v583
  let c0_394 : Index := 0#32
  ![1, v584.toNat, 0]
def k0_dev42 (d0 : Dev nD) : Nat :=
  let c0_i32_406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_398 : BitVec 32 := 1#32
  let v591 : BitVec 32 := Scalar.xori v2 c1_i32_398
  let c1_i32_405 : BitVec 32 := 1#32
  let v592 : BitVec 32 := Scalar.muli v591 c1_i32_405
  let v593 : BitVec 32 := Scalar.addi c0_i32_406 v592
  v593.toNat
def k0_off3 (d0 : Dev nD) : Fin 3 → Nat :=
  let c0_444 : Index := 0#32
  let c0_i32_443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_57 : BitVec 32 := 2#32
  let c0_i32_58 : BitVec 32 := 0#32
  let v68 : BitVec 1 := Scalar.cmpi .eq c2_i32_57 c0_i32_58
  let c1_i32_59 : BitVec 32 := 1#32
  let v69 : BitVec 32 := Scalar.select v68 c1_i32_59 c2_i32_57
  let v70 : BitVec 32 := Scalar.remsi v2 v69
  let c0_i32_61 : BitVec 32 := 0#32
  let v72 : BitVec 1 := Scalar.cmpi .slt v70 c0_i32_61
  let c0_i32_62 : BitVec 32 := 0#32
  let v73 : BitVec 1 := Scalar.cmpi .slt v69 c0_i32_62
  let v74 : BitVec 1 := Scalar.xori v72 v73
  let c0_i32_60 : BitVec 32 := 0#32
  let v71 : BitVec 1 := Scalar.cmpi .ne v70 c0_i32_60
  let v75 : BitVec 1 := Scalar.andi v74 v71
  let v76 : BitVec 32 := Scalar.addi v70 v69
  let v77 : BitVec 32 := Scalar.select v75 v76 v70
  let c256_i32_442 : BitVec 32 := 256#32
  let v628 : BitVec 32 := Scalar.muli v77 c256_i32_442
  let v629 : BitVec 32 := Scalar.addi c0_i32_443 v628
  let v630 : Index := Scalar.indexCast v629
  let c0_445 : Index := 0#32
  ![0, v630.toNat, 0]
def k0_off4 (d0 : Dev nD) : Fin 3 → Nat :=
  let c0_453 : Index := 0#32
  let c0_i32_443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_57 : BitVec 32 := 2#32
  let c0_i32_58 : BitVec 32 := 0#32
  let v68 : BitVec 1 := Scalar.cmpi .eq c2_i32_57 c0_i32_58
  let c1_i32_59 : BitVec 32 := 1#32
  let v69 : BitVec 32 := Scalar.select v68 c1_i32_59 c2_i32_57
  let v70 : BitVec 32 := Scalar.remsi v2 v69
  let c0_i32_61 : BitVec 32 := 0#32
  let v72 : BitVec 1 := Scalar.cmpi .slt v70 c0_i32_61
  let c0_i32_62 : BitVec 32 := 0#32
  let v73 : BitVec 1 := Scalar.cmpi .slt v69 c0_i32_62
  let v74 : BitVec 1 := Scalar.xori v72 v73
  let c0_i32_60 : BitVec 32 := 0#32
  let v71 : BitVec 1 := Scalar.cmpi .ne v70 c0_i32_60
  let v75 : BitVec 1 := Scalar.andi v74 v71
  let v76 : BitVec 32 := Scalar.addi v70 v69
  let v77 : BitVec 32 := Scalar.select v75 v76 v70
  let c256_i32_442 : BitVec 32 := 256#32
  let v628 : BitVec 32 := Scalar.muli v77 c256_i32_442
  let v629 : BitVec 32 := Scalar.addi c0_i32_443 v628
  let c1_i32_451 : BitVec 32 := 1#32
  let c0_i32_77 : BitVec 32 := 0#32
  let v106 : BitVec 1 := Scalar.cmpi .sgt v2 c0_i32_77
  let v107 : BitVec 32 := Scalar.extui v106
  let c0_i32_78 : BitVec 32 := 0#32
  let v108 : BitVec 1 := Scalar.cmpi .slt v2 c0_i32_78
  let v109 : BitVec 32 := Scalar.extui v108
  let v110 : BitVec 32 := Scalar.subi v107 v109
  let c4_i32_76 : BitVec 32 := 4#32
  let c0_i32_79 : BitVec 32 := 0#32
  let v111 : BitVec 1 := Scalar.cmpi .sgt c4_i32_76 c0_i32_79
  let v112 : BitVec 32 := Scalar.extui v111
  let c0_i32_80 : BitVec 32 := 0#32
  let v113 : BitVec 1 := Scalar.cmpi .slt c4_i32_76 c0_i32_80
  let v114 : BitVec 32 := Scalar.extui v113
  let v115 : BitVec 32 := Scalar.subi v112 v114
  let v116 : BitVec 1 := Scalar.cmpi .ne v110 v115
  let v117 : BitVec 32 := Scalar.remsi v2 c4_i32_76
  let c0_i32_81 : BitVec 32 := 0#32
  let v118 : BitVec 1 := Scalar.cmpi .ne v117 c0_i32_81
  let v119 : BitVec 1 := Scalar.andi v116 v118
  let v105 : BitVec 32 := Scalar.divsi v2 c4_i32_76
  let c1_i32_82 : BitVec 32 := 1#32
  let v120 : BitVec 32 := Scalar.subi v105 c1_i32_82
  let v121 : BitVec 32 := Scalar.select v119 v120 v105
  let c2_i32_83 : BitVec 32 := 2#32
  let c0_i32_84 : BitVec 32 := 0#32
  let v122 : BitVec 1 := Scalar.cmpi .eq c2_i32_83 c0_i32_84
  let c1_i32_85 : BitVec 32 := 1#32
  let v123 : BitVec 32 := Scalar.select v122 c1_i32_85 c2_i32_83
  let v124 : BitVec 32 := Scalar.remsi v121 v123
  let c0_i32_87 : BitVec 32 := 0#32
  let v126 : BitVec 1 := Scalar.cmpi .slt v124 c0_i32_87
  let c0_i32_88 : BitVec 32 := 0#32
  let v127 : BitVec 1 := Scalar.cmpi .slt v123 c0_i32_88
  let v128 : BitVec 1 := Scalar.xori v126 v127
  let c0_i32_86 : BitVec 32 := 0#32
  let v125 : BitVec 1 := Scalar.cmpi .ne v124 c0_i32_86
  let v129 : BitVec 1 := Scalar.andi v128 v125
  let v130 : BitVec 32 := Scalar.addi v124 v123
  let v131 : BitVec 32 := Scalar.select v129 v130 v124
  let v641 : BitVec 32 := Scalar.subi c1_i32_451 v131
  let c128_i32_452 : BitVec 32 := 128#32
  let v642 : BitVec 32 := Scalar.muli v641 c128_i32_452
  let v643 : BitVec 32 := Scalar.addi v629 v642
  let v644 : Index := Scalar.indexCast v643
  let c0_454 : Index := 0#32
  ![0, v644.toNat, 0]
def k0_dev43 (d0 : Dev nD) : Nat :=
  let c0_i32_466 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_458 : BitVec 32 := 4#32
  let v651 : BitVec 32 := Scalar.xori v2 c4_i32_458
  let c1_i32_465 : BitVec 32 := 1#32
  let v652 : BitVec 32 := Scalar.muli v651 c1_i32_465
  let v653 : BitVec 32 := Scalar.addi c0_i32_466 v652
  v653.toNat
def k0_off5 (d0 : Dev nD) : Fin 3 → Nat :=
  let c1_496 : Index := 1#32
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_57 : BitVec 32 := 2#32
  let c0_i32_58 : BitVec 32 := 0#32
  let v68 : BitVec 1 := Scalar.cmpi .eq c2_i32_57 c0_i32_58
  let c1_i32_59 : BitVec 32 := 1#32
  let v69 : BitVec 32 := Scalar.select v68 c1_i32_59 c2_i32_57
  let v70 : BitVec 32 := Scalar.remsi v2 v69
  let c0_i32_61 : BitVec 32 := 0#32
  let v72 : BitVec 1 := Scalar.cmpi .slt v70 c0_i32_61
  let c0_i32_62 : BitVec 32 := 0#32
  let v73 : BitVec 1 := Scalar.cmpi .slt v69 c0_i32_62
  let v74 : BitVec 1 := Scalar.xori v72 v73
  let c0_i32_60 : BitVec 32 := 0#32
  let v71 : BitVec 1 := Scalar.cmpi .ne v70 c0_i32_60
  let v75 : BitVec 1 := Scalar.andi v74 v71
  let v76 : BitVec 32 := Scalar.addi v70 v69
  let v77 : BitVec 32 := Scalar.select v75 v76 v70
  let c256_i32_494 : BitVec 32 := 256#32
  let v676 : BitVec 32 := Scalar.muli v77 c256_i32_494
  let v677 : BitVec 32 := Scalar.addi c0_i32_495 v676
  let v678 : Index := Scalar.indexCast v677
  let c0_497 : Index := 0#32
  ![1, v678.toNat, 0]
def k0_off6 (d0 : Dev nD) : Fin 3 → Nat :=
  let c1_505 : Index := 1#32
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_57 : BitVec 32 := 2#32
  let c0_i32_58 : BitVec 32 := 0#32
  let v68 : BitVec 1 := Scalar.cmpi .eq c2_i32_57 c0_i32_58
  let c1_i32_59 : BitVec 32 := 1#32
  let v69 : BitVec 32 := Scalar.select v68 c1_i32_59 c2_i32_57
  let v70 : BitVec 32 := Scalar.remsi v2 v69
  let c0_i32_61 : BitVec 32 := 0#32
  let v72 : BitVec 1 := Scalar.cmpi .slt v70 c0_i32_61
  let c0_i32_62 : BitVec 32 := 0#32
  let v73 : BitVec 1 := Scalar.cmpi .slt v69 c0_i32_62
  let v74 : BitVec 1 := Scalar.xori v72 v73
  let c0_i32_60 : BitVec 32 := 0#32
  let v71 : BitVec 1 := Scalar.cmpi .ne v70 c0_i32_60
  let v75 : BitVec 1 := Scalar.andi v74 v71
  let v76 : BitVec 32 := Scalar.addi v70 v69
  let v77 : BitVec 32 := Scalar.select v75 v76 v70
  let c256_i32_494 : BitVec 32 := 256#32
  let v676 : BitVec 32 := Scalar.muli v77 c256_i32_494
  let v677 : BitVec 32 := Scalar.addi c0_i32_495 v676
  let c1_i32_503 : BitVec 32 := 1#32
  let c0_i32_77 : BitVec 32 := 0#32
  let v106 : BitVec 1 := Scalar.cmpi .sgt v2 c0_i32_77
  let v107 : BitVec 32 := Scalar.extui v106
  let c0_i32_78 : BitVec 32 := 0#32
  let v108 : BitVec 1 := Scalar.cmpi .slt v2 c0_i32_78
  let v109 : BitVec 32 := Scalar.extui v108
  let v110 : BitVec 32 := Scalar.subi v107 v109
  let c4_i32_76 : BitVec 32 := 4#32
  let c0_i32_79 : BitVec 32 := 0#32
  let v111 : BitVec 1 := Scalar.cmpi .sgt c4_i32_76 c0_i32_79
  let v112 : BitVec 32 := Scalar.extui v111
  let c0_i32_80 : BitVec 32 := 0#32
  let v113 : BitVec 1 := Scalar.cmpi .slt c4_i32_76 c0_i32_80
  let v114 : BitVec 32 := Scalar.extui v113
  let v115 : BitVec 32 := Scalar.subi v112 v114
  let v116 : BitVec 1 := Scalar.cmpi .ne v110 v115
  let v117 : BitVec 32 := Scalar.remsi v2 c4_i32_76
  let c0_i32_81 : BitVec 32 := 0#32
  let v118 : BitVec 1 := Scalar.cmpi .ne v117 c0_i32_81
  let v119 : BitVec 1 := Scalar.andi v116 v118
  let v105 : BitVec 32 := Scalar.divsi v2 c4_i32_76
  let c1_i32_82 : BitVec 32 := 1#32
  let v120 : BitVec 32 := Scalar.subi v105 c1_i32_82
  let v121 : BitVec 32 := Scalar.select v119 v120 v105
  let c2_i32_83 : BitVec 32 := 2#32
  let c0_i32_84 : BitVec 32 := 0#32
  let v122 : BitVec 1 := Scalar.cmpi .eq c2_i32_83 c0_i32_84
  let c1_i32_85 : BitVec 32 := 1#32
  let v123 : BitVec 32 := Scalar.select v122 c1_i32_85 c2_i32_83
  let v124 : BitVec 32 := Scalar.remsi v121 v123
  let c0_i32_87 : BitVec 32 := 0#32
  let v126 : BitVec 1 := Scalar.cmpi .slt v124 c0_i32_87
  let c0_i32_88 : BitVec 32 := 0#32
  let v127 : BitVec 1 := Scalar.cmpi .slt v123 c0_i32_88
  let v128 : BitVec 1 := Scalar.xori v126 v127
  let c0_i32_86 : BitVec 32 := 0#32
  let v125 : BitVec 1 := Scalar.cmpi .ne v124 c0_i32_86
  let v129 : BitVec 1 := Scalar.andi v128 v125
  let v130 : BitVec 32 := Scalar.addi v124 v123
  let v131 : BitVec 32 := Scalar.select v129 v130 v124
  let v689 : BitVec 32 := Scalar.subi c1_i32_503 v131
  let c128_i32_504 : BitVec 32 := 128#32
  let v690 : BitVec 32 := Scalar.muli v689 c128_i32_504
  let v691 : BitVec 32 := Scalar.addi v677 v690
  let v692 : Index := Scalar.indexCast v691
  let c0_506 : Index := 0#32
  ![1, v692.toNat, 0]
def k0_dev44 (d0 : Dev nD) : Nat :=
  let c0_i32_518 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_510 : BitVec 32 := 4#32
  let v699 : BitVec 32 := Scalar.xori v2 c4_i32_510
  let c1_i32_517 : BitVec 32 := 1#32
  let v700 : BitVec 32 := Scalar.muli v699 c1_i32_517
  let v701 : BitVec 32 := Scalar.addi c0_i32_518 v700
  v701.toNat
def k0_off7 (d0 : Dev nD) : Fin 3 → Nat :=
  let c0_547 : Index := 0#32
  let c0_i32_443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_57 : BitVec 32 := 2#32
  let c0_i32_58 : BitVec 32 := 0#32
  let v68 : BitVec 1 := Scalar.cmpi .eq c2_i32_57 c0_i32_58
  let c1_i32_59 : BitVec 32 := 1#32
  let v69 : BitVec 32 := Scalar.select v68 c1_i32_59 c2_i32_57
  let v70 : BitVec 32 := Scalar.remsi v2 v69
  let c0_i32_61 : BitVec 32 := 0#32
  let v72 : BitVec 1 := Scalar.cmpi .slt v70 c0_i32_61
  let c0_i32_62 : BitVec 32 := 0#32
  let v73 : BitVec 1 := Scalar.cmpi .slt v69 c0_i32_62
  let v74 : BitVec 1 := Scalar.xori v72 v73
  let c0_i32_60 : BitVec 32 := 0#32
  let v71 : BitVec 1 := Scalar.cmpi .ne v70 c0_i32_60
  let v75 : BitVec 1 := Scalar.andi v74 v71
  let v76 : BitVec 32 := Scalar.addi v70 v69
  let v77 : BitVec 32 := Scalar.select v75 v76 v70
  let c256_i32_442 : BitVec 32 := 256#32
  let v628 : BitVec 32 := Scalar.muli v77 c256_i32_442
  let v629 : BitVec 32 := Scalar.addi c0_i32_443 v628
  let c0_i32_77 : BitVec 32 := 0#32
  let v106 : BitVec 1 := Scalar.cmpi .sgt v2 c0_i32_77
  let v107 : BitVec 32 := Scalar.extui v106
  let c0_i32_78 : BitVec 32 := 0#32
  let v108 : BitVec 1 := Scalar.cmpi .slt v2 c0_i32_78
  let v109 : BitVec 32 := Scalar.extui v108
  let v110 : BitVec 32 := Scalar.subi v107 v109
  let c4_i32_76 : BitVec 32 := 4#32
  let c0_i32_79 : BitVec 32 := 0#32
  let v111 : BitVec 1 := Scalar.cmpi .sgt c4_i32_76 c0_i32_79
  let v112 : BitVec 32 := Scalar.extui v111
  let c0_i32_80 : BitVec 32 := 0#32
  let v113 : BitVec 1 := Scalar.cmpi .slt c4_i32_76 c0_i32_80
  let v114 : BitVec 32 := Scalar.extui v113
  let v115 : BitVec 32 := Scalar.subi v112 v114
  let v116 : BitVec 1 := Scalar.cmpi .ne v110 v115
  let v117 : BitVec 32 := Scalar.remsi v2 c4_i32_76
  let c0_i32_81 : BitVec 32 := 0#32
  let v118 : BitVec 1 := Scalar.cmpi .ne v117 c0_i32_81
  let v119 : BitVec 1 := Scalar.andi v116 v118
  let v105 : BitVec 32 := Scalar.divsi v2 c4_i32_76
  let c1_i32_82 : BitVec 32 := 1#32
  let v120 : BitVec 32 := Scalar.subi v105 c1_i32_82
  let v121 : BitVec 32 := Scalar.select v119 v120 v105
  let c2_i32_83 : BitVec 32 := 2#32
  let c0_i32_84 : BitVec 32 := 0#32
  let v122 : BitVec 1 := Scalar.cmpi .eq c2_i32_83 c0_i32_84
  let c1_i32_85 : BitVec 32 := 1#32
  let v123 : BitVec 32 := Scalar.select v122 c1_i32_85 c2_i32_83
  let v124 : BitVec 32 := Scalar.remsi v121 v123
  let c0_i32_87 : BitVec 32 := 0#32
  let v126 : BitVec 1 := Scalar.cmpi .slt v124 c0_i32_87
  let c0_i32_88 : BitVec 32 := 0#32
  let v127 : BitVec 1 := Scalar.cmpi .slt v123 c0_i32_88
  let v128 : BitVec 1 := Scalar.xori v126 v127
  let c0_i32_86 : BitVec 32 := 0#32
  let v125 : BitVec 1 := Scalar.cmpi .ne v124 c0_i32_86
  let v129 : BitVec 1 := Scalar.andi v128 v125
  let v130 : BitVec 32 := Scalar.addi v124 v123
  let v131 : BitVec 32 := Scalar.select v129 v130 v124
  let c128_i32_546 : BitVec 32 := 128#32
  let v724 : BitVec 32 := Scalar.muli v131 c128_i32_546
  let v725 : BitVec 32 := Scalar.addi v629 v724
  let v726 : Index := Scalar.indexCast v725
  let c0_548 : Index := 0#32
  ![0, v726.toNat, 0]
def k0_off8 (d0 : Dev nD) : Fin 3 → Nat :=
  let c0_555 : Index := 0#32
  let c0_i32_443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_57 : BitVec 32 := 2#32
  let c0_i32_58 : BitVec 32 := 0#32
  let v68 : BitVec 1 := Scalar.cmpi .eq c2_i32_57 c0_i32_58
  let c1_i32_59 : BitVec 32 := 1#32
  let v69 : BitVec 32 := Scalar.select v68 c1_i32_59 c2_i32_57
  let v70 : BitVec 32 := Scalar.remsi v2 v69
  let c0_i32_61 : BitVec 32 := 0#32
  let v72 : BitVec 1 := Scalar.cmpi .slt v70 c0_i32_61
  let c0_i32_62 : BitVec 32 := 0#32
  let v73 : BitVec 1 := Scalar.cmpi .slt v69 c0_i32_62
  let v74 : BitVec 1 := Scalar.xori v72 v73
  let c0_i32_60 : BitVec 32 := 0#32
  let v71 : BitVec 1 := Scalar.cmpi .ne v70 c0_i32_60
  let v75 : BitVec 1 := Scalar.andi v74 v71
  let v76 : BitVec 32 := Scalar.addi v70 v69
  let v77 : BitVec 32 := Scalar.select v75 v76 v70
  let c256_i32_442 : BitVec 32 := 256#32
  let v628 : BitVec 32 := Scalar.muli v77 c256_i32_442
  let v629 : BitVec 32 := Scalar.addi c0_i32_443 v628
  let c0_i32_77 : BitVec 32 := 0#32
  let v106 : BitVec 1 := Scalar.cmpi .sgt v2 c0_i32_77
  let v107 : BitVec 32 := Scalar.extui v106
  let c0_i32_78 : BitVec 32 := 0#32
  let v108 : BitVec 1 := Scalar.cmpi .slt v2 c0_i32_78
  let v109 : BitVec 32 := Scalar.extui v108
  let v110 : BitVec 32 := Scalar.subi v107 v109
  let c4_i32_76 : BitVec 32 := 4#32
  let c0_i32_79 : BitVec 32 := 0#32
  let v111 : BitVec 1 := Scalar.cmpi .sgt c4_i32_76 c0_i32_79
  let v112 : BitVec 32 := Scalar.extui v111
  let c0_i32_80 : BitVec 32 := 0#32
  let v113 : BitVec 1 := Scalar.cmpi .slt c4_i32_76 c0_i32_80
  let v114 : BitVec 32 := Scalar.extui v113
  let v115 : BitVec 32 := Scalar.subi v112 v114
  let v116 : BitVec 1 := Scalar.cmpi .ne v110 v115
  let v117 : BitVec 32 := Scalar.remsi v2 c4_i32_76
  let c0_i32_81 : BitVec 32 := 0#32
  let v118 : BitVec 1 := Scalar.cmpi .ne v117 c0_i32_81
  let v119 : BitVec 1 := Scalar.andi v116 v118
  let v105 : BitVec 32 := Scalar.divsi v2 c4_i32_76
  let c1_i32_82 : BitVec 32 := 1#32
  let v120 : BitVec 32 := Scalar.subi v105 c1_i32_82
  let v121 : BitVec 32 := Scalar.select v119 v120 v105
  let c2_i32_83 : BitVec 32 := 2#32
  let c0_i32_84 : BitVec 32 := 0#32
  let v122 : BitVec 1 := Scalar.cmpi .eq c2_i32_83 c0_i32_84
  let c1_i32_85 : BitVec 32 := 1#32
  let v123 : BitVec 32 := Scalar.select v122 c1_i32_85 c2_i32_83
  let v124 : BitVec 32 := Scalar.remsi v121 v123
  let c0_i32_87 : BitVec 32 := 0#32
  let v126 : BitVec 1 := Scalar.cmpi .slt v124 c0_i32_87
  let c0_i32_88 : BitVec 32 := 0#32
  let v127 : BitVec 1 := Scalar.cmpi .slt v123 c0_i32_88
  let v128 : BitVec 1 := Scalar.xori v126 v127
  let c0_i32_86 : BitVec 32 := 0#32
  let v125 : BitVec 1 := Scalar.cmpi .ne v124 c0_i32_86
  let v129 : BitVec 1 := Scalar.andi v128 v125
  let v130 : BitVec 32 := Scalar.addi v124 v123
  let v131 : BitVec 32 := Scalar.select v129 v130 v124
  let c128_i32_546 : BitVec 32 := 128#32
  let v724 : BitVec 32 := Scalar.muli v131 c128_i32_546
  let v725 : BitVec 32 := Scalar.addi v629 v724
  let c1_i32_554 : BitVec 32 := 1#32
  let c0_i32_64 : BitVec 32 := 0#32
  let v79 : BitVec 1 := Scalar.cmpi .sgt v2 c0_i32_64
  let v80 : BitVec 32 := Scalar.extui v79
  let c0_i32_65 : BitVec 32 := 0#32
  let v81 : BitVec 1 := Scalar.cmpi .slt v2 c0_i32_65
  let v82 : BitVec 32 := Scalar.extui v81
  let v83 : BitVec 32 := Scalar.subi v80 v82
  let c2_i32_63 : BitVec 32 := 2#32
  let c0_i32_66 : BitVec 32 := 0#32
  let v84 : BitVec 1 := Scalar.cmpi .sgt c2_i32_63 c0_i32_66
  let v85 : BitVec 32 := Scalar.extui v84
  let c0_i32_67 : BitVec 32 := 0#32
  let v86 : BitVec 1 := Scalar.cmpi .slt c2_i32_63 c0_i32_67
  let v87 : BitVec 32 := Scalar.extui v86
  let v88 : BitVec 32 := Scalar.subi v85 v87
  let v89 : BitVec 1 := Scalar.cmpi .ne v83 v88
  let v90 : BitVec 32 := Scalar.remsi v2 c2_i32_63
  let c0_i32_68 : BitVec 32 := 0#32
  let v91 : BitVec 1 := Scalar.cmpi .ne v90 c0_i32_68
  let v92 : BitVec 1 := Scalar.andi v89 v91
  let v78 : BitVec 32 := Scalar.divsi v2 c2_i32_63
  let c1_i32_69 : BitVec 32 := 1#32
  let v93 : BitVec 32 := Scalar.subi v78 c1_i32_69
  let v94 : BitVec 32 := Scalar.select v92 v93 v78
  let c2_i32_70 : BitVec 32 := 2#32
  let c0_i32_71 : BitVec 32 := 0#32
  let v95 : BitVec 1 := Scalar.cmpi .eq c2_i32_70 c0_i32_71
  let c1_i32_72 : BitVec 32 := 1#32
  let v96 : BitVec 32 := Scalar.select v95 c1_i32_72 c2_i32_70
  let v97 : BitVec 32 := Scalar.remsi v94 v96
  let c0_i32_74 : BitVec 32 := 0#32
  let v99 : BitVec 1 := Scalar.cmpi .slt v97 c0_i32_74
  let c0_i32_75 : BitVec 32 := 0#32
  let v100 : BitVec 1 := Scalar.cmpi .slt v96 c0_i32_75
  let v101 : BitVec 1 := Scalar.xori v99 v100
  let c0_i32_73 : BitVec 32 := 0#32
  let v98 : BitVec 1 := Scalar.cmpi .ne v97 c0_i32_73
  let v102 : BitVec 1 := Scalar.andi v101 v98
  let v103 : BitVec 32 := Scalar.addi v97 v96
  let v104 : BitVec 32 := Scalar.select v102 v103 v97
  let v737 : BitVec 32 := Scalar.subi c1_i32_554 v104
  let c64_i32 : BitVec 32 := 64#32
  let v738 : BitVec 32 := Scalar.muli v737 c64_i32
  let v739 : BitVec 32 := Scalar.addi v725 v738
  let v740 : Index := Scalar.indexCast v739
  let c0_556 : Index := 0#32
  ![0, v740.toNat, 0]
def k0_dev45 (d0 : Dev nD) : Nat :=
  let c0_i32_568 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_560 : BitVec 32 := 2#32
  let v747 : BitVec 32 := Scalar.xori v2 c2_i32_560
  let c1_i32_567 : BitVec 32 := 1#32
  let v748 : BitVec 32 := Scalar.muli v747 c1_i32_567
  let v749 : BitVec 32 := Scalar.addi c0_i32_568 v748
  v749.toNat
def k0_off9 (d0 : Dev nD) : Fin 3 → Nat :=
  let c1_596 : Index := 1#32
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_57 : BitVec 32 := 2#32
  let c0_i32_58 : BitVec 32 := 0#32
  let v68 : BitVec 1 := Scalar.cmpi .eq c2_i32_57 c0_i32_58
  let c1_i32_59 : BitVec 32 := 1#32
  let v69 : BitVec 32 := Scalar.select v68 c1_i32_59 c2_i32_57
  let v70 : BitVec 32 := Scalar.remsi v2 v69
  let c0_i32_61 : BitVec 32 := 0#32
  let v72 : BitVec 1 := Scalar.cmpi .slt v70 c0_i32_61
  let c0_i32_62 : BitVec 32 := 0#32
  let v73 : BitVec 1 := Scalar.cmpi .slt v69 c0_i32_62
  let v74 : BitVec 1 := Scalar.xori v72 v73
  let c0_i32_60 : BitVec 32 := 0#32
  let v71 : BitVec 1 := Scalar.cmpi .ne v70 c0_i32_60
  let v75 : BitVec 1 := Scalar.andi v74 v71
  let v76 : BitVec 32 := Scalar.addi v70 v69
  let v77 : BitVec 32 := Scalar.select v75 v76 v70
  let c256_i32_494 : BitVec 32 := 256#32
  let v676 : BitVec 32 := Scalar.muli v77 c256_i32_494
  let v677 : BitVec 32 := Scalar.addi c0_i32_495 v676
  let c0_i32_77 : BitVec 32 := 0#32
  let v106 : BitVec 1 := Scalar.cmpi .sgt v2 c0_i32_77
  let v107 : BitVec 32 := Scalar.extui v106
  let c0_i32_78 : BitVec 32 := 0#32
  let v108 : BitVec 1 := Scalar.cmpi .slt v2 c0_i32_78
  let v109 : BitVec 32 := Scalar.extui v108
  let v110 : BitVec 32 := Scalar.subi v107 v109
  let c4_i32_76 : BitVec 32 := 4#32
  let c0_i32_79 : BitVec 32 := 0#32
  let v111 : BitVec 1 := Scalar.cmpi .sgt c4_i32_76 c0_i32_79
  let v112 : BitVec 32 := Scalar.extui v111
  let c0_i32_80 : BitVec 32 := 0#32
  let v113 : BitVec 1 := Scalar.cmpi .slt c4_i32_76 c0_i32_80
  let v114 : BitVec 32 := Scalar.extui v113
  let v115 : BitVec 32 := Scalar.subi v112 v114
  let v116 : BitVec 1 := Scalar.cmpi .ne v110 v115
  let v117 : BitVec 32 := Scalar.remsi v2 c4_i32_76
  let c0_i32_81 : BitVec 32 := 0#32
  let v118 : BitVec 1 := Scalar.cmpi .ne v117 c0_i32_81
  let v119 : BitVec 1 := Scalar.andi v116 v118
  let v105 : BitVec 32 := Scalar.divsi v2 c4_i32_76
  let c1_i32_82 : BitVec 32 := 1#32
  let v120 : BitVec 32 := Scalar.subi v105 c1_i32_82
  let v121 : BitVec 32 := Scalar.select v119 v120 v105
  let c2_i32_83 : BitVec 32 := 2#32
  let c0_i32_84 : BitVec 32 := 0#32
  let v122 : BitVec 1 := Scalar.cmpi .eq c2_i32_83 c0_i32_84
  let c1_i32_85 : BitVec 32 := 1#32
  let v123 : BitVec 32 := Scalar.select v122 c1_i32_85 c2_i32_83
  let v124 : BitVec 32 := Scalar.remsi v121 v123
  let c0_i32_87 : BitVec 32 := 0#32
  let v126 : BitVec 1 := Scalar.cmpi .slt v124 c0_i32_87
  let c0_i32_88 : BitVec 32 := 0#32
  let v127 : BitVec 1 := Scalar.cmpi .slt v123 c0_i32_88
  let v128 : BitVec 1 := Scalar.xori v126 v127
  let c0_i32_86 : BitVec 32 := 0#32
  let v125 : BitVec 1 := Scalar.cmpi .ne v124 c0_i32_86
  let v129 : BitVec 1 := Scalar.andi v128 v125
  let v130 : BitVec 32 := Scalar.addi v124 v123
  let v131 : BitVec 32 := Scalar.select v129 v130 v124
  let c128_i32_595 : BitVec 32 := 128#32
  let v772 : BitVec 32 := Scalar.muli v131 c128_i32_595
  let v773 : BitVec 32 := Scalar.addi v677 v772
  let v774 : Index := Scalar.indexCast v773
  let c0_597 : Index := 0#32
  ![1, v774.toNat, 0]
def k0_off10 (d0 : Dev nD) : Fin 3 → Nat :=
  let c1_605 : Index := 1#32
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_57 : BitVec 32 := 2#32
  let c0_i32_58 : BitVec 32 := 0#32
  let v68 : BitVec 1 := Scalar.cmpi .eq c2_i32_57 c0_i32_58
  let c1_i32_59 : BitVec 32 := 1#32
  let v69 : BitVec 32 := Scalar.select v68 c1_i32_59 c2_i32_57
  let v70 : BitVec 32 := Scalar.remsi v2 v69
  let c0_i32_61 : BitVec 32 := 0#32
  let v72 : BitVec 1 := Scalar.cmpi .slt v70 c0_i32_61
  let c0_i32_62 : BitVec 32 := 0#32
  let v73 : BitVec 1 := Scalar.cmpi .slt v69 c0_i32_62
  let v74 : BitVec 1 := Scalar.xori v72 v73
  let c0_i32_60 : BitVec 32 := 0#32
  let v71 : BitVec 1 := Scalar.cmpi .ne v70 c0_i32_60
  let v75 : BitVec 1 := Scalar.andi v74 v71
  let v76 : BitVec 32 := Scalar.addi v70 v69
  let v77 : BitVec 32 := Scalar.select v75 v76 v70
  let c256_i32_494 : BitVec 32 := 256#32
  let v676 : BitVec 32 := Scalar.muli v77 c256_i32_494
  let v677 : BitVec 32 := Scalar.addi c0_i32_495 v676
  let c0_i32_77 : BitVec 32 := 0#32
  let v106 : BitVec 1 := Scalar.cmpi .sgt v2 c0_i32_77
  let v107 : BitVec 32 := Scalar.extui v106
  let c0_i32_78 : BitVec 32 := 0#32
  let v108 : BitVec 1 := Scalar.cmpi .slt v2 c0_i32_78
  let v109 : BitVec 32 := Scalar.extui v108
  let v110 : BitVec 32 := Scalar.subi v107 v109
  let c4_i32_76 : BitVec 32 := 4#32
  let c0_i32_79 : BitVec 32 := 0#32
  let v111 : BitVec 1 := Scalar.cmpi .sgt c4_i32_76 c0_i32_79
  let v112 : BitVec 32 := Scalar.extui v111
  let c0_i32_80 : BitVec 32 := 0#32
  let v113 : BitVec 1 := Scalar.cmpi .slt c4_i32_76 c0_i32_80
  let v114 : BitVec 32 := Scalar.extui v113
  let v115 : BitVec 32 := Scalar.subi v112 v114
  let v116 : BitVec 1 := Scalar.cmpi .ne v110 v115
  let v117 : BitVec 32 := Scalar.remsi v2 c4_i32_76
  let c0_i32_81 : BitVec 32 := 0#32
  let v118 : BitVec 1 := Scalar.cmpi .ne v117 c0_i32_81
  let v119 : BitVec 1 := Scalar.andi v116 v118
  let v105 : BitVec 32 := Scalar.divsi v2 c4_i32_76
  let c1_i32_82 : BitVec 32 := 1#32
  let v120 : BitVec 32 := Scalar.subi v105 c1_i32_82
  let v121 : BitVec 32 := Scalar.select v119 v120 v105
  let c2_i32_83 : BitVec 32 := 2#32
  let c0_i32_84 : BitVec 32 := 0#32
  let v122 : BitVec 1 := Scalar.cmpi .eq c2_i32_83 c0_i32_84
  let c1_i32_85 : BitVec 32 := 1#32
  let v123 : BitVec 32 := Scalar.select v122 c1_i32_85 c2_i32_83
  let v124 : BitVec 32 := Scalar.remsi v121 v123
  let c0_i32_87 : BitVec 32 := 0#32
  let v126 : BitVec 1 := Scalar.cmpi .slt v124 c0_i32_87
  let c0_i32_88 : BitVec 32 := 0#32
  let v127 : BitVec 1 := Scalar.cmpi .slt v123 c0_i32_88
  let v128 : BitVec 1 := Scalar.xori v126 v127
  let c0_i32_86 : BitVec 32 := 0#32
  let v125 : BitVec 1 := Scalar.cmpi .ne v124 c0_i32_86
  let v129 : BitVec 1 := Scalar.andi v128 v125
  let v130 : BitVec 32 := Scalar.addi v124 v123
  let v131 : BitVec 32 := Scalar.select v129 v130 v124
  let c128_i32_595 : BitVec 32 := 128#32
  let v772 : BitVec 32 := Scalar.muli v131 c128_i32_595
  let v773 : BitVec 32 := Scalar.addi v677 v772
  let c1_i32_603 : BitVec 32 := 1#32
  let c0_i32_64 : BitVec 32 := 0#32
  let v79 : BitVec 1 := Scalar.cmpi .sgt v2 c0_i32_64
  let v80 : BitVec 32 := Scalar.extui v79
  let c0_i32_65 : BitVec 32 := 0#32
  let v81 : BitVec 1 := Scalar.cmpi .slt v2 c0_i32_65
  let v82 : BitVec 32 := Scalar.extui v81
  let v83 : BitVec 32 := Scalar.subi v80 v82
  let c2_i32_63 : BitVec 32 := 2#32
  let c0_i32_66 : BitVec 32 := 0#32
  let v84 : BitVec 1 := Scalar.cmpi .sgt c2_i32_63 c0_i32_66
  let v85 : BitVec 32 := Scalar.extui v84
  let c0_i32_67 : BitVec 32 := 0#32
  let v86 : BitVec 1 := Scalar.cmpi .slt c2_i32_63 c0_i32_67
  let v87 : BitVec 32 := Scalar.extui v86
  let v88 : BitVec 32 := Scalar.subi v85 v87
  let v89 : BitVec 1 := Scalar.cmpi .ne v83 v88
  let v90 : BitVec 32 := Scalar.remsi v2 c2_i32_63
  let c0_i32_68 : BitVec 32 := 0#32
  let v91 : BitVec 1 := Scalar.cmpi .ne v90 c0_i32_68
  let v92 : BitVec 1 := Scalar.andi v89 v91
  let v78 : BitVec 32 := Scalar.divsi v2 c2_i32_63
  let c1_i32_69 : BitVec 32 := 1#32
  let v93 : BitVec 32 := Scalar.subi v78 c1_i32_69
  let v94 : BitVec 32 := Scalar.select v92 v93 v78
  let c2_i32_70 : BitVec 32 := 2#32
  let c0_i32_71 : BitVec 32 := 0#32
  let v95 : BitVec 1 := Scalar.cmpi .eq c2_i32_70 c0_i32_71
  let c1_i32_72 : BitVec 32 := 1#32
  let v96 : BitVec 32 := Scalar.select v95 c1_i32_72 c2_i32_70
  let v97 : BitVec 32 := Scalar.remsi v94 v96
  let c0_i32_74 : BitVec 32 := 0#32
  let v99 : BitVec 1 := Scalar.cmpi .slt v97 c0_i32_74
  let c0_i32_75 : BitVec 32 := 0#32
  let v100 : BitVec 1 := Scalar.cmpi .slt v96 c0_i32_75
  let v101 : BitVec 1 := Scalar.xori v99 v100
  let c0_i32_73 : BitVec 32 := 0#32
  let v98 : BitVec 1 := Scalar.cmpi .ne v97 c0_i32_73
  let v102 : BitVec 1 := Scalar.andi v101 v98
  let v103 : BitVec 32 := Scalar.addi v97 v96
  let v104 : BitVec 32 := Scalar.select v102 v103 v97
  let v785 : BitVec 32 := Scalar.subi c1_i32_603 v104
  let c64_i32_604 : BitVec 32 := 64#32
  let v786 : BitVec 32 := Scalar.muli v785 c64_i32_604
  let v787 : BitVec 32 := Scalar.addi v773 v786
  let v788 : Index := Scalar.indexCast v787
  let c0_606 : Index := 0#32
  ![1, v788.toNat, 0]
def k0_dev46 (d0 : Dev nD) : Nat :=
  let c0_i32_618 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_610 : BitVec 32 := 2#32
  let v795 : BitVec 32 := Scalar.xori v2 c2_i32_610
  let c1_i32_617 : BitVec 32 := 1#32
  let v796 : BitVec 32 := Scalar.muli v795 c1_i32_617
  let v797 : BitVec 32 := Scalar.addi c0_i32_618 v796
  v797.toNat
def k0_off11 (d0 : Dev nD) : Fin 3 → Nat :=
  let c0_647 : Index := 0#32
  let c0_i32_443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_57 : BitVec 32 := 2#32
  let c0_i32_58 : BitVec 32 := 0#32
  let v68 : BitVec 1 := Scalar.cmpi .eq c2_i32_57 c0_i32_58
  let c1_i32_59 : BitVec 32 := 1#32
  let v69 : BitVec 32 := Scalar.select v68 c1_i32_59 c2_i32_57
  let v70 : BitVec 32 := Scalar.remsi v2 v69
  let c0_i32_61 : BitVec 32 := 0#32
  let v72 : BitVec 1 := Scalar.cmpi .slt v70 c0_i32_61
  let c0_i32_62 : BitVec 32 := 0#32
  let v73 : BitVec 1 := Scalar.cmpi .slt v69 c0_i32_62
  let v74 : BitVec 1 := Scalar.xori v72 v73
  let c0_i32_60 : BitVec 32 := 0#32
  let v71 : BitVec 1 := Scalar.cmpi .ne v70 c0_i32_60
  let v75 : BitVec 1 := Scalar.andi v74 v71
  let v76 : BitVec 32 := Scalar.addi v70 v69
  let v77 : BitVec 32 := Scalar.select v75 v76 v70
  let c256_i32_442 : BitVec 32 := 256#32
  let v628 : BitVec 32 := Scalar.muli v77 c256_i32_442
  let v629 : BitVec 32 := Scalar.addi c0_i32_443 v628
  let c0_i32_77 : BitVec 32 := 0#32
  let v106 : BitVec 1 := Scalar.cmpi .sgt v2 c0_i32_77
  let v107 : BitVec 32 := Scalar.extui v106
  let c0_i32_78 : BitVec 32 := 0#32
  let v108 : BitVec 1 := Scalar.cmpi .slt v2 c0_i32_78
  let v109 : BitVec 32 := Scalar.extui v108
  let v110 : BitVec 32 := Scalar.subi v107 v109
  let c4_i32_76 : BitVec 32 := 4#32
  let c0_i32_79 : BitVec 32 := 0#32
  let v111 : BitVec 1 := Scalar.cmpi .sgt c4_i32_76 c0_i32_79
  let v112 : BitVec 32 := Scalar.extui v111
  let c0_i32_80 : BitVec 32 := 0#32
  let v113 : BitVec 1 := Scalar.cmpi .slt c4_i32_76 c0_i32_80
  let v114 : BitVec 32 := Scalar.extui v113
  let v115 : BitVec 32 := Scalar.subi v112 v114
  let v116 : BitVec 1 := Scalar.cmpi .ne v110 v115
  let v117 : BitVec 32 := Scalar.remsi v2 c4_i32_76
  let c0_i32_81 : BitVec 32 := 0#32
  let v118 : BitVec 1 := Scalar.cmpi .ne v117 c0_i32_81
  let v119 : BitVec 1 := Scalar.andi v116 v118
  let v105 : BitVec 32 := Scalar.divsi v2 c4_i32_76
  let c1_i32_82 : BitVec 32 := 1#32
  let v120 : BitVec 32 := Scalar.subi v105 c1_i32_82
  let v121 : BitVec 32 := Scalar.select v119 v120 v105
  let c2_i32_83 : BitVec 32 := 2#32
  let c0_i32_84 : BitVec 32 := 0#32
  let v122 : BitVec 1 := Scalar.cmpi .eq c2_i32_83 c0_i32_84
  let c1_i32_85 : BitVec 32 := 1#32
  let v123 : BitVec 32 := Scalar.select v122 c1_i32_85 c2_i32_83
  let v124 : BitVec 32 := Scalar.remsi v121 v123
  let c0_i32_87 : BitVec 32 := 0#32
  let v126 : BitVec 1 := Scalar.cmpi .slt v124 c0_i32_87
  let c0_i32_88 : BitVec 32 := 0#32
  let v127 : BitVec 1 := Scalar.cmpi .slt v123 c0_i32_88
  let v128 : BitVec 1 := Scalar.xori v126 v127
  let c0_i32_86 : BitVec 32 := 0#32
  let v125 : BitVec 1 := Scalar.cmpi .ne v124 c0_i32_86
  let v129 : BitVec 1 := Scalar.andi v128 v125
  let v130 : BitVec 32 := Scalar.addi v124 v123
  let v131 : BitVec 32 := Scalar.select v129 v130 v124
  let c128_i32_546 : BitVec 32 := 128#32
  let v724 : BitVec 32 := Scalar.muli v131 c128_i32_546
  let v725 : BitVec 32 := Scalar.addi v629 v724
  let c0_i32_64 : BitVec 32 := 0#32
  let v79 : BitVec 1 := Scalar.cmpi .sgt v2 c0_i32_64
  let v80 : BitVec 32 := Scalar.extui v79
  let c0_i32_65 : BitVec 32 := 0#32
  let v81 : BitVec 1 := Scalar.cmpi .slt v2 c0_i32_65
  let v82 : BitVec 32 := Scalar.extui v81
  let v83 : BitVec 32 := Scalar.subi v80 v82
  let c2_i32_63 : BitVec 32 := 2#32
  let c0_i32_66 : BitVec 32 := 0#32
  let v84 : BitVec 1 := Scalar.cmpi .sgt c2_i32_63 c0_i32_66
  let v85 : BitVec 32 := Scalar.extui v84
  let c0_i32_67 : BitVec 32 := 0#32
  let v86 : BitVec 1 := Scalar.cmpi .slt c2_i32_63 c0_i32_67
  let v87 : BitVec 32 := Scalar.extui v86
  let v88 : BitVec 32 := Scalar.subi v85 v87
  let v89 : BitVec 1 := Scalar.cmpi .ne v83 v88
  let v90 : BitVec 32 := Scalar.remsi v2 c2_i32_63
  let c0_i32_68 : BitVec 32 := 0#32
  let v91 : BitVec 1 := Scalar.cmpi .ne v90 c0_i32_68
  let v92 : BitVec 1 := Scalar.andi v89 v91
  let v78 : BitVec 32 := Scalar.divsi v2 c2_i32_63
  let c1_i32_69 : BitVec 32 := 1#32
  let v93 : BitVec 32 := Scalar.subi v78 c1_i32_69
  let v94 : BitVec 32 := Scalar.select v92 v93 v78
  let c2_i32_70 : BitVec 32 := 2#32
  let c0_i32_71 : BitVec 32 := 0#32
  let v95 : BitVec 1 := Scalar.cmpi .eq c2_i32_70 c0_i32_71
  let c1_i32_72 : BitVec 32 := 1#32
  let v96 : BitVec 32 := Scalar.select v95 c1_i32_72 c2_i32_70
  let v97 : BitVec 32 := Scalar.remsi v94 v96
  let c0_i32_74 : BitVec 32 := 0#32
  let v99 : BitVec 1 := Scalar.cmpi .slt v97 c0_i32_74
  let c0_i32_75 : BitVec 32 := 0#32
  let v100 : BitVec 1 := Scalar.cmpi .slt v96 c0_i32_75
  let v101 : BitVec 1 := Scalar.xori v99 v100
  let c0_i32_73 : BitVec 32 := 0#32
  let v98 : BitVec 1 := Scalar.cmpi .ne v97 c0_i32_73
  let v102 : BitVec 1 := Scalar.andi v101 v98
  let v103 : BitVec 32 := Scalar.addi v97 v96
  let v104 : BitVec 32 := Scalar.select v102 v103 v97
  let c64_i32_646 : BitVec 32 := 64#32
  let v820 : BitVec 32 := Scalar.muli v104 c64_i32_646
  let v821 : BitVec 32 := Scalar.addi v725 v820
  let v822 : Index := Scalar.indexCast v821
  let c0_648 : Index := 0#32
  ![0, v822.toNat, 0]
def k0_off12 (d0 : Dev nD) : Fin 3 → Nat :=
  let c0_i32_660 : BitVec 32 := 0#32
  let c0_i32_443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_57 : BitVec 32 := 2#32
  let c0_i32_58 : BitVec 32 := 0#32
  let v68 : BitVec 1 := Scalar.cmpi .eq c2_i32_57 c0_i32_58
  let c1_i32_59 : BitVec 32 := 1#32
  let v69 : BitVec 32 := Scalar.select v68 c1_i32_59 c2_i32_57
  let v70 : BitVec 32 := Scalar.remsi v2 v69
  let c0_i32_61 : BitVec 32 := 0#32
  let v72 : BitVec 1 := Scalar.cmpi .slt v70 c0_i32_61
  let c0_i32_62 : BitVec 32 := 0#32
  let v73 : BitVec 1 := Scalar.cmpi .slt v69 c0_i32_62
  let v74 : BitVec 1 := Scalar.xori v72 v73
  let c0_i32_60 : BitVec 32 := 0#32
  let v71 : BitVec 1 := Scalar.cmpi .ne v70 c0_i32_60
  let v75 : BitVec 1 := Scalar.andi v74 v71
  let v76 : BitVec 32 := Scalar.addi v70 v69
  let v77 : BitVec 32 := Scalar.select v75 v76 v70
  let c256_i32_442 : BitVec 32 := 256#32
  let v628 : BitVec 32 := Scalar.muli v77 c256_i32_442
  let v629 : BitVec 32 := Scalar.addi c0_i32_443 v628
  let c0_i32_77 : BitVec 32 := 0#32
  let v106 : BitVec 1 := Scalar.cmpi .sgt v2 c0_i32_77
  let v107 : BitVec 32 := Scalar.extui v106
  let c0_i32_78 : BitVec 32 := 0#32
  let v108 : BitVec 1 := Scalar.cmpi .slt v2 c0_i32_78
  let v109 : BitVec 32 := Scalar.extui v108
  let v110 : BitVec 32 := Scalar.subi v107 v109
  let c4_i32_76 : BitVec 32 := 4#32
  let c0_i32_79 : BitVec 32 := 0#32
  let v111 : BitVec 1 := Scalar.cmpi .sgt c4_i32_76 c0_i32_79
  let v112 : BitVec 32 := Scalar.extui v111
  let c0_i32_80 : BitVec 32 := 0#32
  let v113 : BitVec 1 := Scalar.cmpi .slt c4_i32_76 c0_i32_80
  let v114 : BitVec 32 := Scalar.extui v113
  let v115 : BitVec 32 := Scalar.subi v112 v114
  let v116 : BitVec 1 := Scalar.cmpi .ne v110 v115
  let v117 : BitVec 32 := Scalar.remsi v2 c4_i32_76
  let c0_i32_81 : BitVec 32 := 0#32
  let v118 : BitVec 1 := Scalar.cmpi .ne v117 c0_i32_81
  let v119 : BitVec 1 := Scalar.andi v116 v118
  let v105 : BitVec 32 := Scalar.divsi v2 c4_i32_76
  let c1_i32_82 : BitVec 32 := 1#32
  let v120 : BitVec 32 := Scalar.subi v105 c1_i32_82
  let v121 : BitVec 32 := Scalar.select v119 v120 v105
  let c2_i32_83 : BitVec 32 := 2#32
  let c0_i32_84 : BitVec 32 := 0#32
  let v122 : BitVec 1 := Scalar.cmpi .eq c2_i32_83 c0_i32_84
  let c1_i32_85 : BitVec 32 := 1#32
  let v123 : BitVec 32 := Scalar.select v122 c1_i32_85 c2_i32_83
  let v124 : BitVec 32 := Scalar.remsi v121 v123
  let c0_i32_87 : BitVec 32 := 0#32
  let v126 : BitVec 1 := Scalar.cmpi .slt v124 c0_i32_87
  let c0_i32_88 : BitVec 32 := 0#32
  let v127 : BitVec 1 := Scalar.cmpi .slt v123 c0_i32_88
  let v128 : BitVec 1 := Scalar.xori v126 v127
  let c0_i32_86 : BitVec 32 := 0#32
  let v125 : BitVec 1 := Scalar.cmpi .ne v124 c0_i32_86
  let v129 : BitVec 1 := Scalar.andi v128 v125
  let v130 : BitVec 32 := Scalar.addi v124 v123
  let v131 : BitVec 32 := Scalar.select v129 v130 v124
  let c128_i32_546 : BitVec 32 := 128#32
  let v724 : BitVec 32 := Scalar.muli v131 c128_i32_546
  let v725 : BitVec 32 := Scalar.addi v629 v724
  let c0_i32_64 : BitVec 32 := 0#32
  let v79 : BitVec 1 := Scalar.cmpi .sgt v2 c0_i32_64
  let v80 : BitVec 32 := Scalar.extui v79
  let c0_i32_65 : BitVec 32 := 0#32
  let v81 : BitVec 1 := Scalar.cmpi .slt v2 c0_i32_65
  let v82 : BitVec 32 := Scalar.extui v81
  let v83 : BitVec 32 := Scalar.subi v80 v82
  let c2_i32_63 : BitVec 32 := 2#32
  let c0_i32_66 : BitVec 32 := 0#32
  let v84 : BitVec 1 := Scalar.cmpi .sgt c2_i32_63 c0_i32_66
  let v85 : BitVec 32 := Scalar.extui v84
  let c0_i32_67 : BitVec 32 := 0#32
  let v86 : BitVec 1 := Scalar.cmpi .slt c2_i32_63 c0_i32_67
  let v87 : BitVec 32 := Scalar.extui v86
  let v88 : BitVec 32 := Scalar.subi v85 v87
  let v89 : BitVec 1 := Scalar.cmpi .ne v83 v88
  let v90 : BitVec 32 := Scalar.remsi v2 c2_i32_63
  let c0_i32_68 : BitVec 32 := 0#32
  let v91 : BitVec 1 := Scalar.cmpi .ne v90 c0_i32_68
  let v92 : BitVec 1 := Scalar.andi v89 v91
  let v78 : BitVec 32 := Scalar.divsi v2 c2_i32_63
  let c1_i32_69 : BitVec 32 := 1#32
  let v93 : BitVec 32 := Scalar.subi v78 c1_i32_69
  let v94 : BitVec 32 := Scalar.select v92 v93 v78
  let c2_i32_70 : BitVec 32 := 2#32
  let c0_i32_71 : BitVec 32 := 0#32
  let v95 : BitVec 1 := Scalar.cmpi .eq c2_i32_70 c0_i32_71
  let c1_i32_72 : BitVec 32 := 1#32
  let v96 : BitVec 32 := Scalar.select v95 c1_i32_72 c2_i32_70
  let v97 : BitVec 32 := Scalar.remsi v94 v96
  let c0_i32_74 : BitVec 32 := 0#32
  let v99 : BitVec 1 := Scalar.cmpi .slt v97 c0_i32_74
  let c0_i32_75 : BitVec 32 := 0#32
  let v100 : BitVec 1 := Scalar.cmpi .slt v96 c0_i32_75
  let v101 : BitVec 1 := Scalar.xori v99 v100
  let c0_i32_73 : BitVec 32 := 0#32
  let v98 : BitVec 1 := Scalar.cmpi .ne v97 c0_i32_73
  let v102 : BitVec 1 := Scalar.andi v101 v98
  let v103 : BitVec 32 := Scalar.addi v97 v96
  let v104 : BitVec 32 := Scalar.select v102 v103 v97
  let c64_i32_646 : BitVec 32 := 64#32
  let v820 : BitVec 32 := Scalar.muli v104 c64_i32_646
  let v821 : BitVec 32 := Scalar.addi v725 v820
  let c0_i32_667 : BitVec 32 := 0#32
  ![0, v821.toNat, 0]
def k0_dev47 (d0 : Dev nD) : Nat :=
  let c0_i32_666 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_658 : BitVec 32 := 2#32
  let v841 : BitVec 32 := Scalar.xori v2 c2_i32_658
  let c1_i32_665 : BitVec 32 := 1#32
  let v842 : BitVec 32 := Scalar.muli v841 c1_i32_665
  let v843 : BitVec 32 := Scalar.addi c0_i32_666 v842
  v843.toNat
def k0_off13 (d0 : Dev nD) : Fin 3 → Nat :=
  let c1_694 : Index := 1#32
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_57 : BitVec 32 := 2#32
  let c0_i32_58 : BitVec 32 := 0#32
  let v68 : BitVec 1 := Scalar.cmpi .eq c2_i32_57 c0_i32_58
  let c1_i32_59 : BitVec 32 := 1#32
  let v69 : BitVec 32 := Scalar.select v68 c1_i32_59 c2_i32_57
  let v70 : BitVec 32 := Scalar.remsi v2 v69
  let c0_i32_61 : BitVec 32 := 0#32
  let v72 : BitVec 1 := Scalar.cmpi .slt v70 c0_i32_61
  let c0_i32_62 : BitVec 32 := 0#32
  let v73 : BitVec 1 := Scalar.cmpi .slt v69 c0_i32_62
  let v74 : BitVec 1 := Scalar.xori v72 v73
  let c0_i32_60 : BitVec 32 := 0#32
  let v71 : BitVec 1 := Scalar.cmpi .ne v70 c0_i32_60
  let v75 : BitVec 1 := Scalar.andi v74 v71
  let v76 : BitVec 32 := Scalar.addi v70 v69
  let v77 : BitVec 32 := Scalar.select v75 v76 v70
  let c256_i32_494 : BitVec 32 := 256#32
  let v676 : BitVec 32 := Scalar.muli v77 c256_i32_494
  let v677 : BitVec 32 := Scalar.addi c0_i32_495 v676
  let c0_i32_77 : BitVec 32 := 0#32
  let v106 : BitVec 1 := Scalar.cmpi .sgt v2 c0_i32_77
  let v107 : BitVec 32 := Scalar.extui v106
  let c0_i32_78 : BitVec 32 := 0#32
  let v108 : BitVec 1 := Scalar.cmpi .slt v2 c0_i32_78
  let v109 : BitVec 32 := Scalar.extui v108
  let v110 : BitVec 32 := Scalar.subi v107 v109
  let c4_i32_76 : BitVec 32 := 4#32
  let c0_i32_79 : BitVec 32 := 0#32
  let v111 : BitVec 1 := Scalar.cmpi .sgt c4_i32_76 c0_i32_79
  let v112 : BitVec 32 := Scalar.extui v111
  let c0_i32_80 : BitVec 32 := 0#32
  let v113 : BitVec 1 := Scalar.cmpi .slt c4_i32_76 c0_i32_80
  let v114 : BitVec 32 := Scalar.extui v113
  let v115 : BitVec 32 := Scalar.subi v112 v114
  let v116 : BitVec 1 := Scalar.cmpi .ne v110 v115
  let v117 : BitVec 32 := Scalar.remsi v2 c4_i32_76
  let c0_i32_81 : BitVec 32 := 0#32
  let v118 : BitVec 1 := Scalar.cmpi .ne v117 c0_i32_81
  let v119 : BitVec 1 := Scalar.andi v116 v118
  let v105 : BitVec 32 := Scalar.divsi v2 c4_i32_76
  let c1_i32_82 : BitVec 32 := 1#32
  let v120 : BitVec 32 := Scalar.subi v105 c1_i32_82
  let v121 : BitVec 32 := Scalar.select v119 v120 v105
  let c2_i32_83 : BitVec 32 := 2#32
  let c0_i32_84 : BitVec 32 := 0#32
  let v122 : BitVec 1 := Scalar.cmpi .eq c2_i32_83 c0_i32_84
  let c1_i32_85 : BitVec 32 := 1#32
  let v123 : BitVec 32 := Scalar.select v122 c1_i32_85 c2_i32_83
  let v124 : BitVec 32 := Scalar.remsi v121 v123
  let c0_i32_87 : BitVec 32 := 0#32
  let v126 : BitVec 1 := Scalar.cmpi .slt v124 c0_i32_87
  let c0_i32_88 : BitVec 32 := 0#32
  let v127 : BitVec 1 := Scalar.cmpi .slt v123 c0_i32_88
  let v128 : BitVec 1 := Scalar.xori v126 v127
  let c0_i32_86 : BitVec 32 := 0#32
  let v125 : BitVec 1 := Scalar.cmpi .ne v124 c0_i32_86
  let v129 : BitVec 1 := Scalar.andi v128 v125
  let v130 : BitVec 32 := Scalar.addi v124 v123
  let v131 : BitVec 32 := Scalar.select v129 v130 v124
  let c128_i32_595 : BitVec 32 := 128#32
  let v772 : BitVec 32 := Scalar.muli v131 c128_i32_595
  let v773 : BitVec 32 := Scalar.addi v677 v772
  let c0_i32_64 : BitVec 32 := 0#32
  let v79 : BitVec 1 := Scalar.cmpi .sgt v2 c0_i32_64
  let v80 : BitVec 32 := Scalar.extui v79
  let c0_i32_65 : BitVec 32 := 0#32
  let v81 : BitVec 1 := Scalar.cmpi .slt v2 c0_i32_65
  let v82 : BitVec 32 := Scalar.extui v81
  let v83 : BitVec 32 := Scalar.subi v80 v82
  let c2_i32_63 : BitVec 32 := 2#32
  let c0_i32_66 : BitVec 32 := 0#32
  let v84 : BitVec 1 := Scalar.cmpi .sgt c2_i32_63 c0_i32_66
  let v85 : BitVec 32 := Scalar.extui v84
  let c0_i32_67 : BitVec 32 := 0#32
  let v86 : BitVec 1 := Scalar.cmpi .slt c2_i32_63 c0_i32_67
  let v87 : BitVec 32 := Scalar.extui v86
  let v88 : BitVec 32 := Scalar.subi v85 v87
  let v89 : BitVec 1 := Scalar.cmpi .ne v83 v88
  let v90 : BitVec 32 := Scalar.remsi v2 c2_i32_63
  let c0_i32_68 : BitVec 32 := 0#32
  let v91 : BitVec 1 := Scalar.cmpi .ne v90 c0_i32_68
  let v92 : BitVec 1 := Scalar.andi v89 v91
  let v78 : BitVec 32 := Scalar.divsi v2 c2_i32_63
  let c1_i32_69 : BitVec 32 := 1#32
  let v93 : BitVec 32 := Scalar.subi v78 c1_i32_69
  let v94 : BitVec 32 := Scalar.select v92 v93 v78
  let c2_i32_70 : BitVec 32 := 2#32
  let c0_i32_71 : BitVec 32 := 0#32
  let v95 : BitVec 1 := Scalar.cmpi .eq c2_i32_70 c0_i32_71
  let c1_i32_72 : BitVec 32 := 1#32
  let v96 : BitVec 32 := Scalar.select v95 c1_i32_72 c2_i32_70
  let v97 : BitVec 32 := Scalar.remsi v94 v96
  let c0_i32_74 : BitVec 32 := 0#32
  let v99 : BitVec 1 := Scalar.cmpi .slt v97 c0_i32_74
  let c0_i32_75 : BitVec 32 := 0#32
  let v100 : BitVec 1 := Scalar.cmpi .slt v96 c0_i32_75
  let v101 : BitVec 1 := Scalar.xori v99 v100
  let c0_i32_73 : BitVec 32 := 0#32
  let v98 : BitVec 1 := Scalar.cmpi .ne v97 c0_i32_73
  let v102 : BitVec 1 := Scalar.andi v101 v98
  let v103 : BitVec 32 := Scalar.addi v97 v96
  let v104 : BitVec 32 := Scalar.select v102 v103 v97
  let c64_i32_693 : BitVec 32 := 64#32
  let v868 : BitVec 32 := Scalar.muli v104 c64_i32_693
  let v869 : BitVec 32 := Scalar.addi v773 v868
  let v870 : Index := Scalar.indexCast v869
  let c0_695 : Index := 0#32
  ![1, v870.toNat, 0]
def k0_off14 (d0 : Dev nD) : Fin 3 → Nat :=
  let c1_i32_707 : BitVec 32 := 1#32
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_57 : BitVec 32 := 2#32
  let c0_i32_58 : BitVec 32 := 0#32
  let v68 : BitVec 1 := Scalar.cmpi .eq c2_i32_57 c0_i32_58
  let c1_i32_59 : BitVec 32 := 1#32
  let v69 : BitVec 32 := Scalar.select v68 c1_i32_59 c2_i32_57
  let v70 : BitVec 32 := Scalar.remsi v2 v69
  let c0_i32_61 : BitVec 32 := 0#32
  let v72 : BitVec 1 := Scalar.cmpi .slt v70 c0_i32_61
  let c0_i32_62 : BitVec 32 := 0#32
  let v73 : BitVec 1 := Scalar.cmpi .slt v69 c0_i32_62
  let v74 : BitVec 1 := Scalar.xori v72 v73
  let c0_i32_60 : BitVec 32 := 0#32
  let v71 : BitVec 1 := Scalar.cmpi .ne v70 c0_i32_60
  let v75 : BitVec 1 := Scalar.andi v74 v71
  let v76 : BitVec 32 := Scalar.addi v70 v69
  let v77 : BitVec 32 := Scalar.select v75 v76 v70
  let c256_i32_494 : BitVec 32 := 256#32
  let v676 : BitVec 32 := Scalar.muli v77 c256_i32_494
  let v677 : BitVec 32 := Scalar.addi c0_i32_495 v676
  let c0_i32_77 : BitVec 32 := 0#32
  let v106 : BitVec 1 := Scalar.cmpi .sgt v2 c0_i32_77
  let v107 : BitVec 32 := Scalar.extui v106
  let c0_i32_78 : BitVec 32 := 0#32
  let v108 : BitVec 1 := Scalar.cmpi .slt v2 c0_i32_78
  let v109 : BitVec 32 := Scalar.extui v108
  let v110 : BitVec 32 := Scalar.subi v107 v109
  let c4_i32_76 : BitVec 32 := 4#32
  let c0_i32_79 : BitVec 32 := 0#32
  let v111 : BitVec 1 := Scalar.cmpi .sgt c4_i32_76 c0_i32_79
  let v112 : BitVec 32 := Scalar.extui v111
  let c0_i32_80 : BitVec 32 := 0#32
  let v113 : BitVec 1 := Scalar.cmpi .slt c4_i32_76 c0_i32_80
  let v114 : BitVec 32 := Scalar.extui v113
  let v115 : BitVec 32 := Scalar.subi v112 v114
  let v116 : BitVec 1 := Scalar.cmpi .ne v110 v115
  let v117 : BitVec 32 := Scalar.remsi v2 c4_i32_76
  let c0_i32_81 : BitVec 32 := 0#32
  let v118 : BitVec 1 := Scalar.cmpi .ne v117 c0_i32_81
  let v119 : BitVec 1 := Scalar.andi v116 v118
  let v105 : BitVec 32 := Scalar.divsi v2 c4_i32_76
  let c1_i32_82 : BitVec 32 := 1#32
  let v120 : BitVec 32 := Scalar.subi v105 c1_i32_82
  let v121 : BitVec 32 := Scalar.select v119 v120 v105
  let c2_i32_83 : BitVec 32 := 2#32
  let c0_i32_84 : BitVec 32 := 0#32
  let v122 : BitVec 1 := Scalar.cmpi .eq c2_i32_83 c0_i32_84
  let c1_i32_85 : BitVec 32 := 1#32
  let v123 : BitVec 32 := Scalar.select v122 c1_i32_85 c2_i32_83
  let v124 : BitVec 32 := Scalar.remsi v121 v123
  let c0_i32_87 : BitVec 32 := 0#32
  let v126 : BitVec 1 := Scalar.cmpi .slt v124 c0_i32_87
  let c0_i32_88 : BitVec 32 := 0#32
  let v127 : BitVec 1 := Scalar.cmpi .slt v123 c0_i32_88
  let v128 : BitVec 1 := Scalar.xori v126 v127
  let c0_i32_86 : BitVec 32 := 0#32
  let v125 : BitVec 1 := Scalar.cmpi .ne v124 c0_i32_86
  let v129 : BitVec 1 := Scalar.andi v128 v125
  let v130 : BitVec 32 := Scalar.addi v124 v123
  let v131 : BitVec 32 := Scalar.select v129 v130 v124
  let c128_i32_595 : BitVec 32 := 128#32
  let v772 : BitVec 32 := Scalar.muli v131 c128_i32_595
  let v773 : BitVec 32 := Scalar.addi v677 v772
  let c0_i32_64 : BitVec 32 := 0#32
  let v79 : BitVec 1 := Scalar.cmpi .sgt v2 c0_i32_64
  let v80 : BitVec 32 := Scalar.extui v79
  let c0_i32_65 : BitVec 32 := 0#32
  let v81 : BitVec 1 := Scalar.cmpi .slt v2 c0_i32_65
  let v82 : BitVec 32 := Scalar.extui v81
  let v83 : BitVec 32 := Scalar.subi v80 v82
  let c2_i32_63 : BitVec 32 := 2#32
  let c0_i32_66 : BitVec 32 := 0#32
  let v84 : BitVec 1 := Scalar.cmpi .sgt c2_i32_63 c0_i32_66
  let v85 : BitVec 32 := Scalar.extui v84
  let c0_i32_67 : BitVec 32 := 0#32
  let v86 : BitVec 1 := Scalar.cmpi .slt c2_i32_63 c0_i32_67
  let v87 : BitVec 32 := Scalar.extui v86
  let v88 : BitVec 32 := Scalar.subi v85 v87
  let v89 : BitVec 1 := Scalar.cmpi .ne v83 v88
  let v90 : BitVec 32 := Scalar.remsi v2 c2_i32_63
  let c0_i32_68 : BitVec 32 := 0#32
  let v91 : BitVec 1 := Scalar.cmpi .ne v90 c0_i32_68
  let v92 : BitVec 1 := Scalar.andi v89 v91
  let v78 : BitVec 32 := Scalar.divsi v2 c2_i32_63
  let c1_i32_69 : BitVec 32 := 1#32
  let v93 : BitVec 32 := Scalar.subi v78 c1_i32_69
  let v94 : BitVec 32 := Scalar.select v92 v93 v78
  let c2_i32_70 : BitVec 32 := 2#32
  let c0_i32_71 : BitVec 32 := 0#32
  let v95 : BitVec 1 := Scalar.cmpi .eq c2_i32_70 c0_i32_71
  let c1_i32_72 : BitVec 32 := 1#32
  let v96 : BitVec 32 := Scalar.select v95 c1_i32_72 c2_i32_70
  let v97 : BitVec 32 := Scalar.remsi v94 v96
  let c0_i32_74 : BitVec 32 := 0#32
  let v99 : BitVec 1 := Scalar.cmpi .slt v97 c0_i32_74
  let c0_i32_75 : BitVec 32 := 0#32
  let v100 : BitVec 1 := Scalar.cmpi .slt v96 c0_i32_75
  let v101 : BitVec 1 := Scalar.xori v99 v100
  let c0_i32_73 : BitVec 32 := 0#32
  let v98 : BitVec 1 := Scalar.cmpi .ne v97 c0_i32_73
  let v102 : BitVec 1 := Scalar.andi v101 v98
  let v103 : BitVec 32 := Scalar.addi v97 v96
  let v104 : BitVec 32 := Scalar.select v102 v103 v97
  let c64_i32_693 : BitVec 32 := 64#32
  let v868 : BitVec 32 := Scalar.muli v104 c64_i32_693
  let v869 : BitVec 32 := Scalar.addi v773 v868
  let c0_i32_714 : BitVec 32 := 0#32
  ![1, v869.toNat, 0]
def k0_dev48 (d0 : Dev nD) : Nat :=
  let c0_i32_713 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_705 : BitVec 32 := 2#32
  let v889 : BitVec 32 := Scalar.xori v2 c2_i32_705
  let c1_i32_712 : BitVec 32 := 1#32
  let v890 : BitVec 32 := Scalar.muli v889 c1_i32_712
  let v891 : BitVec 32 := Scalar.addi c0_i32_713 v890
  v891.toNat
def k0_off15 (d0 : Dev nD) : Fin 3 → Nat :=
  let c0_i32_738 : BitVec 32 := 0#32
  let c0_i32_443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_57 : BitVec 32 := 2#32
  let c0_i32_58 : BitVec 32 := 0#32
  let v68 : BitVec 1 := Scalar.cmpi .eq c2_i32_57 c0_i32_58
  let c1_i32_59 : BitVec 32 := 1#32
  let v69 : BitVec 32 := Scalar.select v68 c1_i32_59 c2_i32_57
  let v70 : BitVec 32 := Scalar.remsi v2 v69
  let c0_i32_61 : BitVec 32 := 0#32
  let v72 : BitVec 1 := Scalar.cmpi .slt v70 c0_i32_61
  let c0_i32_62 : BitVec 32 := 0#32
  let v73 : BitVec 1 := Scalar.cmpi .slt v69 c0_i32_62
  let v74 : BitVec 1 := Scalar.xori v72 v73
  let c0_i32_60 : BitVec 32 := 0#32
  let v71 : BitVec 1 := Scalar.cmpi .ne v70 c0_i32_60
  let v75 : BitVec 1 := Scalar.andi v74 v71
  let v76 : BitVec 32 := Scalar.addi v70 v69
  let v77 : BitVec 32 := Scalar.select v75 v76 v70
  let c256_i32_442 : BitVec 32 := 256#32
  let v628 : BitVec 32 := Scalar.muli v77 c256_i32_442
  let v629 : BitVec 32 := Scalar.addi c0_i32_443 v628
  let c0_i32_77 : BitVec 32 := 0#32
  let v106 : BitVec 1 := Scalar.cmpi .sgt v2 c0_i32_77
  let v107 : BitVec 32 := Scalar.extui v106
  let c0_i32_78 : BitVec 32 := 0#32
  let v108 : BitVec 1 := Scalar.cmpi .slt v2 c0_i32_78
  let v109 : BitVec 32 := Scalar.extui v108
  let v110 : BitVec 32 := Scalar.subi v107 v109
  let c4_i32_76 : BitVec 32 := 4#32
  let c0_i32_79 : BitVec 32 := 0#32
  let v111 : BitVec 1 := Scalar.cmpi .sgt c4_i32_76 c0_i32_79
  let v112 : BitVec 32 := Scalar.extui v111
  let c0_i32_80 : BitVec 32 := 0#32
  let v113 : BitVec 1 := Scalar.cmpi .slt c4_i32_76 c0_i32_80
  let v114 : BitVec 32 := Scalar.extui v113
  let v115 : BitVec 32 := Scalar.subi v112 v114
  let v116 : BitVec 1 := Scalar.cmpi .ne v110 v115
  let v117 : BitVec 32 := Scalar.remsi v2 c4_i32_76
  let c0_i32_81 : BitVec 32 := 0#32
  let v118 : BitVec 1 := Scalar.cmpi .ne v117 c0_i32_81
  let v119 : BitVec 1 := Scalar.andi v116 v118
  let v105 : BitVec 32 := Scalar.divsi v2 c4_i32_76
  let c1_i32_82 : BitVec 32 := 1#32
  let v120 : BitVec 32 := Scalar.subi v105 c1_i32_82
  let v121 : BitVec 32 := Scalar.select v119 v120 v105
  let c2_i32_83 : BitVec 32 := 2#32
  let c0_i32_84 : BitVec 32 := 0#32
  let v122 : BitVec 1 := Scalar.cmpi .eq c2_i32_83 c0_i32_84
  let c1_i32_85 : BitVec 32 := 1#32
  let v123 : BitVec 32 := Scalar.select v122 c1_i32_85 c2_i32_83
  let v124 : BitVec 32 := Scalar.remsi v121 v123
  let c0_i32_87 : BitVec 32 := 0#32
  let v126 : BitVec 1 := Scalar.cmpi .slt v124 c0_i32_87
  let c0_i32_88 : BitVec 32 := 0#32
  let v127 : BitVec 1 := Scalar.cmpi .slt v123 c0_i32_88
  let v128 : BitVec 1 := Scalar.xori v126 v127
  let c0_i32_86 : BitVec 32 := 0#32
  let v125 : BitVec 1 := Scalar.cmpi .ne v124 c0_i32_86
  let v129 : BitVec 1 := Scalar.andi v128 v125
  let v130 : BitVec 32 := Scalar.addi v124 v123
  let v131 : BitVec 32 := Scalar.select v129 v130 v124
  let c128_i32_546 : BitVec 32 := 128#32
  let v724 : BitVec 32 := Scalar.muli v131 c128_i32_546
  let v725 : BitVec 32 := Scalar.addi v629 v724
  let c0_i32_64 : BitVec 32 := 0#32
  let v79 : BitVec 1 := Scalar.cmpi .sgt v2 c0_i32_64
  let v80 : BitVec 32 := Scalar.extui v79
  let c0_i32_65 : BitVec 32 := 0#32
  let v81 : BitVec 1 := Scalar.cmpi .slt v2 c0_i32_65
  let v82 : BitVec 32 := Scalar.extui v81
  let v83 : BitVec 32 := Scalar.subi v80 v82
  let c2_i32_63 : BitVec 32 := 2#32
  let c0_i32_66 : BitVec 32 := 0#32
  let v84 : BitVec 1 := Scalar.cmpi .sgt c2_i32_63 c0_i32_66
  let v85 : BitVec 32 := Scalar.extui v84
  let c0_i32_67 : BitVec 32 := 0#32
  let v86 : BitVec 1 := Scalar.cmpi .slt c2_i32_63 c0_i32_67
  let v87 : BitVec 32 := Scalar.extui v86
  let v88 : BitVec 32 := Scalar.subi v85 v87
  let v89 : BitVec 1 := Scalar.cmpi .ne v83 v88
  let v90 : BitVec 32 := Scalar.remsi v2 c2_i32_63
  let c0_i32_68 : BitVec 32 := 0#32
  let v91 : BitVec 1 := Scalar.cmpi .ne v90 c0_i32_68
  let v92 : BitVec 1 := Scalar.andi v89 v91
  let v78 : BitVec 32 := Scalar.divsi v2 c2_i32_63
  let c1_i32_69 : BitVec 32 := 1#32
  let v93 : BitVec 32 := Scalar.subi v78 c1_i32_69
  let v94 : BitVec 32 := Scalar.select v92 v93 v78
  let c2_i32_70 : BitVec 32 := 2#32
  let c0_i32_71 : BitVec 32 := 0#32
  let v95 : BitVec 1 := Scalar.cmpi .eq c2_i32_70 c0_i32_71
  let c1_i32_72 : BitVec 32 := 1#32
  let v96 : BitVec 32 := Scalar.select v95 c1_i32_72 c2_i32_70
  let v97 : BitVec 32 := Scalar.remsi v94 v96
  let c0_i32_74 : BitVec 32 := 0#32
  let v99 : BitVec 1 := Scalar.cmpi .slt v97 c0_i32_74
  let c0_i32_75 : BitVec 32 := 0#32
  let v100 : BitVec 1 := Scalar.cmpi .slt v96 c0_i32_75
  let v101 : BitVec 1 := Scalar.xori v99 v100
  let c0_i32_73 : BitVec 32 := 0#32
  let v98 : BitVec 1 := Scalar.cmpi .ne v97 c0_i32_73
  let v102 : BitVec 1 := Scalar.andi v101 v98
  let v103 : BitVec 32 := Scalar.addi v97 v96
  let v104 : BitVec 32 := Scalar.select v102 v103 v97
  let c64_i32_646 : BitVec 32 := 64#32
  let v820 : BitVec 32 := Scalar.muli v104 c64_i32_646
  let v821 : BitVec 32 := Scalar.addi v725 v820
  let c64_i32_669 : BitVec 32 := 64#32
  let v852 : BitVec 32 := Scalar.muli v104 c64_i32_669
  let v853 : BitVec 32 := Scalar.subi v821 v852
  let c0_i32_745 : BitVec 32 := 0#32
  ![0, v853.toNat, 0]
def k0_dev49 (d0 : Dev nD) : Nat :=
  let c0_i32_744 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_736 : BitVec 32 := 4#32
  let v916 : BitVec 32 := Scalar.xori v2 c4_i32_736
  let c1_i32_743 : BitVec 32 := 1#32
  let v917 : BitVec 32 := Scalar.muli v916 c1_i32_743
  let v918 : BitVec 32 := Scalar.addi c0_i32_744 v917
  v918.toNat
def k0_off16 (d0 : Dev nD) : Fin 3 → Nat :=
  let c1_i32_769 : BitVec 32 := 1#32
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_57 : BitVec 32 := 2#32
  let c0_i32_58 : BitVec 32 := 0#32
  let v68 : BitVec 1 := Scalar.cmpi .eq c2_i32_57 c0_i32_58
  let c1_i32_59 : BitVec 32 := 1#32
  let v69 : BitVec 32 := Scalar.select v68 c1_i32_59 c2_i32_57
  let v70 : BitVec 32 := Scalar.remsi v2 v69
  let c0_i32_61 : BitVec 32 := 0#32
  let v72 : BitVec 1 := Scalar.cmpi .slt v70 c0_i32_61
  let c0_i32_62 : BitVec 32 := 0#32
  let v73 : BitVec 1 := Scalar.cmpi .slt v69 c0_i32_62
  let v74 : BitVec 1 := Scalar.xori v72 v73
  let c0_i32_60 : BitVec 32 := 0#32
  let v71 : BitVec 1 := Scalar.cmpi .ne v70 c0_i32_60
  let v75 : BitVec 1 := Scalar.andi v74 v71
  let v76 : BitVec 32 := Scalar.addi v70 v69
  let v77 : BitVec 32 := Scalar.select v75 v76 v70
  let c256_i32_494 : BitVec 32 := 256#32
  let v676 : BitVec 32 := Scalar.muli v77 c256_i32_494
  let v677 : BitVec 32 := Scalar.addi c0_i32_495 v676
  let c0_i32_77 : BitVec 32 := 0#32
  let v106 : BitVec 1 := Scalar.cmpi .sgt v2 c0_i32_77
  let v107 : BitVec 32 := Scalar.extui v106
  let c0_i32_78 : BitVec 32 := 0#32
  let v108 : BitVec 1 := Scalar.cmpi .slt v2 c0_i32_78
  let v109 : BitVec 32 := Scalar.extui v108
  let v110 : BitVec 32 := Scalar.subi v107 v109
  let c4_i32_76 : BitVec 32 := 4#32
  let c0_i32_79 : BitVec 32 := 0#32
  let v111 : BitVec 1 := Scalar.cmpi .sgt c4_i32_76 c0_i32_79
  let v112 : BitVec 32 := Scalar.extui v111
  let c0_i32_80 : BitVec 32 := 0#32
  let v113 : BitVec 1 := Scalar.cmpi .slt c4_i32_76 c0_i32_80
  let v114 : BitVec 32 := Scalar.extui v113
  let v115 : BitVec 32 := Scalar.subi v112 v114
  let v116 : BitVec 1 := Scalar.cmpi .ne v110 v115
  let v117 : BitVec 32 := Scalar.remsi v2 c4_i32_76
  let c0_i32_81 : BitVec 32 := 0#32
  let v118 : BitVec 1 := Scalar.cmpi .ne v117 c0_i32_81
  let v119 : BitVec 1 := Scalar.andi v116 v118
  let v105 : BitVec 32 := Scalar.divsi v2 c4_i32_76
  let c1_i32_82 : BitVec 32 := 1#32
  let v120 : BitVec 32 := Scalar.subi v105 c1_i32_82
  let v121 : BitVec 32 := Scalar.select v119 v120 v105
  let c2_i32_83 : BitVec 32 := 2#32
  let c0_i32_84 : BitVec 32 := 0#32
  let v122 : BitVec 1 := Scalar.cmpi .eq c2_i32_83 c0_i32_84
  let c1_i32_85 : BitVec 32 := 1#32
  let v123 : BitVec 32 := Scalar.select v122 c1_i32_85 c2_i32_83
  let v124 : BitVec 32 := Scalar.remsi v121 v123
  let c0_i32_87 : BitVec 32 := 0#32
  let v126 : BitVec 1 := Scalar.cmpi .slt v124 c0_i32_87
  let c0_i32_88 : BitVec 32 := 0#32
  let v127 : BitVec 1 := Scalar.cmpi .slt v123 c0_i32_88
  let v128 : BitVec 1 := Scalar.xori v126 v127
  let c0_i32_86 : BitVec 32 := 0#32
  let v125 : BitVec 1 := Scalar.cmpi .ne v124 c0_i32_86
  let v129 : BitVec 1 := Scalar.andi v128 v125
  let v130 : BitVec 32 := Scalar.addi v124 v123
  let v131 : BitVec 32 := Scalar.select v129 v130 v124
  let c128_i32_595 : BitVec 32 := 128#32
  let v772 : BitVec 32 := Scalar.muli v131 c128_i32_595
  let v773 : BitVec 32 := Scalar.addi v677 v772
  let c0_i32_64 : BitVec 32 := 0#32
  let v79 : BitVec 1 := Scalar.cmpi .sgt v2 c0_i32_64
  let v80 : BitVec 32 := Scalar.extui v79
  let c0_i32_65 : BitVec 32 := 0#32
  let v81 : BitVec 1 := Scalar.cmpi .slt v2 c0_i32_65
  let v82 : BitVec 32 := Scalar.extui v81
  let v83 : BitVec 32 := Scalar.subi v80 v82
  let c2_i32_63 : BitVec 32 := 2#32
  let c0_i32_66 : BitVec 32 := 0#32
  let v84 : BitVec 1 := Scalar.cmpi .sgt c2_i32_63 c0_i32_66
  let v85 : BitVec 32 := Scalar.extui v84
  let c0_i32_67 : BitVec 32 := 0#32
  let v86 : BitVec 1 := Scalar.cmpi .slt c2_i32_63 c0_i32_67
  let v87 : BitVec 32 := Scalar.extui v86
  let v88 : BitVec 32 := Scalar.subi v85 v87
  let v89 : BitVec 1 := Scalar.cmpi .ne v83 v88
  let v90 : BitVec 32 := Scalar.remsi v2 c2_i32_63
  let c0_i32_68 : BitVec 32 := 0#32
  let v91 : BitVec 1 := Scalar.cmpi .ne v90 c0_i32_68
  let v92 : BitVec 1 := Scalar.andi v89 v91
  let v78 : BitVec 32 := Scalar.divsi v2 c2_i32_63
  let c1_i32_69 : BitVec 32 := 1#32
  let v93 : BitVec 32 := Scalar.subi v78 c1_i32_69
  let v94 : BitVec 32 := Scalar.select v92 v93 v78
  let c2_i32_70 : BitVec 32 := 2#32
  let c0_i32_71 : BitVec 32 := 0#32
  let v95 : BitVec 1 := Scalar.cmpi .eq c2_i32_70 c0_i32_71
  let c1_i32_72 : BitVec 32 := 1#32
  let v96 : BitVec 32 := Scalar.select v95 c1_i32_72 c2_i32_70
  let v97 : BitVec 32 := Scalar.remsi v94 v96
  let c0_i32_74 : BitVec 32 := 0#32
  let v99 : BitVec 1 := Scalar.cmpi .slt v97 c0_i32_74
  let c0_i32_75 : BitVec 32 := 0#32
  let v100 : BitVec 1 := Scalar.cmpi .slt v96 c0_i32_75
  let v101 : BitVec 1 := Scalar.xori v99 v100
  let c0_i32_73 : BitVec 32 := 0#32
  let v98 : BitVec 1 := Scalar.cmpi .ne v97 c0_i32_73
  let v102 : BitVec 1 := Scalar.andi v101 v98
  let v103 : BitVec 32 := Scalar.addi v97 v96
  let v104 : BitVec 32 := Scalar.select v102 v103 v97
  let c64_i32_693 : BitVec 32 := 64#32
  let v868 : BitVec 32 := Scalar.muli v104 c64_i32_693
  let v869 : BitVec 32 := Scalar.addi v773 v868
  let c64_i32_716 : BitVec 32 := 64#32
  let v900 : BitVec 32 := Scalar.muli v104 c64_i32_716
  let v901 : BitVec 32 := Scalar.subi v869 v900
  let c0_i32_776 : BitVec 32 := 0#32
  ![1, v901.toNat, 0]
def k0_dev50 (d0 : Dev nD) : Nat :=
  let c0_i32_775 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_767 : BitVec 32 := 4#32
  let v943 : BitVec 32 := Scalar.xori v2 c4_i32_767
  let c1_i32_774 : BitVec 32 := 1#32
  let v944 : BitVec 32 := Scalar.muli v943 c1_i32_774
  let v945 : BitVec 32 := Scalar.addi c0_i32_775 v944
  v945.toNat
def k0_off17 (d0 : Dev nD) : Fin 3 → Nat :=
  let c0_i32_800 : BitVec 32 := 0#32
  let c0_i32_443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_57 : BitVec 32 := 2#32
  let c0_i32_58 : BitVec 32 := 0#32
  let v68 : BitVec 1 := Scalar.cmpi .eq c2_i32_57 c0_i32_58
  let c1_i32_59 : BitVec 32 := 1#32
  let v69 : BitVec 32 := Scalar.select v68 c1_i32_59 c2_i32_57
  let v70 : BitVec 32 := Scalar.remsi v2 v69
  let c0_i32_61 : BitVec 32 := 0#32
  let v72 : BitVec 1 := Scalar.cmpi .slt v70 c0_i32_61
  let c0_i32_62 : BitVec 32 := 0#32
  let v73 : BitVec 1 := Scalar.cmpi .slt v69 c0_i32_62
  let v74 : BitVec 1 := Scalar.xori v72 v73
  let c0_i32_60 : BitVec 32 := 0#32
  let v71 : BitVec 1 := Scalar.cmpi .ne v70 c0_i32_60
  let v75 : BitVec 1 := Scalar.andi v74 v71
  let v76 : BitVec 32 := Scalar.addi v70 v69
  let v77 : BitVec 32 := Scalar.select v75 v76 v70
  let c256_i32_442 : BitVec 32 := 256#32
  let v628 : BitVec 32 := Scalar.muli v77 c256_i32_442
  let v629 : BitVec 32 := Scalar.addi c0_i32_443 v628
  let c0_i32_77 : BitVec 32 := 0#32
  let v106 : BitVec 1 := Scalar.cmpi .sgt v2 c0_i32_77
  let v107 : BitVec 32 := Scalar.extui v106
  let c0_i32_78 : BitVec 32 := 0#32
  let v108 : BitVec 1 := Scalar.cmpi .slt v2 c0_i32_78
  let v109 : BitVec 32 := Scalar.extui v108
  let v110 : BitVec 32 := Scalar.subi v107 v109
  let c4_i32_76 : BitVec 32 := 4#32
  let c0_i32_79 : BitVec 32 := 0#32
  let v111 : BitVec 1 := Scalar.cmpi .sgt c4_i32_76 c0_i32_79
  let v112 : BitVec 32 := Scalar.extui v111
  let c0_i32_80 : BitVec 32 := 0#32
  let v113 : BitVec 1 := Scalar.cmpi .slt c4_i32_76 c0_i32_80
  let v114 : BitVec 32 := Scalar.extui v113
  let v115 : BitVec 32 := Scalar.subi v112 v114
  let v116 : BitVec 1 := Scalar.cmpi .ne v110 v115
  let v117 : BitVec 32 := Scalar.remsi v2 c4_i32_76
  let c0_i32_81 : BitVec 32 := 0#32
  let v118 : BitVec 1 := Scalar.cmpi .ne v117 c0_i32_81
  let v119 : BitVec 1 := Scalar.andi v116 v118
  let v105 : BitVec 32 := Scalar.divsi v2 c4_i32_76
  let c1_i32_82 : BitVec 32 := 1#32
  let v120 : BitVec 32 := Scalar.subi v105 c1_i32_82
  let v121 : BitVec 32 := Scalar.select v119 v120 v105
  let c2_i32_83 : BitVec 32 := 2#32
  let c0_i32_84 : BitVec 32 := 0#32
  let v122 : BitVec 1 := Scalar.cmpi .eq c2_i32_83 c0_i32_84
  let c1_i32_85 : BitVec 32 := 1#32
  let v123 : BitVec 32 := Scalar.select v122 c1_i32_85 c2_i32_83
  let v124 : BitVec 32 := Scalar.remsi v121 v123
  let c0_i32_87 : BitVec 32 := 0#32
  let v126 : BitVec 1 := Scalar.cmpi .slt v124 c0_i32_87
  let c0_i32_88 : BitVec 32 := 0#32
  let v127 : BitVec 1 := Scalar.cmpi .slt v123 c0_i32_88
  let v128 : BitVec 1 := Scalar.xori v126 v127
  let c0_i32_86 : BitVec 32 := 0#32
  let v125 : BitVec 1 := Scalar.cmpi .ne v124 c0_i32_86
  let v129 : BitVec 1 := Scalar.andi v128 v125
  let v130 : BitVec 32 := Scalar.addi v124 v123
  let v131 : BitVec 32 := Scalar.select v129 v130 v124
  let c128_i32_546 : BitVec 32 := 128#32
  let v724 : BitVec 32 := Scalar.muli v131 c128_i32_546
  let v725 : BitVec 32 := Scalar.addi v629 v724
  let c0_i32_64 : BitVec 32 := 0#32
  let v79 : BitVec 1 := Scalar.cmpi .sgt v2 c0_i32_64
  let v80 : BitVec 32 := Scalar.extui v79
  let c0_i32_65 : BitVec 32 := 0#32
  let v81 : BitVec 1 := Scalar.cmpi .slt v2 c0_i32_65
  let v82 : BitVec 32 := Scalar.extui v81
  let v83 : BitVec 32 := Scalar.subi v80 v82
  let c2_i32_63 : BitVec 32 := 2#32
  let c0_i32_66 : BitVec 32 := 0#32
  let v84 : BitVec 1 := Scalar.cmpi .sgt c2_i32_63 c0_i32_66
  let v85 : BitVec 32 := Scalar.extui v84
  let c0_i32_67 : BitVec 32 := 0#32
  let v86 : BitVec 1 := Scalar.cmpi .slt c2_i32_63 c0_i32_67
  let v87 : BitVec 32 := Scalar.extui v86
  let v88 : BitVec 32 := Scalar.subi v85 v87
  let v89 : BitVec 1 := Scalar.cmpi .ne v83 v88
  let v90 : BitVec 32 := Scalar.remsi v2 c2_i32_63
  let c0_i32_68 : BitVec 32 := 0#32
  let v91 : BitVec 1 := Scalar.cmpi .ne v90 c0_i32_68
  let v92 : BitVec 1 := Scalar.andi v89 v91
  let v78 : BitVec 32 := Scalar.divsi v2 c2_i32_63
  let c1_i32_69 : BitVec 32 := 1#32
  let v93 : BitVec 32 := Scalar.subi v78 c1_i32_69
  let v94 : BitVec 32 := Scalar.select v92 v93 v78
  let c2_i32_70 : BitVec 32 := 2#32
  let c0_i32_71 : BitVec 32 := 0#32
  let v95 : BitVec 1 := Scalar.cmpi .eq c2_i32_70 c0_i32_71
  let c1_i32_72 : BitVec 32 := 1#32
  let v96 : BitVec 32 := Scalar.select v95 c1_i32_72 c2_i32_70
  let v97 : BitVec 32 := Scalar.remsi v94 v96
  let c0_i32_74 : BitVec 32 := 0#32
  let v99 : BitVec 1 := Scalar.cmpi .slt v97 c0_i32_74
  let c0_i32_75 : BitVec 32 := 0#32
  let v100 : BitVec 1 := Scalar.cmpi .slt v96 c0_i32_75
  let v101 : BitVec 1 := Scalar.xori v99 v100
  let c0_i32_73 : BitVec 32 := 0#32
  let v98 : BitVec 1 := Scalar.cmpi .ne v97 c0_i32_73
  let v102 : BitVec 1 := Scalar.andi v101 v98
  let v103 : BitVec 32 := Scalar.addi v97 v96
  let v104 : BitVec 32 := Scalar.select v102 v103 v97
  let c64_i32_646 : BitVec 32 := 64#32
  let v820 : BitVec 32 := Scalar.muli v104 c64_i32_646
  let v821 : BitVec 32 := Scalar.addi v725 v820
  let c64_i32_669 : BitVec 32 := 64#32
  let v852 : BitVec 32 := Scalar.muli v104 c64_i32_669
  let v853 : BitVec 32 := Scalar.subi v821 v852
  let c128_i32_747 : BitVec 32 := 128#32
  let v927 : BitVec 32 := Scalar.muli v131 c128_i32_747
  let v928 : BitVec 32 := Scalar.subi v853 v927
  let c0_i32_807 : BitVec 32 := 0#32
  ![0, v928.toNat, 0]
def k0_dev51 (d0 : Dev nD) : Nat :=
  let c0_i32_806 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_798 : BitVec 32 := 1#32
  let v970 : BitVec 32 := Scalar.xori v2 c1_i32_798
  let c1_i32_805 : BitVec 32 := 1#32
  let v971 : BitVec 32 := Scalar.muli v970 c1_i32_805
  let v972 : BitVec 32 := Scalar.addi c0_i32_806 v971
  v972.toNat
def k0_off18 (d0 : Dev nD) : Fin 3 → Nat :=
  let c1_i32_830 : BitVec 32 := 1#32
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_57 : BitVec 32 := 2#32
  let c0_i32_58 : BitVec 32 := 0#32
  let v68 : BitVec 1 := Scalar.cmpi .eq c2_i32_57 c0_i32_58
  let c1_i32_59 : BitVec 32 := 1#32
  let v69 : BitVec 32 := Scalar.select v68 c1_i32_59 c2_i32_57
  let v70 : BitVec 32 := Scalar.remsi v2 v69
  let c0_i32_61 : BitVec 32 := 0#32
  let v72 : BitVec 1 := Scalar.cmpi .slt v70 c0_i32_61
  let c0_i32_62 : BitVec 32 := 0#32
  let v73 : BitVec 1 := Scalar.cmpi .slt v69 c0_i32_62
  let v74 : BitVec 1 := Scalar.xori v72 v73
  let c0_i32_60 : BitVec 32 := 0#32
  let v71 : BitVec 1 := Scalar.cmpi .ne v70 c0_i32_60
  let v75 : BitVec 1 := Scalar.andi v74 v71
  let v76 : BitVec 32 := Scalar.addi v70 v69
  let v77 : BitVec 32 := Scalar.select v75 v76 v70
  let c256_i32_494 : BitVec 32 := 256#32
  let v676 : BitVec 32 := Scalar.muli v77 c256_i32_494
  let v677 : BitVec 32 := Scalar.addi c0_i32_495 v676
  let c0_i32_77 : BitVec 32 := 0#32
  let v106 : BitVec 1 := Scalar.cmpi .sgt v2 c0_i32_77
  let v107 : BitVec 32 := Scalar.extui v106
  let c0_i32_78 : BitVec 32 := 0#32
  let v108 : BitVec 1 := Scalar.cmpi .slt v2 c0_i32_78
  let v109 : BitVec 32 := Scalar.extui v108
  let v110 : BitVec 32 := Scalar.subi v107 v109
  let c4_i32_76 : BitVec 32 := 4#32
  let c0_i32_79 : BitVec 32 := 0#32
  let v111 : BitVec 1 := Scalar.cmpi .sgt c4_i32_76 c0_i32_79
  let v112 : BitVec 32 := Scalar.extui v111
  let c0_i32_80 : BitVec 32 := 0#32
  let v113 : BitVec 1 := Scalar.cmpi .slt c4_i32_76 c0_i32_80
  let v114 : BitVec 32 := Scalar.extui v113
  let v115 : BitVec 32 := Scalar.subi v112 v114
  let v116 : BitVec 1 := Scalar.cmpi .ne v110 v115
  let v117 : BitVec 32 := Scalar.remsi v2 c4_i32_76
  let c0_i32_81 : BitVec 32 := 0#32
  let v118 : BitVec 1 := Scalar.cmpi .ne v117 c0_i32_81
  let v119 : BitVec 1 := Scalar.andi v116 v118
  let v105 : BitVec 32 := Scalar.divsi v2 c4_i32_76
  let c1_i32_82 : BitVec 32 := 1#32
  let v120 : BitVec 32 := Scalar.subi v105 c1_i32_82
  let v121 : BitVec 32 := Scalar.select v119 v120 v105
  let c2_i32_83 : BitVec 32 := 2#32
  let c0_i32_84 : BitVec 32 := 0#32
  let v122 : BitVec 1 := Scalar.cmpi .eq c2_i32_83 c0_i32_84
  let c1_i32_85 : BitVec 32 := 1#32
  let v123 : BitVec 32 := Scalar.select v122 c1_i32_85 c2_i32_83
  let v124 : BitVec 32 := Scalar.remsi v121 v123
  let c0_i32_87 : BitVec 32 := 0#32
  let v126 : BitVec 1 := Scalar.cmpi .slt v124 c0_i32_87
  let c0_i32_88 : BitVec 32 := 0#32
  let v127 : BitVec 1 := Scalar.cmpi .slt v123 c0_i32_88
  let v128 : BitVec 1 := Scalar.xori v126 v127
  let c0_i32_86 : BitVec 32 := 0#32
  let v125 : BitVec 1 := Scalar.cmpi .ne v124 c0_i32_86
  let v129 : BitVec 1 := Scalar.andi v128 v125
  let v130 : BitVec 32 := Scalar.addi v124 v123
  let v131 : BitVec 32 := Scalar.select v129 v130 v124
  let c128_i32_595 : BitVec 32 := 128#32
  let v772 : BitVec 32 := Scalar.muli v131 c128_i32_595
  let v773 : BitVec 32 := Scalar.addi v677 v772
  let c0_i32_64 : BitVec 32 := 0#32
  let v79 : BitVec 1 := Scalar.cmpi .sgt v2 c0_i32_64
  let v80 : BitVec 32 := Scalar.extui v79
  let c0_i32_65 : BitVec 32 := 0#32
  let v81 : BitVec 1 := Scalar.cmpi .slt v2 c0_i32_65
  let v82 : BitVec 32 := Scalar.extui v81
  let v83 : BitVec 32 := Scalar.subi v80 v82
  let c2_i32_63 : BitVec 32 := 2#32
  let c0_i32_66 : BitVec 32 := 0#32
  let v84 : BitVec 1 := Scalar.cmpi .sgt c2_i32_63 c0_i32_66
  let v85 : BitVec 32 := Scalar.extui v84
  let c0_i32_67 : BitVec 32 := 0#32
  let v86 : BitVec 1 := Scalar.cmpi .slt c2_i32_63 c0_i32_67
  let v87 : BitVec 32 := Scalar.extui v86
  let v88 : BitVec 32 := Scalar.subi v85 v87
  let v89 : BitVec 1 := Scalar.cmpi .ne v83 v88
  let v90 : BitVec 32 := Scalar.remsi v2 c2_i32_63
  let c0_i32_68 : BitVec 32 := 0#32
  let v91 : BitVec 1 := Scalar.cmpi .ne v90 c0_i32_68
  let v92 : BitVec 1 := Scalar.andi v89 v91
  let v78 : BitVec 32 := Scalar.divsi v2 c2_i32_63
  let c1_i32_69 : BitVec 32 := 1#32
  let v93 : BitVec 32 := Scalar.subi v78 c1_i32_69
  let v94 : BitVec 32 := Scalar.select v92 v93 v78
  let c2_i32_70 : BitVec 32 := 2#32
  let c0_i32_71 : BitVec 32 := 0#32
  let v95 : BitVec 1 := Scalar.cmpi .eq c2_i32_70 c0_i32_71
  let c1_i32_72 : BitVec 32 := 1#32
  let v96 : BitVec 32 := Scalar.select v95 c1_i32_72 c2_i32_70
  let v97 : BitVec 32 := Scalar.remsi v94 v96
  let c0_i32_74 : BitVec 32 := 0#32
  let v99 : BitVec 1 := Scalar.cmpi .slt v97 c0_i32_74
  let c0_i32_75 : BitVec 32 := 0#32
  let v100 : BitVec 1 := Scalar.cmpi .slt v96 c0_i32_75
  let v101 : BitVec 1 := Scalar.xori v99 v100
  let c0_i32_73 : BitVec 32 := 0#32
  let v98 : BitVec 1 := Scalar.cmpi .ne v97 c0_i32_73
  let v102 : BitVec 1 := Scalar.andi v101 v98
  let v103 : BitVec 32 := Scalar.addi v97 v96
  let v104 : BitVec 32 := Scalar.select v102 v103 v97
  let c64_i32_693 : BitVec 32 := 64#32
  let v868 : BitVec 32 := Scalar.muli v104 c64_i32_693
  let v869 : BitVec 32 := Scalar.addi v773 v868
  let c64_i32_716 : BitVec 32 := 64#32
  let v900 : BitVec 32 := Scalar.muli v104 c64_i32_716
  let v901 : BitVec 32 := Scalar.subi v869 v900
  let c128_i32_778 : BitVec 32 := 128#32
  let v954 : BitVec 32 := Scalar.muli v131 c128_i32_778
  let v955 : BitVec 32 := Scalar.subi v901 v954
  let c0_i32_837 : BitVec 32 := 0#32
  ![1, v955.toNat, 0]
def k0_dev52 (d0 : Dev nD) : Nat :=
  let c0_i32_836 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_828 : BitVec 32 := 1#32
  let v995 : BitVec 32 := Scalar.xori v2 c1_i32_828
  let c1_i32_835 : BitVec 32 := 1#32
  let v996 : BitVec 32 := Scalar.muli v995 c1_i32_835
  let v997 : BitVec 32 := Scalar.addi c0_i32_836 v996
  v997.toNat
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x768 : Shape := ⟨3, ![2, 512, 768]⟩
abbrev S768x4096 : Shape := ⟨2, ![768, 4096]⟩
abbrev S2x4096x4096 : Shape := ⟨3, ![2, 4096, 4096]⟩
abbrev S4096x768 : Shape := ⟨2, ![4096, 768]⟩
abbrev S2x512x4096 : Shape := ⟨3, ![2, 512, 4096]⟩
abbrev S2x512x64x64 : Shape := ⟨4, ![2, 512, 64, 64]⟩
abbrev S2x4096x64x64 : Shape := ⟨4, ![2, 4096, 64, 64]⟩
abbrev S512 : Shape := ⟨1, ![512]⟩
abbrev S512x1 : Shape := ⟨2, ![512, 1]⟩
abbrev S4096 : Shape := ⟨1, ![4096]⟩
abbrev S1x4096 : Shape := ⟨2, ![1, 4096]⟩
abbrev S512x4096 : Shape := ⟨2, ![512, 4096]⟩
abbrev S_ : Shape := ⟨0, ![]⟩
abbrev S2x64x512x4096 : Shape := ⟨4, ![2, 64, 512, 4096]⟩
abbrev S1x1x512x4096 : Shape := ⟨4, ![1, 1, 512, 4096]⟩
abbrev S2x64x512 : Shape := ⟨3, ![2, 64, 512]⟩
abbrev S2x64x512x1 : Shape := ⟨4, ![2, 64, 512, 1]⟩
abbrev S1x1x512x1 : Shape := ⟨4, ![1, 1, 512, 1]⟩
abbrev S2x64x64x512 : Shape := ⟨4, ![2, 64, 64, 512]⟩

abbrev nBuf : Space → Nat
  | .hbm => 59
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x4096, .f32⟩
  | .hbm, ⟨2, _⟩ => ⟨S2x4096x4096, .f32⟩
  | .hbm, ⟨3, _⟩ => ⟨S2x4096x4096, .f32⟩
  | .hbm, ⟨4, _⟩ => ⟨S4096x768, .f32⟩
  | .hbm, ⟨5, _⟩ => ⟨S2x512x4096, .f32⟩
  | .hbm, ⟨6, _⟩ => ⟨S2x512x64x64, .f32⟩
  | .hbm, ⟨7, _⟩ => ⟨S2x4096x64x64, .f32⟩
  | .hbm, ⟨8, _⟩ => ⟨S2x4096x64x64, .f32⟩
  | .hbm, ⟨9, _⟩ => ⟨S512, .i32⟩
  | .hbm, ⟨10, _⟩ => ⟨S512x1, .i32⟩
  | .hbm, ⟨11, _⟩ => ⟨S4096, .i32⟩
  | .hbm, ⟨12, _⟩ => ⟨S1x4096, .i32⟩
  | .hbm, ⟨13, _⟩ => ⟨S512x4096, .i32⟩
  | .hbm, ⟨14, _⟩ => ⟨S512x4096, .i32⟩
  | .hbm, ⟨15, _⟩ => ⟨S512x4096, .i32⟩
  | .hbm, ⟨16, _⟩ => ⟨S512x4096, .i32⟩
  | .hbm, ⟨17, _⟩ => ⟨S_, .i32⟩
  | .hbm, ⟨18, _⟩ => ⟨S512x4096, .i32⟩
  | .hbm, ⟨19, _⟩ => ⟨S512x4096, .i1⟩
  | .hbm, ⟨20, _⟩ => ⟨S2x64x512x4096, .f32⟩
  | .hbm, ⟨21, _⟩ => ⟨S_, .f32⟩
  | .hbm, ⟨22, _⟩ => ⟨S2x64x512x4096, .f32⟩
  | .hbm, ⟨23, _⟩ => ⟨S2x64x512x4096, .f32⟩
  | .hbm, ⟨24, _⟩ => ⟨S1x1x512x4096, .i1⟩
  | .hbm, ⟨25, _⟩ => ⟨S_, .f32⟩
  | .hbm, ⟨26, _⟩ => ⟨S_, .f32⟩
  | .hbm, ⟨27, _⟩ => ⟨S2x64x512x4096, .i1⟩
  | .hbm, ⟨28, _⟩ => ⟨S2x64x512x4096, .f32⟩
  | .hbm, ⟨29, _⟩ => ⟨S2x64x512x4096, .f32⟩
  | .hbm, ⟨30, _⟩ => ⟨S_, .f32⟩
  | .hbm, ⟨31, _⟩ => ⟨S2x64x512, .f32⟩
  | .hbm, ⟨32, _⟩ => ⟨S2x64x512x1, .f32⟩
  | .hbm, ⟨33, _⟩ => ⟨S2x64x512x4096, .f32⟩
  | .hbm, ⟨34, _⟩ => ⟨S2x64x512x4096, .f32⟩
  | .hbm, ⟨35, _⟩ => ⟨S2x64x512x4096, .f32⟩
  | .hbm, ⟨36, _⟩ => ⟨S_, .i1⟩
  | .hbm, ⟨37, _⟩ => ⟨S512, .i1⟩
  | .hbm, ⟨38, _⟩ => ⟨S1x1x512x1, .i1⟩
  | .hbm, ⟨39, _⟩ => ⟨S_, .f32⟩
  | .hbm, ⟨40, _⟩ => ⟨S2x64x512, .f32⟩
  | .hbm, ⟨41, _⟩ => ⟨S2x64x512x1, .f32⟩
  | .hbm, ⟨42, _⟩ => ⟨S_, .f32⟩
  | .hbm, ⟨43, _⟩ => ⟨S_, .f32⟩
  | .hbm, ⟨44, _⟩ => ⟨S2x64x512x1, .i1⟩
  | .hbm, ⟨45, _⟩ => ⟨S2x64x512x1, .f32⟩
  | .hbm, ⟨46, _⟩ => ⟨S2x64x512x1, .f32⟩
  | .hbm, ⟨47, _⟩ => ⟨S2x64x512x4096, .f32⟩
  | .hbm, ⟨48, _⟩ => ⟨S2x64x512x4096, .f32⟩
  | .hbm, ⟨49, _⟩ => ⟨S1x1x512x1, .i1⟩
  | .hbm, ⟨50, _⟩ => ⟨S_, .f32⟩
  | .hbm, ⟨51, _⟩ => ⟨S_, .f32⟩
  | .hbm, ⟨52, _⟩ => ⟨S2x64x512x4096, .i1⟩
  | .hbm, ⟨53, _⟩ => ⟨S2x64x512x4096, .f32⟩
  | .hbm, ⟨54, _⟩ => ⟨S2x64x512x4096, .f32⟩
  | .hbm, ⟨55, _⟩ => ⟨S2x64x64x512, .f32⟩
  | .hbm, ⟨56, _⟩ => ⟨S2x512x64x64, .f32⟩
  | .hbm, ⟨57, _⟩ => ⟨S2x512x4096, .f32⟩
  | .hbm, ⟨58, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== Proof.Values.lean ====
/-
# The contents of the kernel's buffers

What each buffer of the kernel holds, at the moments another device or a later phase relies on it, as a function
of the memory at launch: the key and value columns every device receives, the projected queries, the attention
result of one head, the partial output, its three rounds of summation, and the final output.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.ValueIdxCore

@[expose] public section

noncomputable section

namespace Cert.Hand

open Cert.KernelIdeal Cert.KernelIdeal.Gen
open Idealize.ShloMosaic Idealize.ShloMosaic.TcCoe
open Idealize.ShloMosaic.ValueIdx

variable {F : FTy → Type} [FloatOps F] [Named F]

variable (m : (ℓ : Loc nD τ sig) → Buf (Elt F) ℓ)

/-! ## The peers and the row ranges -/

/-- The device whose index differs in bit 0. -/
def fl1 (c : Dev nD) : Dev nD := match c with | 0 => 1 | 1 => 0 | 2 => 3 | 3 => 2 | 4 => 5 | 5 => 4 | 6 => 7 | 7 => 6
/-- The device whose index differs in bit 1. -/
def fl2 (c : Dev nD) : Dev nD := match c with | 0 => 2 | 1 => 3 | 2 => 0 | 3 => 1 | 4 => 6 | 5 => 7 | 6 => 4 | 7 => 5
/-- The device whose index differs in bit 2. -/
def fl4 (c : Dev nD) : Dev nD := match c with | 0 => 4 | 1 => 5 | 2 => 6 | 3 => 7 | 4 => 0 | 5 => 1 | 6 => 2 | 7 => 3

theorem fl1_fl1 (c : Dev nD) : fl1 (fl1 c) = c := by revert c; decide
theorem fl2_fl2 (c : Dev nD) : fl2 (fl2 c) = c := by revert c; decide
theorem fl4_fl4 (c : Dev nD) : fl4 (fl4 c) = c := by revert c; decide

/-- The first row of the 256 a device keeps after the first round of summation. -/
def kp1 (c : Dev nD) : ℕ := 256 * (c.val % 2)
/-- The first row of the 128 it keeps after the second. -/
def kp2 (c : Dev nD) : ℕ := kp1 c + 128 * (c.val / 4 % 2)
/-- The first row of the 64 it keeps after the third. -/
def kp3 (c : Dev nD) : ℕ := kp2 c + 64 * (c.val / 2 % 2)

theorem kp1_le (c : Dev nD) : kp1 c + 256 ≤ 512 := by revert c; decide
theorem kp2_le (c : Dev nD) : kp2 c + 128 ≤ 512 := by revert c; decide
theorem kp3_le (c : Dev nD) : kp3 c + 64 ≤ 512 := by revert c; decide

/-! ## The keys and values -/

/-- The first 640 rows of an array split by rows over the devices, at column block `d`: rows 0–511 are device 0's,
    rows 512–639 the first 128 of device 1's. -/
def colsF (a0 a1 : FVec F S2x512x4096 .f32) (d : Dev nD) : FVec F S2x640x512 .bf16 :=
  truncf .bf16 (fun i : S2x640x512.Idx =>
    if h : (i 1).val < 512 then a0 (ix3 (i 0) ⟨(i 1).val, h⟩ ⟨512 * d.val + (i 2).val, by have := d.isLt; have : (i 2).val < 512 := (i 2).isLt; have : nD = 8 := rfl; omega⟩)
    else a1 (ix3 (i 0) ⟨(i 1).val - 512, by have : (i 1).val < 640 := (i 1).isLt; omega⟩ ⟨512 * d.val + (i 2).val, by have := d.isLt; have : (i 2).val < 512 := (i 2).isLt; have : nD = 8 := rfl; omega⟩))
    bitsLt_bf16_f32

/-- The keys device `d` attends to. -/
def kbF (d : Dev nD) : FVec F S2x640x512 .bf16 := colsF (m (((0 : Dev nD) : Thread nD τ).loc main_arg2)) (m (((1 : Dev nD) : Thread nD τ).loc main_arg2)) d
/-- The values device `d` attends to. -/
def vbF (d : Dev nD) : FVec F S2x640x512 .bf16 := colsF (m (((0 : Dev nD) : Thread nD τ).loc main_arg3)) (m (((1 : Dev nD) : Thread nD τ).loc main_arg3)) d

/-- The first 512 rows of such a block. -/
def loF (f : FVec F S2x640x512 .bf16) (b : Fin 2) (r c : Fin 512) : F .bf16 :=
  f (ix3 b ⟨r.val, lt_trans r.isLt (by decide)⟩ c)

/-- What the relay buffer of devices 4 and 7 receives: device 7 the keys of device 6; device 4 the keys of device 5,
    the values of device 5 and the values of device 6. -/
def rbF (x : Dev nD) : FVec F S3x2x512x512 .bf16 := fun i =>
  if x = 7 then loF (kbF m 6) (i 1) (i 2) (i 3)
  else if (i 0).val = 0 then loF (kbF m 5) (i 1) (i 2) (i 3)
  else if (i 0).val = 1 then loF (vbF m 5) (i 1) (i 2) (i 3)
  else loF (vbF m 6) (i 1) (i 2) (i 3)

/-! ## The staged inputs -/

/-- The staged block of `x`. -/
def xF (c : Dev nD) : FVec F S2x512x768 .f32 := iblk m c 0 t0_0
/-- The staged block of the query weights. -/
def wqF (c : Dev nD) : FVec F S768x512 .f32 := iblk m c 1 t0_0
/-- The staged block of the output weights. -/
def woF (c : Dev nD) : FVec F S512x768 .f32 := iblk m c 2 t0_0

/-! ## The attention of one device -/

/-- One batch of the projected queries. -/
def qRow (c : Dev nD) (b : Fin 2) : FVec F S1x512x512 .bf16 :=
  k0_pay47 (fun j : S1x512x768.Idx => xF m c (ix3 b (j 1) (j 2))) (wqF m c)
/-- The projected queries. -/
def qF (c : Dev nD) : FVec F S2x512x512 .bf16 := fun i => qRow m c (i 0) (ix3 0 (i 1) (i 2))
/-- The output weights in 16 bits. -/
def wobF (c : Dev nD) : FVec F S512x768 .bf16 := k0_pay50 (woF m c)

/-- Column `64 h + j` of 512. -/
def hcol (h : Fin 8) (j : Fin 64) : Fin 512 := ⟨64 * h.val + j.val, by omega⟩

/-- One head of the attention of one batch. -/
def headF (c : Dev nD) (b : Fin 2) (h : Fin 8) : FVec F S512x64 .bf16 :=
  k0_pay52 k0_pay51 (fun j : S1x512x64.Idx => qF m c (ix3 b (j 1) (hcol h (j 2))))
    (fun j : S1x640x64.Idx => kbF m c (ix3 b (j 1) (hcol h (j 2))))
    (fun j : S1x640x64.Idx => vbF m c (ix3 b (j 1) (hcol h (j 2))))

/-- The heads of one batch side by side. -/
def ctxF (c : Dev nD) (b : Fin 2) : FVec F S512x512 .bf16 := fun i =>
  headF m c b ⟨(i 1).val / 64, by have : (i 1).val < 512 := (i 1).isLt; omega⟩ (ix2 (i 0) ⟨(i 1).val % 64, Nat.mod_lt _ (by decide)⟩)

/-- The partial output of one batch. -/
def partF (c : Dev nD) (b : Fin 2) : FVec F S1x512x768 .f32 := k0_pay66 (ctxF m c b) (wobF m c)

/-! ## The rounds of summation -/

/-- One round: add what the peer sends in 16 bits. -/
def addRecv (own peer : FVec F S2x512x768 .f32) : FVec F S2x512x768 .f32 :=
  addf own (extf .f32 (truncf .bf16 peer bitsLt_bf16_f32) bitsLt_bf16_f32)

/-- The partial output of device `c`. -/
def red0 (c : Dev nD) : FVec F S2x512x768 .f32 := fun i => partF m c (i 0) (ix3 0 (i 1) (i 2))
/-- After the first round. -/
def red1 (c : Dev nD) : FVec F S2x512x768 .f32 := addRecv (red0 m c) (red0 m (fl1 c))
/-- After the second round. -/
def red2 (c : Dev nD) : FVec F S2x512x768 .f32 := addRecv (red1 m c) (red1 m (fl4 c))
/-- After the third round. -/
def red3 (c : Dev nD) : FVec F S2x512x768 .f32 := addRecv (red2 m c) (red2 m (fl2 c))

/-- After `s` rounds. -/
def redN (s : ℕ) (c : Dev nD) : FVec F S2x512x768 .f32 :=
  match s with | 0 => red0 m c | 1 => red1 m c | 2 => red2 m c | _ => red3 m c

/-- How many of the rounds done so far have reached row `r` of a batch in which `s` rounds are done. -/
def lev (c : Dev nD) (s r : ℕ) : ℕ :=
  if 3 ≤ s ∧ kp3 c ≤ r ∧ r < kp3 c + 64 then 3
  else if 2 ≤ s ∧ kp2 c ≤ r ∧ r < kp2 c + 128 then 2
  else if 1 ≤ s ∧ kp1 c ≤ r ∧ r < kp1 c + 256 then 1 else 0

/-- The output buffer once `s0` rounds are done in batch 0 and `s1` in batch 1. -/
def outF (c : Dev nD) (s0 s1 : ℕ) : FVec F S2x512x768 .f32 := fun i =>
  redN m (lev c (if (i 0).val = 0 then s0 else s1) (i 1).val) c i

/-- Row `r` of the receive buffer of the rounds, as a row of the output. -/
def rsbRow (c : Dev nD) (r : ℕ) : ℕ :=
  if r < 256 then kp1 c + r else if r < 384 then kp2 c + (r - 256) else kp3 c + (r - 384)

/-- The receive buffer of the rounds: the peer's rows of the three rounds, one below the other. -/
def rsbF (c : Dev nD) : FVec F S2x512x768 .bf16 := fun i =>
  truncf .bf16 (if (i 1).val < 256 then red0 m (fl1 c) else if (i 1).val < 384 then red1 m (fl4 c) else red2 m (fl2 c)) bitsLt_bf16_f32
    (ix3 (i 0) ⟨rsbRow c (i 1).val % 512, Nat.mod_lt _ (by decide)⟩ (i 2))

/-- The device that keeps row `r` to the end. -/
def ownDev (r : ℕ) : Dev nD := ⟨(r / 256 + 4 * (r / 128 % 2) + 2 * (r / 64 % 2)) % 8, Nat.mod_lt _ (by decide)⟩

/-- The gathered result, the same on every device. -/
def agF : FVec F S2x512x768 .bf16 := fun i => truncf .bf16 (red3 m (ownDev (i 1).val)) bitsLt_bf16_f32 i

/-- The kernel's result. -/
def resF : FVec F S2x512x768 .f32 := extf .f32 (agF m) bitsLt_bf16_f32

end Cert.Hand

end
-- ==== Proof.Weighted.lean ====
module
public import Idealize.ShloMosaic.Lib.Pointwise
/-! # A softmax-weighted sum over the reals extended by the infinities

  The weighted sum one row of scores makes of a column of values, and the fact the band rests on: keys whose
  score is `-∞` add nothing to it, so the sum over all the keys is the sum over a window that holds every other key. -/
@[expose] public section
noncomputable section
namespace Cert.Hand
open Idealize.ShloMosaic

/-- The largest of the scores, `-∞` of none. -/
def top {n : Nat} (f : Fin n → EReal) : EReal := Finset.univ.fold max ⊥ f

/-- The values `v` summed with the softmax weights of the scores `f`. -/
def weighted {n : Nat} (f v : Fin n → EReal) : EReal :=
  ∑ j, Ideal.div (Ideal.exp (f j - top f)) (∑ k, Ideal.exp (f k - top f)) * v j

theorem top_eq_sup {n : Nat} (f : Fin n → EReal) : top f = Finset.univ.sup f := rfl

theorem le_top' {n : Nat} (f : Fin n → EReal) (j : Fin n) : f j ≤ top f := Finset.le_sup (f := f) (Finset.mem_univ j)

/-- Of scores below `∞` the largest is below `∞`. -/
theorem top_lt_top {n : Nat} (f : Fin n → EReal) (h : ∀ j, f j < ⊤) : top f < ⊤ := by
  rw [top_eq_sup, Finset.sup_lt_iff (by exact bot_lt_top)]
  exact fun j _ => h j

theorem exp_nonneg (x : EReal) : 0 ≤ Ideal.exp x := by
  induction x
  · exact le_refl (0 : EReal)
  · exact EReal.coe_nonneg.2 (Real.exp_nonneg _)
  · exact le_top (a := (0 : EReal))

theorem exp_pos {x : EReal} (h : x ≠ ⊥) : 0 < Ideal.exp x := by
  induction x
  · exact absurd rfl h
  · exact EReal.coe_pos.2 (Real.exp_pos _)
  · exact EReal.zero_lt_top

/-- The denominator of the weights is positive once a score is real and all are below `∞`. -/
theorem denom_pos {n : Nat} (f : Fin n → EReal) (h : ∀ j, f j < ⊤) (h0 : ∃ j, f j ≠ ⊥) :
    0 < ∑ k, Ideal.exp (f k - top f) := by
  obtain ⟨j, hj⟩ := h0
  refine lt_of_lt_of_le (exp_pos (x := f j - top f) ?_) (Finset.single_le_sum (f := fun k => Ideal.exp (f k - top f)) (fun _ _ => exp_nonneg _) (Finset.mem_univ j))
  have ht := top_lt_top f h
  rw [sub_eq_add_neg]
  intro e
  rcases EReal.add_eq_bot_iff.1 e with e | e
  · exact hj e
  · rw [EReal.neg_eq_bot_iff] at e; exact ht.ne e

/-- A sum over `n + p` whose last `p` terms are zero. -/
theorem sum_window {n N : Nat} (hn : n ≤ N) (F : Fin N → EReal) (G : Fin n → EReal)
    (h : ∀ j : Fin n, F (Fin.castLE hn j) = G j) (h0 : ∀ j : Fin N, n ≤ j.val → F j = 0) : ∑ j, F j = ∑ j, G j := by
  obtain ⟨p, rfl⟩ := Nat.exists_eq_add_of_le hn
  rw [Fin.sum_univ_add, Finset.sum_eq_zero (s := Finset.univ) (f := fun i => F (Fin.natAdd n i)) (fun i _ => h0 _ (by simp)), add_zero]
  exact Finset.sum_congr rfl fun j _ => h j

theorem top_window {n N : Nat} (hn : n ≤ N) (g : Fin N → EReal) (f : Fin n → EReal)
    (h : ∀ j : Fin n, g (Fin.castLE hn j) = f j) (h0 : ∀ j : Fin N, n ≤ j.val → g j = ⊥) : top g = top f := by
  rw [top_eq_sup, top_eq_sup]
  apply le_antisymm
  · refine Finset.sup_le fun j _ => ?_
    by_cases hj : j.val < n
    · exact (h ⟨j, hj⟩).le.trans (Finset.le_sup (f := f) (Finset.mem_univ _))
    · rw [h0 j (by omega)]; exact bot_le
  · refine Finset.sup_le fun j _ => ?_
    rw [← h j]; exact Finset.le_sup (f := g) (Finset.mem_univ _)

/-- Keys outside the window, whose score is `-∞`, leave the weighted sum as it is over the window alone. -/
theorem weighted_window {n N : Nat} (hn : n ≤ N) (g v' : Fin N → EReal) (f v : Fin n → EReal)
    (h : ∀ j : Fin n, g (Fin.castLE hn j) = f j) (h0 : ∀ j : Fin N, n ≤ j.val → g j = ⊥)
    (hv : ∀ j : Fin n, v' (Fin.castLE hn j) = v j) (hf : ∀ j, f j < ⊤) (hf0 : ∃ j, f j ≠ ⊥) :
    weighted g v' = weighted f v := by
  have hbot (j : Fin N) (hj : n ≤ j.val) : Ideal.exp (g j - top f) = 0 := by
    rw [h0 j hj, EReal.bot_sub]; rfl
  have hd : ∑ k, Ideal.exp (g k - top f) = ∑ k, Ideal.exp (f k - top f) :=
    sum_window hn _ _ (fun j => by rw [h j]) hbot
  unfold weighted
  rw [top_window hn g f h h0, hd]
  refine sum_window hn _ _ (fun j => by rw [h j, hv j]) fun j hj => ?_
  rw [hbot j hj, Ideal.div, if_neg (denom_pos f hf hf0).ne', zero_mul, zero_mul]

/-- One scaled score: the query the row `x` projects to through `w`, times the key `k`. -/
def qk (x : Fin 768 → EReal) (w : Fin 768 → Fin 64 → EReal) (k : Fin 64 → EReal) : EReal :=
  (∑ e, (∑ t, x t * w t e) * k e) * Ideal.ofBits FTy.f32 0x3E000000#32

/-- Whether key `j` is at most 128 away from query `q`. -/
def near (q j : Nat) : BitVec 1 :=
  IntOp.cmpi .sle (IntOp.absi (IntOp.subi (BitVec.ofNat 32 q) (BitVec.ofNat 32 j))) 128#32

/-- The scores of the keys near query `q`, and `-∞` at the others. -/
def banded {n : Nat} (q : Nat) (x : Fin 768 → EReal) (w : Fin 768 → Fin 64 → EReal) (k : Fin n → Fin 64 → EReal) : Fin n → EReal :=
  fun j => Scalar.select (near q j) (qk x w (k j)) ⊥

theorem near_self (q : Nat) : near q q = 1#1 := by
  simp [near, IntOp.subi, IntOp.absi, IntOp.cmpi]

/-- Of the first 512 queries none is near a key from 640 on. -/
theorem near_far (q j : Nat) (hq : q < 512) (hj : 640 ≤ j) (hj' : j < 4096) : near q j = 0#1 := by
  have e : BitVec.ofNat 32 q - BitVec.ofNat 32 j = -BitVec.ofNat 32 (j - q) := by
    apply BitVec.eq_of_toNat_eq
    simp only [BitVec.toNat_sub, BitVec.toNat_neg, BitVec.toNat_ofNat]
    omega
  have hm : (-BitVec.ofNat 32 (j - q)).msb = true := by
    rw [BitVec.msb_eq_decide]
    simp only [BitVec.toNat_neg, BitVec.toNat_ofNat, decide_eq_true_eq]
    omega
  have hs : (BitVec.ofNat 32 (j - q)).sle 128#32 = false := by
    rw [BitVec.sle_eq_decide, decide_eq_false_iff_not, BitVec.toInt_eq_toNat_of_lt, BitVec.toInt_eq_toNat_of_lt]
    all_goals simp only [BitVec.toNat_ofNat]
    all_goals omega
  unfold near IntOp.subi IntOp.absi IntOp.cmpi
  rw [e, if_pos hm, BitVec.neg_neg, hs]
  rfl

/-! ## Real entries make real scores -/

/-- An extended real that is a real. -/
def IsReal (x : EReal) : Prop := ∃ r : ℝ, x = r

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih =>
    obtain ⟨u, hu⟩ := h a
    obtain ⟨w, hw⟩ := ih
    exact ⟨u + w, by rw [Finset.sum_insert ha, hu, hw, EReal.coe_add]⟩

theorem IsReal.lt_top {x : EReal} (h : IsReal x) : x < ⊤ := by obtain ⟨r, rfl⟩ := h; exact EReal.coe_lt_top r
theorem IsReal.ne_bot {x : EReal} (h : IsReal x) : x ≠ ⊥ := by obtain ⟨r, rfl⟩ := h; exact EReal.coe_ne_bot r

/-- A number whose absolute value is below `∞` is a real. -/
theorem isReal_of_abs {x : EReal} (h : max x (-x) < ⊤) : IsReal x := by
  induction x
  · simp at h
  · exact ⟨_, rfl⟩
  · simp at h

theorem isReal_eighth : IsReal (Ideal.ofBits FTy.f32 0x3E000000#32) :=
  ⟨(1 / 8 : ℝ), by simp [Ideal.ofBits, Ideal.ieee]; rw [← EReal.coe_mul]; norm_num⟩

theorem qk_real {x : Fin 768 → EReal} {w : Fin 768 → Fin 64 → EReal} {k : Fin 64 → EReal} (hx : ∀ t, IsReal (x t))
    (hw : ∀ t e, IsReal (w t e)) (hk : ∀ e, IsReal (k e)) : IsReal (qk x w k) :=
  (IsReal.sum _ _ fun e => (IsReal.sum _ _ fun t => (hx t).mul (hw t e)).mul (hk e)).mul isReal_eighth

theorem banded_lt_top {n : Nat} (q : Nat) {x : Fin 768 → EReal} {w : Fin 768 → Fin 64 → EReal} {k : Fin n → Fin 64 → EReal}
    (hx : ∀ t, IsReal (x t)) (hw : ∀ t e, IsReal (w t e)) (hk : ∀ j e, IsReal (k j e)) (j : Fin n) : banded q x w k j < ⊤ := by
  unfold banded Scalar.select
  split
  · exact (qk_real hx hw (hk j)).lt_top
  · exact bot_lt_top

/-- The score of the query's own position is real. -/
theorem banded_self {n : Nat} (q : Fin n) {x : Fin 768 → EReal} {w : Fin 768 → Fin 64 → EReal} {k : Fin n → Fin 64 → EReal}
    (hx : ∀ t, IsReal (x t)) (hw : ∀ t e, IsReal (w t e)) (hk : ∀ j e, IsReal (k j e)) : banded q.val x w k q ≠ ⊥ := by
  unfold banded Scalar.select
  rw [near_self]
  show qk x w (k q) ≠ ⊥
  exact (qk_real hx hw (hk q)).ne_bot

/-- Among 4096 keys the first 640 alone decide the attention of the first 512 queries. -/
theorem attention_window (q : Fin 512) (x : Fin 768 → EReal) (w : Fin 768 → Fin 64 → EReal)
    (K : Fin 4096 → Fin 64 → EReal) (k : Fin 640 → Fin 64 → EReal) (V : Fin 4096 → EReal) (v : Fin 640 → EReal)
    (hK : ∀ j : Fin 640, K (Fin.castLE (by decide) j) = k j) (hV : ∀ j : Fin 640, V (Fin.castLE (by decide) j) = v j)
    (hx : ∀ t, IsReal (x t)) (hw : ∀ t e, IsReal (w t e)) (hk : ∀ j e, IsReal (k j e)) :
    weighted (banded q.val x w K) V = weighted (banded q.val x w k) v := by
  refine weighted_window (by decide) _ _ _ _ (fun j => ?_) (fun j hj => ?_) hV (banded_lt_top _ hx hw hk)
    ⟨Fin.castLE (by decide) q, banded_self (Fin.castLE (by decide) q) hx hw hk⟩
  · unfold banded; rw [hK j]; rfl
  · unfold banded; rw [near_far q.val j.val q.isLt hj j.isLt]; rfl

end Cert.Hand
end
-- ==== Proof.KernelValue.lean ====
module
public import proofs.«01_k».proof.Proof.Values
public import proofs.«01_k».proof.Proof.Weighted
public import Idealize.ShloMosaic.Lib.Pointwise
public import Idealize.ShloMosaic.Lib.Pipeline.ValueKit
/-! # The kernel's values over the reals extended by the infinities -/
@[expose] public section
noncomputable section
namespace Cert.Hand
open Cert.KernelIdeal Cert.KernelIdeal.Gen
open Idealize.ShloMosaic Idealize.ShloMosaic.TcCoe
set_option maxRecDepth 16384

theorem ofBits_neg_inf : Ideal.ofBits FTy.f32 0xFF800000#32 = ⊥ := by simp [Ideal.ofBits, Ideal.ieee]

theorem mask_bot : (Named.named κ "mask" 0xCE6E6B28#32 : Ideal .f32) = (⊥ : EReal) :=
  IdealRules.named_const.ideal_named_scalar _ _ _ _ rfl

/-- The projection of one batch's rows by the query weights. -/
theorem pay47_at (x : Vec Ideal S1x512x768 .f32) (w : Vec Ideal S768x512 .f32) (i j : Fin 512) :
   k0_pay47 x w (ix3 0 i j) = ∑ k : Fin 768, x (ix3 0 i k) * w (ix2 k j) := by
  pointwise [k0_pay47]
theorem pay50_at (x : Vec Ideal S512x768 .f32) : k0_pay50 x = x := by
  funext j; idx_vars j
  pointwise [k0_pay50]
theorem pay66_at (x : Vec Ideal S512x512 .bf16) (w : Vec Ideal S512x768 .bf16) (i : Fin 512) (n : Fin 768) :
   k0_pay66 x w (ix3 0 i n) = ∑ k : Fin 512, x (ix2 i k) * w (ix2 k n) := by
  pointwise [k0_pay66]
theorem pay51_at (i : Fin 512) (k : Fin 640) : k0_pay51 (ix2 i k) = near i.val k.val := by
  pointwise [k0_pay51]
  rfl

theorem pay52_at (q : Vec Ideal S1x512x64 .bf16) (kk v : Vec Ideal S1x640x64 .bf16) (i : Fin 512) (d : Fin 64)
    (x : Fin 768 → EReal) (w : Fin 768 → Fin 64 → EReal) (hq : ∀ e, q (ix3 0 i e) = ∑ t, x t * w t e) :
   k0_pay52 k0_pay51 q kk v (ix2 i d) = weighted (banded i.val x w fun j e => kk (ix3 0 j e)) fun j => v (ix3 0 j d) := by
  pointwise [k0_pay52]
  simp only [hq, pay51_at, mask_bot, ofBits_neg_inf]
  rfl

variable (m : (ℓ : Loc nD τ sig) → Buf (Elt Ideal) ℓ)

/-- Every window's block is its whole array. -/
theorem ix0_zero (t : Fin cfg0.N) : win0_0.index t = ![0, 0, 0] := (by decide +kernel : ∀ t : Fin grid0.N, win0_0.index t = ![0, 0, 0]) t
theorem ix1_zero (t : Fin cfg0.N) : win0_1.index t = ![0, 0] := (by decide +kernel : ∀ t : Fin grid0.N, win0_1.index t = ![0, 0]) t
theorem ix2_zero (t : Fin cfg0.N) : win0_2.index t = ![0, 0] := (by decide +kernel : ∀ t : Fin grid0.N, win0_2.index t = ![0, 0]) t

theorem xF_eq (c : Dev nD) : xF m c = m ((c : Thread nD τ).loc main_arg0) := by
  funext i
  unfold xF iblk
  show m _ _ = _
  refine congrArg (m (c.tc.loc main_arg0)) ?_
  blk_ext [ix0_zero]

theorem wqF_eq (c : Dev nD) : wqF m c = m ((c : Thread nD τ).loc main_arg1) := by
  funext i
  unfold wqF iblk
  show m _ _ = _
  refine congrArg (m (c.tc.loc main_arg1)) ?_
  blk_ext [ix1_zero]

theorem woF_eq (c : Dev nD) : woF m c = m ((c : Thread nD τ).loc main_arg4) := by
  funext i
  unfold woF iblk
  show m _ _ = _
  refine congrArg (m (c.tc.loc main_arg4)) ?_
  blk_ext [ix2_zero]

/-- Column `64 (l / 64) + e`: entry `e` of the head column `l` lies in. -/
def headCol (l : Fin 512) (e : Fin 64) : Fin 512 := ⟨l.val / 64 * 64 + e.val, by omega⟩

/-- Row `i` of batch `b` of `x`. -/
abbrev xRow (c : Dev nD) (b : Fin 2) (i : Fin 512) : Fin 768 → EReal := fun t => m ((c : Thread nD τ).loc main_arg0) (ix3 b i t)
/-- The query weights of the head column `l` lies in. -/
abbrev wHead (c : Dev nD) (l : Fin 512) : Fin 768 → Fin 64 → EReal := fun t e => m ((c : Thread nD τ).loc main_arg1) (ix2 t (headCol l e))

/-- The attention result of one device: row `i` of batch `b`, column `l`. -/
theorem ctxF_at (c : Dev nD) (b : Fin 2) (i l : Fin 512) :
    ctxF m c b (ix2 i l) = weighted
      (banded i.val (xRow m c b i) (wHead m c l)
        fun j e => kbF m c (ix3 b j (headCol l e)))
      fun j => vbF m c (ix3 b j l) := by
  have hc (e : Fin 64) : hcol ⟨l.val / 64, by omega⟩ e = headCol l e := Fin.ext (by simp only [hcol, headCol]; omega)
  have hl : hcol ⟨l.val / 64, by omega⟩ ⟨l.val % 64, Nat.mod_lt _ (by decide)⟩ = l := Fin.ext (by simp only [hcol]; omega)
  have hq (e : Fin 64) : qF m c (ix3 b i (headCol l e))
      = ∑ t, xRow m c b i t * wHead m c l t e := by
    unfold xRow wHead
    rw [← xF_eq m c, ← wqF_eq m c]
    exact pay47_at _ _ i (headCol l e)
  show headF m c b ⟨l.val / 64, _⟩ (ix2 i ⟨l.val % 64, _⟩) = _
  unfold headF
  rw [pay52_at _ _ _ i _ (xRow m c b i) (wHead m c l)
    (fun e => by rw [← hq e, ← hc e]; rfl)]
  refine congrArg₂ weighted (congrArg (banded i.val _ _) (funext fun j => funext fun e => ?_)) (funext fun j => ?_)
  · exact congrArg (kbF m c) (congrArg (ix3 b j) (hc e))
  · exact congrArg (vbF m c) (congrArg (ix3 b j) hl)

/-- The partial output of one device. -/
theorem red0_at (c : Dev nD) (b : Fin 2) (i : Fin 512) (n : Fin 768) :
    red0 m c (ix3 b i n) = (∑ l : Fin 512, ctxF m c b (ix2 i l) * m ((c : Thread nD τ).loc main_arg4) (ix2 l n) : EReal) := by
  rw [← woF_eq m c]
  refine (pay66_at (ctxF m c b) (wobF m c) i n).trans ?_
  unfold wobF
  rw [pay50_at]

/-- A sum along the three exchanges reaches every device once. -/
theorem sum_rounds (g : Fin 8 → EReal) (c : Dev nD) :
    (g c + g (fl1 c)) + (g (fl4 c) + g (fl1 (fl4 c))) + ((g (fl2 c) + g (fl1 (fl2 c))) + (g (fl4 (fl2 c)) + g (fl1 (fl4 (fl2 c)))))
      = ∑ d, g d := by
  have hp : ∀ c : Fin 8, ([c, fl1 c, fl4 c, fl1 (fl4 c), fl2 c, fl1 (fl2 c), fl4 (fl2 c), fl1 (fl4 (fl2 c))] : Multiset (Fin 8))
      = Finset.univ.val := by decide
  have h := congrArg (fun s => (s.map g).sum) (hp c)
  refine Eq.trans ?_ h
  simp only [Multiset.map_coe, Multiset.sum_coe, List.map_cons, List.map_nil, List.sum_cons, List.sum_nil, add_zero, add_assoc]

/-- The three rounds add up the partial outputs of all eight devices. -/
theorem red3_eq (c : Dev nD) (j : S2x512x768.Idx) : red3 m c j = (∑ d : Fin 8, red0 m d j : EReal) :=
  sum_rounds (fun d => red0 m d j) c

/-- The kernel's result. -/
theorem resF_at (j : S2x512x768.Idx) : resF m j = (∑ d : Fin 8, red0 m d j : EReal) := red3_eq m _ j

/-- A row block of keys or values at its coordinates. -/
theorem colsF_at (a0 a1 : FVec Ideal S2x512x4096 .f32) (d : Dev nD) (b : Fin 2) (j : Fin 640) (k : Fin 512) :
    colsF a0 a1 d (ix3 b j k) =
      if h : j.val < 512 then a0 (ix3 b ⟨j.val, h⟩ ⟨512 * d.val + k.val, by have := d.isLt; have : nD = 8 := rfl; omega⟩)
      else a1 (ix3 b ⟨j.val - 512, by omega⟩ ⟨512 * d.val + k.val, by have := d.isLt; have : nD = 8 := rfl; omega⟩) := rfl

end Cert.Hand
end
-- ==== Proof.RefValue.lean ====
module
public import proofs.«01_k».proof.Proof.Gen.ReferenceIdeal.Run
public import proofs.«01_k».proof.Proof.Weighted
public import Idealize.ShloMosaic.Lib.Pointwise
public import Idealize.ShloMosaic.Lib.Routing.OpsOrder
public import Idealize.ShloMosaic.Lib.Tactic.CleanTypes
/-! # The reference's value over the reals extended by the infinities -/
@[expose] public section
noncomputable section
namespace Cert.Hand
open Cert.ReferenceIdeal Cert.ReferenceIdeal.Gen Cert.ReferenceIdeal.Value
open Idealize.ShloMosaic Idealize.ShloMosaic.TcCoe
set_option maxRecDepth 16384

/-- Column `64 (l / 64) + e` of 4096: entry `e` of the head column `l` lies in. -/
def wideCol (l : Fin 4096) (e : Fin 64) : Fin 4096 := ⟨l.val / 64 * 64 + e.val, by omega⟩

/-- Every query is near the key of its own position. -/
theorem some_near (i : Fin 512) : Finset.fold IntOp.ori (0#1) (fun x : Fin 4096 => near i.val x.val) Finset.univ = 1#1 :=
  (Routing.fold_ori _ _).2 ⟨Fin.castLE (by decide) i, Finset.mem_univ _, near_self i.val⟩

/-- The reference's result. -/
theorem ref_at (m : (ℓ : Loc nD τ sig) → Buf (Elt Ideal) ℓ) (c : Dev nD) (b : Fin 2) (i : Fin 512) (n : Fin 768) :
    res_main_v36 m c (ix3 b i n) = (∑ l : Fin 4096, weighted
      (banded i.val (fun t => m ((c : Thread nD τ).loc main_arg0) (ix3 b i t)) (fun t e => m ((c : Thread nD τ).loc main_arg1) (ix2 t (wideCol l e)))
        fun j e => m ((c : Thread nD τ).loc main_arg2) (ix3 b j (wideCol l e)))
      (fun j => m ((c : Thread nD τ).loc main_arg3) (ix3 b j l)) * m ((c : Thread nD τ).loc main_arg4) (ix2 l n) : EReal) := by
  unfold res_main_v36
  clean_types
  pointwise
  have hb : Ideal.ofBits FTy.f32 0xFF800000#32 = ⊥ := by simp [Ideal.ofBits, Ideal.ieee]
  have hb' : (id (constant (F := Ideal) S_ FTy.f32 0xFF800000#32) : FVec Ideal S_ .f32) ix0 = (⊥ : EReal) := hb
  have hs {α : Type} (x y : α) : Scalar.select (1#1) x y = x := rfl
  have hn (x : Fin 4096) : IntOp.cmpi CmpIPredicate.sle (IntOp.absi (IntOp.subi (BitVec.ofNat 32 i.val) (BitVec.ofNat 32 x.val))) 128#32 = near i.val x.val := rfl
  simp only [hn, some_near, hs, hb, hb']
  refine Finset.sum_congr rfl fun l _ => ?_
  congr 1
  refine Finset.sum_congr rfl fun j _ => ?_
  rw [mul_comm]
  rfl
end Cert.Hand
end
-- ==== Proof.Algebraic.lean ====
module
public import proofs.«01_k».proof.Defs
public import proofs.«01_k».proof.Proof.KernelValue
public import proofs.«01_k».proof.Proof.RefValue
/-! # The kernel's result is the reference's -/
@[expose] public section
noncomputable section
namespace Cert.Hand
open Cert.KernelIdeal Cert.KernelIdeal.Gen
open Idealize.ShloMosaic Idealize.ShloMosaic.TcCoe
set_option maxRecDepth 16384

theorem ofBits_inf : Ideal.ofBits FTy.f32 0x7F800000#32 = ⊤ := by simp [Ideal.ofBits, Ideal.ieee]

/-- The comparison the precondition makes of one entry. -/
theorem isReal_of_cmp {x : EReal} (h : Ideal.cmp .olt (max x (-x)) (Ideal.ofBits FTy.f32 0x7F800000#32) = 1#1) : IsReal x := by
  rw [ofBits_inf] at h
  refine isReal_of_abs ?_
  by_contra hn
  simp [Ideal.cmp, hn] at h

instance preFacts : Cert.Pre_scores_finite_KernelIdeal.Facts := by
  constructor <;> decide

instance preFactsRef : Cert.Pre_scores_finite_ReferenceIdeal.Facts := by
  constructor <;> decide

variable (m : (ℓ : Loc nD τ sig) → Buf (Elt Ideal) ℓ)

/-- What the precondition says of the entries. -/
theorem reals (h : Cert.Pre_KernelIdeal_scores_finite_KernelIdeal m) (c : Dev nD) :
    (∀ i, IsReal (m ((c : Thread nD τ).loc main_arg0) i)) ∧ (∀ i, IsReal (m ((c : Thread nD τ).loc main_arg1) i))
      ∧ ∀ i, IsReal (m ((c : Thread nD τ).loc main_arg2) i) :=
  ⟨fun i => isReal_of_cmp (congrFun (h c).1 i), fun i => isReal_of_cmp (congrFun (h c).2.1 i), fun i => isReal_of_cmp (congrFun (h c).2.2 i)⟩

/-- Row `512 d + l` of 4096. -/
def wide (d : Fin 8) (l : Fin 512) : Fin 4096 := ⟨512 * d.val + l.val, by omega⟩

theorem block_rows2 (c : Fin 8) (v : (⟨2, ![4096, 768]⟩ : Shape).Idx → EReal) (l : Fin 512) (n : Fin 768) :
    Layout.block ⟨2, ![512, 768]⟩ ⟨2, ![4096, 768]⟩ 0 8 c v (by decide) (ix2 l n) = v (ix2 (wide c l) n) := by
  refine congrArg v (funext fun a => Fin.ext ?_)
  rw [Layout.Tiles.idx_val]
  fin_cases a
  · show c.val * 512 + l.val = 512 * c.val + l.val; omega
  · rfl

theorem block_cols2 (c : Fin 8) (v : (⟨2, ![768, 4096]⟩ : Shape).Idx → EReal) (t : Fin 768) (l : Fin 512) :
    Layout.block ⟨2, ![768, 512]⟩ ⟨2, ![768, 4096]⟩ 1 8 c v (by decide) (ix2 t l) = v (ix2 t (wide c l)) := by
  refine congrArg v (funext fun a => Fin.ext ?_)
  rw [Layout.Tiles.idx_val]
  fin_cases a
  · rfl
  · show c.val * 512 + l.val = 512 * c.val + l.val; omega

theorem block_rows3 (c : Fin 8) (v : (⟨3, ![2, 4096, 4096]⟩ : Shape).Idx → EReal) (b : Fin 2) (l : Fin 512) (n : Fin 4096) :
    Layout.block ⟨3, ![2, 512, 4096]⟩ ⟨3, ![2, 4096, 4096]⟩ 1 8 c v (by decide) (ix3 b l n) = v (ix3 b (wide c l) n) := by
  refine congrArg v (funext fun a => Fin.ext ?_)
  rw [Layout.Tiles.idx_val]
  fin_cases a
  · rfl
  · show c.val * 512 + l.val = 512 * c.val + l.val; omega
  · rfl

/-- The rows device `d` attends to are the first 640 of the whole array, at its columns. -/
theorem colsF_block (K : (⟨3, ![2, 4096, 4096]⟩ : Shape).Idx → EReal) (d : Dev nD) (b : Fin 2) (j : Fin 640) (k : Fin 512) :
    colsF (F := Ideal) (Layout.block ⟨3, ![2, 512, 4096]⟩ ⟨3, ![2, 4096, 4096]⟩ 1 8 0 K (by decide))
      (Layout.block ⟨3, ![2, 512, 4096]⟩ ⟨3, ![2, 4096, 4096]⟩ 1 8 1 K (by decide)) d (ix3 b j k) = K (ix3 b (Fin.castLE (by decide) j) (wide d k)) := by
  rw [colsF_at]
  split
  · refine (block_rows3 _ _ _ _ _).trans (congrArg K ?_)
    exact congrArg (fun r => ix3 b r (wide d k)) (Fin.ext (by simp [wide]))
  · refine (block_rows3 _ _ _ _ _).trans (congrArg K ?_)
    exact congrArg (fun r => ix3 b r (wide d k)) (Fin.ext (by simp [wide]; omega))

theorem wideCol_wide (d : Fin 8) (l : Fin 512) (e : Fin 64) : wideCol (wide d l) e = wide d (headCol l e) :=
  Fin.ext (by simp only [wideCol, wide, headCol]; omega)

/-- A sum over 4096 as eight sums over 512. -/
theorem sum_wide (f : Fin 4096 → EReal) : ∑ L, f L = ∑ d : Fin 8, ∑ l : Fin 512, f (wide d l) := by
  rw [← Fintype.sum_prod_type']
  refine (Fintype.sum_equiv (finProdFinEquiv (m := 8) (n := 512)) _ _ fun p => ?_).symm
  exact congrArg f (Fin.ext (by simp [wide, finProdFinEquiv]; omega))

/-- An index of the result at its coordinates. -/
theorem exists_coords (j : S2x512x768.Idx) : ∃ (b : Fin 2) (i : Fin 512) (n : Fin 768), j = ix3 b i n := by
  idx_vars j
  exact ⟨_, _, _, rfl⟩

/-- On real scores the kernel's result is the reference's. -/
theorem res_eq (m' : (ℓ : Loc Cert.ReferenceIdeal.nD Cert.ReferenceIdeal.τ Cert.ReferenceIdeal.sig) → Buf (Elt Ideal) ℓ)
    (hp : Cert.Pre_KernelIdeal_scores_finite_KernelIdeal m)
    (h : ∀ c : Dev nD,
      m ((c : Thread nD τ).loc main_arg0) = m' (((0 : Dev Cert.ReferenceIdeal.nD).tc : Thread Cert.ReferenceIdeal.nD Cert.ReferenceIdeal.τ).loc Cert.ReferenceIdeal.main_arg0)
      ∧ m ((c : Thread nD τ).loc main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c : Thread nD τ).loc main_arg2) = Layout.block ⟨3, ![2, 512, 4096]⟩ ⟨3, ![2, 4096, 4096]⟩ 1 8 c (m' (((0 : Dev Cert.ReferenceIdeal.nD).tc : Thread Cert.ReferenceIdeal.nD Cert.ReferenceIdeal.τ).loc Cert.ReferenceIdeal.main_arg2))
      ∧ m ((c : Thread nD τ).loc main_arg3) = Layout.block ⟨3, ![2, 512, 4096]⟩ ⟨3, ![2, 4096, 4096]⟩ 1 8 c (m' (((0 : Dev Cert.ReferenceIdeal.nD).tc : Thread Cert.ReferenceIdeal.nD Cert.ReferenceIdeal.τ).loc Cert.ReferenceIdeal.main_arg3))
      ∧ m ((c : Thread nD τ).loc main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) :
    resF m = Cert.ReferenceIdeal.Value.res_main_v36 m' 0 := by
  funext j
  obtain ⟨b, i, n, rfl⟩ := exists_coords j
  refine (resF_at m _).trans (Eq.trans ?_ (ref_at m' 0 b i n).symm)
  rw [sum_wide]
  refine Finset.sum_congr rfl fun d _ => ?_
  rw [red0_at]
  refine Finset.sum_congr rfl fun l _ => ?_
  obtain ⟨h0, h1, -, -, h4⟩ := h d
  have hK (j : Fin 640) (k : Fin 512) := (congrArg₂ (fun a0 a1 => colsF (F := Ideal) a0 a1 d (ix3 b j k)) (h 0).2.2.1 (h 1).2.2.1).trans (colsF_block _ d b j k)
  have hV (j : Fin 640) (k : Fin 512) := (congrArg₂ (fun a0 a1 => colsF (F := Ideal) a0 a1 d (ix3 b j k)) (h 0).2.2.2.1 (h 1).2.2.2.1).trans (colsF_block _ d b j k)
  have hO := (congrFun h4 (ix2 l n)).trans (block_rows2 d _ l n)
  refine congrArg₂ (fun x y : EReal => x * y) ?_ hO
  rw [ctxF_at]
  have hx : xRow m d b i = fun t => m' (((0 : Dev Cert.ReferenceIdeal.nD).tc : Thread Cert.ReferenceIdeal.nD Cert.ReferenceIdeal.τ).loc Cert.ReferenceIdeal.main_arg0) (ix3 b i t) :=
    funext fun t => congrFun h0 (ix3 b i t)
  have hw : wHead m d l = fun t e => m' (((0 : Dev Cert.ReferenceIdeal.nD).tc : Thread Cert.ReferenceIdeal.nD Cert.ReferenceIdeal.τ).loc Cert.ReferenceIdeal.main_arg1) (ix2 t (wideCol (wide d l) e)) :=
    funext fun t => funext fun e => ((congrFun h1 (ix2 t (headCol l e))).trans (block_cols2 d _ t _)).trans (by rw [wideCol_wide])
  refine Eq.trans (attention_window i (xRow m d b i) (wHead m d l) _ _ _ _ (fun j => funext fun e => ?_) (fun j => ?_)
    (fun t => (reals m hp d).1 _) (fun t e => (reals m hp d).2.1 _) fun j e => ?_).symm (congrArg₂ (fun x w => weighted (banded i.val x w _) _) hx hw)
  · rw [wideCol_wide]
    exact (hK j (headCol l e)).symm
  · exact (hV j l).symm
  · show IsReal (colsF (F := Ideal) _ _ d _)
    rw [colsF_at]
    split
    · exact (reals m hp 0).2.2 _
    · exact (reals m hp 1).2.2 _
end Cert.Hand
end
-- ==== Proof.Sched.lean ====
/-
# The cells, what travels over them, and who owes what

Every semaphore cell of the kernel that another device touches, numbered: the four on which the keys and values
arrive, the fourteen on which devices 0 and 1 see their own sends of them complete, the relay's receive and send
cells, the send and receive cells of the three rounds of summation and of the three rounds of gathering, and the
barrier cell. For each cell: who pays it, by how much, and what the payment hands over. Then what each device owes at
launch and the levels by which it may wait while owing.
-/
module

public import proofs.«01_k».proof.Proof.Values
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

/-! ## The resource algebra: the pipeline's copy, the cells' copy, and the counters of the local copies -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev EBC : Emb (UB × Counters) (MT nD τ sig Unit (Elt F) ℕ UU ℕ) := embR

variable (m : (ℓ : Loc nD τ sig) → Buf (Elt F) ℓ) (ρ : Dev nD → PrngReg)

/-! ## Lists of resources -/

/-- The separating conjunction over a list. -/
def sepL {ι : Type} (Φ : ι → sProp 𝕄) : List ι → sProp 𝕄
  | [] => iprop(emp)
  | a :: l => iprop(Φ a ∗ sepL Φ l)

omit [FloatOps F] [Named F] in
theorem sepL_nil {ι : Type} (Φ : ι → sProp 𝕄) : sepL Φ [] = iprop(emp) := rfl
omit [FloatOps F] [Named F] in
theorem sepL_cons {ι : Type} (Φ : ι → sProp 𝕄) (a : ι) (l : List ι) : sepL Φ (a :: l) = iprop(Φ a ∗ sepL Φ l) := rfl

/-! ## The cells -/

/-- The barrier semaphore. -/
abbrev barS : Sem sig := (SemArray.scalar (sig.barrier 0 rfl) : Sems sig S_).sem

/-- The numbered semaphores: 0–51 the kernel's own in order, 52 the barrier. -/
abbrev KK : Type := Fin 53

/-- The semaphore of each number. -/
def csem (k : KK) : SemLoc sig := if h : k.val < 52 then .dma ⟨k.val + 4, Nat.lt_of_lt_of_eq (Nat.add_lt_add_right h 4) rfl⟩ else .reg barS

/-- The number of a semaphore (none for the four of the pipeline's staging). -/
def kOf (sm : SemLoc sig) : Option KK :=
  match sm with
  | .dma q => if h : 4 ≤ q.val then some ⟨(q.val - 4) % 53, Nat.mod_lt _ (by decide)⟩ else none
  | .reg _ => some 52

/-- The cell of device `c` at number `k`. -/
abbrev kcell (c : Dev nD) (k : KK) : GSem nD τ sig := ((c : Thread nD τ), csem k)

set_option maxRecDepth 8000 in
theorem kOf_csem (k : KK) : kOf (csem k) = some k := by revert k; decide

theorem csem_inj : Function.Injective csem := fun a b h => by
  have := congrArg kOf h; rw [kOf_csem, kOf_csem] at this; exact Option.some.inj this

/-! ## Sets of elements -/

/-- Rows `lo … lo + n - 1` of batch `b`. -/
def rows (b lo n : ℕ) : Finset S2x512x768.Idx := Finset.univ.filter fun i => (i 0).val = b ∧ lo ≤ (i 1).val ∧ (i 1).val < lo + n
/-- Rows `lo … lo + n - 1` of batch `b` of the send buffer of the rounds. -/
def srows (b lo n : ℕ) : Finset S2x256x768.Idx := Finset.univ.filter fun i => (i 0).val = b ∧ lo ≤ (i 1).val ∧ (i 1).val < lo + n
/-- Rows `lo … lo + n - 1` of both batches of a key or value buffer. -/
def krows (lo n : ℕ) : Finset S2x640x512.Idx := Finset.univ.filter fun i => lo ≤ (i 1).val ∧ (i 1).val < lo + n
/-- Plane `j` of the relay buffer. -/
def plane (j : ℕ) : Finset S3x2x512x512.Idx := Finset.univ.filter fun i => (i 0).val = j
/-- The first `n` rows of chunk `j` of the outgoing keys or values. -/
def chunk (j n : ℕ) : Finset S8x2x512x512.Idx := Finset.univ.filter fun i => (i 0).val = j ∧ (i 2).val < n

theorem mem_rows {b lo n : ℕ} {i : S2x512x768.Idx} : i ∈ rows b lo n ↔ (i 0).val = b ∧ lo ≤ (i 1).val ∧ (i 1).val < lo + n := by simp [rows]
theorem mem_srows {b lo n : ℕ} {i : S2x256x768.Idx} : i ∈ srows b lo n ↔ (i 0).val = b ∧ lo ≤ (i 1).val ∧ (i 1).val < lo + n := by simp [srows]
theorem mem_krows {lo n : ℕ} {i : S2x640x512.Idx} : i ∈ krows lo n ↔ lo ≤ (i 1).val ∧ (i 1).val < lo + n := by simp [krows]
theorem mem_plane {j : ℕ} {i : S3x2x512x512.Idx} : i ∈ plane j ↔ (i 0).val = j := by simp [plane]
theorem mem_chunk {j n : ℕ} {i : S8x2x512x512.Idx} : i ∈ chunk j n ↔ (i 0).val = j ∧ (i 2).val < n := by simp [chunk]

/-- Elements `S` of buffer `b` of device `c`, at contents `f`. -/
abbrev pc (c : Dev nD) (b : Ref sig .tc) (S : Finset (Idx ((c : Thread nD τ).loc b))) (f : Buf (Elt F) ((c : Thread nD τ).loc b)) : sProp 𝕄 :=
  ((c : Thread nD τ).loc b) ↦[S]{fullShare} f
/-- The same at some contents. -/
abbrev anyOn (c : Dev nD) (b : Ref sig .tc) (S : Finset (Idx ((c : Thread nD τ).loc b))) : sProp 𝕄 :=
  iprop(∃ f, pc (F := F) c b S f)

/-! ## What arrives, what is sent -/

/-- The elements cell `k` of device `c` receives into, at contents to be given for each buffer: the schema of both
    `landPay` and `landAny`. -/
def landAny (p : Dev nD × KK) : sProp 𝕄 :=
  match p.2.val with
  | 0 => anyOn p.1 cc0_scratch0 (krows 0 512)
  | 1 => anyOn p.1 cc0_scratch1 (krows 0 512)
  | 2 => anyOn p.1 cc0_scratch0 (krows 512 128)
  | 3 => anyOn p.1 cc0_scratch1 (krows 512 128)
  | 22 => anyOn p.1 cc0_scratch11 (plane 0)
  | 23 => anyOn p.1 cc0_scratch11 (plane 1)
  | 24 => anyOn p.1 cc0_scratch11 (plane 2)
  | 34 => anyOn p.1 cc0_scratch8 (rows 0 0 256)
  | 35 => anyOn p.1 cc0_scratch8 (rows 1 0 256)
  | 36 => anyOn p.1 cc0_scratch8 (rows 0 256 128)
  | 37 => anyOn p.1 cc0_scratch8 (rows 1 256 128)
  | 38 => anyOn p.1 cc0_scratch8 (rows 0 384 64)
  | 39 => anyOn p.1 cc0_scratch8 (rows 1 384 64)
  | 46 => anyOn p.1 cc0_scratch10 (rows 0 (kp3 (fl2 p.1)) 64)
  | 47 => anyOn p.1 cc0_scratch10 (rows 1 (kp3 (fl2 p.1)) 64)
  | 48 => anyOn p.1 cc0_scratch10 (rows 0 (kp2 (fl4 p.1)) 128)
  | 49 => anyOn p.1 cc0_scratch10 (rows 1 (kp2 (fl4 p.1)) 128)
  | 50 => anyOn p.1 cc0_scratch10 (rows 0 (kp1 (fl1 p.1)) 256)
  | 51 => anyOn p.1 cc0_scratch10 (rows 1 (kp1 (fl1 p.1)) 256)
  | _ => iprop(emp)

/-- What cell `k` of device `c` holds out when the transfer into it has landed: the elements it receives into, at the
    contents that arrived. -/
def landPay (p : Dev nD × KK) : sProp 𝕄 :=
  match p.2.val with
  | 0 => pc p.1 cc0_scratch0 (krows 0 512) (kbF m p.1)
  | 1 => pc p.1 cc0_scratch1 (krows 0 512) (vbF m p.1)
  | 2 => pc p.1 cc0_scratch0 (krows 512 128) (kbF m p.1)
  | 3 => pc p.1 cc0_scratch1 (krows 512 128) (vbF m p.1)
  | 22 => pc p.1 cc0_scratch11 (plane 0) (rbF m p.1)
  | 23 => pc p.1 cc0_scratch11 (plane 1) (rbF m p.1)
  | 24 => pc p.1 cc0_scratch11 (plane 2) (rbF m p.1)
  | 34 => pc p.1 cc0_scratch8 (rows 0 0 256) (rsbF m p.1)
  | 35 => pc p.1 cc0_scratch8 (rows 1 0 256) (rsbF m p.1)
  | 36 => pc p.1 cc0_scratch8 (rows 0 256 128) (rsbF m p.1)
  | 37 => pc p.1 cc0_scratch8 (rows 1 256 128) (rsbF m p.1)
  | 38 => pc p.1 cc0_scratch8 (rows 0 384 64) (rsbF m p.1)
  | 39 => pc p.1 cc0_scratch8 (rows 1 384 64) (rsbF m p.1)
  | 46 => pc p.1 cc0_scratch10 (rows 0 (kp3 (fl2 p.1)) 64) (agF m)
  | 47 => pc p.1 cc0_scratch10 (rows 1 (kp3 (fl2 p.1)) 64) (agF m)
  | 48 => pc p.1 cc0_scratch10 (rows 0 (kp2 (fl4 p.1)) 128) (agF m)
  | 49 => pc p.1 cc0_scratch10 (rows 1 (kp2 (fl4 p.1)) 128) (agF m)
  | 50 => pc p.1 cc0_scratch10 (rows 0 (kp1 (fl1 p.1)) 256) (agF m)
  | 51 => pc p.1 cc0_scratch10 (rows 1 (kp1 (fl1 p.1)) 256) (agF m)
  | _ => iprop(emp)

/-- The outgoing chunk that send cell `4 + j` of device 0 or 1 reads: which buffer's and which chunk. -/
def kvItem (c : Dev nD) (j : ℕ) : ℕ :=
  if c = 0 then ([6, 6, 5, 5, 1, 1, 3, 3, 4, 4, 2, 2, 7, 7] : List ℕ).getD j 0
  else ([0, 0, 2, 2, 3, 3, 4, 4, 5, 5, 6, 6, 7, 7] : List ℕ).getD j 0
/-- The rows of it that are sent. -/
def kvLen (c : Dev nD) : ℕ := if c = 0 then 512 else 128

/-- What cell `k` of device `c` holds out when a send it issued on it has been read out: the elements it sent. -/
def srcPay (p : Dev nD × KK) : sProp 𝕄 :=
  if 4 ≤ p.2.val ∧ p.2.val < 18 then
    (if p.2.val % 2 = 0 then anyOn p.1 cc0_scratch5 (chunk (kvItem p.1 (p.2.val - 4)) (kvLen p.1))
      else anyOn p.1 cc0_scratch6 (chunk (kvItem p.1 (p.2.val - 4)) (kvLen p.1)))
  else match p.2.val with
  | 25 => anyOn p.1 cc0_scratch11 (plane 0)
  | 26 => anyOn p.1 cc0_scratch11 (plane 1)
  | 27 => anyOn p.1 cc0_scratch11 (plane 2)
  | 28 => anyOn p.1 cc0_scratch9 (srows 0 0 256)
  | 29 => anyOn p.1 cc0_scratch9 (srows 1 0 256)
  | 30 => anyOn p.1 cc0_scratch9 (srows 0 0 128)
  | 31 => anyOn p.1 cc0_scratch9 (srows 1 0 128)
  | 32 => anyOn p.1 cc0_scratch9 (srows 0 0 64)
  | 33 => anyOn p.1 cc0_scratch9 (srows 1 0 64)
  | 40 => pc p.1 cc0_scratch10 (rows 0 (kp3 p.1) 64) (agF m)
  | 41 => pc p.1 cc0_scratch10 (rows 1 (kp3 p.1) 64) (agF m)
  | 42 => pc p.1 cc0_scratch10 (rows 0 (kp2 p.1) 128) (agF m)
  | 43 => pc p.1 cc0_scratch10 (rows 1 (kp2 p.1) 128) (agF m)
  | 44 => pc p.1 cc0_scratch10 (rows 0 (kp1 p.1) 256) (agF m)
  | 45 => pc p.1 cc0_scratch10 (rows 1 (kp1 p.1) 256) (agF m)
  | _ => iprop(emp)

/-- The credit of one transfer on each cell, device 1's send cells of keys and values aside. -/
def amt0 (k : KK) : ℕ :=
  match k.val with
  | 52 => 1
  | 2 => (cc0_scratch0 : Ref sig .tc).dmaCredit S2x128x512 .bf16
  | 3 => (cc0_scratch0 : Ref sig .tc).dmaCredit S2x128x512 .bf16
  | 28 => (cc0_scratch8 : Ref sig .tc).dmaCredit S256x768 .bf16
  | 29 => (cc0_scratch8 : Ref sig .tc).dmaCredit S256x768 .bf16
  | 30 => (cc0_scratch8 : Ref sig .tc).dmaCredit S128x768 .bf16
  | 31 => (cc0_scratch8 : Ref sig .tc).dmaCredit S128x768 .bf16
  | 32 => (cc0_scratch8 : Ref sig .tc).dmaCredit S64x768 .bf16
  | 33 => (cc0_scratch8 : Ref sig .tc).dmaCredit S64x768 .bf16
  | 34 => (cc0_scratch8 : Ref sig .tc).dmaCredit S256x768 .bf16
  | 35 => (cc0_scratch8 : Ref sig .tc).dmaCredit S256x768 .bf16
  | 36 => (cc0_scratch8 : Ref sig .tc).dmaCredit S128x768 .bf16
  | 37 => (cc0_scratch8 : Ref sig .tc).dmaCredit S128x768 .bf16
  | 38 => (cc0_scratch8 : Ref sig .tc).dmaCredit S64x768 .bf16
  | 39 => (cc0_scratch8 : Ref sig .tc).dmaCredit S64x768 .bf16
  | 40 => (cc0_scratch8 : Ref sig .tc).dmaCredit S64x768 .bf16
  | 41 => (cc0_scratch8 : Ref sig .tc).dmaCredit S64x768 .bf16
  | 42 => (cc0_scratch8 : Ref sig .tc).dmaCredit S128x768 .bf16
  | 43 => (cc0_scratch8 : Ref sig .tc).dmaCredit S128x768 .bf16
  | 44 => (cc0_scratch8 : Ref sig .tc).dmaCredit S256x768 .bf16
  | 45 => (cc0_scratch8 : Ref sig .tc).dmaCredit S256x768 .bf16
  | 46 => (cc0_scratch8 : Ref sig .tc).dmaCredit S64x768 .bf16
  | 47 => (cc0_scratch8 : Ref sig .tc).dmaCredit S64x768 .bf16
  | 48 => (cc0_scratch8 : Ref sig .tc).dmaCredit S128x768 .bf16
  | 49 => (cc0_scratch8 : Ref sig .tc).dmaCredit S128x768 .bf16
  | 50 => (cc0_scratch8 : Ref sig .tc).dmaCredit S256x768 .bf16
  | 51 => (cc0_scratch8 : Ref sig .tc).dmaCredit S256x768 .bf16
  | _ => (cc0_scratch0 : Ref sig .tc).dmaCredit S2x512x512 .bf16

/-- The credit of one transfer on cell `k` of device `c`: device 1 sends shorter pieces of the keys and values. -/
def amt (c : Dev nD) (k : KK) : ℕ := if 4 ≤ k.val ∧ k.val < 18 ∧ c = 1 then (cc0_scratch0 : Ref sig .tc).dmaCredit S2x128x512 .bf16 else amt0 k

theorem amt_pos (c : Dev nD) (k : KK) : 0 < amt c k := by
  unfold amt amt0
  split
  · exact sig.dmaCredit_pos _ _ _ _ _ (by decide)
  · split <;> first | exact Nat.one_pos | exact sig.dmaCredit_pos _ _ _ _ _ (by decide)

theorem amt_bar (c : Dev nD) : amt c 52 = 1 := rfl

/-! ## Who sends what -/

/-- A send: the device it goes to, the cell it arrives on there, the sender's own cell it is read out on. -/
abbrev Snd : Type := Dev nD × KK × KK

/-- The sends of keys and values, of device 0 (which owns rows 0–511), device 1 (rows 512–639) and the two relays. -/
def kvSends (c : Dev nD) : List Snd :=
  if c = 0 then [(7, 22, 4), (4, 24, 5), (4, 22, 6), (4, 23, 7), (1, 0, 8), (1, 1, 9), (3, 0, 10), (3, 1, 11), (4, 0, 12), (4, 1, 13),
    (2, 0, 14), (2, 1, 15), (7, 0, 16), (7, 1, 17)]
  else if c = 1 then [(0, 2, 4), (0, 3, 5), (2, 2, 6), (2, 3, 7), (3, 2, 8), (3, 3, 9), (4, 2, 10), (4, 3, 11), (5, 2, 12), (5, 3, 13),
    (6, 2, 14), (6, 3, 15), (7, 2, 16), (7, 3, 17)]
  else if c = 4 then [(5, 0, 25), (5, 1, 26), (6, 1, 27)]
  else if c = 7 then [(6, 0, 25)] else []

/-- The sends of the rounds of gathering. -/
def agSends (c : Dev nD) : List Snd :=
  [(fl2 c, 46, 40), (fl2 c, 47, 41), (fl4 c, 48, 42), (fl4 c, 49, 43), (fl1 c, 50, 44), (fl1 c, 51, 45)]
/-- The sends of the rounds of summation and of gathering, in program order. -/
def rsSends (c : Dev nD) : List Snd :=
  (fl1 c, 34, 28) :: (fl1 c, 35, 29) :: (fl4 c, 36, 30) :: (fl4 c, 37, 31) :: (fl2 c, 38, 32) :: (fl2 c, 39, 33) :: agSends c

/-- All of a device's sends, in program order. -/
def sends (c : Dev nD) : List Snd := kvSends c ++ rsSends c

/-- Whether a cell of device `c` receives from another device. -/
def isRecv (k : KK) : Bool := k.val < 4 || (22 ≤ k.val && k.val < 25) || (34 ≤ k.val && k.val < 40) || 46 ≤ k.val

/-- Whether a cell of device `c` is used at all. -/
def used (c : Dev nD) (k : KK) : Bool :=
  if k.val < 2 then decide (c ≠ 0) else if k.val < 4 then decide (c ≠ 1) else if k.val < 18 then decide (c = 0 ∨ c = 1)
  else if k.val < 22 then false else if k.val = 22 then decide (c = 4 ∨ c = 7) else if k.val < 25 then decide (c = 4)
  else if k.val = 25 then decide (c = 4 ∨ c = 7) else if k.val < 28 then decide (c = 4) else true

/-! ## The schedule -/

abbrev ER : Emb UB (MT nD τ sig Unit (Elt F) ℕ UU ℕ) := (Emb.inl : Emb UB (UB × Counters)).trans EBC

/-- The landing buffers of device `d` that device `x` sends into, handed over by `d`'s barrier signal to `x`. -/
def barPay (x d : Dev nD) : sProp 𝕄 := sepL (fun p : Snd => landAny (F := F) (p.1, p.2.1)) ((sends x).filter fun p => p.1 = d)

/-- What duty `d` of cell `k` of device `c` hands over. -/
def payK (c : Dev nD) (k : KK) (d : Dev nD) : sProp 𝕄 :=
  if k.val = 52 then barPay c d else if isRecv k then landPay m (c, k) else srcPay m (c, k)

/-- One round: the barrier cell has a duty of one unit from every device, any other cell in use the one duty of a
    transfer. -/
def Rd : Rounds.Schedule (GSem nD τ sig) (Dev nD) 𝕄 where
  duties g r := if r = 0 ∧ g.1.2 = .tc then
      (match kOf g.2 with | some k => if k.val = 52 then Finset.univ else if used g.1.1 k then {0} else ∅ | none => ∅) else ∅
  unitless _ := False
  amount g _ _ := match kOf g.2 with | some k => amt g.1.1 k | none => 1
  payload g _ d := match kOf g.2 with | some k => payK m g.1.1 k d | none => iprop(emp)
  amount_pos g _ _ _ := by
    cases kOf g.2 with
    | none => exact Nat.one_pos
    | some k => exact amt_pos _ k

omit [FloatOps F] [Named F] in
theorem storable_sepL {ι : Type} (Φ : ι → sProp 𝕄) (h : ∀ a, BI.Storable (upEmb : UEmb _ 𝕄) (Φ a)) (l : List ι) :
    BI.Storable (upEmb : UEmb _ 𝕄) (sepL Φ l) := by
  induction l with
  | nil => rw [sepL_nil]; infer_instance
  | cons a l ih => rw [sepL_cons]; have := h a; infer_instance

omit [FloatOps F] [Named F] in
instance landAny_storable (p : Dev nD × KK) : BI.Storable (upEmb : UEmb _ 𝕄) (landAny (F := F) p) := by
  unfold landAny; split <;> infer_instance
instance landPay_storable (p : Dev nD × KK) : BI.Storable (upEmb : UEmb _ 𝕄) (landPay (F := F) m p) := by
  unfold landPay; split <;> infer_instance
instance srcPay_storable (p : Dev nD × KK) : BI.Storable (upEmb : UEmb _ 𝕄) (srcPay (F := F) m p) := by
  unfold srcPay; (repeat' split) <;> infer_instance

instance Rd_payload_storable (g : GSem nD τ sig) (r : ℕ) (d : Dev nD) :
    BI.Storable (upEmb : UEmb _ 𝕄) ((Rd (F := F) m).payload g r d) := by
  show BI.Storable upEmb (match kOf g.2 with | some k => payK m g.1.1 k d | none => iprop(emp))
  unfold payK barPay
  have := storable_sepL (F := F) (fun p : Snd => landAny (F := F) (p.1, p.2.1)) (fun a => landAny_storable _) ((sends g.1.1).filter fun p => p.1 = d)
  (repeat' split) <;> infer_instance

section Sched
variable (c : Dev nD) (k : KK)

theorem duties_of (c : Dev nD) (k : KK) : (Rd (F := F) m).duties (kcell c k) 0 = if k.val = 52 then Finset.univ else if used c k then {0} else ∅ := by
  dsimp only [Rd]; rw [if_pos ⟨rfl, rfl⟩, kOf_csem]
theorem duties_bar (c : Dev nD) : (Rd (F := F) m).duties (kcell c 52) 0 = Finset.univ := by rw [duties_of]; rfl
theorem duties_used {c : Dev nD} {k : KK} (h : k.val ≠ 52) (hu : used c k = true) : (Rd (F := F) m).duties (kcell c k) 0 = {0} := by
  rw [duties_of, if_neg h, if_pos hu]
theorem duties_unused {c : Dev nD} {k : KK} (h : k.val ≠ 52) (hu : used c k = false) : ∀ r, 0 ≤ r → (Rd (F := F) m).duties (kcell c k) r = ∅ := by
  intro r _
  by_cases hr : r = 0
  · subst hr; rw [duties_of, if_neg h, hu]; rfl
  · dsimp only [Rd]; rw [if_neg (fun h => hr h.1)]
theorem duties_later (g : GSem nD τ sig) : ∀ r, 1 ≤ r → (Rd (F := F) m).duties g r = ∅ :=
  fun r hr => by dsimp only [Rd]; rw [if_neg fun h => by omega]

theorem amount_of (d : Dev nD) : (Rd (F := F) m).amount (kcell c k) 0 d = amt c k := by dsimp only [Rd]; rw [kOf_csem]
theorem payload_of (d : Dev nD) : (Rd (F := F) m).payload (kcell c k) 0 d = payK m c k d := by dsimp only [Rd]; rw [kOf_csem]

theorem expect_bar : (Rd (F := F) m).expect (kcell c 52) 0 = 8 := by
  unfold Schedule.expect Schedule.amountOf
  rw [duties_bar, Finset.sum_congr rfl fun d _ => (amount_of m c 52 d).trans (amt_bar c), Finset.sum_const, Finset.card_univ]
  rfl
theorem expect_used {c : Dev nD} {k : KK} (h : k.val ≠ 52) (hu : used c k = true) : (Rd (F := F) m).expect (kcell c k) 0 = amt c k := by
  unfold Schedule.expect Schedule.amountOf; rw [duties_used m h hu, Finset.sum_singleton, amount_of]
theorem rest_used {c : Dev nD} {k : KK} (h : k.val ≠ 52) (hu : used c k = true) :
    bigSep ((Rd (F := F) m).duties (kcell c k) 0 \ ∅) (fun d => (Rd (F := F) m).payload (kcell c k) 0 d) = payK m c k 0 := by
  rw [Finset.sdiff_empty, duties_used m h hu, bigSep_singleton, payload_of]
theorem rest_bar : bigSep ((Rd (F := F) m).duties (kcell c 52) 0 \ ∅) (fun d => (Rd (F := F) m).payload (kcell c 52) 0 d)
    = bigSep Finset.univ fun d => barPay (F := F) c d := by
  rw [Finset.sdiff_empty, duties_bar]
  exact congrArg _ (funext fun d => payload_of m c 52 d)

end Sched

/-! ## Levels -/

/-- The level of each cell: a device waits only on a cell below all those it still owes. -/
def lvK (k : KK) : ℕ :=
  if k.val < 4 then 3 else if k.val < 22 then 0 else if k.val < 25 then 2 else if k.val < 34 then 0 else if k.val < 40 then 10 + (k.val - 34)
  else if k.val < 46 then 0 else if k.val < 52 then 20 + (k.val - 46) else 1

def L (g : GSem nD τ sig) : Finset Unit := if g.1.2 = .tc then {()} else ∅
def lv (g : GSem nD τ sig) (_ : Unit) : ℕ := match kOf g.2 with | some k => lvK k | none => 0

theorem L_tc (c : Dev nD) (sm : SemLoc sig) : L ((c : Thread nD τ), sm) = {()} := if_pos rfl
theorem L_of_ne (g : GSem nD τ sig) (h : g.1.2 ≠ .tc) : L g = ∅ := if_neg h
theorem lv_kcell (c : Dev nD) (k : KK) : lv (kcell c k) () = lvK k := by unfold lv; rw [kOf_csem]

/-- What a device that has the sends `T` still to make owes. -/
def oweL : List Snd → CellTallies nD τ sig Unit
  | [] => 0
  | p :: T => oweL T + tallyAt (kcell p.1 p.2.1) () (amt p.1 p.2.1)

theorem oweL_pos {T : List Snd} {g : GSem nD τ sig} {u : Unit} (h : 0 < oweL T g u) : ∃ p ∈ T, g = kcell p.1 p.2.1 := by
  induction T with
  | nil => exact absurd h (Nat.lt_irrefl 0)
  | cons p T ih =>
    unfold oweL at h
    rw [Pi.add_apply, Finsupp.add_apply, tallyAt_apply] at h
    by_cases hg : g = kcell p.1 p.2.1 ∧ u = ()
    · exact ⟨p, List.mem_cons_self, hg.1⟩
    · rw [if_neg hg, Nat.add_zero] at h
      obtain ⟨q, hq, he⟩ := ih h
      exact ⟨q, List.mem_cons_of_mem _ hq, he⟩

/-- Waiting on a cell of level `b` while the sends `T` are owed, all to cells of higher level. -/
theorem mayWait_at (c : Dev nD) (sm : SemLoc sig) (T : List Snd) (b : ℕ) (hb : lv ((c : Thread nD τ), sm) () ≤ b)
    (hT : (T.map fun p => p.2.1).all (fun k => decide (b < lvK k)) = true) :
    (levAts L lv : sProp 𝕄) ⊢ MayWait (c : Thread nD τ) sm () (oweL T) := by
  refine MayOwe.of_cut (L := L) (lev := lv) b (fun p hp => by rw [Finset.mem_singleton.mp hp, L_tc]; exact Finset.mem_singleton_self _)
    (fun g u hg => by obtain ⟨p, hp, rfl⟩ := oweL_pos hg; rw [L_tc]; exact Finset.mem_singleton_self _)
    (fun p hp => by rw [Finset.mem_singleton.mp hp]; exact hb)
    (fun g u hg => by
      obtain ⟨p, hp, rfl⟩ := oweL_pos hg
      have h2 := List.all_eq_true.mp hT p.2.1 (List.mem_map_of_mem hp)
      show b < lv (kcell p.1 p.2.1) ()
      rw [lv_kcell]; exact of_decide_eq_true h2)

end Cert.Hand

end
-- ==== Proof.Rules.lean ====
/-
# The state a device carries through the kernel, and the steps on it

A device's state beside its buffers is four lists: the cells it is done with (counter at zero), the cells it has still
to wait on, the sends in flight whose read-out it has still to collect, and the sends it has still to make. Each step of
the kernel that touches a shared cell takes the head of one list: a wait for an arrival, a wait for the read-out of a
send, a send. The elements that travel are given and taken as plain points-to facts.
-/
module

public import proofs.«01_k».proof.Proof.Sched

@[expose] public section

noncomputable section

namespace Cert.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

abbrev 𝒱₀ : Variants := Variants.none
/-- The counters of the local copies. -/
abbrev EC : UEmb Counters (MT nD τ sig Unit (Elt F) ℕ UU ℕ) := countersEmb (U := UU)

variable (m : (ℓ : Loc nD τ sig) → Buf (Elt F) ℓ) (K : Dev nD × KK → ℕ)

/-- What every device knows: each cell's invariant, that each cell is at its first round, the levels. -/
def Cx : sProp 𝕄 :=
  iprop((bigSep Finset.univ fun ck : Dev nD × KK => cellInv ER (Rd m) (K ck) (kcell ck.1 ck.2))
    ∗ (bigSep Finset.univ fun ck : Dev nD × KK => reached ER (kcell ck.1 ck.2) 0) ∗ levAts L lv)

instance Cx_persistent : BI.Persistent (Cx (F := F) m K) := by unfold Cx; infer_instance

theorem cinv_of (c : Dev nD) (k : KK) :
    (bigSep Finset.univ fun ck : Dev nD × KK => (cellInv ER (Rd m) (K ck) (kcell ck.1 ck.2) : sProp 𝕄)) ⊢ cellInv ER (Rd m) (K (c, k)) (kcell c k) :=
  bigSep_elim (Finset.mem_univ (c, k))
omit [FloatOps F] [Named F] in
theorem creached_of (c : Dev nD) (k : KK) :
    (bigSep Finset.univ fun ck : Dev nD × KK => (reached ER (kcell ck.1 ck.2) 0 : sProp 𝕄)) ⊢ reached ER (kcell c k) 0 :=
  bigSep_elim (Finset.mem_univ (c, k))
theorem Cx_inv (c : Dev nD) (k : KK) : Cx (F := F) m K ⊢ cellInv ER (Rd m) (K (c, k)) (kcell c k) := by
  unfold Cx; iintro ⟨#H, -, -⟩
  iapply (cinv_of m K c k); iexact H
theorem Cx_reached (c : Dev nD) (k : KK) : Cx (F := F) m K ⊢ reached ER (kcell c k) 0 := by
  unfold Cx; iintro ⟨-, #H, -⟩
  iapply (creached_of (F := F) c k); iexact H
theorem Cx_lev : Cx (F := F) m K ⊢ levAts L lv := by unfold Cx; iintro ⟨-, -, H⟩; iexact H

/-! ## The state -/

/-- A cell done with: its counter at zero. -/
def zItem (c : Dev nD) (k : KK) : sProp 𝕄 := semVal (kcell c k) 0
/-- A cell to wait on: the position at its first round and, if it receives, the credit to come. -/
def wItem (c : Dev nD) (k : KK) : sProp 𝕄 :=
  iprop(atPos ER (kcell c k) 0 ∅ 0 ∗ (if isRecv k then cred (tallyAt (kcell c k) () (if k.val = 52 then 8 else amt c k)) else iprop(emp)))
/-- The credit of a send in flight. -/
def qItem (c : Dev nD) (k : KK) : sProp 𝕄 := cred (tallyAt (kcell c k) () (amt c k))
/-- A send to make: the elements it lands on, and the right to pay the two cells. -/
def tItem (c : Dev nD) (p : Snd) : sProp 𝕄 :=
  iprop(landAny (F := F) (p.1, p.2.1) ∗ dutyTok ER (kcell p.1 p.2.1) 0 0 ∗ dutyTok ER (kcell c p.2.2) 0 0)

/-- The state: the cells done with `Z`, the cells to wait on `W`, the sends in flight `Q`, the sends to make `T`. -/
def St (c : Dev nD) (Z W Q : List KK) (T : List Snd) : sProp 𝕄 :=
  iprop(sepL (zItem (F := F) c) Z ∗ sepL (wItem (F := F) c) W ∗ sepL (qItem (F := F) c) Q ∗ sepL (tItem (F := F) c) T
    ∗ ∃ Ws, owes (c : Thread nD τ) (oweL T) Ws)

omit [FloatOps F] [Named F] in
theorem sepL_append {ι : Type} (Φ : ι → sProp 𝕄) (l l' : List ι) : sepL Φ (l ++ l') ⊣⊢ iprop(sepL Φ l ∗ sepL Φ l') := by
  induction l with
  | nil => rw [List.nil_append, sepL_nil]; exact ⟨BI.emp_sep.2, BI.emp_sep.1⟩
  | cons a l ih =>
    rw [List.cons_append, sepL_cons, sepL_cons]
    exact ⟨(sep_mono_right ih.1).trans sep_assoc.2, sep_assoc.1.trans (sep_mono_right ih.2)⟩

section Steps

variable {α : Type} {Q' : α → sProp (MT nD τ sig Unit (Elt F) ℕ UU ℕ)} {k' : PUnit → Prog (TpuEff nD τ sig (Elt F) Λ₀ .tc) α}

/-- The wait for an arrival: the head of the cells to wait on; what arrived comes back. -/
theorem wp_recv {sp sp' : Space} {s s' : Shape} {e e' : EltTy} {sm : DmaSem sig} {src : Memref sig .tc sp' s' e'} {dst : Memref sig .tc sp s e}
    {hs : src.view.WordExact} {hd : dst.view.WordExact}
    (c : Dev nD) (k : KK) (Z W Q : List KK) (T : List Snd)
    (hsm : SemLoc.dma sm = csem k) (hk : k.val ≠ 52) (hu : used c k = true) (hr : isRecv k = true) (ha : dst.view.dmaCredit = amt c k)
    (hT : (T.map fun p => p.2.1).all (fun q => decide (lvK k < lvK q)) = true) :
    iprop(Cx m K ∗ St c Z (k :: W) Q T)
      ⊢ iprop(((St c (k :: Z) W Q T ∗ landPay m (c, k)) -∗ wp frame (wpE (defs₀ (F := F)) 𝒱₀ (c : Thread nD τ) none) Set.univ (k' ⟨⟩) Q')
          -∗ wp frame (wpE (defs₀ (F := F)) 𝒱₀ (c : Thread nD τ) none) Set.univ (.op (.waitDma2 sm src dst hs hd) k') Q') := by
  unfold St wItem
  rw [sepL_cons, sepL_cons, if_pos hr, if_neg hk]
  iintro ⟨#HC, HZ, ⟨⟨Hat, Hcr⟩, HW⟩, HQ, HT, ⟨%Ws, HO⟩⟩ Hk
  ihave #Hinv := (Cx_inv m K c k) $$ HC
  ihave #Hlev := (Cx_lev m K) $$ HC
  unfold kcell; rw [← ha]
  iapply (Rounds.wp_wait_rest_token 𝒱₀ ER (Rd m) (c : Thread nD τ) none (κ := K (c, k)) (sm := csem k)
      (fun K' => by rw [← hsm]; exact wpE_waitDma2_eq 𝒱₀ (c : Thread nD τ) none Set.univ K') (Set.mem_univ _) () (O := oweL T) (W := Ws) (R := 0) (m := 0) (T := ∅)
      (by rw [Nat.zero_add, expect_used m hk hu, ha])) $$ [Hcr HO Hat]
  · isplitr; · iexact Hinv
    isplitl [Hcr]; · iexact Hcr
    isplitl [HO]; · iexact HO
    isplitr; · iapply (mayWait_at c (csem k) T (lvK k) (le_of_eq (lv_kcell c k)) hT); iexact Hlev
    iexact Hat
  iintro ⟨HO, Hat, -, Hpay⟩
  ihave Hp := (Entails.of_eq ((rest_used m hk hu).trans (by unfold payK; rw [if_neg hk, if_pos hr]))) $$ Hpay
  imod (Rounds.cell_close ER (Rd m) (Set.mem_univ (K (c, k))) (fun h => h) (R := 0 + 1) (duties_later m (kcell c k))) $$ [Hat] with Hz
  · isplitr; · iexact Hinv
    iexact Hat
  iapply Hk
  isplitr [Hp]
  · isplitl [HZ Hz]
    · isplitl [Hz]; · unfold zItem; iexact Hz
      iexact HZ
    isplitl [HW]; · iexact HW
    isplitl [HQ]; · iexact HQ
    isplitl [HT]; · iexact HT
    iexists _; iexact HO
  iexact Hp

/-- The wait for the read-out of a send: the head of the cells to wait on and of the sends in flight; what was sent
    comes back. -/
theorem wp_sent {sp sp' : Space} {s s' : Shape} {e e' : EltTy} {sm : DmaSem sig} {src : Memref sig .tc sp' s' e'} {dst : Memref sig .tc sp s e}
    {hs : src.view.WordExact} {hd : dst.view.WordExact}
    (c : Dev nD) (k : KK) (Z W Q : List KK) (T : List Snd)
    (hsm : SemLoc.dma sm = csem k) (hk : k.val ≠ 52) (hu : used c k = true) (hr : isRecv k = false) (ha : dst.view.dmaCredit = amt c k)
    (hT : (T.map fun p => p.2.1).all (fun q => decide (lvK k < lvK q)) = true) :
    iprop(Cx m K ∗ St c Z (k :: W) (k :: Q) T)
      ⊢ iprop(((St c (k :: Z) W Q T ∗ srcPay m (c, k)) -∗ wp frame (wpE (defs₀ (F := F)) 𝒱₀ (c : Thread nD τ) none) Set.univ (k' ⟨⟩) Q')
          -∗ wp frame (wpE (defs₀ (F := F)) 𝒱₀ (c : Thread nD τ) none) Set.univ (.op (.waitDma2 sm src dst hs hd) k') Q') := by
  unfold St wItem qItem
  rw [sepL_cons, sepL_cons, sepL_cons]
  iintro ⟨#HC, HZ, ⟨⟨Hat, -⟩, HW⟩, ⟨Hcr, HQ⟩, HT, ⟨%Ws, HO⟩⟩ Hk
  ihave #Hinv := (Cx_inv m K c k) $$ HC
  ihave #Hlev := (Cx_lev m K) $$ HC
  unfold kcell; rw [← ha]
  iapply (Rounds.wp_wait_rest_token 𝒱₀ ER (Rd m) (c : Thread nD τ) none (κ := K (c, k)) (sm := csem k)
      (fun K' => by rw [← hsm]; exact wpE_waitDma2_eq 𝒱₀ (c : Thread nD τ) none Set.univ K') (Set.mem_univ _) () (O := oweL T) (W := Ws) (R := 0) (m := 0) (T := ∅)
      (by rw [Nat.zero_add, expect_used m hk hu, ha])) $$ [Hcr HO Hat]
  · isplitr; · iexact Hinv
    isplitl [Hcr]; · iexact Hcr
    isplitl [HO]; · iexact HO
    isplitr; · iapply (mayWait_at c (csem k) T (lvK k) (le_of_eq (lv_kcell c k)) hT); iexact Hlev
    iexact Hat
  iintro ⟨HO, Hat, -, Hpay⟩
  ihave Hp := (Entails.of_eq ((rest_used m hk hu).trans (by unfold payK; rw [if_neg hk, if_neg (by rw [hr]; decide)]))) $$ Hpay
  imod (Rounds.cell_close ER (Rd m) (Set.mem_univ (K (c, k))) (fun h => h) (R := 0 + 1) (duties_later m (kcell c k))) $$ [Hat] with Hz
  · isplitr; · iexact Hinv
    iexact Hat
  iapply Hk
  isplitr [Hp]
  · isplitl [HZ Hz]
    · isplitl [Hz]; · unfold zItem; iexact Hz
      iexact HZ
    isplitl [HW]; · iexact HW
    isplitl [HQ]; · iexact HQ
    isplitl [HT]; · iexact HT
    iexists _; iexact HO
  iexact Hp

/-- A send: the head of the sends to make; the elements sent are given up until its read-out is collected. -/
theorem wp_snd {sp sp' : Space} {s : Shape} {e : EltTy} (c : Dev nD) (p : Snd) (Z W Q : List KK) (T : List Snd) (n : Dev nD)
    {src : Memref sig .tc sp s e} {dst : Memref sig (Dev.tc n : Thread nD τ).2.kind sp' s e} {s1 s2 : DmaSem sig}
    {hsc : dst.view.ref.isScScratch = false} {hs : src.view.WordExact} {hd : dst.view.WordExact}
    {hsem : DmaTarget.Typed sp (.dma s2) (.remote (Dev.tc n : Thread nD τ) dst (.dma s1) hsc)}
    (hn : n = p.1) (h1 : SemLoc.dma s1 = csem p.2.2) (h2 : SemLoc.dma s2 = csem p.2.1)
    (hk1 : p.2.2.val ≠ 52) (hk2 : p.2.1.val ≠ 52) (hr1 : isRecv p.2.2 = false) (hr2 : isRecv p.2.1 = true)
    (hu1 : used c p.2.2 = true) (hu2 : used p.1 p.2.1 = true)
    (ha1 : dst.view.dmaCredit = amt c p.2.2) (ha2 : dst.view.dmaCredit = amt p.1 p.2.1)
    {R : sProp (MT nD τ sig Unit (Elt F) ℕ UU ℕ)} {fs : Buf (Elt F) (src.view.loc (c : Thread nD τ))}
    (hR : R ⊢ src.view.loc (c : Thread nD τ) ↦[src.view.set]{fullShare} fs)
    (hp1 : (src.view.loc (c : Thread nD τ) ↦[src.view.set]{fullShare} fs) ⊢ srcPay m (c, p.2.2))
    (hl : landAny (F := F) (p.1, p.2.1) ⊢ iprop(∃ fd, dst.view.loc (n : Thread nD τ) ↦[dst.view.set]{fullShare} fd))
    (hp2 : ∀ fd, (dst.view.loc (n : Thread nD τ) ↦[dst.view.set]{fullShare} (dst.view.write (Elt F) fd (src.view.read (Elt F) fs) Finset.univ))
        ⊢ landPay m (p.1, p.2.1)) :
    iprop(Cx m K ∗ St c Z W Q (p :: T) ∗ R)
      ⊢ iprop((St c Z W (Q ++ [p.2.2]) T -∗ wp frame (wpE (defs₀ (F := F)) 𝒱₀ (c : Thread nD τ) none) Set.univ (k' ⟨⟩) Q')
          -∗ wp frame (wpE (defs₀ (F := F)) 𝒱₀ (c : Thread nD τ) none) Set.univ
              (.op (.enqueueDma src (.remote (Dev.tc n : Thread nD τ) dst (.dma s1) hsc) (.dma s2) hs hd hsem) k') Q') := by
  obtain ⟨x, kl, ks⟩ := p
  dsimp only at hn h1 h2 hk1 hk2 hr1 hr2 hu1 hu2 ha1 ha2 hp1 hl hp2 ⊢
  subst hn
  unfold St tItem
  rw [sepL_cons]
  iintro ⟨#HC, ⟨HZ, HW, HQ, ⟨⟨Hl, Htk, Hts⟩, HT⟩, ⟨%Ws, HO⟩⟩, HR⟩ Hk
  ihave Hsrc := hR $$ HR
  ihave Hl' := hl $$ Hl
  icases Hl' with ⟨%fd, Hl⟩
  iapply (Rounds.wp_send_pointsTo 𝒱₀ ER (Rd m) (c : Thread nD τ) none (c' := (n : Thread nD τ)) (κ₁ := K (c, ks)) (κ₂ := K (n, kl))
    (r₁ := 0) (r₂ := 0) (d₁ := 0) (d₂ := 0) (fs := fs) (fd := fd) (q := fullShare)
    (by rw [h1, duties_used m hk1 hu1]; exact Finset.mem_singleton_self _) (by rw [h2, duties_used m hk2 hu2]; exact Finset.mem_singleton_self _)
    () () (amt c ks) (by exact ha1) (by rw [h1]; exact amount_of m c ks 0) (by rw [h2]; exact (amount_of m n kl 0).trans (ha2.symm.trans ha1)) (oweL T)
    (by rw [h2, show amt c ks = amt n kl from ha1.symm.trans ha2]) (W := Ws)
    (by rw [h1, payload_of]; unfold payK; rw [if_neg hk1, if_neg (by rw [hr1]; decide)]; exact hp1)
    (by rw [h2, payload_of]; unfold payK; rw [if_neg hk2, if_pos hr2]; exact hp2 fd)) $$ [HO Htk Hts Hsrc Hl]
  · rw [h1, h2]
    isplitr; · iapply (Cx_inv m K c ks); iexact HC
    isplitr; · iapply (Cx_inv m K n kl); iexact HC
    isplitl [Hsrc]; · iexact Hsrc
    isplitl [Hl]; · iexact Hl
    isplitl [HO]; · iexact HO
    isplitl [Hts]; · iexact Hts
    isplitr; · iapply (Cx_reached m K c ks); iexact HC
    isplitl [Htk]; · iexact Htk
    iapply (Cx_reached m K n kl); iexact HC
  iintro ⟨Hcr, HO⟩
  iapply Hk
  isplitl [HZ]; · iexact HZ
  isplitl [HW]; · iexact HW
  isplitl [HQ Hcr]
  · iapply (sepL_append (F := F) _ _ _).2
    isplitl [HQ]; · iexact HQ
    rw [sepL_cons, sepL_nil]
    isplitl [Hcr]; · unfold qItem kcell; rw [← h1]; iexact Hcr
    iempintro
  isplitl [HT]; · iexact HT
  iexists _; iexact HO

/-- The wait for one of the device's own copies. -/
theorem wp_own {sp sp' : Space} {s s' : Shape} {e e' : EltTy} {sm : DmaSem sig} {src : Memref sig .tc sp' s' e'} {dst : Memref sig .tc sp s e}
    {hs : src.view.WordExact} {hd : dst.view.WordExact}
    (c : Dev nD) (Z W Q : List KK) (T : List Snd) (N : ℕ) (D : sProp (MT nD τ sig Unit (Elt F) ℕ UU ℕ)) (hN : dst.view.dmaCredit = N)
    (hlv : lv ((c : Thread nD τ), .dma sm) () ≤ 0) (hT : (T.map fun p => p.2.1).all (fun q => decide (0 < lvK q)) = true) :
    iprop(Cx m K ∗ St c Z W Q T ∗ Transfers.Flight EC (c : Thread nD τ) (.dma sm) () N D)
      ⊢ iprop(((St c Z W Q T ∗ D ∗ semVal ((c : Thread nD τ), .dma sm) 0) -∗ wp frame (wpE (defs₀ (F := F)) 𝒱₀ (c : Thread nD τ) none) Set.univ (k' ⟨⟩) Q')
          -∗ wp frame (wpE (defs₀ (F := F)) 𝒱₀ (c : Thread nD τ) none) Set.univ (.op (.waitDma2 sm src dst hs hd) k') Q') := by
  unfold St
  iintro ⟨#HC, ⟨HZ, HW, HQ, HT, ⟨%Ws, HO⟩⟩, Hfl⟩ Hk
  ihave #Hlev := (Cx_lev m K) $$ HC
  iapply (Transfers.wp_waitLocalO EC 𝒱₀ (c : Thread nD τ) none () hN (O := oweL T) (W := Ws)) $$ [Hfl HO]
  · isplitl [Hfl]; · iexact Hfl
    isplitl [HO]; · iexact HO
    iapply (mayWait_at c (.dma sm) T 0 hlv hT); iexact Hlev
  iintro ⟨HD, Hs, HO⟩
  iapply Hk
  isplitr [HD Hs]
  · isplitl [HZ]; · iexact HZ
    isplitl [HW]; · iexact HW
    isplitl [HQ]; · iexact HQ
    isplitl [HT]; · iexact HT
    iexists _; iexact HO
  isplitl [HD] <;> iassumption

end Steps

end Cert.Hand

end
-- ==== Proof.Views.lean ====
/-
# Reading and writing through the kernel's views

A load of a rectangle of a whole buffer, a store to one, and a transfer between two rectangles, each stated on the
elements of the buffers: what is read at an index, and that a written rectangle holds given contents. Then buffers cut
into disjoint sets of elements and put together again.
-/
module

public import proofs.«01_k».proof.Proof.Rules
public import Idealize.ShloMosaic.Lib.ValueLayout

@[expose] public section

noncomputable section

namespace Cert.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ UU ℕ

/-! ## Writes -/

/-- What a write through a view leaves: contents `g` on the view's elements, if the values written are what the view
    reads of `g`. -/
theorem write_eq {κ : Kind} {sp : Space} {s : Shape} {e : EltTy} (v : View sig κ sp s e) (fd g : v.ty.Contents (Elt F)) (w : s.Idx → Elt F e)
    (h : ∀ x, w x = v.read (Elt F) g x) : ∀ i ∈ v.set, v.write (Elt F) fd w Finset.univ i = g i := by
  intro i hi
  obtain ⟨x, -, rfl⟩ := Finset.mem_map.mp hi
  rw [View.write_emb_of_mem _ _ (Finset.mem_univ x), h]
  show _root_.cast _ (_root_.cast _ _) = _
  rw [cast_cast, cast_eq]

section Steps

variable {α : Type} {Q' : α → sProp (MT nD τ sig Unit (Elt F) ℕ UU ℕ)}

/-- A load of a rectangle of which the elements are held: the values `v` read. -/
theorem wp_ld (c : Dev nD) {cs : CoreSpace} {s : Shape} {e : EltTy} {M : Memref sig .tc (.core cs) s e} {r : Rect s} {hl : M.view.LoadsAt r.toLoadRect}
    {S : Finset (Idx (M.view.loc (c : Thread nD τ)))} {f : Buf (Elt F) (M.view.loc (c : Thread nD τ))}
    {k' : (r.toLoadRect.shape.Idx → Elt F e) → Prog (TpuEff nD τ sig (Elt F) Λ₀ .tc) α}
    (v : r.toLoadRect.shape.Idx → Elt F e) (hv : ∀ x, M.view.read (Elt F) f (r.emb x) = v x) (hS : ∀ x ∈ r.set, M.view.emb x ∈ S) :
    (M.view.loc (c : Thread nD τ) ↦[S]{fullShare} f)
      ⊢ iprop(((M.view.loc (c : Thread nD τ) ↦[S]{fullShare} f) -∗ wp frame (wpE (defs₀ (F := F)) 𝒱₀ (c : Thread nD τ) none) Set.univ (k' v) Q')
          -∗ wp frame (wpE (defs₀ (F := F)) 𝒱₀ (c : Thread nD τ) none) Set.univ (.op (.load M r.toLoadRect hl) k') Q') := by
  have e : M.view.readAt (Elt F) r.toLoadRect f = v := funext hv
  rw [← e]
  refine Idealize.ShloMosaic.wp_load 𝒱₀ (c : Thread nD τ) none Set.univ (m := M) (r := r.toLoadRect) ?_
  intro i hi
  obtain ⟨x, hx, rfl⟩ := Finset.mem_map.mp hi
  exact hS x hx

/-- The same, the values being what the view reads of the contents. -/
theorem wp_ldr (c : Dev nD) {cs : CoreSpace} {s : Shape} {e : EltTy} {M : Memref sig .tc (.core cs) s e} {r : Rect s} {hl : M.view.LoadsAt r.toLoadRect}
    {S : Finset (Idx (M.view.loc (c : Thread nD τ)))} {f : Buf (Elt F) (M.view.loc (c : Thread nD τ))}
    {k' : (r.toLoadRect.shape.Idx → Elt F e) → Prog (TpuEff nD τ sig (Elt F) Λ₀ .tc) α} (hS : ∀ x ∈ r.set, M.view.emb x ∈ S) :
    (M.view.loc (c : Thread nD τ) ↦[S]{fullShare} f)
      ⊢ iprop(((M.view.loc (c : Thread nD τ) ↦[S]{fullShare} f)
          -∗ wp frame (wpE (defs₀ (F := F)) 𝒱₀ (c : Thread nD τ) none) Set.univ (k' fun x => M.view.read (Elt F) f (r.emb x)) Q')
          -∗ wp frame (wpE (defs₀ (F := F)) 𝒱₀ (c : Thread nD τ) none) Set.univ (.op (.load M r.toLoadRect hl) k') Q') :=
  wp_ld c _ (fun x => rfl) hS

/-- A store of a rectangle of which the elements are held: the contents `g` it leaves. -/
theorem wp_st (c : Dev nD) {cs : CoreSpace} {s : Shape} {e : EltTy} {M : Memref sig .tc (.core cs) s e} {r : Rect s} {w : r.shape.Idx → Elt F e}
    {hx : (M.access r).Stores Finset.univ} {hm : Finset.univ = Finset.univ ∨ ∀ a, r.stride a = 1}
    {S : Finset (Idx (M.view.loc (c : Thread nD τ)))} {f : Buf (Elt F) (M.view.loc (c : Thread nD τ))}
    {k' : PUnit → Prog (TpuEff nD τ sig (Elt F) Λ₀ .tc) α}
    (g : Buf (Elt F) (M.view.loc (c : Thread nD τ))) (hS : ∀ x ∈ r.set, M.view.emb x ∈ S)
    (hin : ∀ x, w x = M.view.read (Elt F) g (r.emb x)) (hout : ∀ i ∈ S, (∀ x ∈ r.set, M.view.emb x ≠ i) → f i = g i) :
    (M.view.loc (c : Thread nD τ) ↦[S]{fullShare} f)
      ⊢ iprop(((M.view.loc (c : Thread nD τ) ↦[S]{fullShare} g) -∗ wp frame (wpE (defs₀ (F := F)) 𝒱₀ (c : Thread nD τ) none) Set.univ (k' ⟨⟩) Q')
          -∗ wp frame (wpE (defs₀ (F := F)) 𝒱₀ (c : Thread nD τ) none) Set.univ (.op (.store M r w Finset.univ hx hm) k') Q') := by
  have hset : ∀ i, i ∈ (M.access r).set ↔ ∃ x ∈ r.set, M.view.emb x = i := by
    intro i
    show i ∈ (M.view.slice r).set ↔ _
    rw [View.set_slice]; exact Finset.mem_map
  have key : (M.view.loc (c : Thread nD τ) ↦[S]{fullShare} ((M.access r).write (Elt F) f w Finset.univ) : sProp 𝕄)
      ⊢ (M.view.loc (c : Thread nD τ) ↦[S]{fullShare} g) := by
    refine Entails.of_eq (pointsTo_congr fun i hi => ?_)
    by_cases h : i ∈ (M.access r).set
    · exact write_eq (M.access r) f g w hin i h
    · rw [View.write_of_not_mem _ _ _ (by rw [View.setOn_univ]; exact h)]
      exact hout i hi fun x hx he => h ((hset i).mpr ⟨x, hx, he⟩)
  iintro H Hk
  iapply (Idealize.ShloMosaic.wp_store 𝒱₀ (c : Thread nD τ) none Set.univ (m := M) (r := r) (S := S) (by
    rw [View.setOn_univ]; intro i hi
    obtain ⟨x, hx, rfl⟩ := (hset i).mp hi
    exact hS x hx)) $$ [H]
  · iexact H
  iintro H
  iapply Hk
  iapply key
  iexact H

end Steps

/-! ## Sets of elements of views -/

section Sets

variable {κ : Kind}

theorem set_sl (b : Ref sig κ) (r : Rect b.ty.shape) (hr : ∀ a, r.stride a = 1) : ((Memref.whole b).slice r hr).view.set = r.set :=
  View.set_slice_whole b r
theorem set_sq (b : Ref sig κ) (r : Rect b.ty.shape) (hr : ∀ a, r.stride a = 1) (s' : Shape) (hq : r.shape.Squeezes s') :
    (((Memref.whole b).slice r hr).squeeze s' hq).view.set = r.set :=
  (View.set_reshape _ _).trans (View.set_slice_whole b r)

theorem rows_unit {off size : Fin 3 → ℕ} {inb} (b lo R : ℕ) (ho : off = ![b, lo, 0]) (hs : size = ![1, R, 768]) :
    (Rect.unit (s := S2x512x768) off size inb).set = rows b lo R := by
  subst ho hs
  ext i
  have h2 : (i 2).val < 768 := (i 2).isLt
  rw [Rect.mem_set_unit, mem_rows]
  constructor
  · intro h
    have h0 : b ≤ (i 0).val ∧ (i 0).val < b + 1 := h 0
    have h1 : lo ≤ (i 1).val ∧ (i 1).val < lo + R := h 1
    omega
  · rintro ⟨h0, h1, h1'⟩
    have a0 : b ≤ (i 0).val ∧ (i 0).val < b + 1 := by omega
    have a1 : lo ≤ (i 1).val ∧ (i 1).val < lo + R := ⟨h1, h1'⟩
    have a2 : 0 ≤ (i 2).val ∧ (i 2).val < 0 + 768 := by omega
    intro a
    match a with
    | ⟨0, _⟩ => exact a0
    | ⟨1, _⟩ => exact a1
    | ⟨2, _⟩ => exact a2

theorem srows_unit {off size : Fin 3 → ℕ} {inb} (b lo R : ℕ) (ho : off = ![b, lo, 0]) (hs : size = ![1, R, 768]) :
    (Rect.unit (s := S2x256x768) off size inb).set = srows b lo R := by
  subst ho hs
  ext i
  have h2 : (i 2).val < 768 := (i 2).isLt
  rw [Rect.mem_set_unit, mem_srows]
  constructor
  · intro h
    have h0 : b ≤ (i 0).val ∧ (i 0).val < b + 1 := h 0
    have h1 : lo ≤ (i 1).val ∧ (i 1).val < lo + R := h 1
    omega
  · rintro ⟨h0, h1, h1'⟩
    have a0 : b ≤ (i 0).val ∧ (i 0).val < b + 1 := by omega
    have a1 : lo ≤ (i 1).val ∧ (i 1).val < lo + R := ⟨h1, h1'⟩
    have a2 : 0 ≤ (i 2).val ∧ (i 2).val < 0 + 768 := by omega
    intro a
    match a with
    | ⟨0, _⟩ => exact a0
    | ⟨1, _⟩ => exact a1
    | ⟨2, _⟩ => exact a2

theorem krows_unit {off size : Fin 3 → ℕ} {inb} (lo R : ℕ) (ho : off = ![0, lo, 0]) (hs : size = ![2, R, 512]) :
    (Rect.unit (s := S2x640x512) off size inb).set = krows lo R := by
  subst ho hs
  ext i
  have h0 : (i 0).val < 2 := (i 0).isLt
  have h2 : (i 2).val < 512 := (i 2).isLt
  rw [Rect.mem_set_unit, mem_krows]
  constructor
  · intro h
    have h1 : lo ≤ (i 1).val ∧ (i 1).val < lo + R := h 1
    omega
  · rintro ⟨h1, h1'⟩
    have a0 : 0 ≤ (i 0).val ∧ (i 0).val < 0 + 2 := by omega
    have a1 : lo ≤ (i 1).val ∧ (i 1).val < lo + R := ⟨h1, h1'⟩
    have a2 : 0 ≤ (i 2).val ∧ (i 2).val < 0 + 512 := by omega
    intro a
    match a with
    | ⟨0, _⟩ => exact a0
    | ⟨1, _⟩ => exact a1
    | ⟨2, _⟩ => exact a2

theorem plane_unit {off size : Fin 4 → ℕ} {inb} (j : ℕ) (ho : off = ![j, 0, 0, 0]) (hs : size = ![1, 2, 512, 512]) :
    (Rect.unit (s := S3x2x512x512) off size inb).set = plane j := by
  subst ho hs
  ext i
  have h1 : (i 1).val < 2 := (i 1).isLt
  have h2 : (i 2).val < 512 := (i 2).isLt
  have h3 : (i 3).val < 512 := (i 3).isLt
  rw [Rect.mem_set_unit, mem_plane]
  constructor
  · intro h
    have h0 : j ≤ (i 0).val ∧ (i 0).val < j + 1 := h 0
    omega
  · intro h0
    have a0 : j ≤ (i 0).val ∧ (i 0).val < j + 1 := by omega
    have a1 : 0 ≤ (i 1).val ∧ (i 1).val < 0 + 2 := by omega
    have a2 : 0 ≤ (i 2).val ∧ (i 2).val < 0 + 512 := by omega
    have a3 : 0 ≤ (i 3).val ∧ (i 3).val < 0 + 512 := by omega
    intro a
    match a with
    | ⟨0, _⟩ => exact a0
    | ⟨1, _⟩ => exact a1
    | ⟨2, _⟩ => exact a2
    | ⟨3, _⟩ => exact a3

theorem chunk_unit {off size : Fin 4 → ℕ} {inb} (j n : ℕ) (ho : off = ![j, 0, 0, 0]) (hs : size = ![1, 2, n, 512]) :
    (Rect.unit (s := S8x2x512x512) off size inb).set = chunk j n := by
  subst ho hs
  ext i
  have h1 : (i 1).val < 2 := (i 1).isLt
  have h3 : (i 3).val < 512 := (i 3).isLt
  rw [Rect.mem_set_unit, mem_chunk]
  constructor
  · intro h
    have h0 : j ≤ (i 0).val ∧ (i 0).val < j + 1 := h 0
    have h2 : 0 ≤ (i 2).val ∧ (i 2).val < 0 + n := h 2
    omega
  · rintro ⟨h0, h2⟩
    have a0 : j ≤ (i 0).val ∧ (i 0).val < j + 1 := by omega
    have a1 : 0 ≤ (i 1).val ∧ (i 1).val < 0 + 2 := by omega
    have a2 : 0 ≤ (i 2).val ∧ (i 2).val < 0 + n := by omega
    have a3 : 0 ≤ (i 3).val ∧ (i 3).val < 0 + 512 := by omega
    intro a
    match a with
    | ⟨0, _⟩ => exact a0
    | ⟨1, _⟩ => exact a1
    | ⟨2, _⟩ => exact a2
    | ⟨3, _⟩ => exact a3

/-- One quarter of the staging buffer, cut to its first `n` rows. -/
def stq (t s n : ℕ) : Finset S2x2x2x512x512.Idx := Finset.univ.filter fun i => (i 0).val = t ∧ (i 1).val = s ∧ (i 3).val < n
theorem mem_stq {t s n : ℕ} {i : S2x2x2x512x512.Idx} : i ∈ stq t s n ↔ (i 0).val = t ∧ (i 1).val = s ∧ (i 3).val < n := by simp [stq]

theorem stq_unit {off size : Fin 5 → ℕ} {inb} (t s n : ℕ) (ho : off = ![t, s, 0, 0, 0]) (hs : size = ![1, 1, 2, n, 512]) :
    (Rect.unit (s := S2x2x2x512x512) off size inb).set = stq t s n := by
  subst ho hs
  ext i
  have h2 : (i 2).val < 2 := (i 2).isLt
  have h4 : (i 4).val < 512 := (i 4).isLt
  rw [Rect.mem_set_unit, mem_stq]
  constructor
  · intro h
    have h0 : t ≤ (i 0).val ∧ (i 0).val < t + 1 := h 0
    have h1 : s ≤ (i 1).val ∧ (i 1).val < s + 1 := h 1
    have h3 : 0 ≤ (i 3).val ∧ (i 3).val < 0 + n := h 3
    omega
  · rintro ⟨h0, h1, h3⟩
    have a0 : t ≤ (i 0).val ∧ (i 0).val < t + 1 := by omega
    have a1 : s ≤ (i 1).val ∧ (i 1).val < s + 1 := by omega
    have a2 : 0 ≤ (i 2).val ∧ (i 2).val < 0 + 2 := by omega
    have a3 : 0 ≤ (i 3).val ∧ (i 3).val < 0 + n := by omega
    have a4 : 0 ≤ (i 4).val ∧ (i 4).val < 0 + 512 := by omega
    intro a
    match a with
    | ⟨0, _⟩ => exact a0
    | ⟨1, _⟩ => exact a1
    | ⟨2, _⟩ => exact a2
    | ⟨3, _⟩ => exact a3
    | ⟨4, _⟩ => exact a4

/-- The first `n` rows of column block `d` of the keys or values a device owns. -/
def kcol (d n : ℕ) : Finset S2x512x4096.Idx := Finset.univ.filter fun i => (i 1).val < n ∧ 512 * d ≤ (i 2).val ∧ (i 2).val < 512 * d + 512
theorem mem_kcol {d n : ℕ} {i : S2x512x4096.Idx} : i ∈ kcol d n ↔ (i 1).val < n ∧ 512 * d ≤ (i 2).val ∧ (i 2).val < 512 * d + 512 := by simp [kcol]

theorem kcol_unit {off size : Fin 3 → ℕ} {inb} (d n : ℕ) (ho : off = ![0, 0, 512 * d]) (hs : size = ![2, n, 512]) :
    (Rect.unit (s := S2x512x4096) off size inb).set = kcol d n := by
  subst ho hs
  ext i
  have h0 : (i 0).val < 2 := (i 0).isLt
  rw [Rect.mem_set_unit, mem_kcol]
  constructor
  · intro h
    have h1 : 0 ≤ (i 1).val ∧ (i 1).val < 0 + n := h 1
    have h2 : 512 * d ≤ (i 2).val ∧ (i 2).val < 512 * d + 512 := h 2
    omega
  · rintro ⟨h1, h2, h2'⟩
    have a0 : 0 ≤ (i 0).val ∧ (i 0).val < 0 + 2 := by omega
    have a1 : 0 ≤ (i 1).val ∧ (i 1).val < 0 + n := by omega
    have a2 : 512 * d ≤ (i 2).val ∧ (i 2).val < 512 * d + 512 := ⟨h2, h2'⟩
    intro a
    match a with
    | ⟨0, _⟩ => exact a0
    | ⟨1, _⟩ => exact a1
    | ⟨2, _⟩ => exact a2

end Sets

/-! ## Buffers in pieces -/

theorem disjoint_foldr {I : Type} [DecidableEq I] (S : Finset I) (l : List (Finset I)) (h : ∀ T ∈ l, Disjoint S T) : Disjoint S (l.foldr (· ∪ ·) ∅) := by
  induction l with
  | nil => exact Finset.disjoint_empty_right _
  | cons T l ih =>
    rw [List.foldr_cons, Finset.disjoint_union_right]
    exact ⟨h T List.mem_cons_self, ih fun U hU => h U (List.mem_cons_of_mem _ hU)⟩

omit [FloatOps F] [Named F] in
/-- A buffer cut along a list of disjoint sets. -/
theorem pc_list (c : Dev nD) (b : Ref sig .tc) (f : Buf (Elt F) ((c : Thread nD τ).loc b)) (l : List (Finset (Idx ((c : Thread nD τ).loc b))))
    (hd : l.Pairwise Disjoint) : pc c b (l.foldr (· ∪ ·) ∅) f ⊣⊢ sepL (fun S => pc c b S f) l := by
  induction l with
  | nil =>
    rw [sepL_nil]
    exact ⟨Entails.of_eq (pointsTo_empty), Entails.of_eq (pointsTo_empty).symm⟩
  | cons S l ih =>
    rw [List.pairwise_cons] at hd
    rw [sepL_cons, List.foldr_cons]
    have h : Disjoint S (l.foldr (· ∪ ·) ∅) := disjoint_foldr S l hd.1
    exact ⟨(pointsTo_union h).1.trans (sep_mono_right (ih hd.2).1), (sep_mono_right (ih hd.2).2).trans (pointsTo_union h).2⟩

omit [FloatOps F] [Named F] in
theorem pc_anyOn (c : Dev nD) (b : Ref sig .tc) (S : Finset (Idx ((c : Thread nD τ).loc b))) (f : Buf (Elt F) ((c : Thread nD τ).loc b)) :
    pc c b S f ⊢ anyOn (F := F) c b S := by iintro H; iexists f; iexact H

omit [FloatOps F] [Named F] in
theorem sepL_mono {ι : Type} {Φ Ψ : ι → sProp 𝕄} (h : ∀ a, Φ a ⊢ Ψ a) (l : List ι) : sepL Φ l ⊢ sepL Ψ l := by
  induction l with
  | nil => rw [sepL_nil, sepL_nil]
  | cons a l ih => rw [sepL_cons, sepL_cons]; exact BI.sep_mono (h a) ih

omit [FloatOps F] [Named F] in
/-- A buffer at some contents, cut along a list of disjoint sets. -/
theorem anyOn_cut (c : Dev nD) (b : Ref sig .tc) (l : List (Finset (Idx ((c : Thread nD τ).loc b)))) (hd : l.Pairwise Disjoint) :
    anyOn (F := F) c b (l.foldr (· ∪ ·) ∅) ⊢ sepL (anyOn (F := F) c b) l := by
  iintro ⟨%f, H⟩
  iapply (sepL_mono (fun S => pc_anyOn (F := F) c b S f) l)
  iapply (pc_list c b f l hd).1
  iexact H

omit [FloatOps F] [Named F] in
/-- Disjoint pieces of a buffer, each at some contents, put together. -/
theorem anyOn_join (c : Dev nD) (b : Ref sig .tc) (l : List (Finset (Idx ((c : Thread nD τ).loc b)))) (hd : l.Pairwise Disjoint) (f₀ : Buf (Elt F) ((c : Thread nD τ).loc b)) :
    sepL (anyOn (F := F) c b) l ⊢ anyOn (F := F) c b (l.foldr (· ∪ ·) ∅) := by
  induction l with
  | nil =>
    rw [sepL_nil]
    iintro -
    iexists f₀
    iapply (Entails.of_eq (pointsTo_empty).symm)
    iempintro
  | cons S l ih =>
    rw [List.pairwise_cons] at hd
    rw [sepL_cons, List.foldr_cons]
    have h : Disjoint S (l.foldr (· ∪ ·) ∅) := disjoint_foldr S l hd.1
    iintro ⟨⟨%f, H⟩, H'⟩
    ihave H2 := (ih hd.2) $$ H'
    icases H2 with ⟨%g, H2⟩
    iexists _
    iapply (pointsTo_join h)
    isplitl [H]; · iexact H
    iexact H2

end Cert.Hand

end
-- ==== Proof.RedSteps.lean ====
/-
# The rounds of summation and of gathering: contents and steps

What the loads, stores and sends of the three rounds of summation and of the three rounds of gathering read, leave and
deliver, for one batch and one round.
-/
module

public import proofs.«01_k».proof.Proof.Views

@[expose] public section

noncomputable section

namespace Cert.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ UU ℕ

variable (m : (ℓ : Loc nD τ sig) → Buf (Elt F) ℓ) (K : Dev nD × KK → ℕ)

/-- A part of the kernel, applied to the kernel's buffers and semaphores. -/
abbrev onBufs {β : Type _} (f : (arg0 : Memref sig .tc .vmem S2x512x768 .f32) → (harg0 : arg0.IsWhole) → (arg1 : Memref sig .tc .vmem S768x512 .f32) → (harg1 : arg1.IsWhole) → (arg2 : Memref sig .tc .hbm S2x512x4096 .f32) → (harg2 : arg2.IsWhole) → (arg3 : Memref sig .tc .hbm S2x512x4096 .f32) → (harg3 : arg3.IsWhole) → (arg4 : Memref sig .tc .vmem S512x768 .f32) → (harg4 : arg4.IsWhole) → (arg5 : Memref sig .tc .vmem S2x512x768 .f32) → (harg5 : arg5.IsWhole) → (arg6 : Memref sig .tc .vmem S2x640x512 .bf16) → (harg6 : arg6.IsWhole) → (arg7 : Memref sig .tc .vmem S2x640x512 .bf16) → (harg7 : arg7.IsWhole) → (arg8 : Memref sig .tc .vmem S2x512x512 .bf16) → (harg8 : arg8.IsWhole) → (arg9 : Memref sig .tc .vmem S512x512 .bf16) → (harg9 : arg9.IsWhole) → (arg10 : Memref sig .tc .vmem S512x768 .bf16) → (harg10 : arg10.IsWhole) → (arg11 : Memref sig .tc .vmem S8x2x512x512 .bf16) → (harg11 : arg11.IsWhole) → (arg12 : Memref sig .tc .vmem S8x2x512x512 .bf16) → (harg12 : arg12.IsWhole) → (arg13 : Memref sig .tc .vmem S2x2x2x512x512 .f32) → (harg13 : arg13.IsWhole) → (arg14 : Memref sig .tc .vmem S2x512x768 .bf16) → (harg14 : arg14.IsWhole) → (arg15 : Memref sig .tc .vmem S2x256x768 .bf16) → (harg15 : arg15.IsWhole) → (arg16 : Memref sig .tc .vmem S2x512x768 .bf16) → (harg16 : arg16.IsWhole) → (arg17 : Memref sig .tc .vmem S3x2x512x512 .bf16) → (harg17 : arg17.IsWhole) → (arg18 : DmaSems sig S4) → (arg19 : DmaSems sig S14) → (arg20 : DmaSems sig S4) → (arg21 : DmaSems sig S3) → (arg22 : DmaSems sig S3) → (arg23 : DmaSems sig S3x2) → (arg24 : DmaSems sig S3x2) → (arg25 : DmaSems sig S3x2) → (arg26 : DmaSems sig S3x2) → β) : β :=
  f (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20

/-! ## One round of summation -/

/-- How many rows one round sends. -/
def nRow (s : ℕ) : ℕ := match s with | 0 => 256 | 1 => 128 | _ => 64
/-- Where in the receive buffer a round's rows land. -/
def oRow (s : ℕ) : ℕ := match s with | 0 => 0 | 1 => 256 | _ => 384
/-- The first row kept after round `s`. -/
def kpN (s : ℕ) (c : Dev nD) : ℕ := match s with | 0 => kp1 c | 1 => kp2 c | _ => kp3 c
/-- The peer of round `s`. -/
def peerN (s : ℕ) (c : Dev nD) : Dev nD := match s with | 0 => fl1 c | 1 => fl4 c | _ => fl2 c

theorem kp12 (c : Dev nD) : kp1 c ≤ kp2 c ∧ kp2 c + 128 ≤ kp1 c + 256 := by revert c; decide
theorem kp23 (c : Dev nD) : kp2 c ≤ kp3 c ∧ kp3 c + 64 ≤ kp2 c + 128 := by revert c; decide
theorem kpN_le (s : ℕ) (c : Dev nD) : kpN s c + nRow s ≤ 512 := by
  match s with
  | 0 => exact kp1_le c
  | 1 => exact kp2_le c
  | s + 2 => exact kp3_le c
theorem peer_peer (s : ℕ) (c : Dev nD) : peerN s (peerN s c) = c := by
  match s with
  | 0 => exact fl1_fl1 c
  | 1 => exact fl4_fl4 c
  | s + 2 => exact fl2_fl2 c

/-- Row `r` is among those round `s` works on. -/
def inR (s : ℕ) (c : Dev nD) (r : ℕ) : Prop :=
  match s with | 0 => True | 1 => kp1 c ≤ r ∧ r < kp1 c + 256 | 2 => kp2 c ≤ r ∧ r < kp2 c + 128 | _ => kp3 c ≤ r ∧ r < kp3 c + 64

theorem lev_in (c : Dev nD) (s r : ℕ) (hs : s ≤ 3) (h : inR s c r) : lev c s r = s := by
  have := kp12 c; have := kp23 c
  unfold lev
  match s, hs, h with
  | 0, _, _ => rw [if_neg (by omega), if_neg (by omega), if_neg (by omega)]
  | 1, _, h => have h : kp1 c ≤ r ∧ r < kp1 c + 256 := h; rw [if_neg (by omega), if_neg (by omega), if_pos (by omega)]
  | 2, _, h => have h : kp2 c ≤ r ∧ r < kp2 c + 128 := h; rw [if_neg (by omega), if_pos (by omega)]
  | 3, _, h => have h : kp3 c ≤ r ∧ r < kp3 c + 64 := h; rw [if_pos (by omega)]

theorem lev_out (c : Dev nD) (s r : ℕ) (hs : s < 3) (h : ¬ (kpN s c ≤ r ∧ r < kpN s c + nRow s)) : lev c (s + 1) r = lev c s r := by
  unfold lev
  match s, hs, h with
  | 0, _, h => have h : ¬ (kp1 c ≤ r ∧ r < kp1 c + 256) := h; simp [h]
  | 1, _, h => have h : ¬ (kp2 c ≤ r ∧ r < kp2 c + 128) := h; simp [h]
  | 2, _, h => have h : ¬ (kp3 c ≤ r ∧ r < kp3 c + 64) := h; simp [h]

theorem inR_keep (c : Dev nD) (s r : ℕ) (hs : s < 3) (h : kpN s c ≤ r ∧ r < kpN s c + nRow s) : inR s c r ∧ inR (s + 1) c r := by
  have h1 := kp12 c; have h2 := kp23 c
  match s, hs, h with
  | 0, _, h => exact ⟨trivial, h⟩
  | 1, _, h => exact ⟨(by have h : kp2 c ≤ r ∧ r < kp2 c + 128 := h; show kp1 c ≤ r ∧ r < kp1 c + 256; omega), h⟩
  | 2, _, h => exact ⟨(by have h : kp3 c ≤ r ∧ r < kp3 c + 64 := h; show kp2 c ≤ r ∧ r < kp2 c + 128; omega), h⟩

theorem kp_peer (c : Dev nD) : kp1 (fl4 c) = kp1 c ∧ kp2 (fl2 c) = kp2 c := by revert c; decide

theorem inR_send (c : Dev nD) (s r : ℕ) (hs : s < 3) (h : kpN s (peerN s c) ≤ r ∧ r < kpN s (peerN s c) + nRow s) : inR s c r := by
  have h1 := kp12 (fl4 c); have h2 := kp23 (fl2 c); have h3 := kp_peer c
  match s, hs, h with
  | 0, _, h => exact trivial
  | 1, _, h => have h : kp2 (fl4 c) ≤ r ∧ r < kp2 (fl4 c) + 128 := h; show kp1 c ≤ r ∧ r < kp1 c + 256; omega
  | 2, _, h => have h : kp3 (fl2 c) ≤ r ∧ r < kp3 (fl2 c) + 64 := h; show kp2 c ≤ r ∧ r < kp2 c + 128; omega

theorem redN_succ (s : ℕ) (hs : s < 3) (c : Dev nD) (i : S2x512x768.Idx) :
    redN m (s + 1) c i = addf (redN m s c) (extf .f32 (truncf .bf16 (redN m s (peerN s c)) bitsLt_bf16_f32) bitsLt_bf16_f32) i := by
  match s, hs with
  | 0, _ => rfl
  | 1, _ => rfl
  | 2, _ => rfl

/-- Equality of two three-coordinate indices. -/
theorem idx3_ext {a b c : ℕ} {i j : (⟨3, ![a, b, c]⟩ : Shape).Idx} (h0 : (i 0).val = (j 0).val) (h1 : (i 1).val = (j 1).val) (h2 : (i 2).val = (j 2).val) : i = j := by
  funext x
  match x with
  | ⟨0, _⟩ => exact Fin.ext h0
  | ⟨1, _⟩ => exact Fin.ext h1
  | ⟨2, _⟩ => exact Fin.ext h2

theorem rsbF_at (s : ℕ) (hs : s < 3) (c : Dev nD) (t : ℕ) (ht : t < nRow s) (i j : S2x512x768.Idx) (h0 : (j 0).val = (i 0).val)
    (h1 : (j 1).val = oRow s + t) (h1' : (i 1).val = kpN s c + t) (h2 : (j 2).val = (i 2).val) :
    rsbF m c j = truncf .bf16 (redN m s (peerN s c)) bitsLt_bf16_f32 i := by
  have hi : (i 1).val < 512 := (i 1).isLt
  have e : (ix3 (j 0) ⟨rsbRow c (j 1).val % 512, Nat.mod_lt _ (by decide)⟩ (j 2) : S2x512x768.Idx) = i := by
    refine idx3_ext h0 ?_ h2
    show rsbRow c (j 1).val % 512 = (i 1).val
    have : rsbRow c (j 1).val = (i 1).val := by
      rw [h1, h1']
      unfold rsbRow
      match s, hs, ht with
      | 0, _, ht =>
        have ht : t < 256 := ht
        rw [if_pos (show oRow 0 + t < 256 by show 0 + t < 256; omega)]; show kp1 c + (0 + t) = kp1 c + t; omega
      | 1, _, ht =>
        have ht : t < 128 := ht
        rw [if_neg (show ¬ oRow 1 + t < 256 by show ¬ 256 + t < 256; omega), if_pos (show oRow 1 + t < 384 by show 256 + t < 384; omega)]
        show kp2 c + (256 + t - 256) = kp2 c + t; omega
      | 2, _, ht =>
        rw [if_neg (show ¬ oRow 2 + t < 256 by show ¬ 384 + t < 256; omega), if_neg (show ¬ oRow 2 + t < 384 by show ¬ 384 + t < 384; omega)]
        show kp3 c + (384 + t - 384) = kp3 c + t; omega
    rw [this]; exact Nat.mod_eq_of_lt hi
  unfold rsbF
  rw [e]
  match s, hs, ht with
  | 0, _, ht =>
    have ht : t < 256 := ht; have h1 : (j 1).val = 0 + t := h1
    rw [if_pos (by omega)]; rfl
  | 1, _, ht =>
    have ht : t < 128 := ht; have h1 : (j 1).val = 256 + t := h1
    rw [if_neg (by omega), if_pos (by omega)]; rfl
  | 2, _, ht =>
    have h1 : (j 1).val = 384 + t := h1
    rw [if_neg (by omega), if_neg (by omega)]; rfl

/-- The send buffer of round `s`. -/
def rssF (s : ℕ) (c : Dev nD) : FVec F S2x256x768 .bf16 := fun i =>
  truncf .bf16 (redN m s c) bitsLt_bf16_f32 (ix3 (i 0) ⟨(kpN s (peerN s c) + (i 1).val) % 512, Nat.mod_lt _ (by decide)⟩ (i 2))

theorem rssF_at (s : ℕ) (c : Dev nD) (t : ℕ) (i : S2x512x768.Idx) (j : S2x256x768.Idx) (h0 : (j 0).val = (i 0).val)
    (h1 : (j 1).val = t) (h1' : (i 1).val = kpN s (peerN s c) + t) (h2 : (j 2).val = (i 2).val) :
    rssF m s c j = truncf .bf16 (redN m s c) bitsLt_bf16_f32 i := by
  have hi : (i 1).val < 512 := (i 1).isLt
  have e : (ix3 (j 0) ⟨(kpN s (peerN s c) + (j 1).val) % 512, Nat.mod_lt _ (by decide)⟩ (j 2) : S2x512x768.Idx) = i := by
    refine idx3_ext h0 ?_ h2
    show (kpN s (peerN s c) + (j 1).val) % 512 = (i 1).val
    rw [h1, ← h1']; exact Nat.mod_eq_of_lt hi
  unfold rssF; rw [e]

/-! ## Elementwise operations between two recasts -/

omit [Named F] in
theorem addc {s t : Shape} (a : FVec F s .f32) (b : FVec F s .bf16) (h1 h2 : s.ShapeCasts t) (h3 : t.ShapeCasts s) :
    shapeCast s (addf (shapeCast t a h1) (extf .f32 (shapeCast t b h2) bitsLt_bf16_f32)) h3 = addf a (extf .f32 b bitsLt_bf16_f32) := by
  have e : ∀ i : s.Idx, Shape.reshapeEquiv h1 (Shape.reshapeEquiv h3 i) = i := fun i => by
    rw [Shape.reshapeEquiv_reshapeEquiv, Shape.reshapeEquiv_self]
  funext i
  show FloatOps.addf (a (Shape.reshapeEquiv h1 (Shape.reshapeEquiv h3 i))) (FloatOps.extf _ _ (b (Shape.reshapeEquiv h1 (Shape.reshapeEquiv h3 i)))) = _
  rw [e]; rfl
omit [Named F] in
theorem trc {s t : Shape} (a : FVec F s .f32) (h1 : s.ShapeCasts t) (h3 : t.ShapeCasts s) :
    shapeCast s (truncf .bf16 (shapeCast t a h1) bitsLt_bf16_f32) h3 = truncf .bf16 a bitsLt_bf16_f32 := by
  have e : ∀ i : s.Idx, Shape.reshapeEquiv h1 (Shape.reshapeEquiv h3 i) = i := fun i => by
    rw [Shape.reshapeEquiv_reshapeEquiv, Shape.reshapeEquiv_self]
  funext i
  show FloatOps.truncf _ _ (a (Shape.reshapeEquiv h1 (Shape.reshapeEquiv h3 i))) = _
  rw [e]; rfl

/-! ## What the loads read and the stores leave -/

omit [FloatOps F] [Named F] in
theorem emb_v0 {s : Shape} {off size : Fin s.rank → ℕ} {inb} (x : (Rect.unit (s := s) off size inb).shape.Idx) (a : Fin s.rank) :
    ((Rect.unit (s := s) off size inb).emb x a).val = off a + (x a).val := by
  show off a + 1 * (x a).val = _
  rw [one_mul]

theorem vec3 {off : Fin 3 → ℕ} {a b c : ℕ} (h : off = ![a, b, c]) : off 0 = a ∧ off 1 = b ∧ off 2 = c := by subst h; exact ⟨rfl, rfl, rfl⟩

/-- Adding what arrived to the kept rows raises their level by one. -/
theorem out_in (c : Dev nD) (b s s0 s1 s0' s1' : ℕ) (hs : s < 3) (hb : (if b = 0 then s0 else s1) = s) (hb' : (if b = 0 then s0' else s1') = s + 1)
    {off offr size : Fin 3 → ℕ} {inb inbr} (ho : off = ![b, kpN s c, 0]) (hr : offr = ![b, oRow s, 0]) (hz : size = ![1, nRow s, 768])
    (x : (Rect.unit (s := S2x512x768) off size inb).shape.Idx) :
    addf (fun x : (Rect.unit (s := S2x512x768) off size inb).shape.Idx => outF m c s0 s1 ((Rect.unit (s := S2x512x768) off size inb).emb x))
        (extf .f32 (fun x : (Rect.unit (s := S2x512x768) off size inb).shape.Idx => rsbF m c ((Rect.unit (s := S2x512x768) offr size inbr).emb x)) bitsLt_bf16_f32) x
      = outF m c s0' s1' ((Rect.unit (s := S2x512x768) off size inb).emb x) := by
  have h0 := vec3 ho; have h1 := vec3 hr; have h2 := vec3 hz
  have x0 : (x 0).val < size 0 := (x 0).isLt
  have x1 : (x 1).val < size 1 := (x 1).isLt
  have e0 := emb_v0 (inb := inb) x 0; have e1 := emb_v0 (inb := inb) x 1; have e2 := emb_v0 (inb := inb) x 2
  have r0 := emb_v0 (inb := inbr) x 0; have r1 := emb_v0 (inb := inbr) x 1; have r2 := emb_v0 (inb := inbr) x 2
  show FloatOps.addf (outF m c s0 s1 ((Rect.unit (s := S2x512x768) off size inb).emb x)) (FloatOps.extf _ _ (rsbF m c ((Rect.unit (s := S2x512x768) offr size inbr).emb x))) = _
  generalize (Rect.unit (s := S2x512x768) off size inb).emb x = i at e0 e1 e2 ⊢
  generalize (Rect.unit (s := S2x512x768) offr size inbr).emb x = j at r0 r1 r2 ⊢
  have hR : kpN s c ≤ (i 1).val ∧ (i 1).val < kpN s c + nRow s := by omega
  have hk := inR_keep c s (i 1).val hs hR
  rw [rsbF_at m s hs c (x 1).val (by omega) i j (by omega) (by omega) (by omega) (by omega)]
  unfold outF
  rw [show (if (i 0).val = 0 then s0 else s1) = s by rw [show (i 0).val = b by omega]; exact hb,
    show (if (i 0).val = 0 then s0' else s1') = s + 1 by rw [show (i 0).val = b by omega]; exact hb',
    lev_in c s _ (by omega) hk.1, lev_in c (s + 1) _ (by omega) hk.2, redN_succ m s hs c i]
  rfl

/-- Off the kept rows the level is as before. -/
theorem out_out (c : Dev nD) (b s s0 s1 s0' s1' : ℕ) (hs : s < 3) (hb : (if b = 0 then s0 else s1) = s) (hb' : (if b = 0 then s0' else s1') = s + 1)
    (hn : (if b = 0 then s1 else s0) = (if b = 0 then s1' else s0')) (h2 : b < 2)
    {off size : Fin 3 → ℕ} {inb} (ho : off = ![b, kpN s c, 0]) (hz : size = ![1, nRow s, 768]) (i : S2x512x768.Idx)
    (h : ∀ x ∈ (Rect.unit (s := S2x512x768) off size inb).set, x ≠ i) : outF m c s0 s1 i = outF m c s0' s1' i := by
  have hi : i ∉ rows b (kpN s c) (nRow s) := fun hm => h i (by rw [rows_unit b _ _ ho hz]; exact hm) rfl
  rw [mem_rows] at hi
  unfold outF
  have hi0 : (i 0).val < 2 := (i 0).isLt
  by_cases hib : (i 0).val = b
  · have hl := lev_out c s (i 1).val hs (fun hh => hi ⟨hib, hh.1, hh.2⟩)
    rw [hib, hb, hb', hl]
  · have : (if (i 0).val = 0 then s0 else s1) = (if (i 0).val = 0 then s0' else s1') := by
      by_cases h0 : b = 0
      · rw [if_neg (by omega), if_neg (by omega)]; rw [if_pos h0, if_pos h0] at hn; exact hn
      · rw [if_pos (by omega), if_pos (by omega)]; rw [if_neg h0, if_neg h0] at hn; exact hn
    rw [this]

/-- The rows to send, in 16 bits. -/
theorem rss_in (c : Dev nD) (b s s0 s1 : ℕ) (hs : s < 3) (hb : (if b = 0 then s0 else s1) = s)
    {off offr size : Fin 3 → ℕ} {inb inbr} (ho : off = ![b, kpN s (peerN s c), 0]) (hr : offr = ![b, 0, 0]) (hz : size = ![1, nRow s, 768])
    (x : (Rect.unit (s := S2x512x768) off size inb).shape.Idx) :
    truncf .bf16 (fun x : (Rect.unit (s := S2x512x768) off size inb).shape.Idx => outF m c s0 s1 ((Rect.unit (s := S2x512x768) off size inb).emb x)) bitsLt_bf16_f32 x
      = rssF m s c ((Rect.unit (s := S2x256x768) offr size inbr).emb x) := by
  have h0 := vec3 ho; have h1 := vec3 hr; have h2 := vec3 hz
  have x0 : (x 0).val < size 0 := (x 0).isLt
  have x1 : (x 1).val < size 1 := (x 1).isLt
  have e0 := emb_v0 (inb := inb) x 0; have e1 := emb_v0 (inb := inb) x 1; have e2 := emb_v0 (inb := inb) x 2
  have r0 := emb_v0 (inb := inbr) x 0; have r1 := emb_v0 (inb := inbr) x 1; have r2 := emb_v0 (inb := inbr) x 2
  show FloatOps.truncf _ _ (outF m c s0 s1 ((Rect.unit (s := S2x512x768) off size inb).emb x)) = rssF m s c ((Rect.unit (s := S2x256x768) offr size inbr).emb x)
  generalize (Rect.unit (s := S2x512x768) off size inb).emb x = i at e0 e1 e2 ⊢
  generalize (Rect.unit (s := S2x256x768) offr size inbr).emb x = j at r0 r1 r2 ⊢
  rw [rssF_at m s c (x 1).val i j (by omega) (by omega) (by omega) (by omega)]
  unfold outF
  rw [show (if (i 0).val = 0 then s0 else s1) = s by rw [show (i 0).val = b by omega]; exact hb,
    lev_in c s _ (by omega) (inR_send c s _ hs (by omega))]
  rfl

theorem own_kp3 (c : Dev nD) (r : ℕ) (h : kp3 c ≤ r ∧ r < kp3 c + 64) : ownDev r = c := by
  have h1 : kp3 c = 256 * (c.val % 2) + 128 * (c.val / 4 % 2) + 64 * (c.val / 2 % 2) := rfl
  have hc : c.val < 8 := c.isLt
  have hd : c.val = c.val % 2 + 2 * (c.val / 2 % 2) + 4 * (c.val / 4 % 2) := by omega
  have a1 : c.val % 2 < 2 := Nat.mod_lt _ (by decide)
  have a2 : c.val / 4 % 2 < 2 := Nat.mod_lt _ (by decide)
  have a3 : c.val / 2 % 2 < 2 := Nat.mod_lt _ (by decide)
  refine Fin.ext ?_
  show (r / 256 + 4 * (r / 128 % 2) + 2 * (r / 64 % 2)) % 8 = c.val
  generalize c.val % 2 = a at *
  generalize c.val / 4 % 2 = b at *
  generalize c.val / 2 % 2 = d at *
  have e1 : r / 256 = a := by omega
  have f2 : r / 128 = 2 * a + b := by omega
  have f3 : r / 64 = 4 * a + 2 * b + d := by omega
  have e2 : r / 128 % 2 = b := by omega
  have e3 : r / 64 % 2 = d := by omega
  rw [e1, e2, e3, hd]; omega

/-- The finished rows, in 16 bits. -/
theorem ag_in (c : Dev nD) (b s0 s1 : ℕ) (hb : (if b = 0 then s0 else s1) = 3)
    {off size : Fin 3 → ℕ} {inb} (ho : off = ![b, kp3 c, 0]) (hz : size = ![1, 64, 768])
    (x : (Rect.unit (s := S2x512x768) off size inb).shape.Idx) :
    truncf .bf16 (fun x : (Rect.unit (s := S2x512x768) off size inb).shape.Idx => outF m c s0 s1 ((Rect.unit (s := S2x512x768) off size inb).emb x)) bitsLt_bf16_f32 x
      = agF m ((Rect.unit (s := S2x512x768) off size inb).emb x) := by
  have h0 := vec3 ho; have h2 := vec3 hz
  have x0 : (x 0).val < size 0 := (x 0).isLt
  have x1 : (x 1).val < size 1 := (x 1).isLt
  have e0 := emb_v0 (inb := inb) x 0; have e1 := emb_v0 (inb := inb) x 1; have e2 := emb_v0 (inb := inb) x 2
  show FloatOps.truncf _ _ (outF m c s0 s1 ((Rect.unit (s := S2x512x768) off size inb).emb x)) = agF m ((Rect.unit (s := S2x512x768) off size inb).emb x)
  generalize (Rect.unit (s := S2x512x768) off size inb).emb x = i at e0 e1 e2 ⊢
  unfold outF agF
  rw [show (if (i 0).val = 0 then s0 else s1) = 3 by rw [show (i 0).val = b by omega]; exact hb,
    lev_in c 3 _ (by omega) (show kp3 c ≤ (i 1).val ∧ (i 1).val < kp3 c + 64 by omega), own_kp3 c (i 1).val (by omega)]
  rfl

/-! ## Pieces of the send buffer and of the gathered buffer -/

omit [FloatOps F] [Named F] in
theorem pc_two (c : Dev nD) (b : Ref sig .tc) (S T U : Finset (Idx ((c : Thread nD τ).loc b))) (f : Buf (Elt F) ((c : Thread nD τ).loc b))
    (hd : Disjoint S T) (hu : S ∪ T = U) : pc c b U f ⊣⊢ iprop(pc c b S f ∗ pc c b T f) := by
  subst hu; exact pointsTo_union hd

omit [FloatOps F] [Named F] in
theorem srows_cut (c : Dev nD) (b n k l : ℕ) (hl : l = n + k) :
    anyOn (F := F) c cc0_scratch9 (srows b 0 l) ⊢ iprop(anyOn (F := F) c cc0_scratch9 (srows b 0 n) ∗ anyOn (F := F) c cc0_scratch9 (srows b n k)) := by
  subst hl
  iintro ⟨%f, H⟩
  ihave H := ((pc_two c cc0_scratch9 (srows b 0 n) (srows b n k) (srows b 0 (n + k)) f
    (Finset.disjoint_left.mpr fun i h1 h2 => by rw [mem_srows] at h1 h2; omega)
    (Finset.ext fun i => by rw [Finset.mem_union, mem_srows, mem_srows, mem_srows]; omega)).1) $$ H
  icases H with ⟨H1, H2⟩
  isplitl [H1]
  · iexists f; iexact H1
  iexists f; iexact H2

omit [FloatOps F] [Named F] in
theorem rows_merge (c : Dev nD) (b lo1 lo2 lo n : ℕ) (f : Buf (Elt F) ((c : Thread nD τ).loc cc0_scratch10))
    (h : (lo1 = lo ∧ lo2 = lo + n) ∨ (lo2 = lo ∧ lo1 = lo + n)) :
    iprop(pc c cc0_scratch10 (rows b lo1 n) f ∗ pc c cc0_scratch10 (rows b lo2 n) f) ⊢ pc c cc0_scratch10 (rows b lo (2 * n)) f :=
  (pc_two c cc0_scratch10 (rows b lo1 n) (rows b lo2 n) (rows b lo (2 * n)) f
    (Finset.disjoint_left.mpr fun i h1 h2 => by rw [mem_rows] at h1 h2; omega)
    (Finset.ext fun i => by rw [Finset.mem_union, mem_rows, mem_rows, mem_rows]; omega)).2

theorem kp_halves (c : Dev nD) : ((kp3 c = kp2 c ∧ kp3 (fl2 c) = kp2 c + 64) ∨ (kp3 (fl2 c) = kp2 c ∧ kp3 c = kp2 c + 64))
    ∧ ((kp2 c = kp1 c ∧ kp2 (fl4 c) = kp1 c + 128) ∨ (kp2 (fl4 c) = kp1 c ∧ kp2 c = kp1 c + 128))
    ∧ ((kp1 c = 0 ∧ kp1 (fl1 c) = 0 + 256) ∨ (kp1 (fl1 c) = 0 ∧ kp1 c = 0 + 256)) := by revert c; decide

/-! ## The loads and stores -/

section Accesses

variable {α : Type} {Q' : α → sProp (MT nD τ sig Unit (Elt F) ℕ UU ℕ)}

/-- The output buffer of a device in which `s0` rounds are done in batch 0 and `s1` in batch 1. -/
abbrev Og (c : Dev nD) (s0 s1 : ℕ) : sProp (MT nD τ sig Unit (Elt F) ℕ UU ℕ) := pc c cc0_stg3_0 Finset.univ (outF m c s0 s1)
/-- The rows that arrive in round `s`. -/
abbrev Rb (c : Dev nD) (b lo n : ℕ) : sProp (MT nD τ sig Unit (Elt F) ℕ UU ℕ) := pc c cc0_scratch8 (rows b lo n) (rsbF m c)
/-- The first `n` rows of a batch of the send buffer, at some contents. -/
abbrev Sb (c : Dev nD) (b n : ℕ) : sProp (MT nD τ sig Unit (Elt F) ℕ UU ℕ) := anyOn (F := F) c cc0_scratch9 (srows b 0 n)
/-- The rows to send in round `s`. -/
abbrev Sx (c : Dev nD) (b s n : ℕ) : sProp (MT nD τ sig Unit (Elt F) ℕ UU ℕ) := pc c cc0_scratch9 (srows b 0 n) (rssF m s c)
/-- Gathered rows. -/
abbrev Ag (c : Dev nD) (b lo n : ℕ) : sProp (MT nD τ sig Unit (Elt F) ℕ UU ℕ) := pc c cc0_scratch10 (rows b lo n) (agF m)

theorem ld_out (c : Dev nD) {f : Buf (Elt F) ((c : Thread nD τ).loc cc0_stg3_0)} {r : Rect S2x512x768} {hl} {k' : (r.toLoadRect.shape.Idx → F .f32) → Prog (TpuEff nD τ sig (Elt F) Λ₀ .tc) α} :
    pc c cc0_stg3_0 Finset.univ f
      ⊢ iprop((pc c cc0_stg3_0 Finset.univ f -∗ wp frame (wpE (defs₀ (F := F)) 𝒱₀ (c : Thread nD τ) none) Set.univ (k' fun x => f (r.emb x)) Q')
          -∗ wp frame (wpE (defs₀ (F := F)) 𝒱₀ (c : Thread nD τ) none) Set.univ (.op (.load (Memref.whole cc0_stg3_0) r.toLoadRect hl) k') Q') :=
  wp_ldr c (M := Memref.whole cc0_stg3_0) (S := Finset.univ) (fun x _ => Finset.mem_univ _)

theorem ld_rsb (c : Dev nD) (b lo n : ℕ) {f : Buf (Elt F) ((c : Thread nD τ).loc cc0_scratch8)} {off size : Fin 3 → ℕ} {inb} {hl}
    {k' : ((Rect.unit (s := S2x512x768) off size inb).toLoadRect.shape.Idx → F .bf16) → Prog (TpuEff nD τ sig (Elt F) Λ₀ .tc) α}
    (ho : off = ![b, lo, 0]) (hz : size = ![1, n, 768]) :
    pc c cc0_scratch8 (rows b lo n) f
      ⊢ iprop((pc c cc0_scratch8 (rows b lo n) f
          -∗ wp frame (wpE (defs₀ (F := F)) 𝒱₀ (c : Thread nD τ) none) Set.univ (k' fun x => f ((Rect.unit (s := S2x512x768) off size inb).emb x)) Q')
          -∗ wp frame (wpE (defs₀ (F := F)) 𝒱₀ (c : Thread nD τ) none) Set.univ (.op (.load (Memref.whole cc0_scratch8) (Rect.unit (s := S2x512x768) off size inb).toLoadRect hl) k') Q') :=
  wp_ldr c (M := Memref.whole cc0_scratch8) (S := rows b lo n) (fun x hx => by rw [← rows_unit b lo n ho hz]; exact hx)

theorem ld_rss (c : Dev nD) (b n : ℕ) {f : Buf (Elt F) ((c : Thread nD τ).loc cc0_scratch9)} {off size : Fin 3 → ℕ} {inb} {hl}
    {k' : ((Rect.unit (s := S2x256x768) off size inb).toLoadRect.shape.Idx → F .bf16) → Prog (TpuEff nD τ sig (Elt F) Λ₀ .tc) α}
    (ho : off = ![b, 0, 0]) (hz : size = ![1, n, 768]) :
    pc c cc0_scratch9 (srows b 0 n) f
      ⊢ iprop((pc c cc0_scratch9 (srows b 0 n) f
          -∗ wp frame (wpE (defs₀ (F := F)) 𝒱₀ (c : Thread nD τ) none) Set.univ (k' fun x => f ((Rect.unit (s := S2x256x768) off size inb).emb x)) Q')
          -∗ wp frame (wpE (defs₀ (F := F)) 𝒱₀ (c : Thread nD τ) none) Set.univ (.op (.load (Memref.whole cc0_scratch9) (Rect.unit (s := S2x256x768) off size inb).toLoadRect hl) k') Q') :=
  wp_ldr c (M := Memref.whole cc0_scratch9) (S := srows b 0 n) (fun x hx => by rw [← srows_unit b 0 n ho hz]; exact hx)

theorem ld_agb (c : Dev nD) (b lo n : ℕ) {f : Buf (Elt F) ((c : Thread nD τ).loc cc0_scratch10)} {off size : Fin 3 → ℕ} {inb} {hl}
    {k' : ((Rect.unit (s := S2x512x768) off size inb).toLoadRect.shape.Idx → F .bf16) → Prog (TpuEff nD τ sig (Elt F) Λ₀ .tc) α}
    (ho : off = ![b, lo, 0]) (hz : size = ![1, n, 768]) :
    pc c cc0_scratch10 (rows b lo n) f
      ⊢ iprop((pc c cc0_scratch10 (rows b lo n) f
          -∗ wp frame (wpE (defs₀ (F := F)) 𝒱₀ (c : Thread nD τ) none) Set.univ (k' fun x => f ((Rect.unit (s := S2x512x768) off size inb).emb x)) Q')
          -∗ wp frame (wpE (defs₀ (F := F)) 𝒱₀ (c : Thread nD τ) none) Set.univ (.op (.load (Memref.whole cc0_scratch10) (Rect.unit (s := S2x512x768) off size inb).toLoadRect hl) k') Q') :=
  wp_ldr c (M := Memref.whole cc0_scratch10) (S := rows b lo n) (fun x hx => by rw [← rows_unit b lo n ho hz]; exact hx)

/-- The store that adds what arrived in round `s`. -/
theorem st_add (c : Dev nD) (b s s0 s1 s0' s1' : ℕ) (hs : s < 3) (hb : (if b = 0 then s0 else s1) = s) (hb' : (if b = 0 then s0' else s1') = s + 1)
    (hn : (if b = 0 then s1 else s0) = (if b = 0 then s1' else s0')) (h2 : b < 2)
    {off offr size : Fin 3 → ℕ} {inb inbr} (ho : off = ![b, kpN s c, 0]) (hr : offr = ![b, oRow s, 0]) (hz : size = ![1, nRow s, 768])
    {w : (Rect.unit (s := S2x512x768) off size inb).shape.Idx → F .f32}
    (hw : w = addf (fun x : (Rect.unit (s := S2x512x768) off size inb).shape.Idx => outF m c s0 s1 ((Rect.unit (s := S2x512x768) off size inb).emb x))
        (extf .f32 (fun x : (Rect.unit (s := S2x512x768) off size inb).shape.Idx => rsbF m c ((Rect.unit (s := S2x512x768) offr size inbr).emb x)) bitsLt_bf16_f32))
    {hx hm} {k' : PUnit → Prog (TpuEff nD τ sig (Elt F) Λ₀ .tc) α} :
    Og m c s0 s1
      ⊢ iprop((Og m c s0' s1' -∗ wp frame (wpE (defs₀ (F := F)) 𝒱₀ (c : Thread nD τ) none) Set.univ (k' ⟨⟩) Q')
          -∗ wp frame (wpE (defs₀ (F := F)) 𝒱₀ (c : Thread nD τ) none) Set.univ
            (.op (.store (Memref.whole cc0_stg3_0) (Rect.unit (s := S2x512x768) off size inb) w Finset.univ hx hm) k') Q') := by
  subst hw
  exact wp_st c (M := Memref.whole cc0_stg3_0) (S := Finset.univ) (outF m c s0' s1') (fun x _ => Finset.mem_univ _)
    (fun x => out_in m c b s s0 s1 s0' s1' hs hb hb' ho hr hz x) (fun i _ h => out_out m c b s s0 s1 s0' s1' hs hb hb' hn h2 ho hz i h)

/-- The store of the rows to send in round `s`. -/
theorem st_rss (c : Dev nD) (b s n s0 s1 : ℕ) (hn : nRow s = n) (hs : s < 3) (hb : (if b = 0 then s0 else s1) = s)
    {off offr size : Fin 3 → ℕ} {inb inbr} (ho : off = ![b, kpN s (peerN s c), 0]) (hr : offr = ![b, 0, 0]) (hz : size = ![1, n, 768])
    {f : Buf (Elt F) ((c : Thread nD τ).loc cc0_scratch9)}
    {w : (Rect.unit (s := S2x256x768) offr size inbr).shape.Idx → F .bf16}
    (hw : w = truncf .bf16 (fun x : (Rect.unit (s := S2x512x768) off size inb).shape.Idx => outF m c s0 s1 ((Rect.unit (s := S2x512x768) off size inb).emb x)) bitsLt_bf16_f32)
    {hx hm} {k' : PUnit → Prog (TpuEff nD τ sig (Elt F) Λ₀ .tc) α} :
    pc c cc0_scratch9 (srows b 0 n) f
      ⊢ iprop((Sx m c b s n -∗ wp frame (wpE (defs₀ (F := F)) 𝒱₀ (c : Thread nD τ) none) Set.univ (k' ⟨⟩) Q')
          -∗ wp frame (wpE (defs₀ (F := F)) 𝒱₀ (c : Thread nD τ) none) Set.univ
            (.op (.store (Memref.whole cc0_scratch9) (Rect.unit (s := S2x256x768) offr size inbr) w Finset.univ hx hm) k') Q') := by
  subst hw hn
  exact wp_st c (M := Memref.whole cc0_scratch9) (S := srows b 0 (nRow s)) (rssF m s c) (fun x hx => by rw [← srows_unit b 0 _ hr hz]; exact hx)
    (fun x => rss_in m c b s s0 s1 hs hb ho hr hz x) (fun i hi h => absurd rfl (h i (by rw [srows_unit b 0 _ hr hz]; exact hi)))

/-- The store of the finished rows. -/
theorem st_ag (c : Dev nD) (b s0 s1 : ℕ) (hb : (if b = 0 then s0 else s1) = 3)
    {off size : Fin 3 → ℕ} {inb} (ho : off = ![b, kp3 c, 0]) (hz : size = ![1, 64, 768])
    {f : Buf (Elt F) ((c : Thread nD τ).loc cc0_scratch10)}
    {w : (Rect.unit (s := S2x512x768) off size inb).shape.Idx → F .bf16}
    (hw : w = truncf .bf16 (fun x : (Rect.unit (s := S2x512x768) off size inb).shape.Idx => outF m c s0 s1 ((Rect.unit (s := S2x512x768) off size inb).emb x)) bitsLt_bf16_f32)
    {hx hm} {k' : PUnit → Prog (TpuEff nD τ sig (Elt F) Λ₀ .tc) α} :
    pc c cc0_scratch10 (rows b (kp3 c) 64) f
      ⊢ iprop((Ag m c b (kp3 c) 64 -∗ wp frame (wpE (defs₀ (F := F)) 𝒱₀ (c : Thread nD τ) none) Set.univ (k' ⟨⟩) Q')
          -∗ wp frame (wpE (defs₀ (F := F)) 𝒱₀ (c : Thread nD τ) none) Set.univ
            (.op (.store (Memref.whole cc0_scratch10) (Rect.unit (s := S2x512x768) off size inb) w Finset.univ hx hm) k') Q') := by
  subst hw
  exact wp_st c (M := Memref.whole cc0_scratch10) (S := rows b (kp3 c) 64) (agF m) (fun x hx => by rw [← rows_unit b _ _ ho hz]; exact hx)
    (fun x => ag_in m c b s0 s1 hb ho hz x) (fun i hi h => absurd rfl (h i (by rw [rows_unit b _ _ ho hz]; exact hi)))

end Accesses

/-! ## The waits -/

section Waits

variable {α : Type} {Q' : α → sProp (MT nD τ sig Unit (Elt F) ℕ UU ℕ)} {k' : PUnit → Prog (TpuEff nD τ sig (Elt F) Λ₀ .tc) α}

/-- The wait for an arrival, with what arrives named. -/
theorem recv {sp sp' : Space} {s s' : Shape} {e e' : EltTy} {sm : DmaSem sig} {src : Memref sig .tc sp' s' e'} {dst : Memref sig .tc sp s e}
    {hs : src.view.WordExact} {hd : dst.view.WordExact}
    (c : Dev nD) (k : KK) (D : sProp (MT nD τ sig Unit (Elt F) ℕ UU ℕ)) (Z W Q : List KK) (T : List Snd) (hD : landPay m (c, k) = D)
    (hsm : SemLoc.dma sm = csem k) (hk : k.val ≠ 52) (hu : used c k = true) (hr : isRecv k = true) (ha : dst.view.dmaCredit = amt c k)
    (hT : (T.map fun p => p.2.1).all (fun q => decide (lvK k < lvK q)) = true) :
    iprop(Cx m K ∗ St c Z (k :: W) Q T)
      ⊢ iprop(((St c (k :: Z) W Q T ∗ D) -∗ wp frame (wpE (defs₀ (F := F)) 𝒱₀ (c : Thread nD τ) none) Set.univ (k' ⟨⟩) Q')
          -∗ wp frame (wpE (defs₀ (F := F)) 𝒱₀ (c : Thread nD τ) none) Set.univ (.op (.waitDma2 sm src dst hs hd) k') Q') := by
  subst hD; exact wp_recv m K c k Z W Q T hsm hk hu hr ha hT

/-- The wait for the read-out of the oldest send, with what comes back named. -/
theorem sent {sp sp' : Space} {s s' : Shape} {e e' : EltTy} {sm : DmaSem sig} {src : Memref sig .tc sp' s' e'} {dst : Memref sig .tc sp s e}
    {hs : src.view.WordExact} {hd : dst.view.WordExact}
    (c : Dev nD) (k : KK) (D : sProp (MT nD τ sig Unit (Elt F) ℕ UU ℕ)) (Z W Q : List KK) (T : List Snd) (hD : srcPay m (c, k) = D)
    (hsm : SemLoc.dma sm = csem k) (hk : k.val ≠ 52) (hu : used c k = true) (hr : isRecv k = false) (ha : dst.view.dmaCredit = amt c k)
    (hT : (T.map fun p => p.2.1).all (fun q => decide (lvK k < lvK q)) = true) :
    iprop(Cx m K ∗ St c Z (k :: W) (k :: Q) T)
      ⊢ iprop(((St c (k :: Z) W Q T ∗ D) -∗ wp frame (wpE (defs₀ (F := F)) 𝒱₀ (c : Thread nD τ) none) Set.univ (k' ⟨⟩) Q')
          -∗ wp frame (wpE (defs₀ (F := F)) 𝒱₀ (c : Thread nD τ) none) Set.univ (.op (.waitDma2 sm src dst hs hd) k') Q') := by
  subst hD; exact wp_sent m K c k Z W Q T hsm hk hu hr ha hT

end Waits

/-! ## The sends -/

section Sends

variable {α : Type} {Q' : α → sProp (MT nD τ sig Unit (Elt F) ℕ UU ℕ)} {k' : PUnit → Prog (TpuEff nD τ sig (Elt F) Λ₀ .tc) α}

/-- One send of a round of summation. -/
theorem rs_snd (c n n' : Dev nD) (b s R : ℕ) (hR : nRow s = R) (kl ks : KK) (Z W Q : List KK) (Q2 : List KK) (hQ : Q ++ [ks] = Q2) (T : List Snd)
    {off offr size : Fin 3 → ℕ} {inb inbr} {hr hr'} {hq hq'} {s1 s2 : DmaSem sig} {hsc hs' hd hsem}
    (hn : n' = n) (hpn : n = peerN s c) (hs : s < 3) (hb : b < 2)
    (ho : off = ![b, 0, 0]) (hor : offr = ![b, oRow s, 0]) (hz : size = ![1, R, 768])
    (h1 : SemLoc.dma s1 = csem ks) (h2 : SemLoc.dma s2 = csem kl)
    (hk1 : ks.val ≠ 52) (hk2 : kl.val ≠ 52) (hr1 : isRecv ks = false) (hr2 : isRecv kl = true)
    (hu1 : used c ks = true) (hu2 : used n kl = true)
    (ha1 : (cc0_scratch8 : Ref sig .tc).dmaCredit ⟨2, ![R, 768]⟩ .bf16 = amt c ks) (ha2 : (cc0_scratch8 : Ref sig .tc).dmaCredit ⟨2, ![R, 768]⟩ .bf16 = amt n kl)
    (hP : srcPay m (c, ks) = anyOn (F := F) c cc0_scratch9 (srows b 0 (R)))
    (hA : landAny (F := F) (n, kl) = anyOn (F := F) n cc0_scratch8 (rows b (oRow s) (R)))
    (hL : landPay m (n, kl) = pc n cc0_scratch8 (rows b (oRow s) (R)) (rsbF m n)) :
    iprop(Cx m K ∗ St c Z W Q ((n, kl, ks) :: T) ∗ pc c cc0_scratch9 (srows b 0 (R)) (rssF m s c))
      ⊢ iprop((St c Z W Q2 T -∗ wp frame (wpE (defs₀ (F := F)) 𝒱₀ (c : Thread nD τ) none) Set.univ (k' ⟨⟩) Q')
          -∗ wp frame (wpE (defs₀ (F := F)) 𝒱₀ (c : Thread nD τ) none) Set.univ
              (.op (.enqueueDma (((Memref.whole cc0_scratch9).slice (Rect.unit off size inb) hr).squeeze ⟨2, ![R, 768]⟩ hq)
                (.remote (Dev.tc n' : Thread nD τ) (((Memref.whole cc0_scratch8).slice (Rect.unit offr size inbr) hr').squeeze ⟨2, ![R, 768]⟩ hq') (.dma s1) hsc)
                (.dma s2) hs' hd hsem) k') Q') := by
  subst hn hQ hR
  have hset : (((Memref.whole cc0_scratch9).slice (Rect.unit off size inb) hr).squeeze ⟨2, ![nRow s, 768]⟩ hq).view.set = srows b 0 (nRow s) :=
    (set_sq _ _ _ _ _).trans (srows_unit b 0 _ ho hz)
  have hset' : (((Memref.whole cc0_scratch8).slice (Rect.unit offr size inbr) hr').squeeze ⟨2, ![nRow s, 768]⟩ hq').view.set = rows b (oRow s) (nRow s) :=
    (set_sq _ _ _ _ _).trans (rows_unit b _ _ hor hz)
  refine wp_snd m K c (n', kl, ks) Z W Q T n' (src := ((Memref.whole cc0_scratch9).slice (Rect.unit off size inb) hr).squeeze ⟨2, ![nRow s, 768]⟩ hq)
    (dst := ((Memref.whole cc0_scratch8).slice (Rect.unit offr size inbr) hr').squeeze ⟨2, ![nRow s, 768]⟩ hq')
    rfl h1 h2 hk1 hk2 hr1 hr2 hu1 hu2 ha1 ha2 (fs := rssF m s c) ?_ ?_ ?_ ?_
  · rw [hset]
  · rw [hset, hP]; exact pc_anyOn (F := F) c cc0_scratch9 _ _
  · rw [hset', hA]
  · intro fd
    rw [hL]
    refine (Entails.of_eq (pointsTo_congr (g := rsbF m n') ?_)).trans (Entails.of_eq (by rw [hset']))
    · refine write_eq _ fd (rsbF m n') _ ?_
      intro x
      have h0 := vec3 ho; have h1 := vec3 hor
      obtain ⟨y, z, rfl⟩ : ∃ (y : Fin (nRow s)) (z : Fin 768), x = ix2 y z := ⟨x 0, x 1, eq_ix2 x⟩
      subst hz
      show rssF m s c ((Rect.unit off ![1, nRow s, 768] inb).emb (Shape.reshapeEquiv _ (ix2 y z))) = rsbF m n' ((Rect.unit offr ![1, nRow s, 768] inbr).emb (Shape.reshapeEquiv _ (ix2 y z)))
      rw [reshapeEquiv_ix2_1ab]
      have e0 := emb_v0 (s := S2x256x768) (off := off) (inb := inb) (ix3 (⟨0, Nat.one_pos⟩ : Fin 1) y z) 0
      have e1 := emb_v0 (s := S2x256x768) (off := off) (inb := inb) (ix3 (⟨0, Nat.one_pos⟩ : Fin 1) y z) 1
      have e2 := emb_v0 (s := S2x256x768) (off := off) (inb := inb) (ix3 (⟨0, Nat.one_pos⟩ : Fin 1) y z) 2
      have r0 := emb_v0 (s := S2x512x768) (off := offr) (inb := inbr) (ix3 (⟨0, Nat.one_pos⟩ : Fin 1) y z) 0
      have r1 := emb_v0 (s := S2x512x768) (off := offr) (inb := inbr) (ix3 (⟨0, Nat.one_pos⟩ : Fin 1) y z) 1
      have r2 := emb_v0 (s := S2x512x768) (off := offr) (inb := inbr) (ix3 (⟨0, Nat.one_pos⟩ : Fin 1) y z) 2
      have e1' : ((Rect.unit (s := S2x256x768) off ![1, nRow s, 768] inb).emb (ix3 (⟨0, Nat.one_pos⟩ : Fin 1) y z) 1).val = off 1 + y.val := e1
      have r1' : ((Rect.unit (s := S2x512x768) offr ![1, nRow s, 768] inbr).emb (ix3 (⟨0, Nat.one_pos⟩ : Fin 1) y z) 1).val = offr 1 + y.val := r1
      have e2' : ((Rect.unit (s := S2x256x768) off ![1, nRow s, 768] inb).emb (ix3 (⟨0, Nat.one_pos⟩ : Fin 1) y z) 2).val = off 2 + z.val := e2
      have r2' : ((Rect.unit (s := S2x512x768) offr ![1, nRow s, 768] inbr).emb (ix3 (⟨0, Nat.one_pos⟩ : Fin 1) y z) 2).val = offr 2 + z.val := r2
      have e0' : ((Rect.unit (s := S2x256x768) off ![1, nRow s, 768] inb).emb (ix3 (⟨0, Nat.one_pos⟩ : Fin 1) y z) 0).val = off 0 + 0 := e0
      have r0' : ((Rect.unit (s := S2x512x768) offr ![1, nRow s, 768] inbr).emb (ix3 (⟨0, Nat.one_pos⟩ : Fin 1) y z) 0).val = offr 0 + 0 := r0
      generalize (Rect.unit (s := S2x256x768) off ![1, nRow s, 768] inb).emb (ix3 (⟨0, Nat.one_pos⟩ : Fin 1) y z) = j at e0' e1' e2' ⊢
      generalize (Rect.unit (s := S2x512x768) offr ![1, nRow s, 768] inbr).emb (ix3 (⟨0, Nat.one_pos⟩ : Fin 1) y z) = i at r0' r1' r2' ⊢
      have hy := y.isLt
      have hle := kpN_le s n'
      have hpp : peerN s n' = c := by rw [hpn, peer_peer]
      rw [rsbF_at m s hs n' y.val hy (ix3 ⟨b, hb⟩ ⟨kpN s n' + y.val, by omega⟩ z) i (by show (i 0).val = b; omega) (by omega) rfl (by show (i 2).val = z.val; omega),
        rssF_at m s c y.val (ix3 ⟨b, hb⟩ ⟨kpN s n' + y.val, by omega⟩ z) j (by show (j 0).val = b; omega) (by omega) (by rw [← hpn]) (by show (j 2).val = z.val; omega), hpp]

/-- One send of a round of gathering. -/
theorem ag_snd (c n n' : Dev nD) (b lo R : ℕ) (kl ks : KK) (Z W Q : List KK) (Q2 : List KK) (hQ : Q ++ [ks] = Q2) (T : List Snd)
    {off size : Fin 3 → ℕ} {inb inb'} {hr hr'} {hq hq'} {s1 s2 : DmaSem sig} {hsc hs' hd hsem}
    (hn : n' = n) (ho : off = ![b, lo, 0]) (hz : size = ![1, R, 768])
    (h1 : SemLoc.dma s1 = csem ks) (h2 : SemLoc.dma s2 = csem kl)
    (hk1 : ks.val ≠ 52) (hk2 : kl.val ≠ 52) (hr1 : isRecv ks = false) (hr2 : isRecv kl = true)
    (hu1 : used c ks = true) (hu2 : used n kl = true)
    (ha1 : (cc0_scratch8 : Ref sig .tc).dmaCredit ⟨2, ![R, 768]⟩ .bf16 = amt c ks) (ha2 : (cc0_scratch8 : Ref sig .tc).dmaCredit ⟨2, ![R, 768]⟩ .bf16 = amt n kl)
    (hP : srcPay m (c, ks) = pc c cc0_scratch10 (rows b lo R) (agF m))
    (hA : landAny (F := F) (n, kl) = anyOn (F := F) n cc0_scratch10 (rows b lo R))
    (hL : landPay m (n, kl) = pc n cc0_scratch10 (rows b lo R) (agF m)) :
    iprop(Cx m K ∗ St c Z W Q ((n, kl, ks) :: T) ∗ pc c cc0_scratch10 (rows b lo R) (agF m))
      ⊢ iprop((St c Z W Q2 T -∗ wp frame (wpE (defs₀ (F := F)) 𝒱₀ (c : Thread nD τ) none) Set.univ (k' ⟨⟩) Q')
          -∗ wp frame (wpE (defs₀ (F := F)) 𝒱₀ (c : Thread nD τ) none) Set.univ
              (.op (.enqueueDma (((Memref.whole cc0_scratch10).slice (Rect.unit off size inb) hr).squeeze ⟨2, ![R, 768]⟩ hq)
                (.remote (Dev.tc n' : Thread nD τ) (((Memref.whole cc0_scratch10).slice (Rect.unit off size inb') hr').squeeze ⟨2, ![R, 768]⟩ hq') (.dma s1) hsc)
                (.dma s2) hs' hd hsem) k') Q') := by
  subst hn hQ
  have hset : (((Memref.whole cc0_scratch10).slice (Rect.unit off size inb) hr).squeeze ⟨2, ![R, 768]⟩ hq).view.set = rows b lo R :=
    (set_sq _ _ _ _ _).trans (rows_unit b _ _ ho hz)
  refine wp_snd m K c (n', kl, ks) Z W Q T n' (src := ((Memref.whole cc0_scratch10).slice (Rect.unit off size inb) hr).squeeze ⟨2, ![R, 768]⟩ hq)
    (dst := ((Memref.whole cc0_scratch10).slice (Rect.unit off size inb') hr').squeeze ⟨2, ![R, 768]⟩ hq')
    rfl h1 h2 hk1 hk2 hr1 hr2 hu1 hu2 ha1 ha2 (fs := agF m) ?_ ?_ ?_ ?_
  · rw [hset]
  · rw [hset, hP]
  · rw [hset, hA]
  · intro fd
    rw [hL]
    refine (Entails.of_eq (pointsTo_congr (g := agF m) ?_)).trans (Entails.of_eq (by rw [hset]))
    exact write_eq _ fd (agF m) _ fun x => rfl

end Sends

end Cert.Hand

end
-- ==== Proof.KvSteps.lean ====
/-
# The keys and values: contents and steps

Devices 0 and 1 read their keys and values chunk by chunk from the arrays into a staging buffer, convert each chunk to
16 bits and send it to the device that needs it; devices 4 and 7 pass some of them on. Here: what the buffers hold, and
one step of each kind.
-/
module

public import proofs.«01_k».proof.Proof.RedSteps

@[expose] public section

noncomputable section

namespace Cert.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ UU ℕ

variable (m : (ℓ : Loc nD τ sig) → Buf (Elt F) ℓ) (K : Dev nD × KK → ℕ)

/-! ## Contents -/

/-- Column chunk `d` of an array, as staged. -/
def stgF (a : FVec F S2x512x4096 .f32) (d : Fin 8) : FVec F S2x2x2x512x512 .f32 := fun i =>
  a (ix3 (i 2) (i 3) ⟨512 * d.val + (i 4).val, by have := d.isLt; have : (i 4).val < 512 := (i 4).isLt; omega⟩)
/-- An array in 16 bits, cut into column chunks. -/
def kcF (a : FVec F S2x512x4096 .f32) : FVec F S8x2x512x512 .bf16 :=
  truncf .bf16 (fun i : S8x2x512x512.Idx => a (ix3 (i 1) (i 2)
    ⟨512 * (i 0).val + (i 3).val, by have : (i 0).val < 8 := (i 0).isLt; have : (i 3).val < 512 := (i 3).isLt; omega⟩)) bitsLt_bf16_f32

/-- The keys' array of device `c`. -/
abbrev kA (c : Dev nD) : Buf (Elt F) ((c : Thread nD τ).loc main_arg2) := m ((c : Thread nD τ).loc main_arg2)
/-- The values' array of device `c`. -/
abbrev vA (c : Dev nD) : Buf (Elt F) ((c : Thread nD τ).loc main_arg3) := m ((c : Thread nD τ).loc main_arg3)

theorem kcF_lo (a0 a1 : FVec F S2x512x4096 .f32) (d : Dev nD) (i : S8x2x512x512.Idx) (j : S2x640x512.Idx)
    (h0 : (i 0).val = d.val) (h1 : (j 0).val = (i 1).val) (h2 : (j 1).val = (i 2).val) (h3 : (j 2).val = (i 3).val) :
    kcF a0 i = colsF a0 a1 d j := by
  have hi : (i 2).val < 512 := (i 2).isLt
  show FloatOps.truncf .bf16 _ _ = FloatOps.truncf .bf16 _ _
  congr 1
  beta_reduce
  rw [dif_pos (by omega)]
  refine congrArg a0 (idx3_ext ?_ ?_ ?_)
  · exact h1.symm
  · exact h2.symm
  · show 512 * (i 0).val + (i 3).val = 512 * d.val + (j 2).val
    rw [h0, h3]

theorem kcF_hi (a0 a1 : FVec F S2x512x4096 .f32) (d : Dev nD) (i : S8x2x512x512.Idx) (j : S2x640x512.Idx)
    (h0 : (i 0).val = d.val) (h1 : (j 0).val = (i 1).val) (h2 : (j 1).val = 512 + (i 2).val) (h3 : (j 2).val = (i 3).val) :
    kcF a1 i = colsF a0 a1 d j := by
  show FloatOps.truncf .bf16 _ _ = FloatOps.truncf .bf16 _ _
  congr 1
  beta_reduce
  rw [dif_neg (by omega)]
  refine congrArg a1 (idx3_ext ?_ ?_ ?_)
  · exact h1.symm
  · show (i 2).val = (j 1).val - 512
    omega
  · show 512 * (i 0).val + (i 3).val = 512 * d.val + (j 2).val
    rw [h0, h3]

theorem vec4 {off : Fin 4 → ℕ} {a b c d : ℕ} (h : off = ![a, b, c, d]) : off 0 = a ∧ off 1 = b ∧ off 2 = c ∧ off 3 = d := by
  subst h; exact ⟨rfl, rfl, rfl, rfl⟩
theorem vec5 {off : Fin 5 → ℕ} {a b c d e : ℕ} (h : off = ![a, b, c, d, e]) : off 0 = a ∧ off 1 = b ∧ off 2 = c ∧ off 3 = d ∧ off 4 = e := by
  subst h; exact ⟨rfl, rfl, rfl, rfl, rfl⟩

/-- What a staged chunk becomes in the outgoing buffer. -/
theorem stg_kc (a : FVec F S2x512x4096 .f32) (t s n : ℕ) (d : Fin 8) {offs : Fin 5 → ℕ} {off : Fin 4 → ℕ} {inbs inb} {h1 h2}
    (hos : offs = ![t, s, 0, 0, 0]) (ho : off = ![d.val, 0, 0, 0]) (x : (⟨4, ![1, 2, n, 512]⟩ : Shape).Idx) :
    shapeCast (⟨4, ![1, 2, n, 512]⟩ : Shape) (truncf .bf16 (shapeCast (⟨3, ![2, n, 512]⟩ : Shape)
        (fun y : (⟨5, ![1, 1, 2, n, 512]⟩ : Shape).Idx => stgF a d ((Rect.unit (s := S2x2x2x512x512) offs ![1, 1, 2, n, 512] inbs).emb y)) h1) bitsLt_bf16_f32) h2 x
      = kcF a ((Rect.unit (s := S8x2x512x512) off ![1, 2, n, 512] inb).emb x) := by
  have v5 := vec5 hos; have v4 := vec4 ho
  obtain ⟨x0, x1, x2, x3, rfl⟩ : ∃ (x0 : Fin 1) (x1 : Fin 2) (x2 : Fin n) (x3 : Fin 512), x = ix4 x0 x1 x2 x3 := ⟨x 0, x 1, x 2, x 3, eq_ix4 x⟩
  have hx0 : x0 = ⟨0, Nat.one_pos⟩ := Subsingleton.elim _ _
  subst hx0
  have e1 : Shape.reshapeEquiv h2 (ix4 (⟨0, Nat.one_pos⟩ : Fin 1) x1 x2 x3) = ix3 x1 x2 x3 := by
    rw [← reshapeEquiv_ix3_1abc h2.symm, Shape.reshapeEquiv_reshapeEquiv, Shape.reshapeEquiv_self]
  show FloatOps.truncf .bf16 _ (stgF a d ((Rect.unit (s := S2x2x2x512x512) offs ![1, 1, 2, n, 512] inbs).emb (Shape.reshapeEquiv h1 (Shape.reshapeEquiv h2 _)))) = FloatOps.truncf .bf16 _ (a _)
  rw [e1, reshapeEquiv_ix3_11abc]
  congr 1
  refine congrArg a (idx3_ext ?_ ?_ ?_)
  · show (((Rect.unit (s := S2x2x2x512x512) offs ![1, 1, 2, n, 512] inbs).emb _ 2).val) = (((Rect.unit (s := S8x2x512x512) off ![1, 2, n, 512] inb).emb _ 1).val)
    rw [emb_v0, emb_v0, v5.2.2.1, v4.2.1]
  · show (((Rect.unit (s := S2x2x2x512x512) offs ![1, 1, 2, n, 512] inbs).emb _ 3).val) = (((Rect.unit (s := S8x2x512x512) off ![1, 2, n, 512] inb).emb _ 2).val)
    rw [emb_v0, emb_v0, v5.2.2.2.1, v4.2.2.1]
  · show 512 * d.val + (((Rect.unit (s := S2x2x2x512x512) offs ![1, 1, 2, n, 512] inbs).emb _ 4).val)
      = 512 * (((Rect.unit (s := S8x2x512x512) off ![1, 2, n, 512] inb).emb _ 0).val) + (((Rect.unit (s := S8x2x512x512) off ![1, 2, n, 512] inb).emb _ 3).val)
    rw [emb_v0, emb_v0, emb_v0, v5.2.2.2.2, v4.1, v4.2.2.2]; rfl

/-- What a local copy moves: a column chunk of the array, onto one place of the staging buffer. -/
theorem arr_stg (a : FVec F S2x512x4096 .f32) (t s n : ℕ) (d : Fin 8) {offs : Fin 5 → ℕ} {off : Fin 3 → ℕ} {inbs inb} {h1}
    (hos : offs = ![t, s, 0, 0, 0]) (ho : off = ![0, 0, 512 * d.val]) (x : (⟨3, ![2, n, 512]⟩ : Shape).Idx) :
    a ((Rect.unit (s := S2x512x4096) off ![2, n, 512] inb).emb x)
      = stgF a d ((Rect.unit (s := S2x2x2x512x512) offs ![1, 1, 2, n, 512] inbs).emb (Shape.reshapeEquiv h1 x)) := by
  have v5 := vec5 hos; have v3 := vec3 ho
  obtain ⟨x1, x2, x3, rfl⟩ : ∃ (x1 : Fin 2) (x2 : Fin n) (x3 : Fin 512), x = ix3 x1 x2 x3 := ⟨x 0, x 1, x 2, eq_ix3 x⟩
  rw [reshapeEquiv_ix3_11abc]
  refine congrArg a (idx3_ext ?_ ?_ ?_)
  · show (((Rect.unit (s := S2x512x4096) off ![2, n, 512] inb).emb _ 0).val) = (((Rect.unit (s := S2x2x2x512x512) offs ![1, 1, 2, n, 512] inbs).emb _ 2).val)
    rw [emb_v0, emb_v0, v5.2.2.1, v3.1]
  · show (((Rect.unit (s := S2x512x4096) off ![2, n, 512] inb).emb _ 1).val) = (((Rect.unit (s := S2x2x2x512x512) offs ![1, 1, 2, n, 512] inbs).emb _ 3).val)
    rw [emb_v0, emb_v0, v5.2.2.2.1, v3.2.1]
  · show (((Rect.unit (s := S2x512x4096) off ![2, n, 512] inb).emb _ 2).val) = 512 * d.val + (((Rect.unit (s := S2x2x2x512x512) offs ![1, 1, 2, n, 512] inbs).emb _ 4).val)
    rw [emb_v0, emb_v0, v5.2.2.2.2, v3.2.2, Nat.zero_add]

/-- What a send of a chunk moves: rows of the outgoing buffer, to rows of the receiver's. -/
theorem kc_kb (a : FVec F S2x512x4096 .f32) (g : FVec F S2x640x512 .bf16) (n lo : ℕ) (d : Dev nD) {off : Fin 4 → ℕ} {offd : Fin 3 → ℕ} {inb inbd} {h1}
    (ho : off = ![d.val, 0, 0, 0]) (hod : offd = ![0, lo, 0])
    (hg : ∀ (i : S8x2x512x512.Idx) (j : S2x640x512.Idx), (i 0).val = d.val → (j 0).val = (i 1).val → (j 1).val = lo + (i 2).val → (j 2).val = (i 3).val → kcF a i = g j)
    (x : (⟨3, ![2, n, 512]⟩ : Shape).Idx) :
    kcF a ((Rect.unit (s := S8x2x512x512) off ![1, 2, n, 512] inb).emb (Shape.reshapeEquiv h1 x))
      = g ((Rect.unit (s := S2x640x512) offd ![2, n, 512] inbd).emb x) := by
  have v4 := vec4 ho; have v3 := vec3 hod
  obtain ⟨x1, x2, x3, rfl⟩ : ∃ (x1 : Fin 2) (x2 : Fin n) (x3 : Fin 512), x = ix3 x1 x2 x3 := ⟨x 0, x 1, x 2, eq_ix3 x⟩
  rw [reshapeEquiv_ix3_1abc]
  refine hg _ _ ?_ ?_ ?_ ?_
  · rw [emb_v0, v4.1]; rfl
  · rw [emb_v0, emb_v0, v4.2.1, v3.1]
  · rw [emb_v0, emb_v0, v4.2.2.1, v3.2.1, Nat.zero_add]
  · rw [emb_v0, emb_v0, v4.2.2.2, v3.2.2]

/-- A chunk, on its way to a plane of the relay buffer. -/
theorem kc_rb (a : FVec F S2x512x4096 .f32) (g : FVec F S3x2x512x512 .bf16) (j : ℕ) (d : Dev nD) {off offd : Fin 4 → ℕ} {inb inbd} {h1 h2}
    (ho : off = ![d.val, 0, 0, 0]) (hod : offd = ![j, 0, 0, 0])
    (hg : ∀ (i : S8x2x512x512.Idx) (i' : S3x2x512x512.Idx), (i 0).val = d.val → (i' 0).val = j → (i' 1).val = (i 1).val → (i' 2).val = (i 2).val → (i' 3).val = (i 3).val →
      kcF a i = g i')
    (x : (⟨3, ![2, 512, 512]⟩ : Shape).Idx) :
    kcF a ((Rect.unit (s := S8x2x512x512) off ![1, 2, 512, 512] inb).emb (Shape.reshapeEquiv h1 x))
      = g ((Rect.unit (s := S3x2x512x512) offd ![1, 2, 512, 512] inbd).emb (Shape.reshapeEquiv h2 x)) := by
  have v4 := vec4 ho; have w4 := vec4 hod
  obtain ⟨x1, x2, x3, rfl⟩ : ∃ (x1 : Fin 2) (x2 : Fin 512) (x3 : Fin 512), x = ix3 x1 x2 x3 := ⟨x 0, x 1, x 2, eq_ix3 x⟩
  rw [reshapeEquiv_ix3_1abc]
  refine hg _ _ ?_ ?_ ?_ ?_ ?_
  · rw [emb_v0, v4.1]; rfl
  · rw [emb_v0, w4.1]; rfl
  · rw [emb_v0, emb_v0, v4.2.1, w4.2.1]
  · rw [emb_v0, emb_v0, v4.2.2.1, w4.2.2.1]
  · rw [emb_v0, emb_v0, v4.2.2.2, w4.2.2.2]

/-- A plane of the relay buffer, passed on to the first rows of the receiver's. -/
theorem rb_kb (f : FVec F S3x2x512x512 .bf16) (g : FVec F S2x640x512 .bf16) (j : ℕ) {off : Fin 4 → ℕ} {offd : Fin 3 → ℕ} {inb inbd} {h1}
    (ho : off = ![j, 0, 0, 0]) (hod : offd = ![0, 0, 0])
    (hg : ∀ (i : S3x2x512x512.Idx), (i 0).val = j → f i = loF g (i 1) (i 2) (i 3))
    (x : (⟨3, ![2, 512, 512]⟩ : Shape).Idx) :
    f ((Rect.unit (s := S3x2x512x512) off ![1, 2, 512, 512] inb).emb (Shape.reshapeEquiv h1 x))
      = g ((Rect.unit (s := S2x640x512) offd ![2, 512, 512] inbd).emb x) := by
  have v4 := vec4 ho; have v3 := vec3 hod
  obtain ⟨x1, x2, x3, rfl⟩ : ∃ (x1 : Fin 2) (x2 : Fin 512) (x3 : Fin 512), x = ix3 x1 x2 x3 := ⟨x 0, x 1, x 2, eq_ix3 x⟩
  rw [reshapeEquiv_ix3_1abc, hg _ (by rw [emb_v0, v4.1]; rfl)]
  refine congrArg g (idx3_ext ?_ ?_ ?_)
  · show (((Rect.unit (s := S3x2x512x512) off ![1, 2, 512, 512] inb).emb _ 1).val) = (((Rect.unit (s := S2x640x512) offd ![2, 512, 512] inbd).emb _ 0).val)
    rw [emb_v0, emb_v0, v4.2.1, v3.1]
  · show (((Rect.unit (s := S3x2x512x512) off ![1, 2, 512, 512] inb).emb _ 2).val) = (((Rect.unit (s := S2x640x512) offd ![2, 512, 512] inbd).emb _ 1).val)
    rw [emb_v0, emb_v0, v4.2.2.1, v3.2.1]
  · show (((Rect.unit (s := S3x2x512x512) off ![1, 2, 512, 512] inb).emb _ 3).val) = (((Rect.unit (s := S2x640x512) offd ![2, 512, 512] inbd).emb _ 2).val)
    rw [emb_v0, emb_v0, v4.2.2.2, v3.2.2]

/-! ## The local copies -/

/-- A copy under way on cell `k`: what it will leave is `P`. -/
def Busy (c : Dev nD) (k : KK) (N : ℕ) (P : sProp (MT nD τ sig Unit (Elt F) ℕ UU ℕ)) : sProp 𝕄 :=
  iprop(∃ D, Transfers.Flight EC (c : Thread nD τ) (csem k) () N D ∗ (D -∗ P))

/-- A share of the array `b`, and a place of the staging buffer at contents `g`. -/
abbrev Rdy (c : Dev nD) (b : Ref sig .tc) (V : Buf (Elt F) ((c : Thread nD τ).loc b)) (q : PosShare TreeShare) (t s n : ℕ) (g : FVec F S2x2x2x512x512 .f32) : sProp 𝕄 :=
  iprop((((c : Thread nD τ).loc b) ↦[Finset.univ]{q} V) ∗ pc c cc0_scratch7 (stq t s n) g)
/-- The same, with the place at some contents and its cell at rest. -/
abbrev Idle (c : Dev nD) (b : Ref sig .tc) (V : Buf (Elt F) ((c : Thread nD τ).loc b)) (q : PosShare TreeShare) (k : KK) (t s n : ℕ) : sProp 𝕄 :=
  iprop((((c : Thread nD τ).loc b) ↦[Finset.univ]{q} V) ∗ anyOn (F := F) c cc0_scratch7 (stq t s n) ∗ zItem (F := F) c k)

section Steps

variable {α : Type} {Q' : α → sProp (MT nD τ sig Unit (Elt F) ℕ UU ℕ)} {k' : PUnit → Prog (TpuEff nD τ sig (Elt F) Λ₀ .tc) α}

theorem go_gen {sp : Space} {s₀ : Shape} {e : EltTy} (c : Dev nD) (k : KK) (N : ℕ) {sp' : Space}
    {src : Memref sig .tc sp s₀ e} {dst : Memref sig .tc sp' s₀ e} {sm : DmaSem sig} {hs hd hsem}
    (V : Buf (Elt F) (src.view.loc (c : Thread nD τ))) (q : PosShare TreeShare) (S : Finset (Idx (dst.view.loc (c : Thread nD τ)))) (g : Buf (Elt F) (dst.view.loc (c : Thread nD τ)))
    (hsm : SemLoc.dma sm = csem k) (hN : dst.view.amount (SemLoc.dma sm) = N) (hN0 : 0 < N) (hS : dst.view.set = S)
    (hv : ∀ x, src.view.read (Elt F) V x = dst.view.read (Elt F) g x) :
    iprop((src.view.loc (c : Thread nD τ) ↦[Finset.univ]{q} V) ∗ (∃ f, dst.view.loc (c : Thread nD τ) ↦[S]{fullShare} f) ∗ zItem (F := F) c k)
      ⊢ iprop((Busy c k N iprop((src.view.loc (c : Thread nD τ) ↦[Finset.univ]{q} V) ∗ (dst.view.loc (c : Thread nD τ) ↦[S]{fullShare} g))
            -∗ wp frame (wpE (defs₀ (F := F)) 𝒱₀ (c : Thread nD τ) none) Set.univ (k' ⟨⟩) Q')
          -∗ wp frame (wpE (defs₀ (F := F)) 𝒱₀ (c : Thread nD τ) none) Set.univ (.op (.enqueueDma src (.here dst) (.dma sm) hs hd hsem) k') Q') := by
  subst hS
  unfold zItem Busy kcell
  rw [← hsm]
  iintro ⟨Hs, ⟨%f, Hd⟩, Hz⟩ Hk
  ihave Hs := (pointsTo_split_subset (Finset.subset_univ src.view.set)).1 $$ Hs
  icases Hs with ⟨Hs, Hr⟩
  iapply (Transfers.wp_dmaLocal EC 𝒱₀ (c : Thread nD τ) none () N hN hN0 (subset_refl _)) $$ [Hs Hd Hz]
  · isplitl [Hs]; · iexact Hs
    isplitl [Hd]; · iexact Hd
    iexact Hz
  iintro Hf
  iapply Hk
  iexists _
  isplitl [Hf]; · iexact Hf
  iintro ⟨Hd, Hs⟩
  isplitl [Hs Hr]
  · iapply (pointsTo_split_subset (Finset.subset_univ src.view.set)).2
    isplitl [Hs] <;> iassumption
  iapply (Entails.of_eq (pointsTo_congr (write_eq dst.view f g _ hv)))
  iexact Hd

/-- The credit of one local copy of `n` rows of both batches. -/
abbrev NS (n : ℕ) : ℕ := (cc0_scratch7 : Ref sig .tc).dmaCredit ⟨3, ![2, n, 512]⟩ .f32

/-- Start staging chunk `d` of the keys. -/
theorem goK (c : Dev nD) (k : KK) (n : ℕ) (s : ℕ) (d : Fin 8) (V : FVec F S2x512x4096 .f32) (q : PosShare TreeShare)
    {offs : Fin 5 → ℕ} {off : Fin 3 → ℕ} {inbs inb hr hr' hq} {sm : DmaSem sig} {hs hd hsem}
    (hos : offs = ![0, s, 0, 0, 0]) (ho : off = ![0, 0, 512 * d.val]) (hsm : SemLoc.dma sm = csem k) (hN0 : 0 < NS n) :
    Idle c main_arg2 V q k 0 s n
      ⊢ iprop((Busy c k (NS n) (Rdy c main_arg2 V q 0 s n (stgF V d)) -∗ wp frame (wpE (defs₀ (F := F)) 𝒱₀ (c : Thread nD τ) none) Set.univ (k' ⟨⟩) Q')
          -∗ wp frame (wpE (defs₀ (F := F)) 𝒱₀ (c : Thread nD τ) none) Set.univ (.op (.enqueueDma ((Memref.whole main_arg2).slice (Rect.unit (s := S2x512x4096) off ![2, n, 512] inb) hr)
            (.here (((Memref.whole cc0_scratch7).slice (Rect.unit (s := S2x2x2x512x512) offs ![1, 1, 2, n, 512] inbs) hr').squeeze ⟨3, ![2, n, 512]⟩ hq)) (.dma sm) hs hd hsem) k') Q') :=
  go_gen c k (NS n) (src := (Memref.whole main_arg2).slice (Rect.unit (s := S2x512x4096) off ![2, n, 512] inb) hr)
    (dst := ((Memref.whole cc0_scratch7).slice (Rect.unit (s := S2x2x2x512x512) offs ![1, 1, 2, n, 512] inbs) hr').squeeze ⟨3, ![2, n, 512]⟩ hq)
    V q (stq 0 s n) (stgF V d) hsm rfl hN0 ((set_sq _ _ _ _ _).trans (stq_unit 0 s n hos rfl)) (fun x => arr_stg V 0 s n d hos ho x)

/-- Start staging chunk `d` of the values. -/
theorem goV (c : Dev nD) (k : KK) (n : ℕ) (s : ℕ) (d : Fin 8) (V : FVec F S2x512x4096 .f32) (q : PosShare TreeShare)
    {offs : Fin 5 → ℕ} {off : Fin 3 → ℕ} {inbs inb hr hr' hq} {sm : DmaSem sig} {hs hd hsem}
    (hos : offs = ![1, s, 0, 0, 0]) (ho : off = ![0, 0, 512 * d.val]) (hsm : SemLoc.dma sm = csem k) (hN0 : 0 < NS n) :
    Idle c main_arg3 V q k 1 s n
      ⊢ iprop((Busy c k (NS n) (Rdy c main_arg3 V q 1 s n (stgF V d)) -∗ wp frame (wpE (defs₀ (F := F)) 𝒱₀ (c : Thread nD τ) none) Set.univ (k' ⟨⟩) Q')
          -∗ wp frame (wpE (defs₀ (F := F)) 𝒱₀ (c : Thread nD τ) none) Set.univ (.op (.enqueueDma ((Memref.whole main_arg3).slice (Rect.unit (s := S2x512x4096) off ![2, n, 512] inb) hr)
            (.here (((Memref.whole cc0_scratch7).slice (Rect.unit (s := S2x2x2x512x512) offs ![1, 1, 2, n, 512] inbs) hr').squeeze ⟨3, ![2, n, 512]⟩ hq)) (.dma sm) hs hd hsem) k') Q') :=
  go_gen c k (NS n) (src := (Memref.whole main_arg3).slice (Rect.unit (s := S2x512x4096) off ![2, n, 512] inb) hr)
    (dst := ((Memref.whole cc0_scratch7).slice (Rect.unit (s := S2x2x2x512x512) offs ![1, 1, 2, n, 512] inbs) hr').squeeze ⟨3, ![2, n, 512]⟩ hq)
    V q (stq 1 s n) (stgF V d) hsm rfl hN0 ((set_sq _ _ _ _ _).trans (stq_unit 1 s n hos rfl)) (fun x => arr_stg V 1 s n d hos ho x)

/-- Wait for a staged chunk. -/
theorem stg_wait {sp sp' : Space} {s s' : Shape} {e e' : EltTy} {sm : DmaSem sig} {src : Memref sig .tc sp' s' e'} {dst : Memref sig .tc sp s e}
    {hs : src.view.WordExact} {hd : dst.view.WordExact}
    (c : Dev nD) (k : KK) (Z W Q : List KK) (T : List Snd) (N : ℕ) (P : sProp (MT nD τ sig Unit (Elt F) ℕ UU ℕ))
    (hsm : SemLoc.dma sm = csem k) (hN : dst.view.dmaCredit = N) (hlv : lvK k = 0) (hT : (T.map fun p => p.2.1).all (fun q => decide (0 < lvK q)) = true) :
    iprop(Cx m K ∗ St c Z W Q T ∗ Busy c k N P)
      ⊢ iprop(((St c Z W Q T ∗ P ∗ zItem (F := F) c k) -∗ wp frame (wpE (defs₀ (F := F)) 𝒱₀ (c : Thread nD τ) none) Set.univ (k' ⟨⟩) Q') -∗ wp frame (wpE (defs₀ (F := F)) 𝒱₀ (c : Thread nD τ) none) Set.univ (.op (.waitDma2 sm src dst hs hd) k') Q') := by
  unfold Busy zItem kcell
  rw [← hsm]
  iintro ⟨#HC, HSt, ⟨%D, Hf, HD⟩⟩ Hk
  iapply (wp_own m K c Z W Q T N D hN (by rw [hsm]; exact le_of_eq ((lv_kcell c k).trans hlv)) hT) $$ [HSt Hf]
  · isplitr; · iexact HC
    isplitl [HSt] <;> iassumption
  iintro ⟨HSt, Hd, Hz⟩
  iapply Hk
  isplitl [HSt]; · iexact HSt
  isplitl [HD Hd]; · iapply HD; iexact Hd
  iexact Hz

/-- Read a staged chunk. -/
theorem ld_stg (c : Dev nD) (t s n : ℕ) {f : Buf (Elt F) ((c : Thread nD τ).loc cc0_scratch7)} {off : Fin 5 → ℕ} {inb} {hl}
    {k' : ((Rect.unit (s := S2x2x2x512x512) off ![1, 1, 2, n, 512] inb).toLoadRect.shape.Idx → F .f32) → Prog (TpuEff nD τ sig (Elt F) Λ₀ .tc) α}
    (ho : off = ![t, s, 0, 0, 0]) :
    pc c cc0_scratch7 (stq t s n) f
      ⊢ iprop((pc c cc0_scratch7 (stq t s n) f -∗ wp frame (wpE (defs₀ (F := F)) 𝒱₀ (c : Thread nD τ) none) Set.univ (k' fun x => f ((Rect.unit (s := S2x2x2x512x512) off ![1, 1, 2, n, 512] inb).emb x)) Q')
          -∗ wp frame (wpE (defs₀ (F := F)) 𝒱₀ (c : Thread nD τ) none) Set.univ (.op (.load (Memref.whole cc0_scratch7) (Rect.unit (s := S2x2x2x512x512) off ![1, 1, 2, n, 512] inb).toLoadRect hl) k') Q') :=
  wp_ldr c (M := Memref.whole cc0_scratch7) (S := stq t s n) (fun x hx => by rw [← stq_unit t s n ho rfl]; exact hx)

/-- Read a chunk of the outgoing keys. -/
theorem ld_kc (c : Dev nD) (d n : ℕ) {f : Buf (Elt F) ((c : Thread nD τ).loc cc0_scratch5)} {off : Fin 4 → ℕ} {inb} {hl}
    {k' : ((Rect.unit (s := S8x2x512x512) off ![1, 2, n, 512] inb).toLoadRect.shape.Idx → F .bf16) → Prog (TpuEff nD τ sig (Elt F) Λ₀ .tc) α}
    (ho : off = ![d, 0, 0, 0]) :
    pc c cc0_scratch5 (chunk d n) f
      ⊢ iprop((pc c cc0_scratch5 (chunk d n) f -∗ wp frame (wpE (defs₀ (F := F)) 𝒱₀ (c : Thread nD τ) none) Set.univ (k' fun x => f ((Rect.unit (s := S8x2x512x512) off ![1, 2, n, 512] inb).emb x)) Q')
          -∗ wp frame (wpE (defs₀ (F := F)) 𝒱₀ (c : Thread nD τ) none) Set.univ (.op (.load (Memref.whole cc0_scratch5) (Rect.unit (s := S8x2x512x512) off ![1, 2, n, 512] inb).toLoadRect hl) k') Q') :=
  wp_ldr c (M := Memref.whole cc0_scratch5) (S := chunk d n) (fun x hx => by rw [← chunk_unit d n ho rfl]; exact hx)

/-- Write a chunk of the outgoing keys. -/
theorem st_kc (c : Dev nD) (d n : ℕ) (V : FVec F S2x512x4096 .f32) {f : Buf (Elt F) ((c : Thread nD τ).loc cc0_scratch5)} {off : Fin 4 → ℕ} {inb} {hx hm}
    {w : (Rect.unit (s := S8x2x512x512) off ![1, 2, n, 512] inb).shape.Idx → F .bf16}
    (ho : off = ![d, 0, 0, 0]) (hw : ∀ x, w x = kcF V ((Rect.unit (s := S8x2x512x512) off ![1, 2, n, 512] inb).emb x)) :
    pc c cc0_scratch5 (chunk d n) f
      ⊢ iprop((pc c cc0_scratch5 (chunk d n) (kcF V) -∗ wp frame (wpE (defs₀ (F := F)) 𝒱₀ (c : Thread nD τ) none) Set.univ (k' ⟨⟩) Q')
          -∗ wp frame (wpE (defs₀ (F := F)) 𝒱₀ (c : Thread nD τ) none) Set.univ (.op (.store (Memref.whole cc0_scratch5) (Rect.unit (s := S8x2x512x512) off ![1, 2, n, 512] inb) w Finset.univ hx hm) k') Q') := by
  have hset := chunk_unit (inb := inb) d n ho rfl
  exact wp_st c (M := Memref.whole cc0_scratch5) (r := Rect.unit (s := S8x2x512x512) off ![1, 2, n, 512] inb) (S := chunk d n) (f := f) (kcF V)
    (fun x hx => by rw [← hset]; exact hx) hw (fun i hi h => absurd rfl (h i (by rw [hset]; exact hi)))

/-- Read a chunk of the outgoing values. -/
theorem ld_vc (c : Dev nD) (d n : ℕ) {f : Buf (Elt F) ((c : Thread nD τ).loc cc0_scratch6)} {off : Fin 4 → ℕ} {inb} {hl}
    {k' : ((Rect.unit (s := S8x2x512x512) off ![1, 2, n, 512] inb).toLoadRect.shape.Idx → F .bf16) → Prog (TpuEff nD τ sig (Elt F) Λ₀ .tc) α}
    (ho : off = ![d, 0, 0, 0]) :
    pc c cc0_scratch6 (chunk d n) f
      ⊢ iprop((pc c cc0_scratch6 (chunk d n) f -∗ wp frame (wpE (defs₀ (F := F)) 𝒱₀ (c : Thread nD τ) none) Set.univ (k' fun x => f ((Rect.unit (s := S8x2x512x512) off ![1, 2, n, 512] inb).emb x)) Q')
          -∗ wp frame (wpE (defs₀ (F := F)) 𝒱₀ (c : Thread nD τ) none) Set.univ (.op (.load (Memref.whole cc0_scratch6) (Rect.unit (s := S8x2x512x512) off ![1, 2, n, 512] inb).toLoadRect hl) k') Q') :=
  wp_ldr c (M := Memref.whole cc0_scratch6) (S := chunk d n) (fun x hx => by rw [← chunk_unit d n ho rfl]; exact hx)

/-- Write a chunk of the outgoing values. -/
theorem st_vc (c : Dev nD) (d n : ℕ) (V : FVec F S2x512x4096 .f32) {f : Buf (Elt F) ((c : Thread nD τ).loc cc0_scratch6)} {off : Fin 4 → ℕ} {inb} {hx hm}
    {w : (Rect.unit (s := S8x2x512x512) off ![1, 2, n, 512] inb).shape.Idx → F .bf16}
    (ho : off = ![d, 0, 0, 0]) (hw : ∀ x, w x = kcF V ((Rect.unit (s := S8x2x512x512) off ![1, 2, n, 512] inb).emb x)) :
    pc c cc0_scratch6 (chunk d n) f
      ⊢ iprop((pc c cc0_scratch6 (chunk d n) (kcF V) -∗ wp frame (wpE (defs₀ (F := F)) 𝒱₀ (c : Thread nD τ) none) Set.univ (k' ⟨⟩) Q')
          -∗ wp frame (wpE (defs₀ (F := F)) 𝒱₀ (c : Thread nD τ) none) Set.univ (.op (.store (Memref.whole cc0_scratch6) (Rect.unit (s := S8x2x512x512) off ![1, 2, n, 512] inb) w Finset.univ hx hm) k') Q') := by
  have hset := chunk_unit (inb := inb) d n ho rfl
  exact wp_st c (M := Memref.whole cc0_scratch6) (r := Rect.unit (s := S8x2x512x512) off ![1, 2, n, 512] inb) (S := chunk d n) (f := f) (kcF V)
    (fun x hx => by rw [← hset]; exact hx) hw (fun i hi h => absurd rfl (h i (by rw [hset]; exact hi)))

/-- Read rows of the keys. -/
theorem ld_kb (c : Dev nD) (lo n : ℕ) {f : Buf (Elt F) ((c : Thread nD τ).loc cc0_scratch0)} {off : Fin 3 → ℕ} {inb} {hl}
    {k' : ((Rect.unit (s := S2x640x512) off ![2, n, 512] inb).toLoadRect.shape.Idx → F .bf16) → Prog (TpuEff nD τ sig (Elt F) Λ₀ .tc) α}
    (ho : off = ![0, lo, 0]) :
    pc c cc0_scratch0 (krows lo n) f
      ⊢ iprop((pc c cc0_scratch0 (krows lo n) f -∗ wp frame (wpE (defs₀ (F := F)) 𝒱₀ (c : Thread nD τ) none) Set.univ (k' fun x => f ((Rect.unit (s := S2x640x512) off ![2, n, 512] inb).emb x)) Q')
          -∗ wp frame (wpE (defs₀ (F := F)) 𝒱₀ (c : Thread nD τ) none) Set.univ (.op (.load (Memref.whole cc0_scratch0) (Rect.unit (s := S2x640x512) off ![2, n, 512] inb).toLoadRect hl) k') Q') :=
  wp_ldr c (M := Memref.whole cc0_scratch0) (S := krows lo n) (fun x hx => by rw [← krows_unit lo n ho rfl]; exact hx)

/-- Write rows of the keys. -/
theorem st_kb (c : Dev nD) (lo n : ℕ) (g : FVec F S2x640x512 .bf16) {f : Buf (Elt F) ((c : Thread nD τ).loc cc0_scratch0)} {off : Fin 3 → ℕ} {inb} {hx hm}
    {w : (Rect.unit (s := S2x640x512) off ![2, n, 512] inb).shape.Idx → F .bf16}
    (ho : off = ![0, lo, 0]) (hw : ∀ x, w x = g ((Rect.unit (s := S2x640x512) off ![2, n, 512] inb).emb x)) :
    pc c cc0_scratch0 (krows lo n) f
      ⊢ iprop((pc c cc0_scratch0 (krows lo n) g -∗ wp frame (wpE (defs₀ (F := F)) 𝒱₀ (c : Thread nD τ) none) Set.univ (k' ⟨⟩) Q')
          -∗ wp frame (wpE (defs₀ (F := F)) 𝒱₀ (c : Thread nD τ) none) Set.univ (.op (.store (Memref.whole cc0_scratch0) (Rect.unit (s := S2x640x512) off ![2, n, 512] inb) w Finset.univ hx hm) k') Q') := by
  have hset := krows_unit (inb := inb) lo n ho rfl
  exact wp_st c (M := Memref.whole cc0_scratch0) (r := Rect.unit (s := S2x640x512) off ![2, n, 512] inb) (S := krows lo n) (f := f) g
    (fun x hx => by rw [← hset]; exact hx) hw (fun i hi h => absurd rfl (h i (by rw [hset]; exact hi)))

/-- Read rows of the values. -/
theorem ld_vb (c : Dev nD) (lo n : ℕ) {f : Buf (Elt F) ((c : Thread nD τ).loc cc0_scratch1)} {off : Fin 3 → ℕ} {inb} {hl}
    {k' : ((Rect.unit (s := S2x640x512) off ![2, n, 512] inb).toLoadRect.shape.Idx → F .bf16) → Prog (TpuEff nD τ sig (Elt F) Λ₀ .tc) α}
    (ho : off = ![0, lo, 0]) :
    pc c cc0_scratch1 (krows lo n) f
      ⊢ iprop((pc c cc0_scratch1 (krows lo n) f -∗ wp frame (wpE (defs₀ (F := F)) 𝒱₀ (c : Thread nD τ) none) Set.univ (k' fun x => f ((Rect.unit (s := S2x640x512) off ![2, n, 512] inb).emb x)) Q')
          -∗ wp frame (wpE (defs₀ (F := F)) 𝒱₀ (c : Thread nD τ) none) Set.univ (.op (.load (Memref.whole cc0_scratch1) (Rect.unit (s := S2x640x512) off ![2, n, 512] inb).toLoadRect hl) k') Q') :=
  wp_ldr c (M := Memref.whole cc0_scratch1) (S := krows lo n) (fun x hx => by rw [← krows_unit lo n ho rfl]; exact hx)

/-- Write rows of the values. -/
theorem st_vb (c : Dev nD) (lo n : ℕ) (g : FVec F S2x640x512 .bf16) {f : Buf (Elt F) ((c : Thread nD τ).loc cc0_scratch1)} {off : Fin 3 → ℕ} {inb} {hx hm}
    {w : (Rect.unit (s := S2x640x512) off ![2, n, 512] inb).shape.Idx → F .bf16}
    (ho : off = ![0, lo, 0]) (hw : ∀ x, w x = g ((Rect.unit (s := S2x640x512) off ![2, n, 512] inb).emb x)) :
    pc c cc0_scratch1 (krows lo n) f
      ⊢ iprop((pc c cc0_scratch1 (krows lo n) g -∗ wp frame (wpE (defs₀ (F := F)) 𝒱₀ (c : Thread nD τ) none) Set.univ (k' ⟨⟩) Q')
          -∗ wp frame (wpE (defs₀ (F := F)) 𝒱₀ (c : Thread nD τ) none) Set.univ (.op (.store (Memref.whole cc0_scratch1) (Rect.unit (s := S2x640x512) off ![2, n, 512] inb) w Finset.univ hx hm) k') Q') := by
  have hset := krows_unit (inb := inb) lo n ho rfl
  exact wp_st c (M := Memref.whole cc0_scratch1) (r := Rect.unit (s := S2x640x512) off ![2, n, 512] inb) (S := krows lo n) (f := f) g
    (fun x hx => by rw [← hset]; exact hx) hw (fun i hi h => absurd rfl (h i (by rw [hset]; exact hi)))

/-- A send from elements `Ss` at contents `fs`, landing on `Sd` with contents `g`. -/
theorem snd_gen {sp sp' : Space} {s : Shape} {e : EltTy} (c n n' : Dev nD) (kl ks : KK) (Z W Q Q2 : List KK) (hQ : Q ++ [ks] = Q2) (T1 T : List Snd)
    (hT : T1 = (n, kl, ks) :: T)
    {src : Memref sig .tc sp s e} {dst : Memref sig .tc sp' s e} {s1 s2 : DmaSem sig} {hsc hs' hd hsem}
    (Ss : Finset (Idx (src.view.loc (c : Thread nD τ)))) (Sd : Finset (Idx (dst.view.loc (n : Thread nD τ))))
    (fs : Buf (Elt F) (src.view.loc (c : Thread nD τ))) (g : Buf (Elt F) (dst.view.loc (n : Thread nD τ)))
    (hSs : src.view.set = Ss) (hSd : dst.view.set = Sd) (hv : ∀ x, src.view.read (Elt F) fs x = dst.view.read (Elt F) g x)
    (hn : n' = n) (h1 : SemLoc.dma s1 = csem ks) (h2 : SemLoc.dma s2 = csem kl)
    (hk1 : ks.val ≠ 52) (hk2 : kl.val ≠ 52) (hr1 : isRecv ks = false) (hr2 : isRecv kl = true)
    (hu1 : used c ks = true) (hu2 : used n kl = true)
    (ha1 : dst.view.dmaCredit = amt c ks) (ha2 : dst.view.dmaCredit = amt n kl)
    (hP : srcPay m (c, ks) = iprop(∃ f, src.view.loc (c : Thread nD τ) ↦[Ss]{fullShare} f))
    (hA : landAny (F := F) (n, kl) = iprop(∃ f, dst.view.loc (n : Thread nD τ) ↦[Sd]{fullShare} f))
    (hL : landPay m (n, kl) = (dst.view.loc (n : Thread nD τ) ↦[Sd]{fullShare} g)) :
    iprop(Cx m K ∗ St c Z W Q T1 ∗ (src.view.loc (c : Thread nD τ) ↦[Ss]{fullShare} fs))
      ⊢ iprop((St c Z W Q2 T -∗ wp frame (wpE (defs₀ (F := F)) 𝒱₀ (c : Thread nD τ) none) Set.univ (k' ⟨⟩) Q')
          -∗ wp frame (wpE (defs₀ (F := F)) 𝒱₀ (c : Thread nD τ) none) Set.univ (.op (.enqueueDma src (.remote (Dev.tc n' : Thread nD τ) dst (.dma s1) hsc) (.dma s2) hs' hd hsem) k') Q') := by
  subst hn hQ hT hSs hSd
  refine wp_snd m K c (n', kl, ks) Z W Q T n' (src := src) (dst := dst) rfl h1 h2 hk1 hk2 hr1 hr2 hu1 hu2 ha1 ha2 (fs := fs) Entails.rfl ?_ ?_ ?_
  · rw [hP]; iintro H; iexists fs; iexact H
  · rw [hA]
  · intro fd
    rw [hL]
    exact Entails.of_eq (pointsTo_congr (write_eq _ fd g _ hv))

end Steps

end Cert.Hand

end
-- ==== Proof.KvItem.lean ====
/-
# The keys and values: one chunk

The steps of one chunk: staging it, bringing it to 16 bits, and sending it, to its device or to a relay.
-/
module

public import proofs.«01_k».proof.Proof.KvSteps

@[expose] public section

noncomputable section

namespace Cert.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ UU ℕ

variable (m : (ℓ : Loc nD τ sig) → Buf (Elt F) ℓ) (K : Dev nD × KK → ℕ)

section Items

variable {α : Type} {Q' : α → sProp (MT nD τ sig Unit (Elt F) ℕ UU ℕ)} {k' : PUnit → Prog (TpuEff nD τ sig (Elt F) Λ₀ .tc) α}

/-- A chunk of keys and values under way to the staging buffer. -/
abbrev Going (c : Dev nD) (V1 V2 : FVec F S2x512x4096 .f32) (q : PosShare TreeShare) (kK kV : KK) (s n : ℕ) (d : Fin 8) : sProp 𝕄 :=
  iprop(Busy c kK (NS n) (Rdy c main_arg2 V1 q 0 s n (stgF V1 d)) ∗ Busy c kV (NS n) (Rdy c main_arg3 V2 q 1 s n (stgF V2 d)))
/-- A slot of the staging buffer at rest. -/
abbrev Rest (c : Dev nD) (V1 V2 : FVec F S2x512x4096 .f32) (q : PosShare TreeShare) (kK kV : KK) (s n : ℕ) : sProp 𝕄 :=
  iprop(Idle c main_arg2 V1 q kK 0 s n ∗ Idle c main_arg3 V2 q kV 1 s n)

/-- Start staging a chunk of the keys and of the values. -/
theorem goKV (c : Dev nD) (V1 V2 : FVec F S2x512x4096 .f32) (q : PosShare TreeShare) (kK kV : KK) (s n : ℕ) (d : Fin 8)
    {offs offs' : Fin 5 → ℕ} {off off' : Fin 3 → ℕ} {i1 i2 i3 i4 r1 r2 r3 r4 q1 q2} {sm sm' : DmaSem sig} {a1 a2 a3 b1 b2 b3}
    (hos : offs = ![0, s, 0, 0, 0]) (ho : off = ![0, 0, 512 * d.val]) (hos' : offs' = ![1, s, 0, 0, 0]) (ho' : off' = ![0, 0, 512 * d.val])
    (hsm : SemLoc.dma sm = csem kK) (hsm' : SemLoc.dma sm' = csem kV) (hN0 : 0 < NS n) :
    Rest c V1 V2 q kK kV s n
      ⊢ iprop((Going c V1 V2 q kK kV s n d -∗ wp frame (wpE (defs₀ (F := F)) 𝒱₀ (c : Thread nD τ) none) Set.univ (k' ⟨⟩) Q')
          -∗ wp frame (wpE (defs₀ (F := F)) 𝒱₀ (c : Thread nD τ) none) Set.univ (.op (.enqueueDma ((Memref.whole main_arg2).slice (Rect.unit (s := S2x512x4096) off ![2, n, 512] i1) r1)
            (.here (((Memref.whole cc0_scratch7).slice (Rect.unit (s := S2x2x2x512x512) offs ![1, 1, 2, n, 512] i2) r2).squeeze ⟨3, ![2, n, 512]⟩ q1)) (.dma sm) a1 a2 a3)
            fun _ => .op (.enqueueDma ((Memref.whole main_arg3).slice (Rect.unit (s := S2x512x4096) off' ![2, n, 512] i3) r3)
            (.here (((Memref.whole cc0_scratch7).slice (Rect.unit (s := S2x2x2x512x512) offs' ![1, 1, 2, n, 512] i4) r4).squeeze ⟨3, ![2, n, 512]⟩ q2)) (.dma sm') b1 b2 b3) k') Q') := by
  iintro ⟨H1, H2⟩ Hk
  iapply (goK c kK n s d V1 q hos ho hsm hN0) $$ H1; iintro H1
  iapply (goV c kV n s d V2 q hos' ho' hsm' hN0) $$ H2; iintro H2
  iapply Hk
  isplitl [H1] <;> iassumption

/-- A staged chunk of the keys and of the values, brought to 16 bits in the outgoing buffers. -/
theorem item (c : Dev nD) (V1 V2 : FVec F S2x512x4096 .f32) (q : PosShare TreeShare) (kK kV : KK) (s n : ℕ) (d : Fin 8)
    (Z W Q : List KK) (T : List Snd)
    {offs offs' o1 o2 : Fin 5 → ℕ} {off off' : Fin 3 → ℕ} {o3 o3' o4 o4' : Fin 4 → ℕ} {i1 i2 i3 i4 i5 i6 i7 i8 i7' i8' r1 r2 r3 r4 q1 q2 w1 w2 w3 w4 hc1 hc2 l1 l2 l3 l4 x1 x2 x3 x4} {sm sm' : DmaSem sig}
    (ho1 : o1 = ![0, s, 0, 0, 0]) (ho2 : o2 = ![1, s, 0, 0, 0]) (ho3 : o3 = ![d.val, 0, 0, 0]) (ho3' : o3' = ![d.val, 0, 0, 0])
    (ho4 : o4 = ![d.val, 0, 0, 0]) (ho4' : o4' = ![d.val, 0, 0, 0])
    (hsm : SemLoc.dma sm = csem kK) (hsm' : SemLoc.dma sm' = csem kV) (hlv : lvK kK = 0) (hlv' : lvK kV = 0)
    (hT : (T.map fun p => p.2.1).all (fun q => decide (0 < lvK q)) = true) :
    iprop(Cx m K ∗ St c Z W Q T ∗ Going c V1 V2 q kK kV s n d ∗ anyOn (F := F) c cc0_scratch5 (chunk d.val n) ∗ anyOn (F := F) c cc0_scratch6 (chunk d.val n))
      ⊢ iprop(((St c Z W Q T ∗ Rest c V1 V2 q kK kV s n ∗ pc c cc0_scratch5 (chunk d.val n) (kcF V1) ∗ pc c cc0_scratch6 (chunk d.val n) (kcF V2))
            -∗ wp frame (wpE (defs₀ (F := F)) 𝒱₀ (c : Thread nD τ) none) Set.univ (k' ⟨⟩) Q')
          -∗ wp frame (wpE (defs₀ (F := F)) 𝒱₀ (c : Thread nD τ) none) Set.univ (.op (.waitDma2 sm ((Memref.whole main_arg2).slice (Rect.unit (s := S2x512x4096) off ![2, n, 512] i1) r1)
              (((Memref.whole cc0_scratch7).slice (Rect.unit (s := S2x2x2x512x512) offs ![1, 1, 2, n, 512] i2) r2).squeeze ⟨3, ![2, n, 512]⟩ q1) w1 w2)
            fun _ => .op (.waitDma2 sm' ((Memref.whole main_arg3).slice (Rect.unit (s := S2x512x4096) off' ![2, n, 512] i3) r3)
              (((Memref.whole cc0_scratch7).slice (Rect.unit (s := S2x2x2x512x512) offs' ![1, 1, 2, n, 512] i4) r4).squeeze ⟨3, ![2, n, 512]⟩ q2) w3 w4)
            fun _ => .op (.load (Memref.whole cc0_scratch7) (Rect.unit (s := S2x2x2x512x512) o1 ![1, 1, 2, n, 512] i5).toLoadRect l1)
            fun v1 => .op (.load (Memref.whole cc0_scratch5) (Rect.unit (s := S8x2x512x512) o3 ![1, 2, n, 512] i7).toLoadRect l2)
            fun _ => .op (.store (Memref.whole cc0_scratch5) (Rect.unit (s := S8x2x512x512) o3' ![1, 2, n, 512] i7') (shapeCast (⟨4, ![1, 2, n, 512]⟩ : Shape) (truncf .bf16 (shapeCast (⟨3, ![2, n, 512]⟩ : Shape) v1 hc1) bitsLt_bf16_f32) hc2) Finset.univ x1 x2)
            fun _ => .op (.load (Memref.whole cc0_scratch7) (Rect.unit (s := S2x2x2x512x512) o2 ![1, 1, 2, n, 512] i6).toLoadRect l3)
            fun v2 => .op (.load (Memref.whole cc0_scratch6) (Rect.unit (s := S8x2x512x512) o4 ![1, 2, n, 512] i8).toLoadRect l4)
            fun _ => .op (.store (Memref.whole cc0_scratch6) (Rect.unit (s := S8x2x512x512) o4' ![1, 2, n, 512] i8') (shapeCast (⟨4, ![1, 2, n, 512]⟩ : Shape) (truncf .bf16 (shapeCast (⟨3, ![2, n, 512]⟩ : Shape) v2 hc1) bitsLt_bf16_f32) hc2) Finset.univ x3 x4) k') Q') := by
  iintro ⟨#HC, HSt, ⟨H1, H2⟩, ⟨%fk, HK⟩, ⟨%fv, HV⟩⟩ Hk
  iapply (stg_wait m K c kK Z W Q T (NS n) _ hsm rfl hlv hT) $$ [HSt H1]
  · isplitr; · iexact HC
    isplitl [HSt] <;> iassumption
  iintro ⟨HSt, ⟨Ha, Hs⟩, Hz⟩
  iapply (stg_wait m K c kV Z W Q T (NS n) _ hsm' rfl hlv' hT) $$ [HSt H2]
  · isplitr; · iexact HC
    isplitl [HSt] <;> iassumption
  iintro ⟨HSt, ⟨Ha', Hs'⟩, Hz'⟩
  iapply (ld_stg c 0 s n ho1) $$ Hs; iintro Hs
  iapply (ld_kc c d.val n ho3) $$ HK; iintro HK
  iapply (st_kc c d.val n V1 ho3' (fun x => stg_kc V1 0 s n d ho1 ho3' x)) $$ HK; iintro HK
  iapply (ld_stg c 1 s n ho2) $$ Hs'; iintro Hs'
  iapply (ld_vc c d.val n ho4) $$ HV; iintro HV
  iapply (st_vc c d.val n V2 ho4' (fun x => stg_kc V2 1 s n d ho2 ho4' x)) $$ HV; iintro HV
  iapply Hk
  isplitl [HSt]; · iexact HSt
  isplitl [Ha Hs Hz Ha' Hs' Hz']
  · isplitl [Ha Hs Hz]
    · isplitl [Ha]; · iexact Ha
      isplitl [Hs]; · iexists _; iexact Hs
      iexact Hz
    · isplitl [Ha']; · iexact Ha'
      isplitl [Hs']; · iexists _; iexact Hs'
      iexact Hz'
  isplitl [HK] <;> iassumption

/-- Send a chunk of keys to its device. -/
theorem snd_kb (c n n' : Dev nD) (kl ks : KK) (Z W Q Q2 : List KK) (hQ : Q ++ [ks] = Q2) (T1 T : List Snd) (hT : T1 = (n, kl, ks) :: T)
    (V : FVec F S2x512x4096 .f32) (lo N : ℕ)
    {off : Fin 4 → ℕ} {offd : Fin 3 → ℕ} {inb inbd hr hr' hq} {s1 s2 : DmaSem sig} {hsc hs' hd hsem}
    (ho : off = ![n.val, 0, 0, 0]) (hod : offd = ![0, lo, 0])
    (hg : ∀ (i : S8x2x512x512.Idx) (j : S2x640x512.Idx), (i 0).val = n.val → (j 0).val = (i 1).val → (j 1).val = lo + (i 2).val → (j 2).val = (i 3).val → kcF V i = kbF m n j)
    (hn : n' = n) (h1 : SemLoc.dma s1 = csem ks) (h2 : SemLoc.dma s2 = csem kl)
    (hk1 : ks.val ≠ 52) (hk2 : kl.val ≠ 52) (hr1 : isRecv ks = false) (hr2 : isRecv kl = true)
    (hu1 : used c ks = true) (hu2 : used n kl = true)
    (ha1 : (cc0_scratch0 : Ref sig .tc).dmaCredit ⟨3, ![2, N, 512]⟩ .bf16 = amt c ks) (ha2 : (cc0_scratch0 : Ref sig .tc).dmaCredit ⟨3, ![2, N, 512]⟩ .bf16 = amt n kl)
    (hP : srcPay m (c, ks) = anyOn c cc0_scratch5 (chunk n.val N))
    (hA : landAny (F := F) (n, kl) = anyOn n cc0_scratch0 (krows lo N))
    (hL : landPay m (n, kl) = pc n cc0_scratch0 (krows lo N) (kbF m n)) :
    iprop(Cx m K ∗ St c Z W Q T1 ∗ pc c cc0_scratch5 (chunk n.val N) (kcF V))
      ⊢ iprop((St c Z W Q2 T -∗ wp frame (wpE (defs₀ (F := F)) 𝒱₀ (c : Thread nD τ) none) Set.univ (k' ⟨⟩) Q')
          -∗ wp frame (wpE (defs₀ (F := F)) 𝒱₀ (c : Thread nD τ) none) Set.univ (.op (.enqueueDma (((Memref.whole cc0_scratch5).slice (Rect.unit (s := S8x2x512x512) off ![1, 2, N, 512] inb) hr).squeeze ⟨3, ![2, N, 512]⟩ hq)
            (.remote (Dev.tc n' : Thread nD τ) ((Memref.whole cc0_scratch0).slice (Rect.unit (s := S2x640x512) offd ![2, N, 512] inbd) hr') (.dma s1) hsc) (.dma s2) hs' hd hsem) k') Q') :=
  snd_gen m K c n n' kl ks Z W Q Q2 hQ T1 T hT
    (src := ((Memref.whole cc0_scratch5).slice (Rect.unit (s := S8x2x512x512) off ![1, 2, N, 512] inb) hr).squeeze ⟨3, ![2, N, 512]⟩ hq)
    (dst := (Memref.whole cc0_scratch0).slice (Rect.unit (s := S2x640x512) offd ![2, N, 512] inbd) hr')
    (chunk n.val N) (krows lo N) (kcF V) (kbF m n) ((set_sq _ _ _ _ _).trans (chunk_unit n.val N ho rfl)) ((set_sl _ _ _).trans (krows_unit lo N hod rfl))
    (fun x => kc_kb V _ N lo n ho hod hg x) hn h1 h2 hk1 hk2 hr1 hr2 hu1 hu2 ha1 ha2 hP hA hL

/-- Send a chunk of values to its device. -/
theorem snd_vb (c n n' : Dev nD) (kl ks : KK) (Z W Q Q2 : List KK) (hQ : Q ++ [ks] = Q2) (T1 T : List Snd) (hT : T1 = (n, kl, ks) :: T)
    (V : FVec F S2x512x4096 .f32) (lo N : ℕ)
    {off : Fin 4 → ℕ} {offd : Fin 3 → ℕ} {inb inbd hr hr' hq} {s1 s2 : DmaSem sig} {hsc hs' hd hsem}
    (ho : off = ![n.val, 0, 0, 0]) (hod : offd = ![0, lo, 0])
    (hg : ∀ (i : S8x2x512x512.Idx) (j : S2x640x512.Idx), (i 0).val = n.val → (j 0).val = (i 1).val → (j 1).val = lo + (i 2).val → (j 2).val = (i 3).val → kcF V i = vbF m n j)
    (hn : n' = n) (h1 : SemLoc.dma s1 = csem ks) (h2 : SemLoc.dma s2 = csem kl)
    (hk1 : ks.val ≠ 52) (hk2 : kl.val ≠ 52) (hr1 : isRecv ks = false) (hr2 : isRecv kl = true)
    (hu1 : used c ks = true) (hu2 : used n kl = true)
    (ha1 : (cc0_scratch0 : Ref sig .tc).dmaCredit ⟨3, ![2, N, 512]⟩ .bf16 = amt c ks) (ha2 : (cc0_scratch0 : Ref sig .tc).dmaCredit ⟨3, ![2, N, 512]⟩ .bf16 = amt n kl)
    (hP : srcPay m (c, ks) = anyOn c cc0_scratch6 (chunk n.val N))
    (hA : landAny (F := F) (n, kl) = anyOn n cc0_scratch1 (krows lo N))
    (hL : landPay m (n, kl) = pc n cc0_scratch1 (krows lo N) (vbF m n)) :
    iprop(Cx m K ∗ St c Z W Q T1 ∗ pc c cc0_scratch6 (chunk n.val N) (kcF V))
      ⊢ iprop((St c Z W Q2 T -∗ wp frame (wpE (defs₀ (F := F)) 𝒱₀ (c : Thread nD τ) none) Set.univ (k' ⟨⟩) Q')
          -∗ wp frame (wpE (defs₀ (F := F)) 𝒱₀ (c : Thread nD τ) none) Set.univ (.op (.enqueueDma (((Memref.whole cc0_scratch6).slice (Rect.unit (s := S8x2x512x512) off ![1, 2, N, 512] inb) hr).squeeze ⟨3, ![2, N, 512]⟩ hq)
            (.remote (Dev.tc n' : Thread nD τ) ((Memref.whole cc0_scratch1).slice (Rect.unit (s := S2x640x512) offd ![2, N, 512] inbd) hr') (.dma s1) hsc) (.dma s2) hs' hd hsem) k') Q') :=
  snd_gen m K c n n' kl ks Z W Q Q2 hQ T1 T hT
    (src := ((Memref.whole cc0_scratch6).slice (Rect.unit (s := S8x2x512x512) off ![1, 2, N, 512] inb) hr).squeeze ⟨3, ![2, N, 512]⟩ hq)
    (dst := (Memref.whole cc0_scratch1).slice (Rect.unit (s := S2x640x512) offd ![2, N, 512] inbd) hr')
    (chunk n.val N) (krows lo N) (kcF V) (vbF m n) ((set_sq _ _ _ _ _).trans (chunk_unit n.val N ho rfl)) ((set_sl _ _ _).trans (krows_unit lo N hod rfl))
    (fun x => kc_kb V _ N lo n ho hod hg x) hn h1 h2 hk1 hk2 hr1 hr2 hu1 hu2 ha1 ha2 hP hA hL

/-- Send a chunk of keys to a relay. -/
theorem snd_krb (c n n' : Dev nD) (kl ks : KK) (Z W Q Q2 : List KK) (hQ : Q ++ [ks] = Q2) (T1 T : List Snd) (hT : T1 = (n, kl, ks) :: T)
    (V : FVec F S2x512x4096 .f32) (d : Dev nD) (j : ℕ)
    {off offd : Fin 4 → ℕ} {inb inbd hr hr' hq hq'} {s1 s2 : DmaSem sig} {hsc hs' hd hsem}
    (ho : off = ![d.val, 0, 0, 0]) (hod : offd = ![j, 0, 0, 0])
    (hg : ∀ (i : S8x2x512x512.Idx) (i' : S3x2x512x512.Idx), (i 0).val = d.val → (i' 0).val = j → (i' 1).val = (i 1).val → (i' 2).val = (i 2).val → (i' 3).val = (i 3).val →
      kcF V i = rbF m n i')
    (hn : n' = n) (h1 : SemLoc.dma s1 = csem ks) (h2 : SemLoc.dma s2 = csem kl)
    (hk1 : ks.val ≠ 52) (hk2 : kl.val ≠ 52) (hr1 : isRecv ks = false) (hr2 : isRecv kl = true)
    (hu1 : used c ks = true) (hu2 : used n kl = true)
    (ha1 : (cc0_scratch0 : Ref sig .tc).dmaCredit ⟨3, ![2, 512, 512]⟩ .bf16 = amt c ks) (ha2 : (cc0_scratch0 : Ref sig .tc).dmaCredit ⟨3, ![2, 512, 512]⟩ .bf16 = amt n kl)
    (hP : srcPay m (c, ks) = anyOn c cc0_scratch5 (chunk d.val 512))
    (hA : landAny (F := F) (n, kl) = anyOn n cc0_scratch11 (plane j))
    (hL : landPay m (n, kl) = pc n cc0_scratch11 (plane j) (rbF m n)) :
    iprop(Cx m K ∗ St c Z W Q T1 ∗ pc c cc0_scratch5 (chunk d.val 512) (kcF V))
      ⊢ iprop((St c Z W Q2 T -∗ wp frame (wpE (defs₀ (F := F)) 𝒱₀ (c : Thread nD τ) none) Set.univ (k' ⟨⟩) Q')
          -∗ wp frame (wpE (defs₀ (F := F)) 𝒱₀ (c : Thread nD τ) none) Set.univ (.op (.enqueueDma (((Memref.whole cc0_scratch5).slice (Rect.unit (s := S8x2x512x512) off ![1, 2, 512, 512] inb) hr).squeeze ⟨3, ![2, 512, 512]⟩ hq)
            (.remote (Dev.tc n' : Thread nD τ) (((Memref.whole cc0_scratch11).slice (Rect.unit (s := S3x2x512x512) offd ![1, 2, 512, 512] inbd) hr').squeeze ⟨3, ![2, 512, 512]⟩ hq') (.dma s1) hsc) (.dma s2) hs' hd hsem) k') Q') :=
  snd_gen m K c n n' kl ks Z W Q Q2 hQ T1 T hT
    (src := ((Memref.whole cc0_scratch5).slice (Rect.unit (s := S8x2x512x512) off ![1, 2, 512, 512] inb) hr).squeeze ⟨3, ![2, 512, 512]⟩ hq)
    (dst := ((Memref.whole cc0_scratch11).slice (Rect.unit (s := S3x2x512x512) offd ![1, 2, 512, 512] inbd) hr').squeeze ⟨3, ![2, 512, 512]⟩ hq')
    (chunk d.val 512) (plane j) (kcF V) (rbF m n) ((set_sq _ _ _ _ _).trans (chunk_unit d.val 512 ho rfl)) ((set_sq _ _ _ _ _).trans (plane_unit j hod rfl))
    (fun x => kc_rb V _ j d ho hod hg x) hn h1 h2 hk1 hk2 hr1 hr2 hu1 hu2 ha1 ha2 hP hA hL

/-- Send a chunk of values to a relay. -/
theorem snd_vrb (c n n' : Dev nD) (kl ks : KK) (Z W Q Q2 : List KK) (hQ : Q ++ [ks] = Q2) (T1 T : List Snd) (hT : T1 = (n, kl, ks) :: T)
    (V : FVec F S2x512x4096 .f32) (d : Dev nD) (j : ℕ)
    {off offd : Fin 4 → ℕ} {inb inbd hr hr' hq hq'} {s1 s2 : DmaSem sig} {hsc hs' hd hsem}
    (ho : off = ![d.val, 0, 0, 0]) (hod : offd = ![j, 0, 0, 0])
    (hg : ∀ (i : S8x2x512x512.Idx) (i' : S3x2x512x512.Idx), (i 0).val = d.val → (i' 0).val = j → (i' 1).val = (i 1).val → (i' 2).val = (i 2).val → (i' 3).val = (i 3).val →
      kcF V i = rbF m n i')
    (hn : n' = n) (h1 : SemLoc.dma s1 = csem ks) (h2 : SemLoc.dma s2 = csem kl)
    (hk1 : ks.val ≠ 52) (hk2 : kl.val ≠ 52) (hr1 : isRecv ks = false) (hr2 : isRecv kl = true)
    (hu1 : used c ks = true) (hu2 : used n kl = true)
    (ha1 : (cc0_scratch0 : Ref sig .tc).dmaCredit ⟨3, ![2, 512, 512]⟩ .bf16 = amt c ks) (ha2 : (cc0_scratch0 : Ref sig .tc).dmaCredit ⟨3, ![2, 512, 512]⟩ .bf16 = amt n kl)
    (hP : srcPay m (c, ks) = anyOn c cc0_scratch6 (chunk d.val 512))
    (hA : landAny (F := F) (n, kl) = anyOn n cc0_scratch11 (plane j))
    (hL : landPay m (n, kl) = pc n cc0_scratch11 (plane j) (rbF m n)) :
    iprop(Cx m K ∗ St c Z W Q T1 ∗ pc c cc0_scratch6 (chunk d.val 512) (kcF V))
      ⊢ iprop((St c Z W Q2 T -∗ wp frame (wpE (defs₀ (F := F)) 𝒱₀ (c : Thread nD τ) none) Set.univ (k' ⟨⟩) Q')
          -∗ wp frame (wpE (defs₀ (F := F)) 𝒱₀ (c : Thread nD τ) none) Set.univ (.op (.enqueueDma (((Memref.whole cc0_scratch6).slice (Rect.unit (s := S8x2x512x512) off ![1, 2, 512, 512] inb) hr).squeeze ⟨3, ![2, 512, 512]⟩ hq)
            (.remote (Dev.tc n' : Thread nD τ) (((Memref.whole cc0_scratch11).slice (Rect.unit (s := S3x2x512x512) offd ![1, 2, 512, 512] inbd) hr').squeeze ⟨3, ![2, 512, 512]⟩ hq') (.dma s1) hsc) (.dma s2) hs' hd hsem) k') Q') :=
  snd_gen m K c n n' kl ks Z W Q Q2 hQ T1 T hT
    (src := ((Memref.whole cc0_scratch6).slice (Rect.unit (s := S8x2x512x512) off ![1, 2, 512, 512] inb) hr).squeeze ⟨3, ![2, 512, 512]⟩ hq)
    (dst := ((Memref.whole cc0_scratch11).slice (Rect.unit (s := S3x2x512x512) offd ![1, 2, 512, 512] inbd) hr').squeeze ⟨3, ![2, 512, 512]⟩ hq')
    (chunk d.val 512) (plane j) (kcF V) (rbF m n) ((set_sq _ _ _ _ _).trans (chunk_unit d.val 512 ho rfl)) ((set_sq _ _ _ _ _).trans (plane_unit j hod rfl))
    (fun x => kc_rb V _ j d ho hod hg x) hn h1 h2 hk1 hk2 hr1 hr2 hu1 hu2 ha1 ha2 hP hA hL

/-- Pass a plane of the relay buffer on, as keys. -/
theorem snd_rk (c n n' : Dev nD) (kl ks : KK) (Z W Q Q2 : List KK) (hQ : Q ++ [ks] = Q2) (T1 T : List Snd) (hT : T1 = (n, kl, ks) :: T) (j : ℕ)
    {off : Fin 4 → ℕ} {offd : Fin 3 → ℕ} {inb inbd hr hr' hq} {s1 s2 : DmaSem sig} {hsc hs' hd hsem}
    (ho : off = ![j, 0, 0, 0]) (hod : offd = ![0, 0, 0])
    (hg : ∀ (i : S3x2x512x512.Idx), (i 0).val = j → rbF m c i = loF (kbF m n) (i 1) (i 2) (i 3))
    (hn : n' = n) (h1 : SemLoc.dma s1 = csem ks) (h2 : SemLoc.dma s2 = csem kl)
    (hk1 : ks.val ≠ 52) (hk2 : kl.val ≠ 52) (hr1 : isRecv ks = false) (hr2 : isRecv kl = true)
    (hu1 : used c ks = true) (hu2 : used n kl = true)
    (ha1 : (cc0_scratch0 : Ref sig .tc).dmaCredit ⟨3, ![2, 512, 512]⟩ .bf16 = amt c ks) (ha2 : (cc0_scratch0 : Ref sig .tc).dmaCredit ⟨3, ![2, 512, 512]⟩ .bf16 = amt n kl)
    (hP : srcPay m (c, ks) = anyOn c cc0_scratch11 (plane j))
    (hA : landAny (F := F) (n, kl) = anyOn n cc0_scratch0 (krows 0 512))
    (hL : landPay m (n, kl) = pc n cc0_scratch0 (krows 0 512) (kbF m n)) :
    iprop(Cx m K ∗ St c Z W Q T1 ∗ pc c cc0_scratch11 (plane j) (rbF m c))
      ⊢ iprop((St c Z W Q2 T -∗ wp frame (wpE (defs₀ (F := F)) 𝒱₀ (c : Thread nD τ) none) Set.univ (k' ⟨⟩) Q')
          -∗ wp frame (wpE (defs₀ (F := F)) 𝒱₀ (c : Thread nD τ) none) Set.univ (.op (.enqueueDma (((Memref.whole cc0_scratch11).slice (Rect.unit (s := S3x2x512x512) off ![1, 2, 512, 512] inb) hr).squeeze ⟨3, ![2, 512, 512]⟩ hq)
            (.remote (Dev.tc n' : Thread nD τ) ((Memref.whole cc0_scratch0).slice (Rect.unit (s := S2x640x512) offd ![2, 512, 512] inbd) hr') (.dma s1) hsc) (.dma s2) hs' hd hsem) k') Q') :=
  snd_gen m K c n n' kl ks Z W Q Q2 hQ T1 T hT
    (src := ((Memref.whole cc0_scratch11).slice (Rect.unit (s := S3x2x512x512) off ![1, 2, 512, 512] inb) hr).squeeze ⟨3, ![2, 512, 512]⟩ hq)
    (dst := (Memref.whole cc0_scratch0).slice (Rect.unit (s := S2x640x512) offd ![2, 512, 512] inbd) hr')
    (plane j) (krows 0 512) (rbF m c) (kbF m n) ((set_sq _ _ _ _ _).trans (plane_unit j ho rfl)) ((set_sl _ _ _).trans (krows_unit 0 512 hod rfl))
    (fun x => rb_kb (rbF m c) _ j ho hod hg x) hn h1 h2 hk1 hk2 hr1 hr2 hu1 hu2 ha1 ha2 hP hA hL

/-- Pass a plane of the relay buffer on, as values. -/
theorem snd_rv (c n n' : Dev nD) (kl ks : KK) (Z W Q Q2 : List KK) (hQ : Q ++ [ks] = Q2) (T1 T : List Snd) (hT : T1 = (n, kl, ks) :: T) (j : ℕ)
    {off : Fin 4 → ℕ} {offd : Fin 3 → ℕ} {inb inbd hr hr' hq} {s1 s2 : DmaSem sig} {hsc hs' hd hsem}
    (ho : off = ![j, 0, 0, 0]) (hod : offd = ![0, 0, 0])
    (hg : ∀ (i : S3x2x512x512.Idx), (i 0).val = j → rbF m c i = loF (vbF m n) (i 1) (i 2) (i 3))
    (hn : n' = n) (h1 : SemLoc.dma s1 = csem ks) (h2 : SemLoc.dma s2 = csem kl)
    (hk1 : ks.val ≠ 52) (hk2 : kl.val ≠ 52) (hr1 : isRecv ks = false) (hr2 : isRecv kl = true)
    (hu1 : used c ks = true) (hu2 : used n kl = true)
    (ha1 : (cc0_scratch0 : Ref sig .tc).dmaCredit ⟨3, ![2, 512, 512]⟩ .bf16 = amt c ks) (ha2 : (cc0_scratch0 : Ref sig .tc).dmaCredit ⟨3, ![2, 512, 512]⟩ .bf16 = amt n kl)
    (hP : srcPay m (c, ks) = anyOn c cc0_scratch11 (plane j))
    (hA : landAny (F := F) (n, kl) = anyOn n cc0_scratch1 (krows 0 512))
    (hL : landPay m (n, kl) = pc n cc0_scratch1 (krows 0 512) (vbF m n)) :
    iprop(Cx m K ∗ St c Z W Q T1 ∗ pc c cc0_scratch11 (plane j) (rbF m c))
      ⊢ iprop((St c Z W Q2 T -∗ wp frame (wpE (defs₀ (F := F)) 𝒱₀ (c : Thread nD τ) none) Set.univ (k' ⟨⟩) Q')
          -∗ wp frame (wpE (defs₀ (F := F)) 𝒱₀ (c : Thread nD τ) none) Set.univ (.op (.enqueueDma (((Memref.whole cc0_scratch11).slice (Rect.unit (s := S3x2x512x512) off ![1, 2, 512, 512] inb) hr).squeeze ⟨3, ![2, 512, 512]⟩ hq)
            (.remote (Dev.tc n' : Thread nD τ) ((Memref.whole cc0_scratch1).slice (Rect.unit (s := S2x640x512) offd ![2, 512, 512] inbd) hr') (.dma s1) hsc) (.dma s2) hs' hd hsem) k') Q') :=
  snd_gen m K c n n' kl ks Z W Q Q2 hQ T1 T hT
    (src := ((Memref.whole cc0_scratch11).slice (Rect.unit (s := S3x2x512x512) off ![1, 2, 512, 512] inb) hr).squeeze ⟨3, ![2, 512, 512]⟩ hq)
    (dst := (Memref.whole cc0_scratch1).slice (Rect.unit (s := S2x640x512) offd ![2, 512, 512] inbd) hr')
    (plane j) (krows 0 512) (rbF m c) (vbF m n) ((set_sq _ _ _ _ _).trans (plane_unit j ho rfl)) ((set_sl _ _ _).trans (krows_unit 0 512 hod rfl))
    (fun x => rb_kb (rbF m c) _ j ho hod hg x) hn h1 h2 hk1 hk2 hr1 hr2 hu1 hu2 ha1 ha2 hP hA hL

end Items

end Cert.Hand
-- ==== Proof.Red.lean ====
/-
# The rounds of summation and of gathering

The second half of the kernel, part by part, at any device.
-/
module

public import proofs.«01_k».proof.Proof.RedSteps

@[expose] public section

noncomputable section

namespace Cert.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ UU ℕ

variable (m : (ℓ : Loc nD τ sig) → Buf (Elt F) ℓ) (K : Dev nD × KK → ℕ)

/-- The triple of a part: what it starts from, and what is left when it returns. -/
abbrev Wp {α : Type} (c : Dev nD) (p : Prog (TpuEff nD τ sig (Elt F) Λ₀ .tc) α) (Q : α → sProp (MT nD τ sig Unit (Elt F) ℕ UU ℕ)) : sProp (MT nD τ sig Unit (Elt F) ℕ UU ℕ) :=
  wp frame (wpE (defs₀ (F := F)) 𝒱₀ (c : Thread nD τ) none) Set.univ p Q

/-! ## The tables of offsets and of devices -/

theorem off3_eq (c : Dev nD) : k0_off3 c = ![0, kpN 0 c, 0] := by revert c; decide
theorem off5_eq (c : Dev nD) : k0_off5 c = ![1, kpN 0 c, 0] := by revert c; decide
theorem off7_eq (c : Dev nD) : k0_off7 c = ![0, kpN 1 c, 0] := by revert c; decide
theorem off9_eq (c : Dev nD) : k0_off9 c = ![1, kpN 1 c, 0] := by revert c; decide
theorem off11_eq (c : Dev nD) : k0_off11 c = ![0, kpN 2 c, 0] := by revert c; decide
theorem off13_eq (c : Dev nD) : k0_off13 c = ![1, kpN 2 c, 0] := by revert c; decide
theorem off1_eq (c : Dev nD) : k0_off1 c = ![0, kpN 0 (peerN 0 c), 0] := by revert c; decide
theorem off2_eq (c : Dev nD) : k0_off2 c = ![1, kpN 0 (peerN 0 c), 0] := by revert c; decide
theorem off4_eq (c : Dev nD) : k0_off4 c = ![0, kpN 1 (peerN 1 c), 0] := by revert c; decide
theorem off6_eq (c : Dev nD) : k0_off6 c = ![1, kpN 1 (peerN 1 c), 0] := by revert c; decide
theorem off8_eq (c : Dev nD) : k0_off8 c = ![0, kpN 2 (peerN 2 c), 0] := by revert c; decide
theorem off10_eq (c : Dev nD) : k0_off10 c = ![1, kpN 2 (peerN 2 c), 0] := by revert c; decide
theorem off12_eq (c : Dev nD) : k0_off12 c = ![0, kp3 c, 0] := by revert c; decide
theorem off14_eq (c : Dev nD) : k0_off14 c = ![1, kp3 c, 0] := by revert c; decide
theorem off15_eq (c : Dev nD) : k0_off15 c = ![0, kp2 c, 0] := by revert c; decide
theorem off16_eq (c : Dev nD) : k0_off16 c = ![1, kp2 c, 0] := by revert c; decide
theorem off17_eq (c : Dev nD) : k0_off17 c = ![0, kp1 c, 0] := by revert c; decide
theorem off18_eq (c : Dev nD) : k0_off18 c = ![1, kp1 c, 0] := by revert c; decide
theorem dev41_eq (c : Dev nD) : (⟨k0_dev41 c, k0_dev41_lt c⟩ : Dev nD) = fl1 c := by revert c; decide
theorem dev42_eq (c : Dev nD) : (⟨k0_dev42 c, k0_dev42_lt c⟩ : Dev nD) = fl1 c := by revert c; decide
theorem dev51_eq (c : Dev nD) : (⟨k0_dev51 c, k0_dev51_lt c⟩ : Dev nD) = fl1 c := by revert c; decide
theorem dev52_eq (c : Dev nD) : (⟨k0_dev52 c, k0_dev52_lt c⟩ : Dev nD) = fl1 c := by revert c; decide
theorem dev43_eq (c : Dev nD) : (⟨k0_dev43 c, k0_dev43_lt c⟩ : Dev nD) = fl4 c := by revert c; decide
theorem dev44_eq (c : Dev nD) : (⟨k0_dev44 c, k0_dev44_lt c⟩ : Dev nD) = fl4 c := by revert c; decide
theorem dev49_eq (c : Dev nD) : (⟨k0_dev49 c, k0_dev49_lt c⟩ : Dev nD) = fl4 c := by revert c; decide
theorem dev50_eq (c : Dev nD) : (⟨k0_dev50 c, k0_dev50_lt c⟩ : Dev nD) = fl4 c := by revert c; decide
theorem dev45_eq (c : Dev nD) : (⟨k0_dev45 c, k0_dev45_lt c⟩ : Dev nD) = fl2 c := by revert c; decide
theorem dev46_eq (c : Dev nD) : (⟨k0_dev46 c, k0_dev46_lt c⟩ : Dev nD) = fl2 c := by revert c; decide
theorem dev47_eq (c : Dev nD) : (⟨k0_dev47 c, k0_dev47_lt c⟩ : Dev nD) = fl2 c := by revert c; decide
theorem dev48_eq (c : Dev nD) : (⟨k0_dev48 c, k0_dev48_lt c⟩ : Dev nD) = fl2 c := by revert c; decide

/-! ## The parts -/
theorem landA46 (c : Dev nD) : landAny (F := F) (fl2 c, 46) = anyOn (F := F) (fl2 c) cc0_scratch10 (rows 0 (kp3 c) 64) := by
  show anyOn (F := F) (fl2 c) cc0_scratch10 (rows 0 (kp3 (fl2 (fl2 c))) 64) = _
  rw [fl2_fl2]
theorem landP46 (c : Dev nD) : landPay m (fl2 c, 46) = pc (fl2 c) cc0_scratch10 (rows 0 (kp3 c) 64) (agF m) := by
  show pc (fl2 c) cc0_scratch10 (rows 0 (kp3 (fl2 (fl2 c))) 64) (agF m) = _
  rw [fl2_fl2]
theorem landA47 (c : Dev nD) : landAny (F := F) (fl2 c, 47) = anyOn (F := F) (fl2 c) cc0_scratch10 (rows 1 (kp3 c) 64) := by
  show anyOn (F := F) (fl2 c) cc0_scratch10 (rows 1 (kp3 (fl2 (fl2 c))) 64) = _
  rw [fl2_fl2]
theorem landP47 (c : Dev nD) : landPay m (fl2 c, 47) = pc (fl2 c) cc0_scratch10 (rows 1 (kp3 c) 64) (agF m) := by
  show pc (fl2 c) cc0_scratch10 (rows 1 (kp3 (fl2 (fl2 c))) 64) (agF m) = _
  rw [fl2_fl2]
theorem landA48 (c : Dev nD) : landAny (F := F) (fl4 c, 48) = anyOn (F := F) (fl4 c) cc0_scratch10 (rows 0 (kp2 c) 128) := by
  show anyOn (F := F) (fl4 c) cc0_scratch10 (rows 0 (kp2 (fl4 (fl4 c))) 128) = _
  rw [fl4_fl4]
theorem landP48 (c : Dev nD) : landPay m (fl4 c, 48) = pc (fl4 c) cc0_scratch10 (rows 0 (kp2 c) 128) (agF m) := by
  show pc (fl4 c) cc0_scratch10 (rows 0 (kp2 (fl4 (fl4 c))) 128) (agF m) = _
  rw [fl4_fl4]
theorem landA49 (c : Dev nD) : landAny (F := F) (fl4 c, 49) = anyOn (F := F) (fl4 c) cc0_scratch10 (rows 1 (kp2 c) 128) := by
  show anyOn (F := F) (fl4 c) cc0_scratch10 (rows 1 (kp2 (fl4 (fl4 c))) 128) = _
  rw [fl4_fl4]
theorem landP49 (c : Dev nD) : landPay m (fl4 c, 49) = pc (fl4 c) cc0_scratch10 (rows 1 (kp2 c) 128) (agF m) := by
  show pc (fl4 c) cc0_scratch10 (rows 1 (kp2 (fl4 (fl4 c))) 128) (agF m) = _
  rw [fl4_fl4]
theorem landA50 (c : Dev nD) : landAny (F := F) (fl1 c, 50) = anyOn (F := F) (fl1 c) cc0_scratch10 (rows 0 (kp1 c) 256) := by
  show anyOn (F := F) (fl1 c) cc0_scratch10 (rows 0 (kp1 (fl1 (fl1 c))) 256) = _
  rw [fl1_fl1]
theorem landP50 (c : Dev nD) : landPay m (fl1 c, 50) = pc (fl1 c) cc0_scratch10 (rows 0 (kp1 c) 256) (agF m) := by
  show pc (fl1 c) cc0_scratch10 (rows 0 (kp1 (fl1 (fl1 c))) 256) (agF m) = _
  rw [fl1_fl1]
theorem landA51 (c : Dev nD) : landAny (F := F) (fl1 c, 51) = anyOn (F := F) (fl1 c) cc0_scratch10 (rows 1 (kp1 c) 256) := by
  show anyOn (F := F) (fl1 c) cc0_scratch10 (rows 1 (kp1 (fl1 (fl1 c))) 256) = _
  rw [fl1_fl1]
theorem landP51 (c : Dev nD) : landPay m (fl1 c, 51) = pc (fl1 c) cc0_scratch10 (rows 1 (kp1 c) 256) (agF m) := by
  show pc (fl1 c) cc0_scratch10 (rows 1 (kp1 (fl1 (fl1 c))) 256) (agF m) = _
  rw [fl1_fl1]

theorem part66 (c : Dev nD) (Z W : List KK) (v2 v77 v131 w : BitVec 32) (Q' : _ → sProp (MT nD τ sig Unit (Elt F) ℕ UU ℕ)) :
    iprop(Cx m K ∗ Og m c 0 0 ∗ Rb m c 0 0 256 ∗ Sb (F := F) c 0 128
      ∗ (∀ r, (Og m c 1 0 ∗ Rb m c 0 0 256 ∗ Sx m c 0 1 128) -∗ Q' r))
      ⊢ Wp c (onBufs (k0_part66 (F := F)) c v2 v77 v131 w) Q' := by
  rw [k0_part66_eq_skeleton]
  unfold Wp onBufs k0_part66_skel
  simp only [Prog.lift, Prog.bind_op, Prog.bind_ret, Prog.pure_eq_ret]
  iintro ⟨#HC, HO, HR, ⟨%f, HS⟩, Hk⟩
  iapply (ld_out c) $$ HO; iintro HO
  iapply (ld_rsb c 0 0 256 rfl rfl) $$ HR; iintro HR
  iapply (ld_out c) $$ HO; iintro HO
  iapply (st_add m c 0 0 0 0 1 0 (by decide) rfl rfl rfl (by decide) (off3_eq c) rfl rfl (addc _ _ _ _ _)) $$ HO; iintro HO
  iapply (ld_out c) $$ HO; iintro HO
  iapply (ld_rss c 0 128 rfl rfl) $$ HS; iintro HS
  iapply (st_rss m c 0 1 128 1 0 rfl (by decide) rfl (off4_eq c) rfl rfl (trc _ _ _)) $$ HS; iintro HS
  rw [wp_ret]
  imodintro
  iapply Hk
  isplitl [HO]; · iexact HO
  isplitl [HR]; · iexact HR
  iexact HS

theorem part67 (c : Dev nD) (Z W : List KK) (v77 v591 : BitVec 32) (Q' : _ → sProp (MT nD τ sig Unit (Elt F) ℕ UU ℕ)) :
    iprop(Cx m K ∗ St c Z (29 :: 35 :: W) [29] ((fl4 c, 36, 30) :: (fl4 c, 37, 31) :: (fl2 c, 38, 32) :: (fl2 c, 39, 33) :: agSends c) ∗ Og m c 1 0 ∗ Sx m c 0 1 128
      ∗ (∀ r, (St c (35 :: 29 :: Z) W [30] ((fl4 c, 37, 31) :: (fl2 c, 38, 32) :: (fl2 c, 39, 33) :: agSends c) ∗ Og m c 1 0 ∗ Sb (F := F) c 1 256 ∗ Rb m c 1 0 256) -∗ Q' ⟨r, (k0_pay86 (fun x : (Rect.unit (s := S2x512x768) (k0_off5 c) S1x256x768.size (k0_off5_inb c)).shape.Idx => outF m c 1 0 ((Rect.unit (s := S2x512x768) (k0_off5 c) S1x256x768.size (k0_off5_inb c)).emb x)) (fun x : (Rect.unit (s := S2x512x768) ![1, 0, 0] S1x256x768.size inb_S2x512x768_S1x256x768_1_0_0).shape.Idx => rsbF m c ((Rect.unit (s := S2x512x768) ![1, 0, 0] S1x256x768.size inb_S2x512x768_S1x256x768_1_0_0).emb x)))⟩))
      ⊢ Wp c (onBufs (k0_part67 (F := F)) c v77 v591) Q' := by
  rw [k0_part67_eq_skeleton]
  unfold Wp onBufs k0_part67_skel
  simp only [Prog.lift, Prog.bind_op, Prog.bind_ret, Prog.pure_eq_ret]
  iintro ⟨#HC, HSt, HO, HS, Hk⟩
  iapply (rs_snd m K c (fl4 c) _ 0 1 128 rfl 36 30 _ _ [29] [29, 30] rfl _ (dev43_eq c) rfl (by decide) (by decide) rfl rfl rfl rfl rfl (by decide) (by decide) rfl rfl rfl rfl rfl rfl rfl rfl rfl) $$ [HSt HS]
  · isplitr; · iexact HC
    isplitl [HSt]; · iexact HSt
    iexact HS
  iintro HSt
  iapply (sent m K c 29 (Sb (F := F) c 1 256) _ _ _ ((fl4 c, 37, 31) :: (fl2 c, 38, 32) :: (fl2 c, 39, 33) :: agSends c) rfl rfl (by decide) rfl rfl rfl rfl) $$ [HSt]
  · isplitr; · iexact HC
    iexact HSt
  iintro ⟨HSt, HS⟩
  iapply (recv m K c 35 (Rb m c 1 0 256) _ _ _ ((fl4 c, 37, 31) :: (fl2 c, 38, 32) :: (fl2 c, 39, 33) :: agSends c) rfl rfl (by decide) rfl rfl rfl rfl) $$ [HSt]
  · isplitr; · iexact HC
    iexact HSt
  iintro ⟨HSt, HR⟩
  iapply (ld_out c) $$ HO; iintro HO
  iapply (ld_rsb c 1 0 256 rfl rfl) $$ HR; iintro HR
  rw [wp_ret]
  imodintro
  iapply Hk
  isplitl [HSt]; · iexact HSt
  isplitl [HO]; · iexact HO
  isplitl [HS]; · iexact HS
  iexact HR

theorem part68 (c : Dev nD) (Z W : List KK) (v2 v131 v677 : BitVec 32) (Q' : _ → sProp (MT nD τ sig Unit (Elt F) ℕ UU ℕ)) :
    iprop(Cx m K ∗ St c Z W [30] ((fl4 c, 37, 31) :: (fl2 c, 38, 32) :: (fl2 c, 39, 33) :: agSends c) ∗ Og m c 1 0 ∗ Sb (F := F) c 1 128
      ∗ (∀ r, (St c Z W [30, 31] ((fl2 c, 38, 32) :: (fl2 c, 39, 33) :: agSends c) ∗ Og m c 1 1) -∗ Q' r))
      ⊢ Wp c (onBufs (k0_part68 (F := F)) c v2 v131 v677 (k0_pay86 (fun x : (Rect.unit (s := S2x512x768) (k0_off5 c) S1x256x768.size (k0_off5_inb c)).shape.Idx => outF m c 1 0 ((Rect.unit (s := S2x512x768) (k0_off5 c) S1x256x768.size (k0_off5_inb c)).emb x)) (fun x : (Rect.unit (s := S2x512x768) ![1, 0, 0] S1x256x768.size inb_S2x512x768_S1x256x768_1_0_0).shape.Idx => rsbF m c ((Rect.unit (s := S2x512x768) ![1, 0, 0] S1x256x768.size inb_S2x512x768_S1x256x768_1_0_0).emb x)))) Q' := by
  rw [k0_part68_eq_skeleton]
  unfold Wp onBufs k0_part68_skel
  simp only [Prog.lift, Prog.bind_op, Prog.bind_ret, Prog.pure_eq_ret]
  iintro ⟨#HC, HSt, HO, ⟨%f, HS⟩, Hk⟩
  iapply (ld_out c) $$ HO; iintro HO
  iapply (st_add m c 1 0 1 0 1 1 (by decide) rfl rfl rfl (by decide) (off5_eq c) rfl rfl (addc _ _ _ _ _)) $$ HO; iintro HO
  iapply (ld_out c) $$ HO; iintro HO
  iapply (ld_rss c 1 128 rfl rfl) $$ HS; iintro HS
  iapply (st_rss m c 1 1 128 1 1 rfl (by decide) rfl (off6_eq c) rfl rfl (trc _ _ _)) $$ HS; iintro HS
  iapply (rs_snd m K c (fl4 c) _ 1 1 128 rfl 37 31 _ _ [30] [30, 31] rfl _ (dev44_eq c) rfl (by decide) (by decide) rfl rfl rfl rfl rfl (by decide) (by decide) rfl rfl rfl rfl rfl rfl rfl rfl rfl) $$ [HSt HS]
  · isplitr; · iexact HC
    isplitl [HSt]; · iexact HSt
    iexact HS
  iintro HSt
  rw [wp_ret]
  imodintro
  iapply Hk
  isplitl [HSt]; · iexact HSt
  iexact HO

theorem part69 (c : Dev nD) (Z W : List KK) (v104 v131 v629 v651 : BitVec 32) (Q' : _ → sProp (MT nD τ sig Unit (Elt F) ℕ UU ℕ)) :
    iprop(Cx m K ∗ St c Z (30 :: 36 :: W) [30, 31] ((fl2 c, 38, 32) :: (fl2 c, 39, 33) :: agSends c) ∗ Og m c 1 1
      ∗ (∀ r, (St c (36 :: 30 :: Z) W [31] ((fl2 c, 38, 32) :: (fl2 c, 39, 33) :: agSends c) ∗ Og m c 2 1 ∗ Sb (F := F) c 0 128 ∗ Rb m c 0 256 128) -∗ Q' ⟨r, fun x : (Rect.unit (s := S2x512x768) (k0_off8 c) S1x64x768.size (k0_off8_inb c)).shape.Idx => outF m c 2 1 ((Rect.unit (s := S2x512x768) (k0_off8 c) S1x64x768.size (k0_off8_inb c)).emb x)⟩))
      ⊢ Wp c (onBufs (k0_part69 (F := F)) c v104 v131 v629 v651) Q' := by
  rw [k0_part69_eq_skeleton]
  unfold Wp onBufs k0_part69_skel
  simp only [Prog.lift, Prog.bind_op, Prog.bind_ret, Prog.pure_eq_ret]
  iintro ⟨#HC, HSt, HO, Hk⟩
  iapply (sent m K c 30 (Sb (F := F) c 0 128) _ _ _ ((fl2 c, 38, 32) :: (fl2 c, 39, 33) :: agSends c) rfl rfl (by decide) rfl rfl rfl rfl) $$ [HSt]
  · isplitr; · iexact HC
    iexact HSt
  iintro ⟨HSt, HS⟩
  iapply (recv m K c 36 (Rb m c 0 256 128) _ _ _ ((fl2 c, 38, 32) :: (fl2 c, 39, 33) :: agSends c) rfl rfl (by decide) rfl rfl rfl rfl) $$ [HSt]
  · isplitr; · iexact HC
    iexact HSt
  iintro ⟨HSt, HR⟩
  iapply (ld_out c) $$ HO; iintro HO
  iapply (ld_rsb c 0 256 128 rfl rfl) $$ HR; iintro HR
  iapply (ld_out c) $$ HO; iintro HO
  iapply (st_add m c 0 1 1 1 2 1 (by decide) rfl rfl rfl (by decide) (off7_eq c) rfl rfl (addc _ _ _ _ _)) $$ HO; iintro HO
  iapply (ld_out c) $$ HO; iintro HO
  rw [wp_ret]
  imodintro
  iapply Hk
  isplitl [HSt]; · iexact HSt
  isplitl [HO]; · iexact HO
  isplitl [HS]; · iexact HS
  iexact HR

theorem part70 (c : Dev nD) (Z W : List KK) (v2 v699 : BitVec 32) (Q' : _ → sProp (MT nD τ sig Unit (Elt F) ℕ UU ℕ)) :
    iprop(Cx m K ∗ St c Z (31 :: W) [31] ((fl2 c, 38, 32) :: (fl2 c, 39, 33) :: agSends c) ∗ Sb (F := F) c 0 64
      ∗ (∀ r, (St c (31 :: Z) W [32] ((fl2 c, 39, 33) :: agSends c) ∗ Sb (F := F) c 1 128) -∗ Q' r))
      ⊢ Wp c (onBufs (k0_part70 (F := F)) c v2 v699 (fun x : (Rect.unit (s := S2x512x768) (k0_off8 c) S1x64x768.size (k0_off8_inb c)).shape.Idx => outF m c 2 1 ((Rect.unit (s := S2x512x768) (k0_off8 c) S1x64x768.size (k0_off8_inb c)).emb x))) Q' := by
  rw [k0_part70_eq_skeleton]
  unfold Wp onBufs k0_part70_skel
  simp only [Prog.lift, Prog.bind_op, Prog.bind_ret, Prog.pure_eq_ret]
  iintro ⟨#HC, HSt, ⟨%f, HS⟩, Hk⟩
  iapply (ld_rss c 0 64 rfl rfl) $$ HS; iintro HS
  iapply (st_rss m c 0 2 64 2 1 rfl (by decide) rfl (off8_eq c) rfl rfl (trc _ _ _)) $$ HS; iintro HS
  iapply (rs_snd m K c (fl2 c) _ 0 2 64 rfl 38 32 _ _ [31] [31, 32] rfl _ (dev45_eq c) rfl (by decide) (by decide) rfl rfl rfl rfl rfl (by decide) (by decide) rfl rfl rfl rfl rfl rfl rfl rfl rfl) $$ [HSt HS]
  · isplitr; · iexact HC
    isplitl [HSt]; · iexact HSt
    iexact HS
  iintro HSt
  iapply (sent m K c 31 (Sb (F := F) c 1 128) _ _ _ ((fl2 c, 39, 33) :: agSends c) rfl rfl (by decide) rfl rfl rfl rfl) $$ [HSt]
  · isplitr; · iexact HC
    iexact HSt
  iintro ⟨HSt, HS⟩
  rw [wp_ret]
  imodintro
  iapply Hk
  isplitl [HSt]; · iexact HSt
  iexact HS

theorem part71 (c : Dev nD) (Z W : List KK) (v2 v104 v131 v677 v764 : BitVec 32) (Q' : _ → sProp (MT nD τ sig Unit (Elt F) ℕ UU ℕ)) :
    iprop(Cx m K ∗ St c Z (37 :: W) [32] ((fl2 c, 39, 33) :: agSends c) ∗ Og m c 2 1 ∗ Sb (F := F) c 1 64
      ∗ (∀ r, (St c (37 :: Z) W [32] ((fl2 c, 39, 33) :: agSends c) ∗ Og m c 2 2 ∗ Rb m c 1 256 128 ∗ Sx m c 1 2 64) -∗ Q' r))
      ⊢ Wp c (onBufs (k0_part71 (F := F)) c v2 v104 v131 v677 v764) Q' := by
  rw [k0_part71_eq_skeleton]
  unfold Wp onBufs k0_part71_skel
  simp only [Prog.lift, Prog.bind_op, Prog.bind_ret, Prog.pure_eq_ret]
  iintro ⟨#HC, HSt, HO, ⟨%f, HS⟩, Hk⟩
  iapply (recv m K c 37 (Rb m c 1 256 128) _ _ _ ((fl2 c, 39, 33) :: agSends c) rfl rfl (by decide) rfl rfl rfl rfl) $$ [HSt]
  · isplitr; · iexact HC
    iexact HSt
  iintro ⟨HSt, HR⟩
  iapply (ld_out c) $$ HO; iintro HO
  iapply (ld_rsb c 1 256 128 rfl rfl) $$ HR; iintro HR
  iapply (ld_out c) $$ HO; iintro HO
  iapply (st_add m c 1 1 2 1 2 2 (by decide) rfl rfl rfl (by decide) (off9_eq c) rfl rfl (addc _ _ _ _ _)) $$ HO; iintro HO
  iapply (ld_out c) $$ HO; iintro HO
  iapply (ld_rss c 1 64 rfl rfl) $$ HS; iintro HS
  iapply (st_rss m c 1 2 64 2 2 rfl (by decide) rfl (off10_eq c) rfl rfl (trc _ _ _)) $$ HS; iintro HS
  rw [wp_ret]
  imodintro
  iapply Hk
  isplitl [HSt]; · iexact HSt
  isplitl [HO]; · iexact HO
  isplitl [HR]; · iexact HR
  iexact HS

theorem part72 (c : Dev nD) (Z W : List KK) (v104 v725 v747 v795 : BitVec 32) (Q' : _ → sProp (MT nD τ sig Unit (Elt F) ℕ UU ℕ)) :
    iprop(Cx m K ∗ St c Z (32 :: 38 :: W) [32] ((fl2 c, 39, 33) :: agSends c) ∗ Sx m c 1 2 64
      ∗ (∀ r, (St c (38 :: 32 :: Z) W [33] [(fl2 c, 46, 40), (fl2 c, 47, 41), (fl4 c, 48, 42), (fl4 c, 49, 43), (fl1 c, 50, 44), (fl1 c, 51, 45)] ∗ Sb (F := F) c 0 64 ∗ Rb m c 0 384 64) -∗ Q' r))
      ⊢ Wp c (onBufs (k0_part72 (F := F)) c v104 v725 v747 v795) Q' := by
  rw [k0_part72_eq_skeleton]
  unfold Wp onBufs k0_part72_skel
  simp only [Prog.lift, Prog.bind_op, Prog.bind_ret, Prog.pure_eq_ret]
  iintro ⟨#HC, HSt, HS, Hk⟩
  iapply (rs_snd m K c (fl2 c) _ 1 2 64 rfl 39 33 _ _ [32] [32, 33] rfl _ (dev46_eq c) rfl (by decide) (by decide) rfl rfl rfl rfl rfl (by decide) (by decide) rfl rfl rfl rfl rfl rfl rfl rfl rfl) $$ [HSt HS]
  · isplitr; · iexact HC
    isplitl [HSt]; · iexact HSt
    iexact HS
  iintro HSt
  iapply (sent m K c 32 (Sb (F := F) c 0 64) _ _ _ [(fl2 c, 46, 40), (fl2 c, 47, 41), (fl4 c, 48, 42), (fl4 c, 49, 43), (fl1 c, 50, 44), (fl1 c, 51, 45)] rfl rfl (by decide) rfl rfl rfl rfl) $$ [HSt]
  · isplitr; · iexact HC
    iexact HSt
  iintro ⟨HSt, HS⟩
  iapply (recv m K c 38 (Rb m c 0 384 64) _ _ _ [(fl2 c, 46, 40), (fl2 c, 47, 41), (fl4 c, 48, 42), (fl4 c, 49, 43), (fl1 c, 50, 44), (fl1 c, 51, 45)] rfl rfl (by decide) rfl rfl rfl rfl) $$ [HSt]
  · isplitr; · iexact HC
    iexact HSt
  iintro ⟨HSt, HR⟩
  rw [wp_ret]
  imodintro
  iapply Hk
  isplitl [HSt]; · iexact HSt
  isplitl [HS]; · iexact HS
  iexact HR

theorem part73 (c : Dev nD) (Z W : List KK) (v2 v104 v821 : BitVec 32) (Q' : _ → sProp (MT nD τ sig Unit (Elt F) ℕ UU ℕ)) :
    iprop(Cx m K ∗ St c Z W [33] [(fl2 c, 46, 40), (fl2 c, 47, 41), (fl4 c, 48, 42), (fl4 c, 49, 43), (fl1 c, 50, 44), (fl1 c, 51, 45)] ∗ Og m c 2 2 ∗ Rb m c 0 384 64 ∗ anyOn (F := F) c cc0_scratch10 (rows 0 (kp3 c) 64)
      ∗ (∀ r, (St c Z W [33, 40] [(fl2 c, 47, 41), (fl4 c, 48, 42), (fl4 c, 49, 43), (fl1 c, 50, 44), (fl1 c, 51, 45)] ∗ Og m c 3 2 ∗ Rb m c 0 384 64) -∗ Q' r))
      ⊢ Wp c (onBufs (k0_part73 (F := F)) c v2 v104 v821) Q' := by
  rw [k0_part73_eq_skeleton]
  unfold Wp onBufs k0_part73_skel
  simp only [Prog.lift, Prog.bind_op, Prog.bind_ret, Prog.pure_eq_ret]
  iintro ⟨#HC, HSt, HO, HR, ⟨%f, HA⟩, Hk⟩
  iapply (ld_out c) $$ HO; iintro HO
  iapply (ld_rsb c 0 384 64 rfl rfl) $$ HR; iintro HR
  iapply (ld_out c) $$ HO; iintro HO
  iapply (st_add m c 0 2 2 2 3 2 (by decide) rfl rfl rfl (by decide) (off11_eq c) rfl rfl (addc _ _ _ _ _)) $$ HO; iintro HO
  iapply (ld_out c) $$ HO; iintro HO
  iapply (ld_agb c 0 (kp3 c) 64 (off11_eq c) rfl) $$ HA; iintro HA
  iapply (st_ag m c 0 3 2 rfl (off11_eq c) rfl (trc _ _ _)) $$ HA; iintro HA
  iapply (ag_snd m K c (fl2 c) _ 0 (kp3 c) 64 46 40 _ _ [33] [33, 40] rfl _ (dev47_eq c) (off12_eq c) rfl rfl rfl (by decide) (by decide) rfl rfl rfl rfl rfl rfl rfl (landA46 c) (landP46 m c)) $$ [HSt HA]
  · isplitr; · iexact HC
    isplitl [HSt]; · iexact HSt
    iexact HA
  iintro HSt
  rw [wp_ret]
  imodintro
  iapply Hk
  isplitl [HSt]; · iexact HSt
  isplitl [HO]; · iexact HO
  iexact HR

theorem part74 (c : Dev nD) (Z W : List KK) (v104 v773 v795 : BitVec 32) (Q' : _ → sProp (MT nD τ sig Unit (Elt F) ℕ UU ℕ)) :
    iprop(Cx m K ∗ St c Z (33 :: 39 :: W) [33, 40] [(fl2 c, 47, 41), (fl4 c, 48, 42), (fl4 c, 49, 43), (fl1 c, 50, 44), (fl1 c, 51, 45)] ∗ Og m c 3 2
      ∗ (∀ r, (St c (39 :: 33 :: Z) W [40] [(fl2 c, 47, 41), (fl4 c, 48, 42), (fl4 c, 49, 43), (fl1 c, 50, 44), (fl1 c, 51, 45)] ∗ Og m c 3 3 ∗ Sb (F := F) c 1 64 ∗ Rb m c 1 384 64) -∗ Q' r))
      ⊢ Wp c (onBufs (k0_part74 (F := F)) c v104 v773 v795) Q' := by
  rw [k0_part74_eq_skeleton]
  unfold Wp onBufs k0_part74_skel
  simp only [Prog.lift, Prog.bind_op, Prog.bind_ret, Prog.pure_eq_ret]
  iintro ⟨#HC, HSt, HO, Hk⟩
  iapply (sent m K c 33 (Sb (F := F) c 1 64) _ _ _ [(fl2 c, 47, 41), (fl4 c, 48, 42), (fl4 c, 49, 43), (fl1 c, 50, 44), (fl1 c, 51, 45)] rfl rfl (by decide) rfl rfl rfl rfl) $$ [HSt]
  · isplitr; · iexact HC
    iexact HSt
  iintro ⟨HSt, HS⟩
  iapply (recv m K c 39 (Rb m c 1 384 64) _ _ _ [(fl2 c, 47, 41), (fl4 c, 48, 42), (fl4 c, 49, 43), (fl1 c, 50, 44), (fl1 c, 51, 45)] rfl rfl (by decide) rfl rfl rfl rfl) $$ [HSt]
  · isplitr; · iexact HC
    iexact HSt
  iintro ⟨HSt, HR⟩
  iapply (ld_out c) $$ HO; iintro HO
  iapply (ld_rsb c 1 384 64 rfl rfl) $$ HR; iintro HR
  iapply (ld_out c) $$ HO; iintro HO
  iapply (st_add m c 1 2 3 2 3 3 (by decide) rfl rfl rfl (by decide) (off13_eq c) rfl rfl (addc _ _ _ _ _)) $$ HO; iintro HO
  rw [wp_ret]
  imodintro
  iapply Hk
  isplitl [HSt]; · iexact HSt
  isplitl [HO]; · iexact HO
  isplitl [HS]; · iexact HS
  iexact HR

theorem part75 (c : Dev nD) (Z W : List KK) (v2 v104 v869 : BitVec 32) (Q' : _ → sProp (MT nD τ sig Unit (Elt F) ℕ UU ℕ)) :
    iprop(Cx m K ∗ St c Z (40 :: W) [40] [(fl2 c, 47, 41), (fl4 c, 48, 42), (fl4 c, 49, 43), (fl1 c, 50, 44), (fl1 c, 51, 45)] ∗ Og m c 3 3 ∗ anyOn (F := F) c cc0_scratch10 (rows 1 (kp3 c) 64)
      ∗ (∀ r, (St c (40 :: Z) W [41] [(fl4 c, 48, 42), (fl4 c, 49, 43), (fl1 c, 50, 44), (fl1 c, 51, 45)] ∗ Og m c 3 3 ∗ Ag m c 0 (kp3 c) 64) -∗ Q' r))
      ⊢ Wp c (onBufs (k0_part75 (F := F)) c v2 v104 v869) Q' := by
  rw [k0_part75_eq_skeleton]
  unfold Wp onBufs k0_part75_skel
  simp only [Prog.lift, Prog.bind_op, Prog.bind_ret, Prog.pure_eq_ret]
  iintro ⟨#HC, HSt, HO, ⟨%f, HA⟩, Hk⟩
  iapply (ld_out c) $$ HO; iintro HO
  iapply (ld_agb c 1 (kp3 c) 64 (off13_eq c) rfl) $$ HA; iintro HA
  iapply (st_ag m c 1 3 3 rfl (off13_eq c) rfl (trc _ _ _)) $$ HA; iintro HA
  iapply (ag_snd m K c (fl2 c) _ 1 (kp3 c) 64 47 41 _ _ [40] [40, 41] rfl _ (dev48_eq c) (off14_eq c) rfl rfl rfl (by decide) (by decide) rfl rfl rfl rfl rfl rfl rfl (landA47 c) (landP47 m c)) $$ [HSt HA]
  · isplitr; · iexact HC
    isplitl [HSt]; · iexact HSt
    iexact HA
  iintro HSt
  iapply (sent m K c 40 (Ag m c 0 (kp3 c) 64) _ _ _ [(fl4 c, 48, 42), (fl4 c, 49, 43), (fl1 c, 50, 44), (fl1 c, 51, 45)] rfl rfl (by decide) rfl rfl rfl rfl) $$ [HSt]
  · isplitr; · iexact HC
    iexact HSt
  iintro ⟨HSt, HA⟩
  rw [wp_ret]
  imodintro
  iapply Hk
  isplitl [HSt]; · iexact HSt
  isplitl [HO]; · iexact HO
  iexact HA

theorem part76 (c : Dev nD) (Z W : List KK) (v2 v131 v841 v853 : BitVec 32) (Q' : _ → sProp (MT nD τ sig Unit (Elt F) ℕ UU ℕ)) :
    iprop(Cx m K ∗ St c Z (46 :: 41 :: W) [41] [(fl4 c, 48, 42), (fl4 c, 49, 43), (fl1 c, 50, 44), (fl1 c, 51, 45)] ∗ Ag m c 0 (kp3 c) 64
      ∗ (∀ r, (St c (41 :: 46 :: Z) W [42] [(fl4 c, 49, 43), (fl1 c, 50, 44), (fl1 c, 51, 45)] ∗ Ag m c 1 (kp3 c) 64) -∗ Q' r))
      ⊢ Wp c (onBufs (k0_part76 (F := F)) c v2 v131 v841 v853) Q' := by
  rw [k0_part76_eq_skeleton]
  unfold Wp onBufs k0_part76_skel
  simp only [Prog.lift, Prog.bind_op, Prog.bind_ret, Prog.pure_eq_ret]
  iintro ⟨#HC, HSt, HA, Hk⟩
  iapply (recv m K c 46 (Ag m c 0 (kp3 (fl2 c)) 64) _ _ _ [(fl4 c, 48, 42), (fl4 c, 49, 43), (fl1 c, 50, 44), (fl1 c, 51, 45)] rfl rfl (by decide) rfl rfl rfl rfl) $$ [HSt]
  · isplitr; · iexact HC
    iexact HSt
  iintro ⟨HSt, HB⟩
  ihave HD := (rows_merge c 0 (kp3 c) (kp3 (fl2 c)) (kp2 c) 64 (agF m) (kp_halves c).1) $$ [HA HB]
  · isplitl [HA]; · iexact HA
    iexact HB
  iapply (ag_snd m K c (fl4 c) _ 0 (kp2 c) 128 48 42 _ _ [41] [41, 42] rfl _ (dev49_eq c) (off15_eq c) rfl rfl rfl (by decide) (by decide) rfl rfl rfl rfl rfl rfl rfl (landA48 c) (landP48 m c)) $$ [HSt HD]
  · isplitr; · iexact HC
    isplitl [HSt]; · iexact HSt
    iexact HD
  iintro HSt
  iapply (sent m K c 41 (Ag m c 1 (kp3 c) 64) _ _ _ [(fl4 c, 49, 43), (fl1 c, 50, 44), (fl1 c, 51, 45)] rfl rfl (by decide) rfl rfl rfl rfl) $$ [HSt]
  · isplitr; · iexact HC
    iexact HSt
  iintro ⟨HSt, HA⟩
  rw [wp_ret]
  imodintro
  iapply Hk
  isplitl [HSt]; · iexact HSt
  iexact HA

theorem part77 (c : Dev nD) (Z W : List KK) (v2 v131 v889 v901 : BitVec 32) (Q' : _ → sProp (MT nD τ sig Unit (Elt F) ℕ UU ℕ)) :
    iprop(Cx m K ∗ St c Z (47 :: 42 :: W) [42] [(fl4 c, 49, 43), (fl1 c, 50, 44), (fl1 c, 51, 45)] ∗ Ag m c 1 (kp3 c) 64
      ∗ (∀ r, (St c (42 :: 47 :: Z) W [43] [(fl1 c, 50, 44), (fl1 c, 51, 45)] ∗ Ag m c 0 (kp2 c) 128) -∗ Q' r))
      ⊢ Wp c (onBufs (k0_part77 (F := F)) c v2 v131 v889 v901) Q' := by
  rw [k0_part77_eq_skeleton]
  unfold Wp onBufs k0_part77_skel
  simp only [Prog.lift, Prog.bind_op, Prog.bind_ret, Prog.pure_eq_ret]
  iintro ⟨#HC, HSt, HA, Hk⟩
  iapply (recv m K c 47 (Ag m c 1 (kp3 (fl2 c)) 64) _ _ _ [(fl4 c, 49, 43), (fl1 c, 50, 44), (fl1 c, 51, 45)] rfl rfl (by decide) rfl rfl rfl rfl) $$ [HSt]
  · isplitr; · iexact HC
    iexact HSt
  iintro ⟨HSt, HB⟩
  ihave HD := (rows_merge c 1 (kp3 c) (kp3 (fl2 c)) (kp2 c) 64 (agF m) (kp_halves c).1) $$ [HA HB]
  · isplitl [HA]; · iexact HA
    iexact HB
  iapply (ag_snd m K c (fl4 c) _ 1 (kp2 c) 128 49 43 _ _ [42] [42, 43] rfl _ (dev50_eq c) (off16_eq c) rfl rfl rfl (by decide) (by decide) rfl rfl rfl rfl rfl rfl rfl (landA49 c) (landP49 m c)) $$ [HSt HD]
  · isplitr; · iexact HC
    isplitl [HSt]; · iexact HSt
    iexact HD
  iintro HSt
  iapply (sent m K c 42 (Ag m c 0 (kp2 c) 128) _ _ _ [(fl1 c, 50, 44), (fl1 c, 51, 45)] rfl rfl (by decide) rfl rfl rfl rfl) $$ [HSt]
  · isplitr; · iexact HC
    iexact HSt
  iintro ⟨HSt, HA⟩
  rw [wp_ret]
  imodintro
  iapply Hk
  isplitl [HSt]; · iexact HSt
  iexact HA

theorem part78 (c : Dev nD) (Z W : List KK) (v2 v916 : BitVec 32) (Q' : _ → sProp (MT nD τ sig Unit (Elt F) ℕ UU ℕ)) :
    iprop(Cx m K ∗ St c Z (48 :: 43 :: W) [43] [(fl1 c, 50, 44), (fl1 c, 51, 45)] ∗ Ag m c 0 (kp2 c) 128
      ∗ (∀ r, (St c (43 :: 48 :: Z) W [44] [(fl1 c, 51, 45)] ∗ Ag m c 1 (kp2 c) 128) -∗ Q' r))
      ⊢ Wp c (onBufs (k0_part78 (F := F)) c v2 v916) Q' := by
  rw [k0_part78_eq_skeleton]
  unfold Wp onBufs k0_part78_skel
  simp only [Prog.lift, Prog.bind_op, Prog.bind_ret, Prog.pure_eq_ret]
  iintro ⟨#HC, HSt, HA, Hk⟩
  iapply (recv m K c 48 (Ag m c 0 (kp2 (fl4 c)) 128) _ _ _ [(fl1 c, 50, 44), (fl1 c, 51, 45)] rfl rfl (by decide) rfl rfl rfl rfl) $$ [HSt]
  · isplitr; · iexact HC
    iexact HSt
  iintro ⟨HSt, HB⟩
  ihave HD := (rows_merge c 0 (kp2 c) (kp2 (fl4 c)) (kp1 c) 128 (agF m) (kp_halves c).2.1) $$ [HA HB]
  · isplitl [HA]; · iexact HA
    iexact HB
  iapply (ag_snd m K c (fl1 c) _ 0 (kp1 c) 256 50 44 _ _ [43] [43, 44] rfl _ (dev51_eq c) (off17_eq c) rfl rfl rfl (by decide) (by decide) rfl rfl rfl rfl rfl rfl rfl (landA50 c) (landP50 m c)) $$ [HSt HD]
  · isplitr; · iexact HC
    isplitl [HSt]; · iexact HSt
    iexact HD
  iintro HSt
  iapply (sent m K c 43 (Ag m c 1 (kp2 c) 128) _ _ _ [(fl1 c, 51, 45)] rfl rfl (by decide) rfl rfl rfl rfl) $$ [HSt]
  · isplitr; · iexact HC
    iexact HSt
  iintro ⟨HSt, HA⟩
  rw [wp_ret]
  imodintro
  iapply Hk
  isplitl [HSt]; · iexact HSt
  iexact HA

theorem part79 (c : Dev nD) (Z W : List KK) (v2 v943 v970 : BitVec 32) (Q' : _ → sProp (MT nD τ sig Unit (Elt F) ℕ UU ℕ)) :
    iprop(Cx m K ∗ St c Z (49 :: 44 :: W) [44] [(fl1 c, 51, 45)] ∗ Ag m c 1 (kp2 c) 128
      ∗ (∀ r, (St c (44 :: 49 :: Z) W [45] [] ∗ Ag m c 0 (kp1 c) 256) -∗ Q' r))
      ⊢ Wp c (onBufs (k0_part79 (F := F)) c v2 v943 v970) Q' := by
  rw [k0_part79_eq_skeleton]
  unfold Wp onBufs k0_part79_skel
  simp only [Prog.lift, Prog.bind_op, Prog.bind_ret, Prog.pure_eq_ret]
  iintro ⟨#HC, HSt, HA, Hk⟩
  iapply (recv m K c 49 (Ag m c 1 (kp2 (fl4 c)) 128) _ _ _ [(fl1 c, 51, 45)] rfl rfl (by decide) rfl rfl rfl rfl) $$ [HSt]
  · isplitr; · iexact HC
    iexact HSt
  iintro ⟨HSt, HB⟩
  ihave HD := (rows_merge c 1 (kp2 c) (kp2 (fl4 c)) (kp1 c) 128 (agF m) (kp_halves c).2.1) $$ [HA HB]
  · isplitl [HA]; · iexact HA
    iexact HB
  iapply (ag_snd m K c (fl1 c) _ 1 (kp1 c) 256 51 45 _ _ [44] [44, 45] rfl _ (dev52_eq c) (off18_eq c) rfl rfl rfl (by decide) (by decide) rfl rfl rfl rfl rfl rfl rfl (landA51 c) (landP51 m c)) $$ [HSt HD]
  · isplitr; · iexact HC
    isplitl [HSt]; · iexact HSt
    iexact HD
  iintro HSt
  iapply (sent m K c 44 (Ag m c 0 (kp1 c) 256) _ _ _ [] rfl rfl (by decide) rfl rfl rfl rfl) $$ [HSt]
  · isplitr; · iexact HC
    iexact HSt
  iintro ⟨HSt, HA⟩
  rw [wp_ret]
  imodintro
  iapply Hk
  isplitl [HSt]; · iexact HSt
  iexact HA

end Cert.Hand

end
-- ==== Proof.Kv0.lean ====
/-
# Device 0: the keys and values

A device's pair of sends, and device 0, which owns rows 0–511, through its eight chunks.
-/
module

public import proofs.«01_k».proof.Proof.KvItem
public import proofs.«01_k».proof.Proof.Red

@[expose] public section

noncomputable section

namespace Cert.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ UU ℕ

variable (m : (ℓ : Loc nD τ sig) → Buf (Elt F) ℓ) (K : Dev nD × KK → ℕ)

/-- The first `j` read-out cells of the sends of keys and values. -/
abbrev kq (j : ℕ) : List KK := ([4, 5, 6, 7, 8, 9, 10, 11, 12, 13, 14, 15, 16, 17] : List KK).take j
/-- What device 0 or 1 has still to send after `j` chunks of keys or values. -/
abbrev kT (c : Dev nD) (j : ℕ) : List Snd := (kvSends c).drop j ++ rsSends c

section Pair

variable {α : Type} {Q' : α → sProp (MT nD τ sig Unit (Elt F) ℕ UU ℕ)} {k' : PUnit → Prog (TpuEff nD τ sig (Elt F) Λ₀ .tc) α}

/-- Device 0 sends a chunk of keys and of values to device `n`. -/
theorem snd0 (n n1 n2 : Dev nD) (ks ks' : KK) (Z W Q Q1 Q2 : List KK) (hQ : Q ++ [ks] = Q1) (hQ' : Q1 ++ [ks'] = Q2) (T1 T : List Snd)
    (hT : T1 = (n, 0, ks) :: (n, 1, ks') :: T)
    {o1 o2 : Fin 4 → ℕ} {p1 p2 : Fin 3 → ℕ} {i1 j1 r1 q1 t1 i2 j2 r2 q2 t2} {s1 s2 u1 u2 : DmaSem sig} {a1 b1 c1 d1 a2 b2 c2 d2}
    (ho1 : o1 = ![n.val, 0, 0, 0]) (hp1 : p1 = ![0, 0, 0]) (ho2 : o2 = ![n.val, 0, 0, 0]) (hp2 : p2 = ![0, 0, 0])
    (hn1 : n1 = n) (hn2 : n2 = n) (hs1 : SemLoc.dma s1 = csem ks) (hs2 : SemLoc.dma s2 = csem ks')
    (hu1 : SemLoc.dma u1 = csem 0) (hu2 : SemLoc.dma u2 = csem 1) (hk : ks.val ≠ 52 ∧ ks'.val ≠ 52 ∧ n ≠ 0)
    (hr1 : isRecv ks = false) (hr2 : isRecv ks' = false) (hus1 : used 0 ks = true) (hus2 : used 0 ks' = true)
    (ha1 : (cc0_scratch0 : Ref sig .tc).dmaCredit ⟨3, ![2, 512, 512]⟩ .bf16 = amt 0 ks) (ha2 : (cc0_scratch0 : Ref sig .tc).dmaCredit ⟨3, ![2, 512, 512]⟩ .bf16 = amt 0 ks')
    (hP : srcPay m (0, ks) = anyOn 0 cc0_scratch5 (chunk n.val 512)) (hP' : srcPay m (0, ks') = anyOn 0 cc0_scratch6 (chunk n.val 512)) :
    iprop(Cx m K ∗ St 0 Z W Q T1 ∗ pc 0 cc0_scratch5 (chunk n.val 512) (kcF (kA m 0)) ∗ pc 0 cc0_scratch6 (chunk n.val 512) (kcF (vA m 0)))
      ⊢ iprop((St 0 Z W Q2 T -∗ wp frame (wpE (defs₀ (F := F)) 𝒱₀ (((0 : Dev nD)) : Thread nD τ) none) Set.univ (k' ⟨⟩) Q')
          -∗ wp frame (wpE (defs₀ (F := F)) 𝒱₀ (((0 : Dev nD)) : Thread nD τ) none) Set.univ (.op (.enqueueDma (((Memref.whole cc0_scratch5).slice (Rect.unit (s := S8x2x512x512) o1 ![1, 2, 512, 512] i1) r1).squeeze ⟨3, ![2, 512, 512]⟩ q1)
            (.remote (Dev.tc n1 : Thread nD τ) ((Memref.whole cc0_scratch0).slice (Rect.unit (s := S2x640x512) p1 ![2, 512, 512] j1) t1) (.dma s1) a1) (.dma u1) b1 c1 d1)
            fun _ => .op (.enqueueDma (((Memref.whole cc0_scratch6).slice (Rect.unit (s := S8x2x512x512) o2 ![1, 2, 512, 512] i2) r2).squeeze ⟨3, ![2, 512, 512]⟩ q2)
            (.remote (Dev.tc n2 : Thread nD τ) ((Memref.whole cc0_scratch1).slice (Rect.unit (s := S2x640x512) p2 ![2, 512, 512] j2) t2) (.dma s2) a2) (.dma u2) b2 c2 d2) k') Q') := by
  have hun1 : used n 0 = true := (by decide : ∀ x : Dev nD, x ≠ 0 → used x 0 = true) n hk.2.2
  have hun2 : used n 1 = true := (by decide : ∀ x : Dev nD, x ≠ 0 → used x 1 = true) n hk.2.2
  iintro ⟨#HC, HSt, HK, HV⟩ Hk
  iapply (snd_kb m K 0 n n1 0 ks Z W Q Q1 hQ T1 ((n, 1, ks') :: T) hT (kA m 0) 0 512 ho1 hp1
    (fun i j h0 h1 h2 h3 => kcF_lo _ _ n i j h0 h1 (h2.trans (Nat.zero_add _)) h3) hn1 hs1 hu1 hk.1 (by decide) hr1 rfl hus1 hun1 ha1 rfl hP rfl rfl) $$ [HSt HK]
  · isplitr; · iexact HC
    isplitl [HSt] <;> iassumption
  iintro HSt
  iapply (snd_vb m K 0 n n2 1 ks' Z W Q1 Q2 hQ' _ T rfl (vA m 0) 0 512 ho2 hp2
    (fun i j h0 h1 h2 h3 => kcF_lo _ _ n i j h0 h1 (h2.trans (Nat.zero_add _)) h3) hn2 hs2 hu2 hk.2.1 (by decide) hr2 rfl hus2 hun2 ha2 rfl hP' rfl rfl) $$ [HSt HV]
  · isplitr; · iexact HC
    isplitl [HSt] <;> iassumption
  iexact Hk

/-- Device 1 sends a chunk of keys and of values to device `n`. -/
theorem snd1 (n n1 n2 : Dev nD) (ks ks' : KK) (Z W Q Q1 Q2 : List KK) (hQ : Q ++ [ks] = Q1) (hQ' : Q1 ++ [ks'] = Q2) (T1 T : List Snd)
    (hT : T1 = (n, 2, ks) :: (n, 3, ks') :: T)
    {o1 o2 : Fin 4 → ℕ} {p1 p2 : Fin 3 → ℕ} {i1 j1 r1 q1 t1 i2 j2 r2 q2 t2} {s1 s2 u1 u2 : DmaSem sig} {a1 b1 c1 d1 a2 b2 c2 d2}
    (ho1 : o1 = ![n.val, 0, 0, 0]) (hp1 : p1 = ![0, 512, 0]) (ho2 : o2 = ![n.val, 0, 0, 0]) (hp2 : p2 = ![0, 512, 0])
    (hn1 : n1 = n) (hn2 : n2 = n) (hs1 : SemLoc.dma s1 = csem ks) (hs2 : SemLoc.dma s2 = csem ks')
    (hu1 : SemLoc.dma u1 = csem 2) (hu2 : SemLoc.dma u2 = csem 3) (hk : ks.val ≠ 52 ∧ ks'.val ≠ 52 ∧ n ≠ 1)
    (hr1 : isRecv ks = false) (hr2 : isRecv ks' = false) (hus1 : used 1 ks = true) (hus2 : used 1 ks' = true)
    (ha1 : (cc0_scratch0 : Ref sig .tc).dmaCredit ⟨3, ![2, 128, 512]⟩ .bf16 = amt 1 ks) (ha2 : (cc0_scratch0 : Ref sig .tc).dmaCredit ⟨3, ![2, 128, 512]⟩ .bf16 = amt 1 ks')
    (hP : srcPay m (1, ks) = anyOn 1 cc0_scratch5 (chunk n.val 128)) (hP' : srcPay m (1, ks') = anyOn 1 cc0_scratch6 (chunk n.val 128)) :
    iprop(Cx m K ∗ St 1 Z W Q T1 ∗ pc 1 cc0_scratch5 (chunk n.val 128) (kcF (kA m 1)) ∗ pc 1 cc0_scratch6 (chunk n.val 128) (kcF (vA m 1)))
      ⊢ iprop((St 1 Z W Q2 T -∗ wp frame (wpE (defs₀ (F := F)) 𝒱₀ (((1 : Dev nD)) : Thread nD τ) none) Set.univ (k' ⟨⟩) Q')
          -∗ wp frame (wpE (defs₀ (F := F)) 𝒱₀ (((1 : Dev nD)) : Thread nD τ) none) Set.univ (.op (.enqueueDma (((Memref.whole cc0_scratch5).slice (Rect.unit (s := S8x2x512x512) o1 ![1, 2, 128, 512] i1) r1).squeeze ⟨3, ![2, 128, 512]⟩ q1)
            (.remote (Dev.tc n1 : Thread nD τ) ((Memref.whole cc0_scratch0).slice (Rect.unit (s := S2x640x512) p1 ![2, 128, 512] j1) t1) (.dma s1) a1) (.dma u1) b1 c1 d1)
            fun _ => .op (.enqueueDma (((Memref.whole cc0_scratch6).slice (Rect.unit (s := S8x2x512x512) o2 ![1, 2, 128, 512] i2) r2).squeeze ⟨3, ![2, 128, 512]⟩ q2)
            (.remote (Dev.tc n2 : Thread nD τ) ((Memref.whole cc0_scratch1).slice (Rect.unit (s := S2x640x512) p2 ![2, 128, 512] j2) t2) (.dma s2) a2) (.dma u2) b2 c2 d2) k') Q') := by
  have hun1 : used n 2 = true := (by decide : ∀ x : Dev nD, x ≠ 1 → used x 2 = true) n hk.2.2
  have hun2 : used n 3 = true := (by decide : ∀ x : Dev nD, x ≠ 1 → used x 3 = true) n hk.2.2
  iintro ⟨#HC, HSt, HK, HV⟩ Hk
  iapply (snd_kb m K 1 n n1 2 ks Z W Q Q1 hQ T1 ((n, 3, ks') :: T) hT (kA m 1) 512 128 ho1 hp1
    (fun i j h0 h1 h2 h3 => kcF_hi _ _ n i j h0 h1 h2 h3) hn1 hs1 hu1 hk.1 (by decide) hr1 rfl hus1 hun1 ha1 rfl hP rfl rfl) $$ [HSt HK]
  · isplitr; · iexact HC
    isplitl [HSt] <;> iassumption
  iintro HSt
  iapply (snd_vb m K 1 n n2 3 ks' Z W Q1 Q2 hQ' _ T rfl (vA m 1) 512 128 ho2 hp2
    (fun i j h0 h1 h2 h3 => kcF_hi _ _ n i j h0 h1 h2 h3) hn2 hs2 hu2 hk.2.1 (by decide) hr2 rfl hus2 hun2 ha2 rfl hP' rfl rfl) $$ [HSt HV]
  · isplitr; · iexact HC
    isplitl [HSt] <;> iassumption
  iexact Hk

end Pair

/-! ## What the relays are sent -/

theorem rb_val00 (i : S8x2x512x512.Idx) (i' : S3x2x512x512.Idx) (h0 : (i 0).val = ((6 : Dev nD)).val) (h1 : (i' 0).val = 0) (h2 : (i' 1).val = (i 1).val) (h3 : (i' 2).val = (i 2).val) (h4 : (i' 3).val = (i 3).val) :
    kcF (kA m 0) i = rbF m 7 i' := by
  unfold rbF
  rw [if_pos rfl]
  exact kcF_lo _ _ 6 i _ h0 h2 h3 h4

theorem rb_val01 (i : S8x2x512x512.Idx) (i' : S3x2x512x512.Idx) (h0 : (i 0).val = ((6 : Dev nD)).val) (h1 : (i' 0).val = 2) (h2 : (i' 1).val = (i 1).val) (h3 : (i' 2).val = (i 2).val) (h4 : (i' 3).val = (i 3).val) :
    kcF (vA m 0) i = rbF m 4 i' := by
  unfold rbF
  rw [if_neg (by decide), if_neg (by omega), if_neg (by omega)]
  exact kcF_lo _ _ 6 i _ h0 h2 h3 h4

theorem rb_val10 (i : S8x2x512x512.Idx) (i' : S3x2x512x512.Idx) (h0 : (i 0).val = ((5 : Dev nD)).val) (h1 : (i' 0).val = 0) (h2 : (i' 1).val = (i 1).val) (h3 : (i' 2).val = (i 2).val) (h4 : (i' 3).val = (i 3).val) :
    kcF (kA m 0) i = rbF m 4 i' := by
  unfold rbF
  rw [if_neg (by decide), if_pos h1]
  exact kcF_lo _ _ 5 i _ h0 h2 h3 h4

theorem rb_val11 (i : S8x2x512x512.Idx) (i' : S3x2x512x512.Idx) (h0 : (i 0).val = ((5 : Dev nD)).val) (h1 : (i' 0).val = 1) (h2 : (i' 1).val = (i 1).val) (h3 : (i' 2).val = (i 2).val) (h4 : (i' 3).val = (i 3).val) :
    kcF (vA m 0) i = rbF m 4 i' := by
  unfold rbF
  rw [if_neg (by decide), if_neg (by omega), if_pos h1]
  exact kcF_lo _ _ 5 i _ h0 h2 h3 h4

/-- A kept chunk of the keys, in its place among the keys. -/
theorem kc_own (V : FVec F S2x512x4096 .f32) (g : FVec F S2x640x512 .bf16) (n lo : ℕ) (d : Dev nD) {off : Fin 4 → ℕ} {offd : Fin 3 → ℕ} {inb inbd h1 h2}
    (ho : off = ![d.val, 0, 0, 0]) (hod : offd = ![0, lo, 0])
    (hg : ∀ (i : S8x2x512x512.Idx) (j : S2x640x512.Idx), (i 0).val = d.val → (j 0).val = (i 1).val → (j 1).val = lo + (i 2).val → (j 2).val = (i 3).val → kcF V i = g j)
    (x : (⟨3, ![2, n, 512]⟩ : Shape).Idx) :
    shapeCast (⟨3, ![2, n, 512]⟩ : Shape) (shapeCast (⟨3, ![2, n, 512]⟩ : Shape) (fun y : (⟨4, ![1, 2, n, 512]⟩ : Shape).Idx => kcF V ((Rect.unit (s := S8x2x512x512) off ![1, 2, n, 512] inb).emb y)) h1) h2 x
      = g ((Rect.unit (s := S2x640x512) offd ![2, n, 512] inbd).emb x) := by
  show kcF V ((Rect.unit (s := S8x2x512x512) off ![1, 2, n, 512] inb).emb (Shape.reshapeEquiv h1 (Shape.reshapeEquiv h2 x))) = _
  rw [Shape.reshapeEquiv_self]
  exact kc_kb V g n lo d ho hod hg x

set_option maxHeartbeats 4000000 in
/-- Device 0 through its chunks. -/
theorem part18 (h : k0_cond1 0 = 1#1) (Z W : List KK) (Q' : _ → sProp (MT nD τ sig Unit (Elt F) ℕ UU ℕ)) :
    iprop(Cx m K ∗ St 0 Z W [] (sends 0) ∗ Rest 0 (kA m 0) (vA m 0) fullShare.left 18 19 0 512 ∗ Rest 0 (kA m 0) (vA m 0) fullShare.right 20 21 1 512
      ∗ sepL (fun d : ℕ => anyOn (F := F) 0 cc0_scratch5 (chunk d 512)) [6, 5, 1, 3, 4, 2, 7, 0] ∗ sepL (fun d : ℕ => anyOn (F := F) 0 cc0_scratch6 (chunk d 512)) [6, 5, 1, 3, 4, 2, 7, 0]
      ∗ anyOn (F := F) 0 cc0_scratch0 (krows 0 512)
      ∗ ((St 0 Z W (kq 14) (rsSends 0) ∗ Rest 0 (kA m 0) (vA m 0) fullShare.left 18 19 0 512 ∗ Rest 0 (kA m 0) (vA m 0) fullShare.right 20 21 1 512 ∗ pc 0 cc0_scratch5 (chunk 0 512) (kcF (kA m 0)) ∗ pc 0 cc0_scratch6 (chunk 0 512) (kcF (vA m 0)) ∗ anyOn (F := F) 0 cc0_scratch0 (krows 0 512)) -∗ Q' (k0_pay20 fun x : (Rect.unit (s := S8x2x512x512) ![0, 0, 0, 0] S1x2x512x512.size inb_S8x2x512x512_S1x2x512x512_0_0_0_0).shape.Idx => kcF (kA m 0) ((Rect.unit (s := S8x2x512x512) ![0, 0, 0, 0] S1x2x512x512.size inb_S8x2x512x512_S1x2x512x512_0_0_0_0).emb x))))
      ⊢ Wp 0 (onBufs (k0_part18 (F := F)) 0 h) Q' := by
  rw [k0_part18_eq_skeleton]
  unfold Wp onBufs k0_part18_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel
  simp only [Prog.lift, Prog.bind_op, Prog.bind_ret, Prog.pure_eq_ret, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, sepL_cons, sepL_nil]
  have hN : 0 < NS 512 := sig.dmaCredit_pos _ _ _ _ _ (by decide)
  iintro ⟨#HC, HSt, H0, H1, ⟨HK6, HK5, HK1, HK3, HK4, HK2, HK7, HK0, -⟩, ⟨HV6, HV5, HV1, HV3, HV4, HV2, HV7, HV0, -⟩, HB, Hk⟩
  iapply (goKV 0 (kA m 0) (vA m 0) fullShare.left 18 19 0 512 6 rfl rfl rfl rfl rfl rfl hN) $$ H0; iintro H0
  iapply (goKV 0 (kA m 0) (vA m 0) fullShare.right 20 21 1 512 5 rfl rfl rfl rfl rfl rfl hN) $$ H1; iintro H1
  iapply (item m K 0 (kA m 0) (vA m 0) fullShare.left 18 19 0 512 6 Z W (kq 0) (kT 0 0) rfl rfl rfl rfl rfl rfl rfl rfl rfl rfl rfl) $$ [HSt H0 HK6 HV6]
  · isplitr; · iexact HC
    isplitl [HSt]; · iexact HSt
    isplitl [H0]; · iexact H0
    isplitl [HK6]; · iexact HK6
    iexact HV6
  iintro ⟨HSt, H0, HK6, HV6⟩
  iapply (snd_krb m K 0 7 _ 22 4 Z W (kq 0) (kq 1) rfl (kT 0 0) (kT 0 1) rfl (kA m 0) 6 0 rfl rfl
    (fun i i' h0 h1 h2 h3 h4 => rb_val00 m i i' h0 h1 h2 h3 h4) rfl rfl rfl (by decide) (by decide) rfl rfl rfl rfl rfl rfl rfl rfl rfl) $$ [HSt HK6]
  · isplitr; · iexact HC
    isplitl [HSt] <;> iassumption
  iintro HSt
  iapply (snd_vrb m K 0 4 _ 24 5 Z W (kq 1) (kq 2) rfl (kT 0 1) (kT 0 2) rfl (vA m 0) 6 2 rfl rfl
    (fun i i' h0 h1 h2 h3 h4 => rb_val01 m i i' h0 h1 h2 h3 h4) rfl rfl rfl (by decide) (by decide) rfl rfl rfl rfl rfl rfl rfl rfl rfl) $$ [HSt HV6]
  · isplitr; · iexact HC
    isplitl [HSt] <;> iassumption
  iintro HSt
  iapply (goKV 0 (kA m 0) (vA m 0) fullShare.left 18 19 0 512 1 rfl rfl rfl rfl rfl rfl hN) $$ H0; iintro H0
  iapply (item m K 0 (kA m 0) (vA m 0) fullShare.right 20 21 1 512 5 Z W (kq 2) (kT 0 2) rfl rfl rfl rfl rfl rfl rfl rfl rfl rfl rfl) $$ [HSt H1 HK5 HV5]
  · isplitr; · iexact HC
    isplitl [HSt]; · iexact HSt
    isplitl [H1]; · iexact H1
    isplitl [HK5]; · iexact HK5
    iexact HV5
  iintro ⟨HSt, H1, HK5, HV5⟩
  iapply (snd_krb m K 0 4 _ 22 6 Z W (kq 2) (kq 3) rfl (kT 0 2) (kT 0 3) rfl (kA m 0) 5 0 rfl rfl
    (fun i i' h0 h1 h2 h3 h4 => rb_val10 m i i' h0 h1 h2 h3 h4) rfl rfl rfl (by decide) (by decide) rfl rfl rfl rfl rfl rfl rfl rfl rfl) $$ [HSt HK5]
  · isplitr; · iexact HC
    isplitl [HSt] <;> iassumption
  iintro HSt
  iapply (snd_vrb m K 0 4 _ 23 7 Z W (kq 3) (kq 4) rfl (kT 0 3) (kT 0 4) rfl (vA m 0) 5 1 rfl rfl
    (fun i i' h0 h1 h2 h3 h4 => rb_val11 m i i' h0 h1 h2 h3 h4) rfl rfl rfl (by decide) (by decide) rfl rfl rfl rfl rfl rfl rfl rfl rfl) $$ [HSt HV5]
  · isplitr; · iexact HC
    isplitl [HSt] <;> iassumption
  iintro HSt
  iapply (goKV 0 (kA m 0) (vA m 0) fullShare.right 20 21 1 512 3 rfl rfl rfl rfl rfl rfl hN) $$ H1; iintro H1
  iapply (item m K 0 (kA m 0) (vA m 0) fullShare.left 18 19 0 512 1 Z W (kq 4) (kT 0 4) rfl rfl rfl rfl rfl rfl rfl rfl rfl rfl rfl) $$ [HSt H0 HK1 HV1]
  · isplitr; · iexact HC
    isplitl [HSt]; · iexact HSt
    isplitl [H0]; · iexact H0
    isplitl [HK1]; · iexact HK1
    iexact HV1
  iintro ⟨HSt, H0, HK1, HV1⟩
  iapply (snd0 m K 1 _ _ 8 9 Z W (kq 4) (kq 5) (kq 6) rfl rfl (kT 0 4) (kT 0 6) rfl rfl rfl rfl rfl rfl rfl rfl rfl rfl rfl (by decide) rfl rfl rfl rfl rfl rfl rfl rfl) $$ [HSt HK1 HV1]
  · isplitr; · iexact HC
    isplitl [HSt]; · iexact HSt
    isplitl [HK1]; · iexact HK1
    iexact HV1
  iintro HSt
  iapply (goKV 0 (kA m 0) (vA m 0) fullShare.left 18 19 0 512 4 rfl rfl rfl rfl rfl rfl hN) $$ H0; iintro H0
  iapply (item m K 0 (kA m 0) (vA m 0) fullShare.right 20 21 1 512 3 Z W (kq 6) (kT 0 6) rfl rfl rfl rfl rfl rfl rfl rfl rfl rfl rfl) $$ [HSt H1 HK3 HV3]
  · isplitr; · iexact HC
    isplitl [HSt]; · iexact HSt
    isplitl [H1]; · iexact H1
    isplitl [HK3]; · iexact HK3
    iexact HV3
  iintro ⟨HSt, H1, HK3, HV3⟩
  iapply (snd0 m K 3 _ _ 10 11 Z W (kq 6) (kq 7) (kq 8) rfl rfl (kT 0 6) (kT 0 8) rfl rfl rfl rfl rfl rfl rfl rfl rfl rfl rfl (by decide) rfl rfl rfl rfl rfl rfl rfl rfl) $$ [HSt HK3 HV3]
  · isplitr; · iexact HC
    isplitl [HSt]; · iexact HSt
    isplitl [HK3]; · iexact HK3
    iexact HV3
  iintro HSt
  iapply (goKV 0 (kA m 0) (vA m 0) fullShare.right 20 21 1 512 2 rfl rfl rfl rfl rfl rfl hN) $$ H1; iintro H1
  iapply (item m K 0 (kA m 0) (vA m 0) fullShare.left 18 19 0 512 4 Z W (kq 8) (kT 0 8) rfl rfl rfl rfl rfl rfl rfl rfl rfl rfl rfl) $$ [HSt H0 HK4 HV4]
  · isplitr; · iexact HC
    isplitl [HSt]; · iexact HSt
    isplitl [H0]; · iexact H0
    isplitl [HK4]; · iexact HK4
    iexact HV4
  iintro ⟨HSt, H0, HK4, HV4⟩
  iapply (snd0 m K 4 _ _ 12 13 Z W (kq 8) (kq 9) (kq 10) rfl rfl (kT 0 8) (kT 0 10) rfl rfl rfl rfl rfl rfl rfl rfl rfl rfl rfl (by decide) rfl rfl rfl rfl rfl rfl rfl rfl) $$ [HSt HK4 HV4]
  · isplitr; · iexact HC
    isplitl [HSt]; · iexact HSt
    isplitl [HK4]; · iexact HK4
    iexact HV4
  iintro HSt
  iapply (goKV 0 (kA m 0) (vA m 0) fullShare.left 18 19 0 512 7 rfl rfl rfl rfl rfl rfl hN) $$ H0; iintro H0
  iapply (item m K 0 (kA m 0) (vA m 0) fullShare.right 20 21 1 512 2 Z W (kq 10) (kT 0 10) rfl rfl rfl rfl rfl rfl rfl rfl rfl rfl rfl) $$ [HSt H1 HK2 HV2]
  · isplitr; · iexact HC
    isplitl [HSt]; · iexact HSt
    isplitl [H1]; · iexact H1
    isplitl [HK2]; · iexact HK2
    iexact HV2
  iintro ⟨HSt, H1, HK2, HV2⟩
  iapply (snd0 m K 2 _ _ 14 15 Z W (kq 10) (kq 11) (kq 12) rfl rfl (kT 0 10) (kT 0 12) rfl rfl rfl rfl rfl rfl rfl rfl rfl rfl rfl (by decide) rfl rfl rfl rfl rfl rfl rfl rfl) $$ [HSt HK2 HV2]
  · isplitr; · iexact HC
    isplitl [HSt]; · iexact HSt
    isplitl [HK2]; · iexact HK2
    iexact HV2
  iintro HSt
  iapply (goKV 0 (kA m 0) (vA m 0) fullShare.right 20 21 1 512 0 rfl rfl rfl rfl rfl rfl hN) $$ H1; iintro H1
  iapply (item m K 0 (kA m 0) (vA m 0) fullShare.left 18 19 0 512 7 Z W (kq 12) (kT 0 12) rfl rfl rfl rfl rfl rfl rfl rfl rfl rfl rfl) $$ [HSt H0 HK7 HV7]
  · isplitr; · iexact HC
    isplitl [HSt]; · iexact HSt
    isplitl [H0]; · iexact H0
    isplitl [HK7]; · iexact HK7
    iexact HV7
  iintro ⟨HSt, H0, HK7, HV7⟩
  iapply (snd0 m K 7 _ _ 16 17 Z W (kq 12) (kq 13) (kq 14) rfl rfl (kT 0 12) (kT 0 14) rfl rfl rfl rfl rfl rfl rfl rfl rfl rfl rfl (by decide) rfl rfl rfl rfl rfl rfl rfl rfl) $$ [HSt HK7 HV7]
  · isplitr; · iexact HC
    isplitl [HSt]; · iexact HSt
    isplitl [HK7]; · iexact HK7
    iexact HV7
  iintro HSt
  iapply (item m K 0 (kA m 0) (vA m 0) fullShare.right 20 21 1 512 0 Z W (kq 14) (kT 0 14) rfl rfl rfl rfl rfl rfl rfl rfl rfl rfl rfl) $$ [HSt H1 HK0 HV0]
  · isplitr; · iexact HC
    isplitl [HSt]; · iexact HSt
    isplitl [H1]; · iexact H1
    isplitl [HK0]; · iexact HK0
    iexact HV0
  iintro ⟨HSt, H1, HK0, HV0⟩
  ihave HK0 := (Entails.of_eq (show pc 0 cc0_scratch5 (chunk (0 : Fin 8).val 512) (kcF (kA m 0)) = pc 0 cc0_scratch5 (chunk 0 512) (kcF (kA m 0)) from rfl)) $$ HK0
  iapply (ld_kc 0 0 512 rfl) $$ HK0; iintro HK0
  icases HB with ⟨%fb, HB⟩
  iapply (ld_kb 0 0 512 rfl) $$ HB; iintro HB
  rw [wp_ret]
  imodintro
  iapply Hk
  isplitl [HSt]; · iexact HSt
  isplitl [H0]; · iexact H0
  isplitl [H1]; · iexact H1
  isplitl [HK0]; · iexact HK0
  isplitl [HV0]; · iexact HV0
  iexists _; iexact HB

end Cert.Hand
-- ==== Proof.Kv1.lean ====
/-
# Device 1: the keys and values

Device 1, which owns rows 512–639, through its eight chunks.
-/
module

public import proofs.«01_k».proof.Proof.Kv0

@[expose] public section

noncomputable section

namespace Cert.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ UU ℕ

variable (m : (ℓ : Loc nD τ sig) → Buf (Elt F) ℓ) (K : Dev nD × KK → ℕ)

set_option maxHeartbeats 4000000 in
/-- Device 1 through its chunks. -/
theorem part36 (h : k0_cond2 1 = 1#1) (Z W : List KK) (Q' : _ → sProp (MT nD τ sig Unit (Elt F) ℕ UU ℕ)) :
    iprop(Cx m K ∗ St 1 Z W [] (sends 1) ∗ Rest 1 (kA m 1) (vA m 1) fullShare.left 18 19 0 128 ∗ Rest 1 (kA m 1) (vA m 1) fullShare.right 20 21 1 128
      ∗ sepL (fun d : ℕ => anyOn (F := F) 1 cc0_scratch5 (chunk d 128)) [0, 2, 3, 4, 5, 6, 7, 1] ∗ sepL (fun d : ℕ => anyOn (F := F) 1 cc0_scratch6 (chunk d 128)) [0, 2, 3, 4, 5, 6, 7, 1]
      ∗ anyOn (F := F) 1 cc0_scratch0 (krows 512 128)
      ∗ ((St 1 Z W (kq 14) (rsSends 1) ∗ Rest 1 (kA m 1) (vA m 1) fullShare.left 18 19 0 128 ∗ Rest 1 (kA m 1) (vA m 1) fullShare.right 20 21 1 128 ∗ pc 1 cc0_scratch5 (chunk 1 128) (kcF (kA m 1)) ∗ pc 1 cc0_scratch6 (chunk 1 128) (kcF (vA m 1)) ∗ pc 1 cc0_scratch0 (krows 512 128) (kbF m 1)) -∗ Q' (k0_pay43 fun x : (Rect.unit (s := S8x2x512x512) ![1, 0, 0, 0] S1x2x128x512.size inb_S8x2x512x512_S1x2x128x512_1_0_0_0).shape.Idx => kcF (vA m 1) ((Rect.unit (s := S8x2x512x512) ![1, 0, 0, 0] S1x2x128x512.size inb_S8x2x512x512_S1x2x128x512_1_0_0_0).emb x))))
      ⊢ Wp 1 (onBufs (k0_part36 (F := F)) 1 h) Q' := by
  rw [k0_part36_eq_skeleton]
  unfold Wp onBufs k0_part36_skel
  simp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel
  simp only [Prog.lift, Prog.bind_op, Prog.bind_ret, Prog.pure_eq_ret, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, sepL_cons, sepL_nil]
  have hN : 0 < NS 128 := sig.dmaCredit_pos _ _ _ _ _ (by decide)
  iintro ⟨#HC, HSt, H0, H1, ⟨HK0, HK2, HK3, HK4, HK5, HK6, HK7, HK1, -⟩, ⟨HV0, HV2, HV3, HV4, HV5, HV6, HV7, HV1, -⟩, HB, Hk⟩
  iapply (goKV 1 (kA m 1) (vA m 1) fullShare.left 18 19 0 128 0 rfl rfl rfl rfl rfl rfl hN) $$ H0; iintro H0
  iapply (goKV 1 (kA m 1) (vA m 1) fullShare.right 20 21 1 128 2 rfl rfl rfl rfl rfl rfl hN) $$ H1; iintro H1
  iapply (item m K 1 (kA m 1) (vA m 1) fullShare.left 18 19 0 128 0 Z W (kq 0) (kT 1 0) rfl rfl rfl rfl rfl rfl rfl rfl rfl rfl rfl) $$ [HSt H0 HK0 HV0]
  · isplitr; · iexact HC
    isplitl [HSt]; · iexact HSt
    isplitl [H0]; · iexact H0
    isplitl [HK0]; · iexact HK0
    iexact HV0
  iintro ⟨HSt, H0, HK0, HV0⟩
  iapply (snd1 m K 0 _ _ 4 5 Z W (kq 0) (kq 1) (kq 2) rfl rfl (kT 1 0) (kT 1 2) rfl rfl rfl rfl rfl rfl rfl rfl rfl rfl rfl (by decide) rfl rfl rfl rfl rfl rfl rfl rfl) $$ [HSt HK0 HV0]
  · isplitr; · iexact HC
    isplitl [HSt]; · iexact HSt
    isplitl [HK0]; · iexact HK0
    iexact HV0
  iintro HSt
  iapply (goKV 1 (kA m 1) (vA m 1) fullShare.left 18 19 0 128 3 rfl rfl rfl rfl rfl rfl hN) $$ H0; iintro H0
  iapply (item m K 1 (kA m 1) (vA m 1) fullShare.right 20 21 1 128 2 Z W (kq 2) (kT 1 2) rfl rfl rfl rfl rfl rfl rfl rfl rfl rfl rfl) $$ [HSt H1 HK2 HV2]
  · isplitr; · iexact HC
    isplitl [HSt]; · iexact HSt
    isplitl [H1]; · iexact H1
    isplitl [HK2]; · iexact HK2
    iexact HV2
  iintro ⟨HSt, H1, HK2, HV2⟩
  iapply (snd1 m K 2 _ _ 6 7 Z W (kq 2) (kq 3) (kq 4) rfl rfl (kT 1 2) (kT 1 4) rfl rfl rfl rfl rfl rfl rfl rfl rfl rfl rfl (by decide) rfl rfl rfl rfl rfl rfl rfl rfl) $$ [HSt HK2 HV2]
  · isplitr; · iexact HC
    isplitl [HSt]; · iexact HSt
    isplitl [HK2]; · iexact HK2
    iexact HV2
  iintro HSt
  iapply (goKV 1 (kA m 1) (vA m 1) fullShare.right 20 21 1 128 4 rfl rfl rfl rfl rfl rfl hN) $$ H1; iintro H1
  iapply (item m K 1 (kA m 1) (vA m 1) fullShare.left 18 19 0 128 3 Z W (kq 4) (kT 1 4) rfl rfl rfl rfl rfl rfl rfl rfl rfl rfl rfl) $$ [HSt H0 HK3 HV3]
  · isplitr; · iexact HC
    isplitl [HSt]; · iexact HSt
    isplitl [H0]; · iexact H0
    isplitl [HK3]; · iexact HK3
    iexact HV3
  iintro ⟨HSt, H0, HK3, HV3⟩
  iapply (snd1 m K 3 _ _ 8 9 Z W (kq 4) (kq 5) (kq 6) rfl rfl (kT 1 4) (kT 1 6) rfl rfl rfl rfl rfl rfl rfl rfl rfl rfl rfl (by decide) rfl rfl rfl rfl rfl rfl rfl rfl) $$ [HSt HK3 HV3]
  · isplitr; · iexact HC
    isplitl [HSt]; · iexact HSt
    isplitl [HK3]; · iexact HK3
    iexact HV3
  iintro HSt
  iapply (goKV 1 (kA m 1) (vA m 1) fullShare.left 18 19 0 128 5 rfl rfl rfl rfl rfl rfl hN) $$ H0; iintro H0
  iapply (item m K 1 (kA m 1) (vA m 1) fullShare.right 20 21 1 128 4 Z W (kq 6) (kT 1 6) rfl rfl rfl rfl rfl rfl rfl rfl rfl rfl rfl) $$ [HSt H1 HK4 HV4]
  · isplitr; · iexact HC
    isplitl [HSt]; · iexact HSt
    isplitl [H1]; · iexact H1
    isplitl [HK4]; · iexact HK4
    iexact HV4
  iintro ⟨HSt, H1, HK4, HV4⟩
  iapply (snd1 m K 4 _ _ 10 11 Z W (kq 6) (kq 7) (kq 8) rfl rfl (kT 1 6) (kT 1 8) rfl rfl rfl rfl rfl rfl rfl rfl rfl rfl rfl (by decide) rfl rfl rfl rfl rfl rfl rfl rfl) $$ [HSt HK4 HV4]
  · isplitr; · iexact HC
    isplitl [HSt]; · iexact HSt
    isplitl [HK4]; · iexact HK4
    iexact HV4
  iintro HSt
  iapply (goKV 1 (kA m 1) (vA m 1) fullShare.right 20 21 1 128 6 rfl rfl rfl rfl rfl rfl hN) $$ H1; iintro H1
  iapply (item m K 1 (kA m 1) (vA m 1) fullShare.left 18 19 0 128 5 Z W (kq 8) (kT 1 8) rfl rfl rfl rfl rfl rfl rfl rfl rfl rfl rfl) $$ [HSt H0 HK5 HV5]
  · isplitr; · iexact HC
    isplitl [HSt]; · iexact HSt
    isplitl [H0]; · iexact H0
    isplitl [HK5]; · iexact HK5
    iexact HV5
  iintro ⟨HSt, H0, HK5, HV5⟩
  iapply (snd1 m K 5 _ _ 12 13 Z W (kq 8) (kq 9) (kq 10) rfl rfl (kT 1 8) (kT 1 10) rfl rfl rfl rfl rfl rfl rfl rfl rfl rfl rfl (by decide) rfl rfl rfl rfl rfl rfl rfl rfl) $$ [HSt HK5 HV5]
  · isplitr; · iexact HC
    isplitl [HSt]; · iexact HSt
    isplitl [HK5]; · iexact HK5
    iexact HV5
  iintro HSt
  iapply (goKV 1 (kA m 1) (vA m 1) fullShare.left 18 19 0 128 7 rfl rfl rfl rfl rfl rfl hN) $$ H0; iintro H0
  iapply (item m K 1 (kA m 1) (vA m 1) fullShare.right 20 21 1 128 6 Z W (kq 10) (kT 1 10) rfl rfl rfl rfl rfl rfl rfl rfl rfl rfl rfl) $$ [HSt H1 HK6 HV6]
  · isplitr; · iexact HC
    isplitl [HSt]; · iexact HSt
    isplitl [H1]; · iexact H1
    isplitl [HK6]; · iexact HK6
    iexact HV6
  iintro ⟨HSt, H1, HK6, HV6⟩
  iapply (snd1 m K 6 _ _ 14 15 Z W (kq 10) (kq 11) (kq 12) rfl rfl (kT 1 10) (kT 1 12) rfl rfl rfl rfl rfl rfl rfl rfl rfl rfl rfl (by decide) rfl rfl rfl rfl rfl rfl rfl rfl) $$ [HSt HK6 HV6]
  · isplitr; · iexact HC
    isplitl [HSt]; · iexact HSt
    isplitl [HK6]; · iexact HK6
    iexact HV6
  iintro HSt
  iapply (goKV 1 (kA m 1) (vA m 1) fullShare.right 20 21 1 128 1 rfl rfl rfl rfl rfl rfl hN) $$ H1; iintro H1
  iapply (item m K 1 (kA m 1) (vA m 1) fullShare.left 18 19 0 128 7 Z W (kq 12) (kT 1 12) rfl rfl rfl rfl rfl rfl rfl rfl rfl rfl rfl) $$ [HSt H0 HK7 HV7]
  · isplitr; · iexact HC
    isplitl [HSt]; · iexact HSt
    isplitl [H0]; · iexact H0
    isplitl [HK7]; · iexact HK7
    iexact HV7
  iintro ⟨HSt, H0, HK7, HV7⟩
  iapply (snd1 m K 7 _ _ 16 17 Z W (kq 12) (kq 13) (kq 14) rfl rfl (kT 1 12) (kT 1 14) rfl rfl rfl rfl rfl rfl rfl rfl rfl rfl rfl (by decide) rfl rfl rfl rfl rfl rfl rfl rfl) $$ [HSt HK7 HV7]
  · isplitr; · iexact HC
    isplitl [HSt]; · iexact HSt
    isplitl [HK7]; · iexact HK7
    iexact HV7
  iintro HSt
  iapply (item m K 1 (kA m 1) (vA m 1) fullShare.right 20 21 1 128 1 Z W (kq 14) (kT 1 14) rfl rfl rfl rfl rfl rfl rfl rfl rfl rfl rfl) $$ [HSt H1 HK1 HV1]
  · isplitr; · iexact HC
    isplitl [HSt]; · iexact HSt
    isplitl [H1]; · iexact H1
    isplitl [HK1]; · iexact HK1
    iexact HV1
  iintro ⟨HSt, H1, HK1, HV1⟩
  ihave HK1 := (Entails.of_eq (show pc 1 cc0_scratch5 (chunk (1 : Fin 8).val 128) (kcF (kA m 1)) = pc 1 cc0_scratch5 (chunk 1 128) (kcF (kA m 1)) from rfl)) $$ HK1
  iapply (ld_kc 1 1 128 rfl) $$ HK1; iintro HK1
  icases HB with ⟨%fb, HB⟩
  iapply (ld_kb 1 512 128 rfl) $$ HB; iintro HB
  iapply (st_kb 1 512 128 (kbF m 1) rfl (fun x => kc_own (kA m 1) _ 128 512 1 rfl rfl (fun i j h0 h1 h2 h3 => kcF_hi _ _ 1 i j h0 h1 h2 h3) x)) $$ HB; iintro HB
  ihave HV1 := (Entails.of_eq (show pc 1 cc0_scratch6 (chunk (1 : Fin 8).val 128) (kcF (vA m 1)) = pc 1 cc0_scratch6 (chunk 1 128) (kcF (vA m 1)) from rfl)) $$ HV1
  iapply (ld_vc 1 1 128 rfl) $$ HV1; iintro HV1
  rw [wp_ret]
  imodintro
  iapply Hk
  isplitl [HSt]; · iexact HSt
  isplitl [H0]; · iexact H0
  isplitl [H1]; · iexact H1
  isplitl [HK1]; · iexact HK1
  isplitl [HV1]; · iexact HV1
  iexact HB

end Cert.Hand
-- ==== Proof.Post.lean ====
/-
# Collecting the sends of keys and values

The lists of cells of each device, and the part of the kernel where devices 0, 1, 4 and 7 wait until their sends of keys
and values have been read out.
-/
module

public import proofs.«01_k».proof.Proof.Red

@[expose] public section

noncomputable section

namespace Cert.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ UU ℕ

variable (m : (ℓ : Loc nD τ sig) → Buf (Elt F) ℓ) (K : Dev nD × KK → ℕ)

/-! ## The lists -/

/-- Which relayed chunks a device waits for. -/
def relay (c : Dev nD) : List KK := if c = 4 then [22, 23, 24] else if c = 7 then [22] else []
/-- Which rows of keys and values a device waits for. -/
def kvW (c : Dev nD) : List KK := (if c ≠ 0 then [0, 1] else []) ++ (if c ≠ 1 then [2, 3] else [])
/-- The read-out cells of a device's sends of keys and values. -/
def postW (c : Dev nD) : List KK :=
  if c = 0 ∨ c = 1 then [4, 5, 6, 7, 8, 9, 10, 11, 12, 13, 14, 15, 16, 17] else if c = 4 then [25, 26, 27] else if c = 7 then [25] else []
/-- The cells of the rounds, in the order they are waited for. -/
abbrev tailW : List KK := [28, 34, 29, 35, 30, 36, 31, 37, 32, 38, 33, 39, 40, 46, 41, 47, 42, 48, 43, 49, 44, 50, 45, 51]
/-- All cells a device waits on, in order. -/
def waits (c : Dev nD) : List KK := 52 :: (relay c ++ (kvW c ++ (postW c ++ tailW)))

/-- A device's own number, as the kernel computes it. -/
abbrev vw (c : Dev nD) : BitVec 32 := Scalar.remsi (Scalar.divsi (Dev.word c) 1#32) 8#32

theorem dev_cases (c : Dev nD) : c = 0 ∨ c = 1 ∨ c = 4 ∨ c = 7 ∨ (c ≠ 0 ∧ c ≠ 1 ∧ c ≠ 4 ∧ c ≠ 7) := by revert c; decide

/-- What is still to be sent once both halves of the first round are on their way. -/
abbrev Ts0 (c : Dev nD) : List Snd := (fl4 c, 36, 30) :: (fl4 c, 37, 31) :: (fl2 c, 38, 32) :: (fl2 c, 39, 33) :: agSends c

section Wait2
variable {α : Type} {Q' : α → sProp (MT nD τ sig Unit (Elt F) ℕ UU ℕ)} {k' : PUnit → Prog (TpuEff nD τ sig (Elt F) Λ₀ .tc) α}

/-- The first wait for the read-out of a half sum, and for a half sum to arrive. -/
theorem wait2 {sp sp' : Space} {s s' : Shape} {e e' : EltTy} {sm sm' : DmaSem sig} {src : Memref sig .tc sp' s' e'} {dst : Memref sig .tc sp s e}
    {spa spb : Space} {sa sb : Shape} {ea eb : EltTy} {srca : Memref sig .tc spa sa ea} {dsta : Memref sig .tc spb sb eb}
    {hs : src.view.WordExact} {hd : dst.view.WordExact} {hs' : srca.view.WordExact} {hd' : dsta.view.WordExact}
    (c : Dev nD) (Z W Q : List KK) (hsm : SemLoc.dma sm = csem 28) (hsm' : SemLoc.dma sm' = csem 34) (ha : dst.view.dmaCredit = amt c 28) (ha' : dsta.view.dmaCredit = amt c 34) :
    iprop(Cx m K ∗ St c Z (28 :: 34 :: W) (28 :: Q) (Ts0 c))
      ⊢ iprop(((St c (34 :: 28 :: Z) W Q (Ts0 c) ∗ Sb (F := F) c 0 256 ∗ Rb m c 0 0 256) -∗ wp frame (wpE (defs₀ (F := F)) 𝒱₀ (c : Thread nD τ) none) Set.univ (k' ⟨⟩) Q')
          -∗ wp frame (wpE (defs₀ (F := F)) 𝒱₀ (c : Thread nD τ) none) Set.univ (.op (.waitDma2 sm src dst hs hd) fun _ => .op (.waitDma2 sm' srca dsta hs' hd') k') Q') := by
  iintro ⟨#HC, HSt⟩ Hk
  iapply (sent m K c 28 (Sb (F := F) c 0 256) _ _ _ (Ts0 c) rfl hsm (by decide) rfl rfl ha rfl) $$ [HSt]
  · isplitr; · iexact HC
    iexact HSt
  iintro ⟨HSt, HS⟩
  iapply (recv m K c 34 (Rb m c 0 0 256) _ _ _ (Ts0 c) rfl hsm' (by decide) rfl rfl ha' rfl) $$ [HSt]
  · isplitr; · iexact HC
    iexact HSt
  iintro ⟨HSt, HR⟩
  iapply Hk
  isplitl [HSt]; · iexact HSt
  isplitl [HS] <;> iassumption
end Wait2

set_option maxHeartbeats 1000000 in
theorem part65 (c : Dev nD) (Z W Q : List KK) (v356 : BitVec 32) (Q' : _ → sProp (MT nD τ sig Unit (Elt F) ℕ UU ℕ)) :
    iprop(Cx m K ∗ St c Z (postW c ++ (28 :: 34 :: W)) (postW c ++ (28 :: Q)) (Ts0 c)
      ∗ (∀ r, (St c (34 :: 28 :: ((postW c).reverse ++ Z)) W Q (Ts0 c) ∗ sepL (fun k => srcPay m (c, k)) (postW c) ∗ Sb (F := F) c 0 256 ∗ Rb m c 0 0 256) -∗ Q' r))
      ⊢ Wp c (onBufs (k0_part65 (F := F)) (vw c) v356 (Scalar.extui (Scalar.cmpi .eq (vw c) 0#32)) 0#32) Q' := by
  rw [k0_part65_eq_skeleton]
  unfold Wp onBufs k0_part65_skel
  rcases dev_cases c with rfl | rfl | rfl | rfl | ⟨h0, h1, h4, h7⟩
  · have g0 : (Scalar.cmpi .ne (Scalar.extui (Scalar.cmpi .eq (vw 0) 0#32)) 0#32 = 1#1) = True := eq_true (by decide)
    have g1 : (Scalar.cmpi .ne (Scalar.extui (Scalar.cmpi .eq (vw 0) 1#32)) 0#32 = 1#1) = False := eq_false (by decide)
    have g4 : (Scalar.cmpi .ne (Scalar.extui (Scalar.cmpi .eq (vw 0) 4#32)) 0#32 = 1#1) = False := eq_false (by decide)
    have g7 : (Scalar.cmpi .ne (Scalar.extui (Scalar.cmpi .eq (vw 0) 7#32)) 0#32 = 1#1) = False := eq_false (by decide)
    have hP : postW 0 = [4, 5, 6, 7, 8, 9, 10, 11, 12, 13, 14, 15, 16, 17] := by unfold postW; rfl
    rw [hP, show ([4, 5, 6, 7, 8, 9, 10, 11, 12, 13, 14, 15, 16, 17] : List KK).reverse = [17, 16, 15, 14, 13, 12, 11, 10, 9, 8, 7, 6, 5, 4] from rfl]
    simp only [↓reduceDIte, g0, g1, g4, g7, k0_part39_eq_skeleton, k0_part40_eq_skeleton, k0_part41_eq_skeleton, k0_part42_eq_skeleton, Prog.lift, Prog.bind_op, Prog.bind_ret, Prog.pure_eq_ret, List.cons_append, List.nil_append, sepL_cons, sepL_nil]
    unfold k0_part39_skel k0_part40_skel k0_part41_skel k0_part42_skel
    simp only [Prog.lift, Prog.bind_op, Prog.bind_ret, Prog.pure_eq_ret]
    iintro ⟨#HC, HSt, Hk⟩
    iapply (sent m K 0 4 (srcPay m (0, 4)) _ _ _ (Ts0 0) rfl rfl (by decide) rfl rfl rfl rfl) $$ [HSt]
    · isplitr; · iexact HC
      iexact HSt
    iintro ⟨HSt, HP4⟩
    iapply (sent m K 0 5 (srcPay m (0, 5)) _ _ _ (Ts0 0) rfl rfl (by decide) rfl rfl rfl rfl) $$ [HSt]
    · isplitr; · iexact HC
      iexact HSt
    iintro ⟨HSt, HP5⟩
    iapply (sent m K 0 6 (srcPay m (0, 6)) _ _ _ (Ts0 0) rfl rfl (by decide) rfl rfl rfl rfl) $$ [HSt]
    · isplitr; · iexact HC
      iexact HSt
    iintro ⟨HSt, HP6⟩
    iapply (sent m K 0 7 (srcPay m (0, 7)) _ _ _ (Ts0 0) rfl rfl (by decide) rfl rfl rfl rfl) $$ [HSt]
    · isplitr; · iexact HC
      iexact HSt
    iintro ⟨HSt, HP7⟩
    iapply (sent m K 0 8 (srcPay m (0, 8)) _ _ _ (Ts0 0) rfl rfl (by decide) rfl rfl rfl rfl) $$ [HSt]
    · isplitr; · iexact HC
      iexact HSt
    iintro ⟨HSt, HP8⟩
    iapply (sent m K 0 9 (srcPay m (0, 9)) _ _ _ (Ts0 0) rfl rfl (by decide) rfl rfl rfl rfl) $$ [HSt]
    · isplitr; · iexact HC
      iexact HSt
    iintro ⟨HSt, HP9⟩
    iapply (sent m K 0 10 (srcPay m (0, 10)) _ _ _ (Ts0 0) rfl rfl (by decide) rfl rfl rfl rfl) $$ [HSt]
    · isplitr; · iexact HC
      iexact HSt
    iintro ⟨HSt, HP10⟩
    iapply (sent m K 0 11 (srcPay m (0, 11)) _ _ _ (Ts0 0) rfl rfl (by decide) rfl rfl rfl rfl) $$ [HSt]
    · isplitr; · iexact HC
      iexact HSt
    iintro ⟨HSt, HP11⟩
    iapply (sent m K 0 12 (srcPay m (0, 12)) _ _ _ (Ts0 0) rfl rfl (by decide) rfl rfl rfl rfl) $$ [HSt]
    · isplitr; · iexact HC
      iexact HSt
    iintro ⟨HSt, HP12⟩
    iapply (sent m K 0 13 (srcPay m (0, 13)) _ _ _ (Ts0 0) rfl rfl (by decide) rfl rfl rfl rfl) $$ [HSt]
    · isplitr; · iexact HC
      iexact HSt
    iintro ⟨HSt, HP13⟩
    iapply (sent m K 0 14 (srcPay m (0, 14)) _ _ _ (Ts0 0) rfl rfl (by decide) rfl rfl rfl rfl) $$ [HSt]
    · isplitr; · iexact HC
      iexact HSt
    iintro ⟨HSt, HP14⟩
    iapply (sent m K 0 15 (srcPay m (0, 15)) _ _ _ (Ts0 0) rfl rfl (by decide) rfl rfl rfl rfl) $$ [HSt]
    · isplitr; · iexact HC
      iexact HSt
    iintro ⟨HSt, HP15⟩
    iapply (sent m K 0 16 (srcPay m (0, 16)) _ _ _ (Ts0 0) rfl rfl (by decide) rfl rfl rfl rfl) $$ [HSt]
    · isplitr; · iexact HC
      iexact HSt
    iintro ⟨HSt, HP16⟩
    iapply (sent m K 0 17 (srcPay m (0, 17)) _ _ _ (Ts0 0) rfl rfl (by decide) rfl rfl rfl rfl) $$ [HSt]
    · isplitr; · iexact HC
      iexact HSt
    iintro ⟨HSt, HP17⟩
    iapply (wait2 m K 0 _ _ _ rfl rfl rfl rfl) $$ [HSt]
    · isplitr; · iexact HC
      iexact HSt
    iintro ⟨HSt, HS, HR⟩
    rw [wp_ret]
    imodintro
    iapply Hk
    isplitl [HSt]; · iexact HSt
    isplitl [HP4 HP5 HP6 HP7 HP8 HP9 HP10 HP11 HP12 HP13 HP14 HP15 HP16 HP17]
    · isplitl [HP4]; · iexact HP4
      isplitl [HP5]; · iexact HP5
      isplitl [HP6]; · iexact HP6
      isplitl [HP7]; · iexact HP7
      isplitl [HP8]; · iexact HP8
      isplitl [HP9]; · iexact HP9
      isplitl [HP10]; · iexact HP10
      isplitl [HP11]; · iexact HP11
      isplitl [HP12]; · iexact HP12
      isplitl [HP13]; · iexact HP13
      isplitl [HP14]; · iexact HP14
      isplitl [HP15]; · iexact HP15
      isplitl [HP16]; · iexact HP16
      isplitl [HP17]; · iexact HP17
      iempintro
    isplitl [HS] <;> iassumption
  · have g0 : (Scalar.cmpi .ne (Scalar.extui (Scalar.cmpi .eq (vw 1) 0#32)) 0#32 = 1#1) = False := eq_false (by decide)
    have g1 : (Scalar.cmpi .ne (Scalar.extui (Scalar.cmpi .eq (vw 1) 1#32)) 0#32 = 1#1) = True := eq_true (by decide)
    have g4 : (Scalar.cmpi .ne (Scalar.extui (Scalar.cmpi .eq (vw 1) 4#32)) 0#32 = 1#1) = False := eq_false (by decide)
    have g7 : (Scalar.cmpi .ne (Scalar.extui (Scalar.cmpi .eq (vw 1) 7#32)) 0#32 = 1#1) = False := eq_false (by decide)
    have hP : postW 1 = [4, 5, 6, 7, 8, 9, 10, 11, 12, 13, 14, 15, 16, 17] := by unfold postW; rfl
    rw [hP, show ([4, 5, 6, 7, 8, 9, 10, 11, 12, 13, 14, 15, 16, 17] : List KK).reverse = [17, 16, 15, 14, 13, 12, 11, 10, 9, 8, 7, 6, 5, 4] from rfl]
    simp only [↓reduceDIte, g0, g1, g4, g7, k0_part46_eq_skeleton, k0_part43_eq_skeleton, k0_part44_eq_skeleton, k0_part45_eq_skeleton, Prog.lift, Prog.bind_op, Prog.bind_ret, Prog.pure_eq_ret, List.cons_append, List.nil_append, sepL_cons, sepL_nil]
    unfold k0_part46_skel
    simp only [k0_part43_eq_skeleton, k0_part44_eq_skeleton, k0_part45_eq_skeleton]
    unfold k0_part43_skel k0_part44_skel k0_part45_skel
    simp only [Prog.lift, Prog.bind_op, Prog.bind_ret, Prog.pure_eq_ret]
    iintro ⟨#HC, HSt, Hk⟩
    iapply (sent m K 1 4 (srcPay m (1, 4)) _ _ _ (Ts0 1) rfl rfl (by decide) rfl rfl rfl rfl) $$ [HSt]
    · isplitr; · iexact HC
      iexact HSt
    iintro ⟨HSt, HP4⟩
    iapply (sent m K 1 5 (srcPay m (1, 5)) _ _ _ (Ts0 1) rfl rfl (by decide) rfl rfl rfl rfl) $$ [HSt]
    · isplitr; · iexact HC
      iexact HSt
    iintro ⟨HSt, HP5⟩
    iapply (sent m K 1 6 (srcPay m (1, 6)) _ _ _ (Ts0 1) rfl rfl (by decide) rfl rfl rfl rfl) $$ [HSt]
    · isplitr; · iexact HC
      iexact HSt
    iintro ⟨HSt, HP6⟩
    iapply (sent m K 1 7 (srcPay m (1, 7)) _ _ _ (Ts0 1) rfl rfl (by decide) rfl rfl rfl rfl) $$ [HSt]
    · isplitr; · iexact HC
      iexact HSt
    iintro ⟨HSt, HP7⟩
    iapply (sent m K 1 8 (srcPay m (1, 8)) _ _ _ (Ts0 1) rfl rfl (by decide) rfl rfl rfl rfl) $$ [HSt]
    · isplitr; · iexact HC
      iexact HSt
    iintro ⟨HSt, HP8⟩
    iapply (sent m K 1 9 (srcPay m (1, 9)) _ _ _ (Ts0 1) rfl rfl (by decide) rfl rfl rfl rfl) $$ [HSt]
    · isplitr; · iexact HC
      iexact HSt
    iintro ⟨HSt, HP9⟩
    iapply (sent m K 1 10 (srcPay m (1, 10)) _ _ _ (Ts0 1) rfl rfl (by decide) rfl rfl rfl rfl) $$ [HSt]
    · isplitr; · iexact HC
      iexact HSt
    iintro ⟨HSt, HP10⟩
    iapply (sent m K 1 11 (srcPay m (1, 11)) _ _ _ (Ts0 1) rfl rfl (by decide) rfl rfl rfl rfl) $$ [HSt]
    · isplitr; · iexact HC
      iexact HSt
    iintro ⟨HSt, HP11⟩
    iapply (sent m K 1 12 (srcPay m (1, 12)) _ _ _ (Ts0 1) rfl rfl (by decide) rfl rfl rfl rfl) $$ [HSt]
    · isplitr; · iexact HC
      iexact HSt
    iintro ⟨HSt, HP12⟩
    iapply (sent m K 1 13 (srcPay m (1, 13)) _ _ _ (Ts0 1) rfl rfl (by decide) rfl rfl rfl rfl) $$ [HSt]
    · isplitr; · iexact HC
      iexact HSt
    iintro ⟨HSt, HP13⟩
    iapply (sent m K 1 14 (srcPay m (1, 14)) _ _ _ (Ts0 1) rfl rfl (by decide) rfl rfl rfl rfl) $$ [HSt]
    · isplitr; · iexact HC
      iexact HSt
    iintro ⟨HSt, HP14⟩
    iapply (sent m K 1 15 (srcPay m (1, 15)) _ _ _ (Ts0 1) rfl rfl (by decide) rfl rfl rfl rfl) $$ [HSt]
    · isplitr; · iexact HC
      iexact HSt
    iintro ⟨HSt, HP15⟩
    iapply (sent m K 1 16 (srcPay m (1, 16)) _ _ _ (Ts0 1) rfl rfl (by decide) rfl rfl rfl rfl) $$ [HSt]
    · isplitr; · iexact HC
      iexact HSt
    iintro ⟨HSt, HP16⟩
    iapply (sent m K 1 17 (srcPay m (1, 17)) _ _ _ (Ts0 1) rfl rfl (by decide) rfl rfl rfl rfl) $$ [HSt]
    · isplitr; · iexact HC
      iexact HSt
    iintro ⟨HSt, HP17⟩
    iapply (wait2 m K 1 _ _ _ rfl rfl rfl rfl) $$ [HSt]
    · isplitr; · iexact HC
      iexact HSt
    iintro ⟨HSt, HS, HR⟩
    rw [wp_ret]
    imodintro
    iapply Hk
    isplitl [HSt]; · iexact HSt
    isplitl [HP4 HP5 HP6 HP7 HP8 HP9 HP10 HP11 HP12 HP13 HP14 HP15 HP16 HP17]
    · isplitl [HP4]; · iexact HP4
      isplitl [HP5]; · iexact HP5
      isplitl [HP6]; · iexact HP6
      isplitl [HP7]; · iexact HP7
      isplitl [HP8]; · iexact HP8
      isplitl [HP9]; · iexact HP9
      isplitl [HP10]; · iexact HP10
      isplitl [HP11]; · iexact HP11
      isplitl [HP12]; · iexact HP12
      isplitl [HP13]; · iexact HP13
      isplitl [HP14]; · iexact HP14
      isplitl [HP15]; · iexact HP15
      isplitl [HP16]; · iexact HP16
      isplitl [HP17]; · iexact HP17
      iempintro
    isplitl [HS] <;> iassumption
  · have g0 : (Scalar.cmpi .ne (Scalar.extui (Scalar.cmpi .eq (vw 4) 0#32)) 0#32 = 1#1) = False := eq_false (by decide)
    have g1 : (Scalar.cmpi .ne (Scalar.extui (Scalar.cmpi .eq (vw 4) 1#32)) 0#32 = 1#1) = False := eq_false (by decide)
    have g4 : (Scalar.cmpi .ne (Scalar.extui (Scalar.cmpi .eq (vw 4) 4#32)) 0#32 = 1#1) = True := eq_true (by decide)
    have g7 : (Scalar.cmpi .ne (Scalar.extui (Scalar.cmpi .eq (vw 4) 7#32)) 0#32 = 1#1) = False := eq_false (by decide)
    have hP : postW 4 = [25, 26, 27] := by unfold postW; rfl
    rw [hP, show ([25, 26, 27] : List KK).reverse = [27, 26, 25] from rfl]
    simp only [↓reduceDIte, g0, g1, g4, g7, Prog.lift, Prog.bind_op, Prog.bind_ret, Prog.pure_eq_ret, List.cons_append, List.nil_append, sepL_cons, sepL_nil]
    iintro ⟨#HC, HSt, Hk⟩
    iapply (sent m K 4 25 (srcPay m (4, 25)) _ _ _ (Ts0 4) rfl rfl (by decide) rfl rfl rfl rfl) $$ [HSt]
    · isplitr; · iexact HC
      iexact HSt
    iintro ⟨HSt, HP25⟩
    iapply (sent m K 4 26 (srcPay m (4, 26)) _ _ _ (Ts0 4) rfl rfl (by decide) rfl rfl rfl rfl) $$ [HSt]
    · isplitr; · iexact HC
      iexact HSt
    iintro ⟨HSt, HP26⟩
    iapply (sent m K 4 27 (srcPay m (4, 27)) _ _ _ (Ts0 4) rfl rfl (by decide) rfl rfl rfl rfl) $$ [HSt]
    · isplitr; · iexact HC
      iexact HSt
    iintro ⟨HSt, HP27⟩
    iapply (wait2 m K 4 _ _ _ rfl rfl rfl rfl) $$ [HSt]
    · isplitr; · iexact HC
      iexact HSt
    iintro ⟨HSt, HS, HR⟩
    rw [wp_ret]
    imodintro
    iapply Hk
    isplitl [HSt]; · iexact HSt
    isplitl [HP25 HP26 HP27]
    · isplitl [HP25]; · iexact HP25
      isplitl [HP26]; · iexact HP26
      isplitl [HP27]; · iexact HP27
      iempintro
    isplitl [HS] <;> iassumption
  · have g0 : (Scalar.cmpi .ne (Scalar.extui (Scalar.cmpi .eq (vw 7) 0#32)) 0#32 = 1#1) = False := eq_false (by decide)
    have g1 : (Scalar.cmpi .ne (Scalar.extui (Scalar.cmpi .eq (vw 7) 1#32)) 0#32 = 1#1) = False := eq_false (by decide)
    have g4 : (Scalar.cmpi .ne (Scalar.extui (Scalar.cmpi .eq (vw 7) 4#32)) 0#32 = 1#1) = False := eq_false (by decide)
    have g7 : (Scalar.cmpi .ne (Scalar.extui (Scalar.cmpi .eq (vw 7) 7#32)) 0#32 = 1#1) = True := eq_true (by decide)
    have hP : postW 7 = [25] := by unfold postW; rfl
    rw [hP, show ([25] : List KK).reverse = [25] from rfl]
    simp only [↓reduceDIte, g0, g1, g4, g7, Prog.lift, Prog.bind_op, Prog.bind_ret, Prog.pure_eq_ret, List.cons_append, List.nil_append, sepL_cons, sepL_nil]
    iintro ⟨#HC, HSt, Hk⟩
    iapply (sent m K 7 25 (srcPay m (7, 25)) _ _ _ (Ts0 7) rfl rfl (by decide) rfl rfl rfl rfl) $$ [HSt]
    · isplitr; · iexact HC
      iexact HSt
    iintro ⟨HSt, HP25⟩
    iapply (wait2 m K 7 _ _ _ rfl rfl rfl rfl) $$ [HSt]
    · isplitr; · iexact HC
      iexact HSt
    iintro ⟨HSt, HS, HR⟩
    rw [wp_ret]
    imodintro
    iapply Hk
    isplitl [HSt]; · iexact HSt
    isplitl [HP25]
    · isplitl [HP25]; · iexact HP25
      iempintro
    isplitl [HS] <;> iassumption
  · have g0 : (Scalar.cmpi .ne (Scalar.extui (Scalar.cmpi .eq (vw c) 0#32)) 0#32 = 1#1) = False := eq_false ((by decide : ∀ c : Dev nD, c ≠ 0 → ¬ Scalar.cmpi .ne (Scalar.extui (Scalar.cmpi .eq (vw c) 0#32)) 0#32 = 1#1) c h0)
    have g1 : (Scalar.cmpi .ne (Scalar.extui (Scalar.cmpi .eq (vw c) 1#32)) 0#32 = 1#1) = False := eq_false ((by decide : ∀ c : Dev nD, c ≠ 1 → ¬ Scalar.cmpi .ne (Scalar.extui (Scalar.cmpi .eq (vw c) 1#32)) 0#32 = 1#1) c h1)
    have g4 : (Scalar.cmpi .ne (Scalar.extui (Scalar.cmpi .eq (vw c) 4#32)) 0#32 = 1#1) = False := eq_false ((by decide : ∀ c : Dev nD, c ≠ 4 → ¬ Scalar.cmpi .ne (Scalar.extui (Scalar.cmpi .eq (vw c) 4#32)) 0#32 = 1#1) c h4)
    have g7 : (Scalar.cmpi .ne (Scalar.extui (Scalar.cmpi .eq (vw c) 7#32)) 0#32 = 1#1) = False := eq_false ((by decide : ∀ c : Dev nD, c ≠ 7 → ¬ Scalar.cmpi .ne (Scalar.extui (Scalar.cmpi .eq (vw c) 7#32)) 0#32 = 1#1) c h7)
    have hP : postW c = [] := by unfold postW; rw [if_neg (by simp [h0, h1]), if_neg h4, if_neg h7]
    rw [hP, show ([] : List KK).reverse = [] from rfl]
    simp only [↓reduceDIte, g0, g1, g4, g7, Prog.lift, Prog.bind_op, Prog.bind_ret, Prog.pure_eq_ret, List.cons_append, List.nil_append, sepL_cons, sepL_nil]
    iintro ⟨#HC, HSt, Hk⟩
    iapply (wait2 m K c _ _ _ rfl rfl rfl rfl) $$ [HSt]
    · isplitr; · iexact HC
      iexact HSt
    iintro ⟨HSt, HS, HR⟩
    rw [wp_ret]
    imodintro
    iapply Hk
    isplitl [HSt]; · iexact HSt
    isplitr; · iempintro
    isplitl [HS] <;> iassumption

end Cert.Hand
-- ==== Proof.Attn.lean ====
/-
# The attention of one device

The heads of the two batches, one after the other, into the context buffer; and the projection of a batch's context into
the output buffer.
-/
module

public import proofs.«01_k».proof.Proof.Red

@[expose] public section

noncomputable section

namespace Cert.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ UU ℕ

variable (m : (ℓ : Loc nD τ sig) → Buf (Elt F) ℓ) (K : Dev nD × KK → ℕ)

/-! ## The values -/

/-- The queries of one head of one batch. -/
def qsl (c : Dev nD) (b : Fin 2) (h : Fin 8) : FVec F S1x512x64 .bf16 := fun j => qF m c (ix3 b (j 1) (hcol h (j 2)))
/-- The keys of one head of one batch. -/
def ksl (c : Dev nD) (b : Fin 2) (h : Fin 8) : FVec F S1x640x64 .bf16 := fun j => kbF m c (ix3 b (j 1) (hcol h (j 2)))
/-- The values of one head of one batch. -/
def vsl (c : Dev nD) (b : Fin 2) (h : Fin 8) : FVec F S1x640x64 .bf16 := fun j => vbF m c (ix3 b (j 1) (hcol h (j 2)))

theorem emb3 {s : Shape} (hs : s.rank = 3) {off size : Fin s.rank → ℕ} {inb} (x : (Rect.unit (s := s) off size inb).shape.Idx) (j : s.Idx)
    (h : ∀ a, (j a).val = off a + (x a).val) : (Rect.unit (s := s) off size inb).emb x = j :=
  funext fun a => Fin.ext ((emb_v0 x a).trans (h a).symm)

/-- The buffers of the attention once `k` heads of batch `b` are done. -/
def Hd (c : Dev nD) (b : Fin 2) (k : ℕ) : sProp (MT nD τ sig Unit (Elt F) ℕ UU ℕ) :=
  iprop(pc c cc0_scratch2 Finset.univ (qF m c) ∗ pc c cc0_scratch0 Finset.univ (kbF m c) ∗ pc c cc0_scratch1 Finset.univ (vbF m c)
    ∗ ∃ f : FVec F S512x512 .bf16, ⌜∀ i, (i 1).val < 64 * k → f i = ctxF m c b i⌝ ∗ pc c cc0_scratch3 Finset.univ f)

theorem Hd_next (c : Dev nD) (b b' : Fin 2) (k : ℕ) : Hd m c b k ⊢ Hd m c b' 0 := by
  unfold Hd
  iintro ⟨HQ, HK, HV, ⟨%f, -, HX⟩⟩
  isplitl [HQ]; · iexact HQ
  isplitl [HK]; · iexact HK
  isplitl [HV]; · iexact HV
  iexists f
  isplitr
  · ipureintro; intro i h; exact absurd h (by omega)
  iexact HX

section Accesses

variable {α : Type} {Q' : α → sProp (MT nD τ sig Unit (Elt F) ℕ UU ℕ)}

theorem ld_q (c : Dev nD) {b' : Fin 2} {n : ℕ} (b : Fin 2) (h : Fin 8) {off : Fin 3 → ℕ} {inb} {hl} {k' : FVec F S1x512x64 .bf16 → Prog (TpuEff nD τ sig (Elt F) Λ₀ .tc) α}
    (ho : off = ![b.val, 0, 64 * h.val]) :
    Hd m c b' n ⊢ iprop((Hd m c b' n -∗ wp frame (wpE (defs₀ (F := F)) 𝒱₀ (c : Thread nD τ) none) Set.univ (k' (qsl m c b h)) Q')
      -∗ wp frame (wpE (defs₀ (F := F)) 𝒱₀ (c : Thread nD τ) none) Set.univ (.op (.load (Memref.whole cc0_scratch2) (Rect.unit (s := S2x512x512) off S1x512x64.size inb).toLoadRect hl) k') Q') := by
  unfold Hd
  iintro ⟨HQ, HK, HV, HX⟩ Hk
  iapply (wp_ld c (M := Memref.whole cc0_scratch2) (S := Finset.univ) (qsl m c b h) (fun x => by
      subst ho
      refine congrArg (qF m c) (emb3 rfl x _ fun a => ?_)
      match a with
      | ⟨0, _⟩ => have : (x 0).val < 1 := (x 0).isLt; show b.val = b.val + (x 0).val; omega
      | ⟨1, _⟩ => exact (Nat.zero_add _).symm
      | ⟨2, _⟩ => rfl) (fun x _ => Finset.mem_univ _)) $$ HQ
  iintro HQ
  iapply Hk
  isplitl [HQ]; · iexact HQ
  isplitl [HK]; · iexact HK
  isplitl [HV]; · iexact HV
  iexact HX

theorem ld_k (c : Dev nD) {b' : Fin 2} {n : ℕ} (b : Fin 2) (h : Fin 8) {off : Fin 3 → ℕ} {inb} {hl} {k' : FVec F S1x640x64 .bf16 → Prog (TpuEff nD τ sig (Elt F) Λ₀ .tc) α}
    (ho : off = ![b.val, 0, 64 * h.val]) :
    Hd m c b' n ⊢ iprop((Hd m c b' n -∗ wp frame (wpE (defs₀ (F := F)) 𝒱₀ (c : Thread nD τ) none) Set.univ (k' (ksl m c b h)) Q')
      -∗ wp frame (wpE (defs₀ (F := F)) 𝒱₀ (c : Thread nD τ) none) Set.univ (.op (.load (Memref.whole cc0_scratch0) (Rect.unit (s := S2x640x512) off S1x640x64.size inb).toLoadRect hl) k') Q') := by
  unfold Hd
  iintro ⟨HQ, HK, HV, HX⟩ Hk
  iapply (wp_ld c (M := Memref.whole cc0_scratch0) (S := Finset.univ) (ksl m c b h) (fun x => by
      subst ho
      refine congrArg (kbF m c) (emb3 rfl x _ fun a => ?_)
      match a with
      | ⟨0, _⟩ => have : (x 0).val < 1 := (x 0).isLt; show b.val = b.val + (x 0).val; omega
      | ⟨1, _⟩ => exact (Nat.zero_add _).symm
      | ⟨2, _⟩ => rfl) (fun x _ => Finset.mem_univ _)) $$ HK
  iintro HK
  iapply Hk
  isplitl [HQ]; · iexact HQ
  isplitl [HK]; · iexact HK
  isplitl [HV]; · iexact HV
  iexact HX

theorem ld_v (c : Dev nD) {b' : Fin 2} {n : ℕ} (b : Fin 2) (h : Fin 8) {off : Fin 3 → ℕ} {inb} {hl} {k' : FVec F S1x640x64 .bf16 → Prog (TpuEff nD τ sig (Elt F) Λ₀ .tc) α}
    (ho : off = ![b.val, 0, 64 * h.val]) :
    Hd m c b' n ⊢ iprop((Hd m c b' n -∗ wp frame (wpE (defs₀ (F := F)) 𝒱₀ (c : Thread nD τ) none) Set.univ (k' (vsl m c b h)) Q')
      -∗ wp frame (wpE (defs₀ (F := F)) 𝒱₀ (c : Thread nD τ) none) Set.univ (.op (.load (Memref.whole cc0_scratch1) (Rect.unit (s := S2x640x512) off S1x640x64.size inb).toLoadRect hl) k') Q') := by
  unfold Hd
  iintro ⟨HQ, HK, HV, HX⟩ Hk
  iapply (wp_ld c (M := Memref.whole cc0_scratch1) (S := Finset.univ) (vsl m c b h) (fun x => by
      subst ho
      refine congrArg (vbF m c) (emb3 rfl x _ fun a => ?_)
      match a with
      | ⟨0, _⟩ => have : (x 0).val < 1 := (x 0).isLt; show b.val = b.val + (x 0).val; omega
      | ⟨1, _⟩ => exact (Nat.zero_add _).symm
      | ⟨2, _⟩ => rfl) (fun x _ => Finset.mem_univ _)) $$ HV
  iintro HV
  iapply Hk
  isplitl [HQ]; · iexact HQ
  isplitl [HK]; · iexact HK
  isplitl [HV]; · iexact HV
  iexact HX

/-- A load of the context buffer of which the values are not used. -/
theorem ld_x (c : Dev nD) {b : Fin 2} {n : ℕ} {r : Rect S512x512} {hl} {k' : (r.toLoadRect.shape.Idx → F .bf16) → Prog (TpuEff nD τ sig (Elt F) Λ₀ .tc) α} :
    Hd m c b n ⊢ iprop((∀ v, Hd m c b n -∗ wp frame (wpE (defs₀ (F := F)) 𝒱₀ (c : Thread nD τ) none) Set.univ (k' v) Q')
      -∗ wp frame (wpE (defs₀ (F := F)) 𝒱₀ (c : Thread nD τ) none) Set.univ (.op (.load (Memref.whole cc0_scratch3) r.toLoadRect hl) k') Q') := by
  unfold Hd
  iintro ⟨HQ, HK, HV, ⟨%f, %hf, HX⟩⟩ Hk
  iapply (wp_ldr c (M := Memref.whole cc0_scratch3) (S := Finset.univ) (fun x _ => Finset.mem_univ _)) $$ HX
  iintro HX
  iapply Hk
  isplitl [HQ]; · iexact HQ
  isplitl [HK]; · iexact HK
  isplitl [HV]; · iexact HV
  iexists f
  isplitr; · ipureintro; exact hf
  iexact HX

/-- The load of the whole context. -/
theorem ld_ctx (c : Dev nD) (b : Fin 2) {inb} {hl} {k' : FVec F S512x512 .bf16 → Prog (TpuEff nD τ sig (Elt F) Λ₀ .tc) α} :
    Hd m c b 8 ⊢ iprop((Hd m c b 8 -∗ wp frame (wpE (defs₀ (F := F)) 𝒱₀ (c : Thread nD τ) none) Set.univ (k' (ctxF m c b)) Q')
      -∗ wp frame (wpE (defs₀ (F := F)) 𝒱₀ (c : Thread nD τ) none) Set.univ (.op (.load (Memref.whole cc0_scratch3) (Rect.unit (s := S512x512) ![0, 0] S512x512.size inb).toLoadRect hl) k') Q') := by
  unfold Hd
  iintro ⟨HQ, HK, HV, ⟨%f, %hf, HX⟩⟩ Hk
  iapply (wp_ld c (M := Memref.whole cc0_scratch3) (S := Finset.univ) (ctxF m c b) (fun x => by
      have e : (Rect.unit (s := S512x512) ![0, 0] S512x512.size inb).emb x = x := funext fun a => Fin.ext ((emb_v0 x a).trans (by
        match a with
        | ⟨0, _⟩ => exact Nat.zero_add _
        | ⟨1, _⟩ => exact Nat.zero_add _))
      exact (congrArg f e).trans (hf x (x 1).isLt)) (fun x _ => Finset.mem_univ _)) $$ HX
  iintro HX
  iapply Hk
  isplitl [HQ]; · iexact HQ
  isplitl [HK]; · iexact HK
  isplitl [HV]; · iexact HV
  iexists f
  isplitr; · ipureintro; exact hf
  iexact HX

/-- The store of one head. -/
theorem st_head (c : Dev nD) (b : Fin 2) (h : Fin 8) (k k2 : ℕ) (hk : k = h.val) (hk2 : k2 = h.val + 1) {off : Fin 2 → ℕ} {inb} (ho : off = ![0, 64 * h.val])
    {w : FVec F S512x64 .bf16} (hw : w = k0_pay52 k0_pay51 (qsl m c b h) (ksl m c b h) (vsl m c b h)) {hx hm}
    {k' : PUnit → Prog (TpuEff nD τ sig (Elt F) Λ₀ .tc) α} :
    Hd m c b k ⊢ iprop((Hd m c b k2 -∗ wp frame (wpE (defs₀ (F := F)) 𝒱₀ (c : Thread nD τ) none) Set.univ (k' ⟨⟩) Q')
      -∗ wp frame (wpE (defs₀ (F := F)) 𝒱₀ (c : Thread nD τ) none) Set.univ (.op (.store (Memref.whole cc0_scratch3) (Rect.unit (s := S512x512) off S512x64.size inb) w Finset.univ hx hm) k') Q') := by
  subst ho hk hk2 hw
  unfold Hd
  iintro ⟨HQ, HK, HV, ⟨%f, %hf, HX⟩⟩ Hk
  iapply (wp_st c (M := Memref.whole cc0_scratch3) (S := Finset.univ)
    ((fun i => if (i 1).val / 64 = h.val then ctxF m c b i else f i : FVec F S512x512 .bf16)) (fun x _ => Finset.mem_univ _)
    (fun x => by
      have e1 := emb_v0 (s := S512x512) (off := ![0, 64 * h.val]) (size := S512x64.size) (inb := inb) x 1
      have e1' : (((Rect.unit (s := S512x512) ![0, 64 * h.val] S512x64.size inb).emb x) 1).val = 64 * h.val + (x 1).val := e1
      have e0' : (((Rect.unit (s := S512x512) ![0, 64 * h.val] S512x64.size inb).emb x) 0).val = 0 + (x 0).val := emb_v0 (s := S512x512) (off := ![0, 64 * h.val]) (size := S512x64.size) (inb := inb) x 0
      have hx1 : (x 1).val < 64 := (x 1).isLt
      have hd : (((Rect.unit (s := S512x512) ![0, 64 * h.val] S512x64.size inb).emb x) 1).val / 64 = h.val := by rw [e1']; omega
      show _ = (if (((Rect.unit (s := S512x512) ![0, 64 * h.val] S512x64.size inb).emb x) 1).val / 64 = h.val then ctxF m c b ((Rect.unit (s := S512x512) ![0, 64 * h.val] S512x64.size inb).emb x) else _)
      rw [if_pos hd]
      show headF m c b h x = headF m c b _ _
      congr 1
      · exact Fin.ext hd.symm
      · funext a
        match a with
        | ⟨0, _⟩ => exact Fin.ext (by show (x 0).val = _; rw [← Nat.zero_add (x 0).val]; exact e0'.symm)
        | ⟨1, _⟩ => exact Fin.ext (by show (x 1).val = (((Rect.unit (s := S512x512) ![0, 64 * h.val] S512x64.size inb).emb x) 1).val % 64; rw [e1']; omega))
    (fun i _ hni => by
      show f i = if (i 1).val / 64 = h.val then ctxF m c b i else f i
      by_cases hd : (i 1).val / 64 = h.val
      · have h0 : (i 0).val < 512 := (i 0).isLt
        refine absurd rfl (hni i ?_)
        rw [Rect.mem_set_unit]
        intro a
        match a with
        | ⟨0, _⟩ => exact ⟨Nat.zero_le _, by show (i 0).val < 0 + 512; omega⟩
        | ⟨1, _⟩ => exact ⟨by show 64 * h.val ≤ (i 1).val; omega, by show (i 1).val < 64 * h.val + 64; omega⟩
      · rw [if_neg hd])) $$ HX
  iintro HX
  iapply Hk
  isplitl [HQ]; · iexact HQ
  isplitl [HK]; · iexact HK
  isplitl [HV]; · iexact HV
  iexists _
  isplitr
  rotate_left
  · iexact HX
  ipureintro
  intro i hi
  show (if (i 1).val / 64 = h.val then ctxF m c b i else f i) = _
  by_cases hd : (i 1).val / 64 = h.val
  · rw [if_pos hd]
  · rw [if_neg hd]; exact hf i (by omega)

/-- The load of the output weights. -/
theorem ld_wob (c : Dev nD) {g : FVec F S512x768 .bf16} {inb} {hl} {k' : FVec F S512x768 .bf16 → Prog (TpuEff nD τ sig (Elt F) Λ₀ .tc) α} :
    pc c cc0_scratch4 Finset.univ g ⊢ iprop((pc c cc0_scratch4 Finset.univ g -∗ wp frame (wpE (defs₀ (F := F)) 𝒱₀ (c : Thread nD τ) none) Set.univ (k' g) Q')
      -∗ wp frame (wpE (defs₀ (F := F)) 𝒱₀ (c : Thread nD τ) none) Set.univ (.op (.load (Memref.whole cc0_scratch4) (Rect.unit (s := S512x768) ![0, 0] S512x768.size inb).toLoadRect hl) k') Q') := by
  have e : ∀ x, (Rect.unit (s := S512x768) ![0, 0] S512x768.size inb).emb x = x := fun x => funext fun a => Fin.ext ((emb_v0 x a).trans (by
    match a with
    | ⟨0, _⟩ => exact Nat.zero_add _
    | ⟨1, _⟩ => exact Nat.zero_add _))
  exact wp_ld (F := F) c (M := Memref.whole cc0_scratch4) (r := Rect.unit (s := S512x768) ![0, 0] S512x768.size inb) (S := Finset.univ) (f := g) g (fun x => by show g _ = g x; exact congrArg g (e x)) (fun x _ => Finset.mem_univ _)

/-- The output buffer with batch 0 written. -/
def mixF (c : Dev nD) (f : FVec F S2x512x768 .f32) : FVec F S2x512x768 .f32 := fun i => if (i 0).val = 0 then outF m c 0 0 i else f i

/-- The output buffer before batch `b` is written. -/
def preF (c : Dev nD) (b : Fin 2) (f : FVec F S2x512x768 .f32) : FVec F S2x512x768 .f32 := if b.val = 0 then f else mixF m c f
/-- The output buffer after batch `b` is written. -/
def postF (c : Dev nD) (b : Fin 2) (f : FVec F S2x512x768 .f32) : FVec F S2x512x768 .f32 := if b.val = 0 then mixF m c f else outF m c 0 0

theorem postF_at (c : Dev nD) (b : Fin 2) (f : FVec F S2x512x768 .f32) (i : S2x512x768.Idx) (h : (i 0).val = b.val) : postF m c b f i = outF m c 0 0 i := by
  unfold postF mixF
  by_cases h0 : b.val = 0
  · rw [if_pos h0]; show (if (i 0).val = 0 then _ else _) = _; rw [if_pos (h.trans h0)]
  · rw [if_neg h0]
theorem postF_off (c : Dev nD) (b : Fin 2) (f : FVec F S2x512x768 .f32) (i : S2x512x768.Idx) (h : (i 0).val ≠ b.val) : preF m c b f i = postF m c b f i := by
  unfold preF postF mixF
  have hi : (i 0).val < 2 := (i 0).isLt
  have hb := b.isLt
  by_cases h0 : b.val = 0
  · rw [if_pos h0, if_pos h0]; show f i = if (i 0).val = 0 then _ else _; rw [if_neg (h0 ▸ h)]
  · rw [if_neg h0, if_neg h0]; show (if (i 0).val = 0 then outF m c 0 0 i else f i) = _; rw [if_pos (by omega)]

/-- The store of a batch's partial output. -/
theorem st_part (c : Dev nD) (b : Fin 2) (f : FVec F S2x512x768 .f32) {off : Fin 3 → ℕ} {inb} (ho : off = ![b.val, 0, 0])
    {w : FVec F S1x512x768 .f32} (hw : w = k0_pay66 (ctxF m c b) (wobF m c)) {hx hm} {k' : PUnit → Prog (TpuEff nD τ sig (Elt F) Λ₀ .tc) α} :
    pc c cc0_stg3_0 Finset.univ (preF m c b f) ⊢ iprop((pc c cc0_stg3_0 Finset.univ (postF m c b f) -∗ wp frame (wpE (defs₀ (F := F)) 𝒱₀ (c : Thread nD τ) none) Set.univ (k' ⟨⟩) Q')
      -∗ wp frame (wpE (defs₀ (F := F)) 𝒱₀ (c : Thread nD τ) none) Set.univ (.op (.store (Memref.whole cc0_stg3_0) (Rect.unit (s := S2x512x768) off S1x512x768.size inb) w Finset.univ hx hm) k') Q') := by
  subst ho hw
  refine wp_st c (M := Memref.whole cc0_stg3_0) (S := Finset.univ) (postF m c b f) (fun x _ => Finset.mem_univ _) (fun x => ?_) (fun i _ hni => ?_)
  · have hx0 : (x 0).val < 1 := (x 0).isLt
    have e0 : (((Rect.unit (s := S2x512x768) ![b.val, 0, 0] S1x512x768.size inb).emb x) 0).val = b.val + (x 0).val := emb_v0 (s := S2x512x768) (off := ![b.val, 0, 0]) x 0
    have e1 : (((Rect.unit (s := S2x512x768) ![b.val, 0, 0] S1x512x768.size inb).emb x) 1).val = 0 + (x 1).val := emb_v0 (s := S2x512x768) (off := ![b.val, 0, 0]) x 1
    have e2 : (((Rect.unit (s := S2x512x768) ![b.val, 0, 0] S1x512x768.size inb).emb x) 2).val = 0 + (x 2).val := emb_v0 (s := S2x512x768) (off := ![b.val, 0, 0]) x 2
    show partF m c b x = postF m c b f ((Rect.unit (s := S2x512x768) ![b.val, 0, 0] S1x512x768.size inb).emb x)
    rw [postF_at m c b f _ (by omega)]
    unfold outF
    have hl : ∀ r, lev c 0 r = 0 := fun r => rfl
    show _ = redN m (lev c (if _ then 0 else 0) _) c _
    rw [show (if (((Rect.unit (s := S2x512x768) ![b.val, 0, 0] S1x512x768.size inb).emb x) 0).val = 0 then 0 else 0) = 0 from ite_self 0, hl]
    show _ = partF m c _ _
    congr 1
    · exact Fin.ext (by omega)
    · exact idx3_ext (by show (x 0).val = 0; omega) (e1.trans (Nat.zero_add _)).symm (e2.trans (Nat.zero_add _)).symm
  · refine postF_off m c b f i fun h => hni i ?_ rfl
    have h1 : (i 1).val < 512 := (i 1).isLt
    have h2 : (i 2).val < 768 := (i 2).isLt
    rw [Rect.mem_set_unit]
    intro a
    match a with
    | ⟨0, _⟩ => exact ⟨by show b.val ≤ (i 0).val; omega, by show (i 0).val < b.val + 1; omega⟩
    | ⟨1, _⟩ => exact ⟨Nat.zero_le _, by show (i 1).val < 0 + 512; omega⟩
    | ⟨2, _⟩ => exact ⟨Nat.zero_le _, by show (i 2).val < 0 + 768; omega⟩

/-- The rows of a just-written batch, loaded for the first round. -/
theorem post_rows (c : Dev nD) (b : Fin 2) (f : FVec F S2x512x768 .f32) {off size : Fin 3 → ℕ} {inb} (h0 : off 0 = b.val) (h1 : size 0 = 1) :
    (fun x : (Rect.unit (s := S2x512x768) off size inb).shape.Idx => postF m c b f ((Rect.unit (s := S2x512x768) off size inb).emb x))
      = fun x => outF m c 0 0 ((Rect.unit (s := S2x512x768) off size inb).emb x) :=
  funext fun x => postF_at m c b f _ (by
    have hx : (x 0).val < size 0 := (x 0).isLt
    rw [emb_v0 (s := S2x512x768) x 0]; omega)

theorem trc' {s1 s2 s3 : Shape} {h1 h2} {v v' : FVec F s1 .f32} (hv : v = v') {w : FVec F s3 .bf16}
    (h : shapeCast s3 (truncf .bf16 (shapeCast s2 v h1) bitsLt_bf16_f32) h2 = w) :
    shapeCast s3 (truncf .bf16 (shapeCast s2 v' h1) bitsLt_bf16_f32) h2 = w := by subst hv; exact h

end Accesses

/-! ## The heads -/

theorem part51 (c : Dev nD) (v121 v2 v3 : BitVec 32) (Q' : _ → sProp (MT nD τ sig Unit (Elt F) ℕ UU ℕ)) :
    iprop(Hd m c 0 0 ∗ (∀ r, Hd m c 0 1 -∗ Q' r))
      ⊢ Wp c (onBufs (k0_part51 (F := F)) k0_pay51 v121 v2 v3) Q' := by
  rw [k0_part51_eq_skeleton]
  unfold Wp onBufs k0_part51_skel
  simp only [Prog.lift, Prog.bind_op, Prog.bind_ret, Prog.pure_eq_ret]
  iintro ⟨HH, Hk⟩
  iapply (ld_q m c 0 0 rfl) $$ HH; iintro HH
  iapply (ld_k m c 0 0 rfl) $$ HH; iintro HH
  iapply (ld_v m c 0 0 rfl) $$ HH; iintro HH
  iapply (ld_x m c) $$ HH; iintro %_ HH
  iapply (st_head m c 0 0 0 1 rfl rfl rfl rfl) $$ HH; iintro HH
  rw [wp_ret]
  imodintro
  iapply Hk
  iexact HH

theorem part52 (c : Dev nD) (Q' : _ → sProp (MT nD τ sig Unit (Elt F) ℕ UU ℕ)) :
    iprop(Hd m c 0 1 ∗ (Hd m c 0 2 -∗ Q' (k0_pay54 k0_pay51 (qsl m c 0 2) (ksl m c 0 2))))
      ⊢ Wp c (onBufs (k0_part52 (F := F)) k0_pay51) Q' := by
  rw [k0_part52_eq_skeleton]
  unfold Wp onBufs k0_part52_skel
  simp only [Prog.lift, Prog.bind_op, Prog.bind_ret, Prog.pure_eq_ret]
  iintro ⟨HH, Hk⟩
  iapply (ld_q m c 0 1 rfl) $$ HH; iintro HH
  iapply (ld_k m c 0 1 rfl) $$ HH; iintro HH
  iapply (ld_v m c 0 1 rfl) $$ HH; iintro HH
  iapply (ld_x m c) $$ HH; iintro %_ HH
  iapply (st_head m c 0 1 1 2 rfl rfl rfl rfl) $$ HH; iintro HH
  iapply (ld_q m c 0 2 rfl) $$ HH; iintro HH
  iapply (ld_k m c 0 2 rfl) $$ HH; iintro HH
  rw [wp_ret]
  imodintro
  iapply Hk
  iexact HH

theorem part53 (c : Dev nD) (Q' : _ → sProp (MT nD τ sig Unit (Elt F) ℕ UU ℕ)) :
    iprop(Hd m c 0 2 ∗ (Hd m c 0 3 -∗ Q' ⟨(k0_pay56 k0_pay51 (qsl m c 0 3) (ksl m c 0 3)), (vsl m c 0 3)⟩))
      ⊢ Wp c (onBufs (k0_part53 (F := F)) k0_pay51 (k0_pay54 k0_pay51 (qsl m c 0 2) (ksl m c 0 2))) Q' := by
  rw [k0_part53_eq_skeleton]
  unfold Wp onBufs k0_part53_skel
  simp only [Prog.lift, Prog.bind_op, Prog.bind_ret, Prog.pure_eq_ret]
  iintro ⟨HH, Hk⟩
  iapply (ld_v m c 0 2 rfl) $$ HH; iintro HH
  iapply (ld_x m c) $$ HH; iintro %_ HH
  iapply (st_head m c 0 2 2 3 rfl rfl rfl rfl) $$ HH; iintro HH
  iapply (ld_q m c 0 3 rfl) $$ HH; iintro HH
  iapply (ld_k m c 0 3 rfl) $$ HH; iintro HH
  iapply (ld_v m c 0 3 rfl) $$ HH; iintro HH
  rw [wp_ret]
  imodintro
  iapply Hk
  iexact HH

theorem part54 (c : Dev nD) (Q' : _ → sProp (MT nD τ sig Unit (Elt F) ℕ UU ℕ)) :
    iprop(Hd m c 0 3 ∗ (Hd m c 0 5 -∗ Q' (k0_pay59 (qsl m c 0 5))))
      ⊢ Wp c (onBufs (k0_part54 (F := F)) k0_pay51 (k0_pay56 k0_pay51 (qsl m c 0 3) (ksl m c 0 3)) (vsl m c 0 3)) Q' := by
  rw [k0_part54_eq_skeleton]
  unfold Wp onBufs k0_part54_skel
  simp only [Prog.lift, Prog.bind_op, Prog.bind_ret, Prog.pure_eq_ret]
  iintro ⟨HH, Hk⟩
  iapply (ld_x m c) $$ HH; iintro %_ HH
  iapply (st_head m c 0 3 3 4 rfl rfl rfl rfl) $$ HH; iintro HH
  iapply (ld_q m c 0 4 rfl) $$ HH; iintro HH
  iapply (ld_k m c 0 4 rfl) $$ HH; iintro HH
  iapply (ld_v m c 0 4 rfl) $$ HH; iintro HH
  iapply (ld_x m c) $$ HH; iintro %_ HH
  iapply (st_head m c 0 4 4 5 rfl rfl rfl rfl) $$ HH; iintro HH
  iapply (ld_q m c 0 5 rfl) $$ HH; iintro HH
  rw [wp_ret]
  imodintro
  iapply Hk
  iexact HH

theorem part55 (c : Dev nD) (Q' : _ → sProp (MT nD τ sig Unit (Elt F) ℕ UU ℕ)) :
    iprop(Hd m c 0 5 ∗ (Hd m c 0 6 -∗ Q' ⟨(k0_pay61 k0_pay51 (qsl m c 0 6) (ksl m c 0 6)), (k0_pay62 k0_pay51 (qsl m c 0 6) (ksl m c 0 6))⟩))
      ⊢ Wp c (onBufs (k0_part55 (F := F)) k0_pay51 (k0_pay59 (qsl m c 0 5))) Q' := by
  rw [k0_part55_eq_skeleton]
  unfold Wp onBufs k0_part55_skel
  simp only [Prog.lift, Prog.bind_op, Prog.bind_ret, Prog.pure_eq_ret]
  iintro ⟨HH, Hk⟩
  iapply (ld_k m c 0 5 rfl) $$ HH; iintro HH
  iapply (ld_v m c 0 5 rfl) $$ HH; iintro HH
  iapply (ld_x m c) $$ HH; iintro %_ HH
  iapply (st_head m c 0 5 5 6 rfl rfl rfl rfl) $$ HH; iintro HH
  iapply (ld_q m c 0 6 rfl) $$ HH; iintro HH
  iapply (ld_k m c 0 6 rfl) $$ HH; iintro HH
  rw [wp_ret]
  imodintro
  iapply Hk
  iexact HH

theorem part56 (c : Dev nD) (Q' : _ → sProp (MT nD τ sig Unit (Elt F) ℕ UU ℕ)) :
    iprop(Hd m c 0 6 ∗ (Hd m c 0 7 -∗ Q' (k0_pay64 k0_pay51 (qsl m c 0 7) (ksl m c 0 7) (vsl m c 0 7))))
      ⊢ Wp c (onBufs (k0_part56 (F := F)) k0_pay51 (k0_pay61 k0_pay51 (qsl m c 0 6) (ksl m c 0 6)) (k0_pay62 k0_pay51 (qsl m c 0 6) (ksl m c 0 6))) Q' := by
  rw [k0_part56_eq_skeleton]
  unfold Wp onBufs k0_part56_skel
  simp only [Prog.lift, Prog.bind_op, Prog.bind_ret, Prog.pure_eq_ret]
  iintro ⟨HH, Hk⟩
  iapply (ld_v m c 0 6 rfl) $$ HH; iintro HH
  iapply (ld_x m c) $$ HH; iintro %_ HH
  iapply (st_head m c 0 6 6 7 rfl rfl rfl rfl) $$ HH; iintro HH
  iapply (ld_q m c 0 7 rfl) $$ HH; iintro HH
  iapply (ld_k m c 0 7 rfl) $$ HH; iintro HH
  iapply (ld_v m c 0 7 rfl) $$ HH; iintro HH
  rw [wp_ret]
  imodintro
  iapply Hk
  iexact HH

theorem part57 (c : Dev nD) (f : FVec F S2x512x768 .f32) (v2 v77 : BitVec 32) (Q' : _ → sProp (MT nD τ sig Unit (Elt F) ℕ UU ℕ)) :
    iprop(Hd m c 0 7 ∗ pc c cc0_scratch4 Finset.univ (wobF m c) ∗ pc c cc0_stg3_0 Finset.univ (preF m c 0 f) ∗ Sb (F := F) c 0 256
      ∗ (∀ r, (Hd m c 1 0 ∗ pc c cc0_scratch4 Finset.univ (wobF m c) ∗ pc c cc0_stg3_0 Finset.univ (postF m c 0 f) ∗ Sx m c 0 0 256) -∗ Q' r))
      ⊢ Wp c (onBufs (k0_part57 (F := F)) c v2 v77 (k0_pay64 k0_pay51 (qsl m c 0 7) (ksl m c 0 7) (vsl m c 0 7))) Q' := by
  rw [k0_part57_eq_skeleton]
  unfold Wp onBufs k0_part57_skel
  simp only [Prog.lift, Prog.bind_op, Prog.bind_ret, Prog.pure_eq_ret]
  iintro ⟨HH, HW, HO, ⟨%g, HS⟩, Hk⟩
  iapply (ld_x m c) $$ HH; iintro %_ HH
  iapply (st_head m c 0 7 7 8 rfl rfl rfl rfl) $$ HH; iintro HH
  iapply (ld_ctx m c 0) $$ HH; iintro HH
  iapply (ld_wob c) $$ HW; iintro HW
  iapply (ld_out c) $$ HO; iintro HO
  iapply (st_part m c 0 f rfl rfl) $$ HO; iintro HO
  iapply (ld_out c) $$ HO; iintro HO
  iapply (ld_rss c 0 256 rfl rfl) $$ HS; iintro HS
  iapply (st_rss m c 0 0 256 0 0 rfl (by decide) rfl (off1_eq c) rfl rfl (trc' (post_rows m c 0 f (by rw [off1_eq]; rfl) rfl).symm (trc _ _ _))) $$ HS; iintro HS
  ihave HH := (Hd_next m c 0 1 8) $$ HH
  rw [wp_ret]
  imodintro
  iapply Hk
  isplitl [HH]; · iexact HH
  isplitl [HW]; · iexact HW
  isplitl [HO]; · iexact HO
  iexact HS

theorem part58 (c : Dev nD) (Z W Q : List KK) (Q' : _ → sProp (MT nD τ sig Unit (Elt F) ℕ UU ℕ)) :
    iprop(Cx m K ∗ St c Z W Q ((fl1 c, 34, 28) :: (fl1 c, 35, 29) :: (fl4 c, 36, 30) :: (fl4 c, 37, 31) :: (fl2 c, 38, 32) :: (fl2 c, 39, 33) :: agSends c) ∗ Sx m c 0 0 256 ∗ Hd m c 1 0
      ∗ ((St c Z W (Q ++ [28]) ((fl1 c, 35, 29) :: (fl4 c, 36, 30) :: (fl4 c, 37, 31) :: (fl2 c, 38, 32) :: (fl2 c, 39, 33) :: agSends c) ∗ Hd m c 1 1) -∗ Q' ⟨k0_pay69 (qsl m c 1 1), k0_pay70 (ksl m c 1 1), (constant S512x640 .f32 0x00000000#32)⟩))
      ⊢ Wp c (onBufs (k0_part58 (F := F)) c k0_pay51) Q' := by
  rw [k0_part58_eq_skeleton]
  unfold Wp onBufs k0_part58_skel
  simp only [Prog.lift, Prog.bind_op, Prog.bind_ret, Prog.pure_eq_ret]
  iintro ⟨#HC, HSt, HS, HH, Hk⟩
  iapply (rs_snd m K c (fl1 c) _ 0 0 256 rfl 34 28 _ _ Q (Q ++ [28]) rfl _ (dev41_eq c) rfl (by decide) (by decide) rfl rfl rfl rfl rfl (by decide) (by decide) rfl rfl rfl rfl rfl rfl rfl rfl rfl) $$ [HSt HS]
  · isplitr; · iexact HC
    isplitl [HSt]; · iexact HSt
    iexact HS
  iintro HSt
  iapply (ld_q m c 1 0 rfl) $$ HH; iintro HH
  iapply (ld_k m c 1 0 rfl) $$ HH; iintro HH
  iapply (ld_v m c 1 0 rfl) $$ HH; iintro HH
  iapply (ld_x m c) $$ HH; iintro %_ HH
  iapply (st_head m c 1 0 0 1 rfl rfl rfl rfl) $$ HH; iintro HH
  iapply (ld_q m c 1 1 rfl) $$ HH; iintro HH
  iapply (ld_k m c 1 1 rfl) $$ HH; iintro HH
  rw [wp_ret]
  imodintro
  iapply Hk
  isplitl [HSt]; · iexact HSt
  iexact HH

theorem part59 (c : Dev nD) (Q' : _ → sProp (MT nD τ sig Unit (Elt F) ℕ UU ℕ)) :
    iprop(Hd m c 1 1 ∗ (Hd m c 1 2 -∗ Q' ⟨k0_pay72 k0_pay51 (qsl m c 1 2) (ksl m c 1 2), k0_pay73 k0_pay51 (qsl m c 1 2) (ksl m c 1 2)⟩))
      ⊢ Wp c (onBufs (k0_part59 (F := F)) k0_pay51 (k0_pay69 (qsl m c 1 1)) (k0_pay70 (ksl m c 1 1)) (constant S512x640 .f32 0x00000000#32)) Q' := by
  rw [k0_part59_eq_skeleton]
  unfold Wp onBufs k0_part59_skel
  simp only [Prog.lift, Prog.bind_op, Prog.bind_ret, Prog.pure_eq_ret]
  iintro ⟨HH, Hk⟩
  iapply (ld_v m c 1 1 rfl) $$ HH; iintro HH
  iapply (ld_x m c) $$ HH; iintro %_ HH
  iapply (st_head m c 1 1 1 2 rfl rfl rfl rfl) $$ HH; iintro HH
  iapply (ld_q m c 1 2 rfl) $$ HH; iintro HH
  iapply (ld_k m c 1 2 rfl) $$ HH; iintro HH
  rw [wp_ret]
  imodintro
  iapply Hk
  iexact HH

theorem part60 (c : Dev nD) (Q' : _ → sProp (MT nD τ sig Unit (Elt F) ℕ UU ℕ)) :
    iprop(Hd m c 1 2 ∗ (Hd m c 1 3 -∗ Q' (k0_pay75 k0_pay51 (qsl m c 1 3) (ksl m c 1 3) (vsl m c 1 3))))
      ⊢ Wp c (onBufs (k0_part60 (F := F)) k0_pay51 (k0_pay72 k0_pay51 (qsl m c 1 2) (ksl m c 1 2)) (k0_pay73 k0_pay51 (qsl m c 1 2) (ksl m c 1 2))) Q' := by
  rw [k0_part60_eq_skeleton]
  unfold Wp onBufs k0_part60_skel
  simp only [Prog.lift, Prog.bind_op, Prog.bind_ret, Prog.pure_eq_ret]
  iintro ⟨HH, Hk⟩
  iapply (ld_v m c 1 2 rfl) $$ HH; iintro HH
  iapply (ld_x m c) $$ HH; iintro %_ HH
  iapply (st_head m c 1 2 2 3 rfl rfl rfl rfl) $$ HH; iintro HH
  iapply (ld_q m c 1 3 rfl) $$ HH; iintro HH
  iapply (ld_k m c 1 3 rfl) $$ HH; iintro HH
  iapply (ld_v m c 1 3 rfl) $$ HH; iintro HH
  iapply (ld_x m c) $$ HH; iintro %_ HH
  rw [wp_ret]
  imodintro
  iapply Hk
  iexact HH

theorem part61 (c : Dev nD) (Q' : _ → sProp (MT nD τ sig Unit (Elt F) ℕ UU ℕ)) :
    iprop(Hd m c 1 3 ∗ (Hd m c 1 5 -∗ Q' (k0_pay77 (qsl m c 1 5) (ksl m c 1 5))))
      ⊢ Wp c (onBufs (k0_part61 (F := F)) k0_pay51 (k0_pay75 k0_pay51 (qsl m c 1 3) (ksl m c 1 3) (vsl m c 1 3))) Q' := by
  rw [k0_part61_eq_skeleton]
  unfold Wp onBufs k0_part61_skel
  simp only [Prog.lift, Prog.bind_op, Prog.bind_ret, Prog.pure_eq_ret]
  iintro ⟨HH, Hk⟩
  iapply (st_head m c 1 3 3 4 rfl rfl rfl rfl) $$ HH; iintro HH
  iapply (ld_q m c 1 4 rfl) $$ HH; iintro HH
  iapply (ld_k m c 1 4 rfl) $$ HH; iintro HH
  iapply (ld_v m c 1 4 rfl) $$ HH; iintro HH
  iapply (ld_x m c) $$ HH; iintro %_ HH
  iapply (st_head m c 1 4 4 5 rfl rfl rfl rfl) $$ HH; iintro HH
  iapply (ld_q m c 1 5 rfl) $$ HH; iintro HH
  iapply (ld_k m c 1 5 rfl) $$ HH; iintro HH
  rw [wp_ret]
  imodintro
  iapply Hk
  iexact HH

theorem part62 (c : Dev nD) (Q' : _ → sProp (MT nD τ sig Unit (Elt F) ℕ UU ℕ)) :
    iprop(Hd m c 1 5 ∗ (Hd m c 1 6 -∗ Q' (k0_pay79 k0_pay51 (qsl m c 1 6) (ksl m c 1 6))))
      ⊢ Wp c (onBufs (k0_part62 (F := F)) k0_pay51 (k0_pay77 (qsl m c 1 5) (ksl m c 1 5))) Q' := by
  rw [k0_part62_eq_skeleton]
  unfold Wp onBufs k0_part62_skel
  simp only [Prog.lift, Prog.bind_op, Prog.bind_ret, Prog.pure_eq_ret]
  iintro ⟨HH, Hk⟩
  iapply (ld_v m c 1 5 rfl) $$ HH; iintro HH
  iapply (ld_x m c) $$ HH; iintro %_ HH
  iapply (st_head m c 1 5 5 6 rfl rfl rfl rfl) $$ HH; iintro HH
  iapply (ld_q m c 1 6 rfl) $$ HH; iintro HH
  iapply (ld_k m c 1 6 rfl) $$ HH; iintro HH
  rw [wp_ret]
  imodintro
  iapply Hk
  iexact HH

theorem part63 (c : Dev nD) (Q' : _ → sProp (MT nD τ sig Unit (Elt F) ℕ UU ℕ)) :
    iprop(Hd m c 1 6 ∗ (Hd m c 1 8 -∗ Q' (ctxF m c 1)))
      ⊢ Wp c (onBufs (k0_part63 (F := F)) k0_pay51 (k0_pay79 k0_pay51 (qsl m c 1 6) (ksl m c 1 6))) Q' := by
  rw [k0_part63_eq_skeleton]
  unfold Wp onBufs k0_part63_skel
  simp only [Prog.lift, Prog.bind_op, Prog.bind_ret, Prog.pure_eq_ret]
  iintro ⟨HH, Hk⟩
  iapply (ld_v m c 1 6 rfl) $$ HH; iintro HH
  iapply (ld_x m c) $$ HH; iintro %_ HH
  iapply (st_head m c 1 6 6 7 rfl rfl rfl rfl) $$ HH; iintro HH
  iapply (ld_q m c 1 7 rfl) $$ HH; iintro HH
  iapply (ld_k m c 1 7 rfl) $$ HH; iintro HH
  iapply (ld_v m c 1 7 rfl) $$ HH; iintro HH
  iapply (ld_x m c) $$ HH; iintro %_ HH
  iapply (st_head m c 1 7 7 8 rfl rfl rfl rfl) $$ HH; iintro HH
  iapply (ld_ctx m c 1) $$ HH; iintro HH
  rw [wp_ret]
  imodintro
  iapply Hk
  iexact HH

theorem part64 (c : Dev nD) (Z W Q : List KK) (f : FVec F S2x512x768 .f32) (v2 v77 : BitVec 32) (Q' : _ → sProp (MT nD τ sig Unit (Elt F) ℕ UU ℕ)) :
    iprop(Cx m K ∗ St c Z W Q ((fl1 c, 35, 29) :: (fl4 c, 36, 30) :: (fl4 c, 37, 31) :: (fl2 c, 38, 32) :: (fl2 c, 39, 33) :: agSends c) ∗ pc c cc0_scratch4 Finset.univ (wobF m c) ∗ pc c cc0_stg3_0 Finset.univ (preF m c 1 f) ∗ Sb (F := F) c 1 256
      ∗ ((St c Z W (Q ++ [29]) ((fl4 c, 36, 30) :: (fl4 c, 37, 31) :: (fl2 c, 38, 32) :: (fl2 c, 39, 33) :: agSends c) ∗ pc c cc0_scratch4 Finset.univ (wobF m c) ∗ Og m c 0 0) -∗ Q' ⟨Scalar.xori v2 1#32, Scalar.extui (Scalar.cmpi .eq v2 0#32), 0#32⟩))
      ⊢ Wp c (onBufs (k0_part64 (F := F)) c v2 v77 (ctxF m c 1)) Q' := by
  rw [k0_part64_eq_skeleton]
  unfold Wp onBufs k0_part64_skel
  simp only [Prog.lift, Prog.bind_op, Prog.bind_ret, Prog.pure_eq_ret]
  iintro ⟨#HC, HSt, HW, HO, ⟨%g, HS⟩, Hk⟩
  iapply (ld_wob c) $$ HW; iintro HW
  iapply (ld_out c) $$ HO; iintro HO
  iapply (st_part m c 1 f rfl rfl) $$ HO; iintro HO
  iapply (ld_out c) $$ HO; iintro HO
  iapply (ld_rss c 1 256 rfl rfl) $$ HS; iintro HS
  iapply (st_rss m c 1 0 256 0 0 rfl (by decide) rfl (off2_eq c) rfl rfl (trc' (post_rows m c 1 f (by rw [off2_eq]; rfl) rfl).symm (trc _ _ _))) $$ HS; iintro HS
  iapply (rs_snd m K c (fl1 c) _ 1 0 256 rfl 35 29 _ _ Q (Q ++ [29]) rfl _ (dev42_eq c) rfl (by decide) (by decide) rfl rfl rfl rfl rfl (by decide) (by decide) rfl rfl rfl rfl rfl rfl rfl rfl rfl) $$ [HSt HS]
  · isplitr; · iexact HC
    isplitl [HSt]; · iexact HSt
    iexact HS
  iintro HSt
  rw [wp_ret]
  imodintro
  iapply Hk
  isplitl [HSt]; · iexact HSt
  isplitl [HW]; · iexact HW
  iexact HO

end Cert.Hand

end
-- ==== Proof.Proj.lean ====
/-
# The queries, and the wait for the keys and values

The projection of the staged block to queries, batch by batch; the output weights in 16 bits; and the wait for the rows
of keys and values that devices 0 and 1 send out.
-/
module

public import proofs.«01_k».proof.Proof.Post
public import proofs.«01_k».proof.Proof.Attn

@[expose] public section

noncomputable section

namespace Cert.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ UU ℕ

variable (m : (ℓ : Loc nD τ sig) → Buf (Elt F) ℓ) (K : Dev nD × KK → ℕ)

/-- The query buffer at contents `g` with the first batch stored. -/
def qP (c : Dev nD) (g : FVec F S2x512x512 .bf16) : FVec F S2x512x512 .bf16 := fun i => if (i 0).val = 0 then qF m c i else g i

/-- The rows of keys and values that device 0 has of its own: in place once its sends are made. -/
def ownLo (c : Dev nD) : sProp (MT nD τ sig Unit (Elt F) ℕ UU ℕ) :=
  if c = 0 then iprop(pc c cc0_scratch0 (krows 0 512) (kbF m c) ∗ pc c cc0_scratch1 (krows 0 512) (vbF m c)) else iprop(emp)
/-- The rows that device 1 has of its own. -/
def ownHi (c : Dev nD) : sProp (MT nD τ sig Unit (Elt F) ℕ UU ℕ) :=
  if c = 1 then iprop(pc c cc0_scratch0 (krows 512 128) (kbF m c) ∗ pc c cc0_scratch1 (krows 512 128) (vbF m c)) else iprop(emp)

theorem krows_univ : krows 0 512 ∪ krows 512 128 = Finset.univ := by
  ext i
  have h1 : (i 1).val < 640 := (i 1).isLt
  simp only [Finset.mem_union, mem_krows, Finset.mem_univ, iff_true]
  omega
theorem krows_disj : Disjoint (krows 0 512) (krows 512 128) := by
  rw [Finset.disjoint_left]; intro i h h'; rw [mem_krows] at h h'; omega

/-- The two blocks of rows are the buffer. -/
theorem kb_join (c : Dev nD) (f : FVec F S2x640x512 .bf16) : iprop(pc c cc0_scratch0 (krows 0 512) f ∗ pc c cc0_scratch0 (krows 512 128) f) ⊢ pc c cc0_scratch0 Finset.univ f := by
  rw [← krows_univ]; exact (pointsTo_union krows_disj).2
theorem vb_join (c : Dev nD) (f : FVec F S2x640x512 .bf16) : iprop(pc c cc0_scratch1 (krows 0 512) f ∗ pc c cc0_scratch1 (krows 512 128) f) ⊢ pc c cc0_scratch1 Finset.univ f := by
  rw [← krows_univ]; exact (pointsTo_union krows_disj).2

section Steps
variable {α : Type} {Q' : α → sProp (MT nD τ sig Unit (Elt F) ℕ UU ℕ)}

theorem ld_xb (c : Dev nD) (b : Fin 2) {off : Fin 3 → ℕ} {inb} {hl} {k' : FVec F S1x512x768 .f32 → Prog (TpuEff nD τ sig (Elt F) Λ₀ .tc) α} (ho : off = ![b.val, 0, 0]) :
    pc c cc0_stg0_0 Finset.univ (xF m c) ⊢ iprop((pc c cc0_stg0_0 Finset.univ (xF m c) -∗ wp frame (wpE (defs₀ (F := F)) 𝒱₀ (c : Thread nD τ) none) Set.univ (k' fun j => xF m c (ix3 b (j 1) (j 2))) Q')
      -∗ wp frame (wpE (defs₀ (F := F)) 𝒱₀ (c : Thread nD τ) none) Set.univ (.op (.load (Memref.whole cc0_stg0_0) (Rect.unit (s := S2x512x768) off S1x512x768.size inb).toLoadRect hl) k') Q') := by
  exact wp_ld (F := F) c (M := Memref.whole cc0_stg0_0) (r := Rect.unit (s := S2x512x768) off S1x512x768.size inb) (S := Finset.univ) (f := xF m c) _ (fun x => by
      subst ho
      refine congrArg (xF m c) (emb3 rfl x _ fun a => ?_)
      match a with
      | ⟨0, _⟩ => have : (x 0).val < 1 := (x 0).isLt; show b.val = b.val + (x 0).val; omega
      | ⟨1, _⟩ => exact (Nat.zero_add _).symm
      | ⟨2, _⟩ => exact (Nat.zero_add _).symm) (fun x _ => Finset.mem_univ _)

/-- A load of a whole array of two axes. -/
theorem ld_whole (c : Dev nD) {s : Shape} {e : EltTy} {cs : CoreSpace} {M : Memref sig .tc (.core cs) s e} {off : Fin s.rank → ℕ} {inb} {hl} {k' : (s.Idx → Elt F e) → Prog (TpuEff nD τ sig (Elt F) Λ₀ .tc) α}
    {f : Buf (Elt F) (M.view.loc (c : Thread nD τ))} (g : s.Idx → Elt F e) (hg : ∀ x, M.view.read (Elt F) f x = g x) (ho : ∀ a, off a = 0) :
    (M.view.loc (c : Thread nD τ) ↦[Finset.univ]{fullShare} f) ⊢ iprop(((M.view.loc (c : Thread nD τ) ↦[Finset.univ]{fullShare} f) -∗ wp frame (wpE (defs₀ (F := F)) 𝒱₀ (c : Thread nD τ) none) Set.univ (k' g) Q')
      -∗ wp frame (wpE (defs₀ (F := F)) 𝒱₀ (c : Thread nD τ) none) Set.univ (.op (.load M (Rect.unit (s := s) off s.size inb).toLoadRect hl) k') Q') := by
  have e : ∀ x : s.Idx, (Rect.unit (s := s) off s.size inb).emb x = x := fun x => funext fun a => Fin.ext (by
    show off a + 1 * (x a).val = (x a).val
    rw [ho, Nat.zero_add, Nat.one_mul])
  exact wp_ld (F := F) c (M := M) (r := Rect.unit (s := s) off s.size inb) (S := Finset.univ) (f := f) g (fun x => by rw [e x]; exact hg x) (fun x _ => Finset.mem_univ _)

theorem st_q (c : Dev nD) (b : Fin 2) (f g : FVec F S2x512x512 .bf16) {off : Fin 3 → ℕ} {inb hx hm} {w : FVec F S1x512x512 .bf16} {k' : PUnit → Prog (TpuEff nD τ sig (Elt F) Λ₀ .tc) α}
    (ho : off = ![b.val, 0, 0]) (hw : w = qRow m c b) (hin : ∀ i, (i 0).val = b.val → g i = qF m c i) (hout : ∀ i, (i 0).val ≠ b.val → f i = g i) :
    pc c cc0_scratch2 Finset.univ f ⊢ iprop((pc c cc0_scratch2 Finset.univ g -∗ wp frame (wpE (defs₀ (F := F)) 𝒱₀ (c : Thread nD τ) none) Set.univ (k' ⟨⟩) Q')
      -∗ wp frame (wpE (defs₀ (F := F)) 𝒱₀ (c : Thread nD τ) none) Set.univ (.op (.store (Memref.whole cc0_scratch2) (Rect.unit (s := S2x512x512) off S1x512x512.size inb) w Finset.univ hx hm) k') Q') := by
  have e : ∀ x : S1x512x512.Idx, (Rect.unit (s := S2x512x512) off S1x512x512.size inb).emb x = (ix3 b (x 1) (x 2) : S2x512x512.Idx) := fun x => by
    subst ho
    exact emb3 (s := S2x512x512) rfl x _ fun a => by
      match a with
      | ⟨0, _⟩ => have : (x 0).val < 1 := (x 0).isLt; show b.val = b.val + (x 0).val; omega
      | ⟨1, _⟩ => exact (Nat.zero_add _).symm
      | ⟨2, _⟩ => exact (Nat.zero_add _).symm
  exact wp_st (F := F) c (M := Memref.whole cc0_scratch2) (r := Rect.unit (s := S2x512x512) off S1x512x512.size inb) (S := Finset.univ) (f := f) g (fun x _ => Finset.mem_univ _)
    (fun x => by
      refine (congrFun hw x).trans (Eq.trans ?_ (congrArg g (e x)).symm)
      refine Eq.trans ?_ (hin _ rfl).symm
      have h0 : x 0 = (0 : Fin 1) := Fin.ext (Nat.lt_one_iff.mp (x 0).isLt)
      show qRow m c b x = qRow m c b (ix3 0 (x 1) (x 2))
      exact congrArg _ ((eq_ix3 x).trans (by rw [h0]; rfl)))
    (fun i _ hi => hout i fun h => hi i (by
      subst ho
      have h1 : (i 1).val < 512 := (i 1).isLt
      have h2 : (i 2).val < 512 := (i 2).isLt
      have a0 : b.val ≤ (i 0).val ∧ (i 0).val < b.val + 1 := by omega
      have a1 : 0 ≤ (i 1).val ∧ (i 1).val < 0 + 512 := by omega
      have a2 : 0 ≤ (i 2).val ∧ (i 2).val < 0 + 512 := by omega
      rw [Rect.mem_set_unit]
      intro a
      match a with
      | ⟨0, _⟩ => exact a0
      | ⟨1, _⟩ => exact a1
      | ⟨2, _⟩ => exact a2) rfl)

/-- A load of the query buffer of which the values are not used. -/
theorem ld_qa (c : Dev nD) {f} {r : Rect S2x512x512} {hl} {k' : (r.toLoadRect.shape.Idx → F .bf16) → Prog (TpuEff nD τ sig (Elt F) Λ₀ .tc) α} :
    pc c cc0_scratch2 Finset.univ f ⊢ iprop((∀ v, pc c cc0_scratch2 Finset.univ f -∗ wp frame (wpE (defs₀ (F := F)) 𝒱₀ (c : Thread nD τ) none) Set.univ (k' v) Q')
      -∗ wp frame (wpE (defs₀ (F := F)) 𝒱₀ (c : Thread nD τ) none) Set.univ (.op (.load (Memref.whole cc0_scratch2) r.toLoadRect hl) k') Q') := by
  iintro HX Hk
  iapply (wp_ldr c (M := Memref.whole cc0_scratch2) (S := Finset.univ) (fun x _ => Finset.mem_univ _)) $$ HX
  iintro HX
  iapply Hk
  iexact HX

theorem st_wob (c : Dev nD) (f g : FVec F S512x768 .bf16) {off : Fin 2 → ℕ} {inb hx hm} {k' : PUnit → Prog (TpuEff nD τ sig (Elt F) Λ₀ .tc) α} (ho : off = ![0, 0]) :
    pc c cc0_scratch4 Finset.univ f ⊢ iprop((pc c cc0_scratch4 Finset.univ g -∗ wp frame (wpE (defs₀ (F := F)) 𝒱₀ (c : Thread nD τ) none) Set.univ (k' ⟨⟩) Q')
      -∗ wp frame (wpE (defs₀ (F := F)) 𝒱₀ (c : Thread nD τ) none) Set.univ (.op (.store (Memref.whole cc0_scratch4) (Rect.unit (s := S512x768) off S512x768.size inb) g Finset.univ hx hm) k') Q') := by
  subst ho
  have e : ∀ x : S512x768.Idx, (Rect.unit (s := S512x768) ![0, 0] S512x768.size inb).emb x = x := fun x => funext fun a => Fin.ext ((emb_v0 x a).trans (by
    match a with
    | ⟨0, _⟩ => exact Nat.zero_add _
    | ⟨1, _⟩ => exact Nat.zero_add _))
  exact wp_st (F := F) c (M := Memref.whole cc0_scratch4) (r := Rect.unit (s := S512x768) ![0, 0] S512x768.size inb) (S := Finset.univ) (f := f) g (fun x _ => Finset.mem_univ _)
    (fun x => (congrArg g (e x)).symm) (fun i _ hi => absurd rfl (hi i (by
      have h0 : (i 0).val < 512 := (i 0).isLt
      have h1 : (i 1).val < 768 := (i 1).isLt
      have a0 : 0 ≤ (i 0).val ∧ (i 0).val < 0 + 512 := by omega
      have a1 : 0 ≤ (i 1).val ∧ (i 1).val < 0 + 768 := by omega
      rw [Rect.mem_set_unit]
      intro a
      match a with
      | ⟨0, _⟩ => exact a0
      | ⟨1, _⟩ => exact a1)))

/-- The end of the part that holds the sends: the projection of the first batch, stored, and of the second. -/
theorem proj0 (c : Dev nD) (g : FVec F S2x512x512 .bf16) {i1 i2 i3 i4 i5 i6 l1 l2 l3 l5 l6 hx hm} {Q' : FVec F S512x512 .f32 → sProp (MT nD τ sig Unit (Elt F) ℕ UU ℕ)} :
    iprop(pc c cc0_stg0_0 Finset.univ (xF m c) ∗ pc c cc0_stg1_0 Finset.univ (wqF m c) ∗ pc c cc0_scratch2 Finset.univ g
      ∗ ((pc c cc0_stg0_0 Finset.univ (xF m c) ∗ pc c cc0_stg1_0 Finset.univ (wqF m c) ∗ pc c cc0_scratch2 Finset.univ (qP m c g))
          -∗ Q' (k0_pay48 (fun j : S1x512x768.Idx => xF m c (ix3 1 (j 1) (j 2))) (wqF m c))))
      ⊢ wp frame (wpE (defs₀ (F := F)) 𝒱₀ (c : Thread nD τ) none) Set.univ
        (.op (.load (Memref.whole cc0_stg0_0) (Rect.unit (s := S2x512x768) ![0, 0, 0] S1x512x768.size i1).toLoadRect l1) fun v32 =>
          .op (.load (Memref.whole cc0_stg1_0) (Rect.unit (s := S768x512) ![0, 0] S768x512.size i2).toLoadRect l2) fun v34 =>
          .op (.load (Memref.whole cc0_scratch2) (Rect.unit (s := S2x512x512) ![0, 0, 0] S1x512x512.size i3).toLoadRect l3) fun _ =>
          .op (.store (Memref.whole cc0_scratch2) (Rect.unit (s := S2x512x512) ![0, 0, 0] S1x512x512.size i4) (k0_pay47 v32 v34) Finset.univ hx hm) fun _ =>
          .op (.load (Memref.whole cc0_stg0_0) (Rect.unit (s := S2x512x768) ![1, 0, 0] S1x512x768.size i5).toLoadRect l5) fun v41 =>
          .op (.load (Memref.whole cc0_stg1_0) (Rect.unit (s := S768x512) ![0, 0] S768x512.size i6).toLoadRect l6) fun v43 =>
          .ret (k0_pay48 v41 v43)) Q' := by
  iintro ⟨HX, HW, HQ, Hk⟩
  iapply (ld_xb m c 0 rfl) $$ HX; iintro HX
  iapply (ld_whole c (M := Memref.whole cc0_stg1_0) (f := wqF m c) (wqF m c) (fun _ => rfl) (by decide)) $$ HW; iintro HW
  iapply (ld_qa c) $$ HQ; iintro %_ HQ
  iapply (st_q m c 0 g (qP m c g) rfl rfl (fun i h => if_pos h) (fun i h => (if_neg h).symm)) $$ HQ; iintro HQ
  iapply (ld_xb m c 1 rfl) $$ HX; iintro HX
  iapply (ld_whole c (M := Memref.whole cc0_stg1_0) (f := wqF m c) (wqF m c) (fun _ => rfl) (by decide)) $$ HW; iintro HW
  rw [wp_ret]
  imodintro
  iapply Hk
  isplitl [HX]; · iexact HX
  isplitl [HW]; · iexact HW
  iexact HQ

end Steps

theorem part50 (c : Dev nD) (v2 a b d e : BitVec 32) (Q' : _ → sProp (MT nD τ sig Unit (Elt F) ℕ UU ℕ)) :
    iprop(∀ v104 : BitVec 32, ∀ v121 : BitVec 32, Q' ⟨v104, v121, 2#32, 0#32⟩) ⊢ Wp c (onBufs (k0_part50 (F := F)) v2 a b d e) Q' := by
  rw [k0_part50_eq_skeleton]
  unfold Wp onBufs k0_part50_skel
  simp only [Prog.lift, Prog.bind_op, Prog.bind_ret, Prog.pure_eq_ret]
  iintro Hk
  rw [wp_ret]
  imodintro
  iapply Hk

set_option maxHeartbeats 1000000 in
theorem part49 (c : Dev nD) (Z W Q : List KK) (g : FVec F S2x512x512 .bf16) (Q' : _ → sProp (MT nD τ sig Unit (Elt F) ℕ UU ℕ)) :
    iprop(Cx m K ∗ St c Z (kvW c ++ W) Q (rsSends c) ∗ pc c cc0_scratch2 Finset.univ (qP m c g) ∗ pc c cc0_stg2_0 Finset.univ (woF m c) ∗ anyOn (F := F) c cc0_scratch4 Finset.univ
      ∗ ownLo m c ∗ ownHi m c
      ∗ (∀ v77 : BitVec 32, ∀ v78 : BitVec 32, ∀ v80 : BitVec 32, (St c ((kvW c).reverse ++ Z) W Q (rsSends c) ∗ pc c cc0_scratch2 Finset.univ (qF m c) ∗ pc c cc0_scratch0 Finset.univ (kbF m c) ∗ pc c cc0_scratch1 Finset.univ (vbF m c)
          ∗ pc c cc0_stg2_0 Finset.univ (woF m c) ∗ pc c cc0_scratch4 Finset.univ (wobF m c)) -∗ Q' ⟨k0_pay51, v77, 2#32, v78, v80, 0#32⟩))
      ⊢ Wp c (onBufs (k0_part49 (F := F)) (vw c) (k0_pay48 (fun j : S1x512x768.Idx => xF m c (ix3 1 (j 1) (j 2))) (wqF m c))) Q' := by
  rw [k0_part49_eq_skeleton]
  unfold Wp onBufs k0_part49_skel
  rcases (by revert c; decide : c = 0 ∨ c = 1 ∨ (c ≠ 0 ∧ c ≠ 1)) with rfl | rfl | ⟨h0, h1⟩
  · have g0 : (Scalar.cmpi .ne (Scalar.extui (Scalar.cmpi .ne (vw 0) 0#32)) 0#32 = 1#1) = False := eq_false (by decide)
    have g1 : (Scalar.cmpi .ne (Scalar.extui (Scalar.cmpi .ne (vw 0) 1#32)) 0#32 = 1#1) = True := eq_true (by decide)
    have hP : kvW 0 = [2, 3] := by unfold kvW; rfl
    rw [hP, show ([2, 3] : List KK).reverse = [3, 2] from rfl]
    unfold ownLo ownHi
    rw [if_pos rfl, if_neg (by decide)]
    simp only [↓reduceDIte, g0, g1, Prog.lift, Prog.bind_op, Prog.bind_ret, Prog.pure_eq_ret, List.cons_append, List.nil_append]
    iintro ⟨#HC, HSt, HQ, HW, ⟨%gw, HB⟩, ⟨HP0, HP1⟩, -, Hk⟩
    iapply (ld_qa 0) $$ HQ; iintro %_ HQ
    iapply (st_q m 0 1 (qP m 0 g) (qF m 0) rfl rfl (fun i h => rfl) (fun i h => if_pos (by have : (i 0).val < 2 := (i 0).isLt; have h' : (i 0).val ≠ 1 := h; omega))) $$ HQ; iintro HQ
    iapply (ld_whole 0 (M := Memref.whole cc0_stg2_0) (f := woF m 0) (woF m 0) (fun _ => rfl) (by decide)) $$ HW; iintro HW
    iapply (ld_wob 0) $$ HB; iintro HB
    iapply (st_wob 0 gw (wobF m 0) rfl) $$ HB; iintro HB
    iapply (recv m K 0 2 (pc 0 cc0_scratch0 (krows 512 128) (kbF m 0)) _ _ _ (rsSends 0) rfl rfl (by decide) rfl rfl rfl rfl) $$ [HSt]
    · isplitr; · iexact HC
      iexact HSt
    iintro ⟨HSt, HP2⟩
    iapply (recv m K 0 3 (pc 0 cc0_scratch1 (krows 512 128) (vbF m 0)) _ _ _ (rsSends 0) rfl rfl (by decide) rfl rfl rfl rfl) $$ [HSt]
    · isplitr; · iexact HC
      iexact HSt
    iintro ⟨HSt, HP3⟩
    ihave HK := (kb_join 0 (kbF m 0)) $$ [HP0 HP2]
    · isplitl [HP0] <;> iassumption
    ihave HV := (vb_join 0 (vbF m 0)) $$ [HP1 HP3]
    · isplitl [HP1] <;> iassumption
    rw [wp_ret]
    imodintro
    iapply Hk
    isplitl [HSt]; · iexact HSt
    isplitl [HQ]; · iexact HQ
    isplitl [HK]; · iexact HK
    isplitl [HV]; · iexact HV
    isplitl [HW]; · iexact HW
    iexact HB
  · have g0 : (Scalar.cmpi .ne (Scalar.extui (Scalar.cmpi .ne (vw 1) 0#32)) 0#32 = 1#1) = True := eq_true (by decide)
    have g1 : (Scalar.cmpi .ne (Scalar.extui (Scalar.cmpi .ne (vw 1) 1#32)) 0#32 = 1#1) = False := eq_false (by decide)
    have hP : kvW 1 = [0, 1] := by unfold kvW; rfl
    rw [hP, show ([0, 1] : List KK).reverse = [1, 0] from rfl]
    unfold ownLo ownHi
    rw [if_neg (by decide), if_pos rfl]
    simp only [↓reduceDIte, g0, g1, Prog.lift, Prog.bind_op, Prog.bind_ret, Prog.pure_eq_ret, List.cons_append, List.nil_append]
    iintro ⟨#HC, HSt, HQ, HW, ⟨%gw, HB⟩, -, ⟨HP2, HP3⟩, Hk⟩
    iapply (ld_qa 1) $$ HQ; iintro %_ HQ
    iapply (st_q m 1 1 (qP m 1 g) (qF m 1) rfl rfl (fun i h => rfl) (fun i h => if_pos (by have : (i 0).val < 2 := (i 0).isLt; have h' : (i 0).val ≠ 1 := h; omega))) $$ HQ; iintro HQ
    iapply (ld_whole 1 (M := Memref.whole cc0_stg2_0) (f := woF m 1) (woF m 1) (fun _ => rfl) (by decide)) $$ HW; iintro HW
    iapply (ld_wob 1) $$ HB; iintro HB
    iapply (st_wob 1 gw (wobF m 1) rfl) $$ HB; iintro HB
    iapply (recv m K 1 0 (pc 1 cc0_scratch0 (krows 0 512) (kbF m 1)) _ _ _ (rsSends 1) rfl rfl (by decide) rfl rfl rfl rfl) $$ [HSt]
    · isplitr; · iexact HC
      iexact HSt
    iintro ⟨HSt, HP0⟩
    iapply (recv m K 1 1 (pc 1 cc0_scratch1 (krows 0 512) (vbF m 1)) _ _ _ (rsSends 1) rfl rfl (by decide) rfl rfl rfl rfl) $$ [HSt]
    · isplitr; · iexact HC
      iexact HSt
    iintro ⟨HSt, HP1⟩
    ihave HK := (kb_join 1 (kbF m 1)) $$ [HP0 HP2]
    · isplitl [HP0] <;> iassumption
    ihave HV := (vb_join 1 (vbF m 1)) $$ [HP1 HP3]
    · isplitl [HP1] <;> iassumption
    rw [wp_ret]
    imodintro
    iapply Hk
    isplitl [HSt]; · iexact HSt
    isplitl [HQ]; · iexact HQ
    isplitl [HK]; · iexact HK
    isplitl [HV]; · iexact HV
    isplitl [HW]; · iexact HW
    iexact HB
  · have g0 : (Scalar.cmpi .ne (Scalar.extui (Scalar.cmpi .ne (vw c) 0#32)) 0#32 = 1#1) = True := eq_true ((by decide : ∀ c : Dev nD, c ≠ 0 → Scalar.cmpi .ne (Scalar.extui (Scalar.cmpi .ne (vw c) 0#32)) 0#32 = 1#1) c h0)
    have g1 : (Scalar.cmpi .ne (Scalar.extui (Scalar.cmpi .ne (vw c) 1#32)) 0#32 = 1#1) = True := eq_true ((by decide : ∀ c : Dev nD, c ≠ 1 → Scalar.cmpi .ne (Scalar.extui (Scalar.cmpi .ne (vw c) 1#32)) 0#32 = 1#1) c h1)
    have hP : kvW c = [0, 1, 2, 3] := by unfold kvW; rw [if_pos h0, if_pos h1]; rfl
    rw [hP, show ([0, 1, 2, 3] : List KK).reverse = [3, 2, 1, 0] from rfl]
    unfold ownLo ownHi
    rw [if_neg h0, if_neg h1]
    simp only [↓reduceDIte, g0, g1, Prog.lift, Prog.bind_op, Prog.bind_ret, Prog.pure_eq_ret, List.cons_append, List.nil_append]
    iintro ⟨#HC, HSt, HQ, HW, ⟨%gw, HB⟩, -, -, Hk⟩
    iapply (ld_qa c) $$ HQ; iintro %_ HQ
    iapply (st_q m c 1 (qP m c g) (qF m c) rfl rfl (fun i h => rfl) (fun i h => if_pos (by have : (i 0).val < 2 := (i 0).isLt; have h' : (i 0).val ≠ 1 := h; omega))) $$ HQ; iintro HQ
    iapply (ld_whole c (M := Memref.whole cc0_stg2_0) (f := woF m c) (woF m c) (fun _ => rfl) (by decide)) $$ HW; iintro HW
    iapply (ld_wob c) $$ HB; iintro HB
    iapply (st_wob c gw (wobF m c) rfl) $$ HB; iintro HB
    iapply (recv m K c 0 (pc c cc0_scratch0 (krows 0 512) (kbF m c)) _ _ _ (rsSends c) rfl rfl (by decide) ((by decide : ∀ c : Dev nD, c ≠ 0 → used c 0 = true) c h0) rfl rfl rfl) $$ [HSt]
    · isplitr; · iexact HC
      iexact HSt
    iintro ⟨HSt, HP0⟩
    iapply (recv m K c 1 (pc c cc0_scratch1 (krows 0 512) (vbF m c)) _ _ _ (rsSends c) rfl rfl (by decide) ((by decide : ∀ c : Dev nD, c ≠ 0 → used c 1 = true) c h0) rfl rfl rfl) $$ [HSt]
    · isplitr; · iexact HC
      iexact HSt
    iintro ⟨HSt, HP1⟩
    iapply (recv m K c 2 (pc c cc0_scratch0 (krows 512 128) (kbF m c)) _ _ _ (rsSends c) rfl rfl (by decide) ((by decide : ∀ c : Dev nD, c ≠ 1 → used c 2 = true) c h1) rfl rfl rfl) $$ [HSt]
    · isplitr; · iexact HC
      iexact HSt
    iintro ⟨HSt, HP2⟩
    iapply (recv m K c 3 (pc c cc0_scratch1 (krows 512 128) (vbF m c)) _ _ _ (rsSends c) rfl rfl (by decide) ((by decide : ∀ c : Dev nD, c ≠ 1 → used c 3 = true) c h1) rfl rfl rfl) $$ [HSt]
    · isplitr; · iexact HC
      iexact HSt
    iintro ⟨HSt, HP3⟩
    ihave HK := (kb_join c (kbF m c)) $$ [HP0 HP2]
    · isplitl [HP0] <;> iassumption
    ihave HV := (vb_join c (vbF m c)) $$ [HP1 HP3]
    · isplitl [HP1] <;> iassumption
    rw [wp_ret]
    imodintro
    iapply Hk
    isplitl [HSt]; · iexact HSt
    isplitl [HQ]; · iexact HQ
    isplitl [HK]; · iexact HK
    isplitl [HV]; · iexact HV
    isplitl [HW]; · iexact HW
    iexact HB

end Cert.Hand
-- ==== Proof.Parts.lean ====
/-
# The buffers of keys and values, in pieces and whole

Before its sends a device holds its two buffers of outgoing chunks, the staging buffer and the arrays of keys and values
whole; devices 0 and 1 cut them into the pieces the sends take, and put them together once the sends are read out.
-/
module

public import proofs.«01_k».proof.Proof.Kv1
public import proofs.«01_k».proof.Proof.Proj

@[expose] public section

noncomputable section

namespace Cert.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ UU ℕ

variable (m : (ℓ : Loc nD τ sig) → Buf (Elt F) ℓ) (K : Dev nD × KK → ℕ)

omit [FloatOps F] [Named F] in
theorem sepL_perm {ι : Type} (Φ : ι → sProp 𝕄) {l l' : List ι} (h : l.Perm l') : sepL Φ l ⊢ sepL Φ l' := by
  induction h with
  | nil => exact Entails.rfl
  | cons a _ ih => rw [sepL_cons, sepL_cons]; exact sep_mono_right ih
  | swap a b l =>
    rw [sepL_cons, sepL_cons, sepL_cons, sepL_cons]
    iintro ⟨H1, H2, H3⟩
    isplitl [H2]; · iexact H2
    isplitl [H1]; · iexact H1
    iexact H3
  | trans _ _ h1 h2 => exact h1.trans h2

omit [FloatOps F] [Named F] in
/-- A whole buffer at some contents, as disjoint pieces and the rest of it. -/
theorem anyOn_parts (c : Dev nD) (b : Ref sig .tc) (l : List (Finset (Idx ((c : Thread nD τ).loc b)))) (hd : l.Pairwise Disjoint) :
    anyOn (F := F) c b Finset.univ ⊢ iprop(sepL (anyOn (F := F) c b) l ∗ anyOn (F := F) c b (Finset.univ \ l.foldr (· ∪ ·) ∅)) := by
  iintro ⟨%f, H⟩
  ihave H := (pointsTo_split_subset (Finset.subset_univ (l.foldr (· ∪ ·) ∅))).1 $$ H
  icases H with ⟨H1, H2⟩
  isplitl [H1]
  · iapply (anyOn_cut (F := F) c b l hd)
    iexists f; iexact H1
  · iexists f; iexact H2

omit [FloatOps F] [Named F] in
theorem anyOn_whole (c : Dev nD) (b : Ref sig .tc) (l : List (Finset (Idx ((c : Thread nD τ).loc b)))) (hd : l.Pairwise Disjoint) :
    iprop(sepL (anyOn (F := F) c b) l ∗ anyOn (F := F) c b (Finset.univ \ l.foldr (· ∪ ·) ∅)) ⊢ anyOn (F := F) c b Finset.univ := by
  iintro ⟨H1, ⟨%g, H2⟩⟩
  ihave H1 := (anyOn_join (F := F) c b l hd g) $$ H1
  icases H1 with ⟨%f, H1⟩
  ihave H := (pointsTo_join (Finset.disjoint_sdiff)) $$ [H1 H2]
  · isplitl [H1]; · iexact H1
    iexact H2
  iexists _
  rw [Finset.union_sdiff_of_subset (Finset.subset_univ _)]
  iexact H

omit [FloatOps F] [Named F] in
theorem sepL_map {ι κ : Type} (Φ : κ → sProp 𝕄) (g : ι → κ) (l : List ι) : sepL Φ (l.map g) = sepL (fun a => Φ (g a)) l := by
  induction l with
  | nil => rfl
  | cons a l ih => rw [List.map_cons, sepL_cons, sepL_cons, ih]

theorem chunk_disj (n : ℕ) {a b : ℕ} (h : a ≠ b) : Disjoint (chunk a n) (chunk b n) := by
  rw [Finset.disjoint_left]; intro i h1 h2; rw [mem_chunk] at h1 h2; exact h (h1.1.symm.trans h2.1)
theorem chunks_disj (n : ℕ) (l : List ℕ) (h : l.Pairwise (· ≠ ·)) : (l.map fun d => chunk d n).Pairwise Disjoint :=
  List.pairwise_map.mpr (h.imp fun h => chunk_disj n h)

theorem stq_disj (n : ℕ) {a b : ℕ × ℕ} (h : a ≠ b) : Disjoint (stq a.1 a.2 n) (stq b.1 b.2 n) := by
  rw [Finset.disjoint_left]; intro i h1 h2; rw [mem_stq] at h1 h2
  exact h (Prod.ext (h1.1.symm.trans h2.1) (h1.2.1.symm.trans h2.2.1))

/-- The four places of the staging buffer. -/
abbrev places (n : ℕ) : List (Finset S2x2x2x512x512.Idx) := ([(0, 0), (1, 0), (0, 1), (1, 1)] : List (ℕ × ℕ)).map fun a => stq a.1 a.2 n
theorem places_disj (n : ℕ) : (places n).Pairwise Disjoint := List.pairwise_map.mpr ((by decide : List.Pairwise (· ≠ ·) ([(0, 0), (1, 0), (0, 1), (1, 1)] : List (ℕ × ℕ))).imp fun h => stq_disj n h)

/-- The arrays, the staging buffer and its cells at rest. -/
def stgAll (c : Dev nD) : sProp (MT nD τ sig Unit (Elt F) ℕ UU ℕ) :=
  iprop(pc c main_arg2 Finset.univ (kA m c) ∗ pc c main_arg3 Finset.univ (vA m c) ∗ anyOn (F := F) c cc0_scratch7 Finset.univ
    ∗ zItem (F := F) c 18 ∗ zItem (F := F) c 19 ∗ zItem (F := F) c 20 ∗ zItem (F := F) c 21)

theorem stg_open (c : Dev nD) (n : ℕ) : stgAll m c ⊢ iprop(Rest c (kA m c) (vA m c) fullShare.left 18 19 0 n ∗ Rest c (kA m c) (vA m c) fullShare.right 20 21 1 n
    ∗ anyOn (F := F) c cc0_scratch7 (Finset.univ \ (places n).foldr (· ∪ ·) ∅)) := by
  unfold stgAll
  iintro ⟨HK, HV, HS, Z0, Z1, Z2, Z3⟩
  ihave HK := (pointsTo_share (PosShare.mem_left_op_right fullShare)).1 $$ HK
  ihave HV := (pointsTo_share (PosShare.mem_left_op_right fullShare)).1 $$ HV
  ihave HS := (anyOn_parts (F := F) c cc0_scratch7 (places n) (places_disj n)) $$ HS
  simp only [places, sepL_map, sepL_cons, sepL_nil]
  icases HK with ⟨K0, K1⟩
  icases HV with ⟨V0, V1⟩
  icases HS with ⟨⟨S0, S1, S2, S3, -⟩, HR⟩
  isplitl [K0 V0 S0 S1 Z0 Z1]
  · isplitl [K0 S0 Z0]
    · isplitl [K0]; · iexact K0
      isplitl [S0] <;> iassumption
    · isplitl [V0]; · iexact V0
      isplitl [S1] <;> iassumption
  isplitl [K1 V1 S2 S3 Z2 Z3]
  · isplitl [K1 S2 Z2]
    · isplitl [K1]; · iexact K1
      isplitl [S2] <;> iassumption
    · isplitl [V1]; · iexact V1
      isplitl [S3] <;> iassumption
  iexact HR

theorem stg_close (c : Dev nD) (n : ℕ) : iprop(Rest c (kA m c) (vA m c) fullShare.left 18 19 0 n ∗ Rest c (kA m c) (vA m c) fullShare.right 20 21 1 n
    ∗ anyOn (F := F) c cc0_scratch7 (Finset.univ \ (places n).foldr (· ∪ ·) ∅)) ⊢ stgAll m c := by
  unfold stgAll
  iintro ⟨⟨⟨K0, S0, Z0⟩, V0, S1, Z1⟩, ⟨⟨K1, S2, Z2⟩, V1, S3, Z3⟩, HR⟩
  isplitl [K0 K1]
  · iapply (pointsTo_share (PosShare.mem_left_op_right fullShare)).2
    isplitl [K0] <;> iassumption
  isplitl [V0 V1]
  · iapply (pointsTo_share (PosShare.mem_left_op_right fullShare)).2
    isplitl [V0] <;> iassumption
  isplitl [S0 S1 S2 S3 HR]
  · iapply (anyOn_whole (F := F) c cc0_scratch7 (places n) (places_disj n))
    isplitr [HR]
    · simp only [places, sepL_map, sepL_cons, sepL_nil]
      isplitl [S0]; · iexact S0
      isplitl [S1]; · iexact S1
      isplitl [S2]; · iexact S2
      isplitl [S3]; · iexact S3
      iempintro
    · iexact HR
  isplitl [Z0]; · iexact Z0
  isplitl [Z1]; · iexact Z1
  isplitl [Z2] <;> iassumption

/-- Both buffers of outgoing chunks at some contents. -/
def outAll (c : Dev nD) : sProp (MT nD τ sig Unit (Elt F) ℕ UU ℕ) := iprop(anyOn (F := F) c cc0_scratch5 Finset.univ ∗ anyOn (F := F) c cc0_scratch6 Finset.univ)

/-- The rest of a buffer of outgoing chunks. -/
abbrev rstC (l : List ℕ) (n : ℕ) : Finset S8x2x512x512.Idx := Finset.univ \ (l.map fun d => chunk d n).foldr (· ∪ ·) ∅

theorem out_open (c : Dev nD) (n : ℕ) (l : List ℕ) (h : l.Pairwise (· ≠ ·)) : outAll (F := F) c ⊢ iprop(sepL (fun d : ℕ => anyOn (F := F) c cc0_scratch5 (chunk d n)) l
    ∗ sepL (fun d : ℕ => anyOn (F := F) c cc0_scratch6 (chunk d n)) l ∗ anyOn (F := F) c cc0_scratch5 (rstC l n) ∗ anyOn (F := F) c cc0_scratch6 (rstC l n)) := by
  unfold outAll
  iintro ⟨HK, HV⟩
  ihave HK := (anyOn_parts (F := F) c cc0_scratch5 _ (chunks_disj n l h)) $$ HK
  ihave HV := (anyOn_parts (F := F) c cc0_scratch6 _ (chunks_disj n l h)) $$ HV
  simp only [sepL_map]
  icases HK with ⟨HK, HK'⟩
  icases HV with ⟨HV, HV'⟩
  isplitl [HK]; · iexact HK
  isplitl [HV]; · iexact HV
  isplitl [HK'] <;> iassumption

theorem out_close (c : Dev nD) (n : ℕ) (l : List ℕ) (h : l.Pairwise (· ≠ ·)) : iprop(sepL (fun d : ℕ => anyOn (F := F) c cc0_scratch5 (chunk d n)) l
    ∗ sepL (fun d : ℕ => anyOn (F := F) c cc0_scratch6 (chunk d n)) l ∗ anyOn (F := F) c cc0_scratch5 (rstC l n) ∗ anyOn (F := F) c cc0_scratch6 (rstC l n)) ⊢ outAll (F := F) c := by
  unfold outAll
  iintro ⟨HK, HV, HK', HV'⟩
  isplitl [HK HK']
  · iapply (anyOn_whole (F := F) c cc0_scratch5 _ (chunks_disj n l h))
    simp only [sepL_map]
    isplitl [HK] <;> iassumption
  · iapply (anyOn_whole (F := F) c cc0_scratch6 _ (chunks_disj n l h))
    simp only [sepL_map]
    isplitl [HV] <;> iassumption

/-- What the sends of keys and values leave: the staging at rest and, once they are read out, the buffers they were
    sent from. -/
def kvBack (c : Dev nD) : sProp (MT nD τ sig Unit (Elt F) ℕ UU ℕ) :=
  iprop(stgAll m c ∗ (sepL (fun k => srcPay (F := F) m (c, k)) (postW c) -∗ (outAll (F := F) c ∗ sepL (fun k => landAny (F := F) (c, k)) (relay c))))

/-- The rows of its own that devices 0 and 1 store beside the sends. -/
def anyLo (c : Dev nD) : sProp (MT nD τ sig Unit (Elt F) ℕ UU ℕ) :=
  if c = 0 then iprop(anyOn (F := F) c cc0_scratch0 (krows 0 512) ∗ anyOn (F := F) c cc0_scratch1 (krows 0 512)) else iprop(emp)
def anyHi (c : Dev nD) : sProp (MT nD τ sig Unit (Elt F) ℕ UU ℕ) :=
  if c = 1 then iprop(anyOn (F := F) c cc0_scratch0 (krows 512 128) ∗ anyOn (F := F) c cc0_scratch1 (krows 512 128)) else iprop(emp)

/-- The chunks of device 0's and device 1's sends, read out, and the one not sent. -/
theorem back_of (c : Dev nD) (n a : ℕ) (l : List ℕ) (hl : (l ++ [a]).Pairwise (· ≠ ·)) (f g : FVec F S8x2x512x512 .bf16)
    (hW : postW c = [4, 5, 6, 7, 8, 9, 10, 11, 12, 13, 14, 15, 16, 17]) (hr : relay c = [])
    (hK : sepL (fun k => srcPay (F := F) m (c, k)) [4, 6, 8, 10, 12, 14, 16] = sepL (fun d : ℕ => anyOn (F := F) c cc0_scratch5 (chunk d n)) l)
    (hV : sepL (fun k => srcPay (F := F) m (c, k)) [5, 7, 9, 11, 13, 15, 17] = sepL (fun d : ℕ => anyOn (F := F) c cc0_scratch6 (chunk d n)) l) :
    iprop(stgAll m c ∗ pc c cc0_scratch5 (chunk a n) f ∗ pc c cc0_scratch6 (chunk a n) g ∗ anyOn (F := F) c cc0_scratch5 (rstC (l ++ [a]) n) ∗ anyOn (F := F) c cc0_scratch6 (rstC (l ++ [a]) n)) ⊢ kvBack m c := by
  unfold kvBack
  iintro ⟨HS, HK, HV, HK', HV'⟩
  isplitl [HS]; · iexact HS
  iintro HP
  rw [hW, hr, sepL_nil]
  ihave HP := (sepL_perm _ (show ([4, 5, 6, 7, 8, 9, 10, 11, 12, 13, 14, 15, 16, 17] : List KK).Perm ([4, 6, 8, 10, 12, 14, 16] ++ [5, 7, 9, 11, 13, 15, 17]) from by decide)) $$ HP
  ihave HP := (sepL_append _ _ _).1 $$ HP
  icases HP with ⟨P1, P2⟩
  ihave P1 := (Entails.of_eq hK) $$ P1
  ihave P2 := (Entails.of_eq hV) $$ P2
  isplitl
  · iapply (out_close (F := F) c n (l ++ [a]) hl)
    isplitl [P1 HK]
    · iapply (sepL_append _ _ _).2
      rw [sepL_cons, sepL_nil]
      isplitl [P1]; · iexact P1
      isplitl [HK]; · iexists _; iexact HK
      iempintro
    isplitl [P2 HV]
    · iapply (sepL_append _ _ _).2
      rw [sepL_cons, sepL_nil]
      isplitl [P2]; · iexact P2
      isplitl [HV]; · iexists _; iexact HV
      iempintro
    isplitl [HK'] <;> iassumption
  · iempintro

end Cert.Hand
-- ==== Proof.Barrier.lean ====
/-
# The barrier

Every device signals every device's barrier, handing over with the signal the places it will receive into to the device
that sends there; after the wait for all eight signals a device holds the places its own sends go to.
-/
module

public import proofs.«01_k».proof.Proof.Parts

@[expose] public section

noncomputable section

namespace Cert.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ UU ℕ

variable (m : (ℓ : Loc nD τ sig) → Buf (Elt F) ℓ) (K : Dev nD × KK → ℕ)

/-! ## Lists -/

/-- All devices. -/
abbrev devs : List (Dev nD) := [0, 1, 2, 3, 4, 5, 6, 7]

omit [FloatOps F] [Named F] in
theorem bigSep_list {ι : Type} [DecidableEq ι] (Φ : ι → sProp 𝕄) (l : List ι) (hl : l.Nodup) : bigSep l.toFinset Φ ⊣⊢ sepL Φ l := by
  induction l with
  | nil => rw [List.toFinset_nil, bigSep_empty, sepL_nil]; exact ⟨Entails.rfl, Entails.rfl⟩
  | cons a l ih =>
    rw [List.nodup_cons] at hl
    rw [List.toFinset_cons, bigSep_insert (fun h => hl.1 (List.mem_toFinset.mp h)), sepL_cons]
    exact ⟨sep_mono_right (ih hl.2).1, sep_mono_right (ih hl.2).2⟩

omit [FloatOps F] [Named F] in
theorem bigSep_devs (Φ : Dev nD → sProp 𝕄) : bigSep Finset.univ Φ ⊣⊢ sepL Φ devs := by
  rw [show (Finset.univ : Finset (Dev nD)) = devs.toFinset from by decide]
  exact bigSep_list (F := F) Φ devs (by decide)

omit [FloatOps F] [Named F] in
theorem sepL_flatMap {ι κ : Type} (Φ : κ → sProp 𝕄) (g : ι → List κ) (l : List ι) : sepL (fun a => sepL Φ (g a)) l ⊣⊢ sepL Φ (l.flatMap g) := by
  induction l with
  | nil => rw [List.flatMap_nil, sepL_nil, sepL_nil]
  | cons a l ih =>
    rw [List.flatMap_cons, sepL_cons]
    exact ⟨(sep_mono_right ih.1).trans (sepL_append Φ _ _).2, (sepL_append Φ _ _).1.trans (sep_mono_right ih.2)⟩

omit [FloatOps F] [Named F] in
theorem sepL_congr {ι : Type} {Φ Ψ : ι → sProp 𝕄} (l : List ι) (h : ∀ a ∈ l, Φ a = Ψ a) : sepL Φ l = sepL Ψ l := by
  induction l with
  | nil => rfl
  | cons a l ih => rw [sepL_cons, sepL_cons, h a List.mem_cons_self, ih fun b hb => h b (List.mem_cons_of_mem _ hb)]

omit [FloatOps F] [Named F] in
theorem sepL_sep {ι : Type} (Φ Ψ : ι → sProp 𝕄) (l : List ι) : iprop(sepL Φ l ∗ sepL Ψ l) ⊣⊢ sepL (fun a => iprop(Φ a ∗ Ψ a)) l := by
  induction l with
  | nil => simp only [sepL_nil]; exact ⟨BI.emp_sep.1, BI.emp_sep.2⟩
  | cons a l ih =>
    simp only [sepL_cons]
    constructor
    · iintro ⟨⟨H1, H2⟩, H3, H4⟩
      isplitl [H1 H3]; · isplitl [H1] <;> iassumption
      iapply ih.1
      isplitl [H2] <;> iassumption
    · iintro ⟨⟨H1, H2⟩, H⟩
      ihave H := ih.2 $$ H
      icases H with ⟨H3, H4⟩
      isplitl [H1 H3]; · isplitl [H1] <;> iassumption
      isplitl [H2] <;> iassumption

/-! ## Who receives where -/

/-- The cells of device `c` that receive. -/
def myLand (c : Dev nD) : List KK :=
  kvW c ++ (relay c ++ [34, 35, 36, 37, 38, 39, 46, 47, 48, 49, 50, 51])

set_option maxRecDepth 20000 in
theorem land_perm (c : Dev nD) : (myLand c).Perm (devs.flatMap fun x => ((sends x).filter fun p => p.1 = c).map fun p => p.2.1) := by
  revert c; decide

set_option maxRecDepth 20000 in
theorem sends_perm (c : Dev nD) : (devs.flatMap fun d => (sends c).filter fun p => p.1 = d).Perm (sends c) := by
  revert c; decide

omit [FloatOps F] [Named F] in
/-- The places of device `c`, handed to the devices that send there. -/
theorem land_split (c : Dev nD) : sepL (fun k => landAny (F := F) (c, k)) (myLand c) ⊢ sepL (fun x => barPay (F := F) x c) devs := by
  refine (sepL_perm _ (land_perm c)).trans ((sepL_flatMap _ _ _).2.trans (Entails.of_eq (sepL_congr _ fun x _ => ?_)))
  unfold barPay
  rw [sepL_map]
  exact sepL_congr _ fun p hp => by
    have : p.1 = c := of_decide_eq_true (List.mem_filter.mp hp).2
    rw [this]

omit [FloatOps F] [Named F] in
/-- The places device `c` sends to, out of what every device's signal handed over. -/
theorem land_merge (c : Dev nD) : (bigSep Finset.univ fun d => barPay (F := F) c d) ⊢ sepL (fun p : Snd => landAny (F := F) (p.1, p.2.1)) (sends c) :=
  (bigSep_devs (F := F) _).1.trans ((sepL_flatMap _ _ _).1.trans (sepL_perm _ (sends_perm c)))

/-! ## The signals and the wait -/

/-- One signal: the right to pay, and the places handed over. -/
def sigItem (c x : Dev nD) : sProp (MT nD τ sig Unit (Elt F) ℕ UU ℕ) := iprop(Rounds.dutyTok ER (kcell x 52) 0 c ∗ barPay (F := F) x c)
/-- The rights to pay the two cells of a send. -/
def tokItem (c : Dev nD) (p : Snd) : sProp (MT nD τ sig Unit (Elt F) ℕ UU ℕ) := iprop(Rounds.dutyTok ER (kcell p.1 p.2.1) 0 0 ∗ Rounds.dutyTok ER (kcell c p.2.2) 0 0)
/-- The state before the barrier is passed: the signals to the devices `l` are to be made. -/
def PreB (c : Dev nD) (l : List (Dev nD)) (Z W : List KK) : sProp (MT nD τ sig Unit (Elt F) ℕ UU ℕ) :=
  iprop(sepL (zItem (F := F) c) Z ∗ sepL (wItem (F := F) c) (52 :: W) ∗ sepL (tokItem (F := F) c) (sends c) ∗ sepL (sigItem (F := F) c) l
    ∗ ∃ Ws, owes (c : Thread nD τ) (oweL ((l.map fun x => ((x, 52, 52) : Snd)) ++ sends c)) Ws)

omit [FloatOps F] [Named F] in
theorem tItems_of (c : Dev nD) (l : List Snd) : iprop(sepL (fun p : Snd => landAny (F := F) (p.1, p.2.1)) l ∗ sepL (tokItem (F := F) c) l) ⊢ sepL (tItem (F := F) c) l :=
  (sepL_sep (F := F) (fun p : Snd => landAny (F := F) (p.1, p.2.1)) (tokItem (F := F) c) l).1

theorem pay_sig (c x : Dev nD) : barPay (F := F) x c ⊢ (Rd (F := F) m).payload ((x : Thread nD τ), SemLoc.reg barS) 0 c :=
  Entails.of_eq ((payload_of m x 52 c).trans (if_pos (show (52 : KK).val = 52 from rfl))).symm

section Steps
variable {α : Type} {Q' : α → sProp (MT nD τ sig Unit (Elt F) ℕ UU ℕ)} {k' : PUnit → Prog (TpuEff nD τ sig (Elt F) Λ₀ .tc) α}

theorem wp_sig (c x x' : Dev nD) (l : List (Dev nD)) (Z W : List KK) {n : ℕ} (hx : x' = x) (hn : 1 = n) :
    iprop(Cx m K ∗ PreB (F := F) c (x :: l) Z W)
      ⊢ iprop((PreB (F := F) c l Z W -∗ wp frame (wpE (defs₀ (F := F)) 𝒱₀ (c : Thread nD τ) none) Set.univ (k' ⟨⟩) Q')
          -∗ wp frame (wpE (defs₀ (F := F)) 𝒱₀ (c : Thread nD τ) none) Set.univ (.op (.semSignal (x' : Thread nD τ) barS n) k') Q') := by
  subst hx hn
  unfold PreB
  rw [sepL_cons (sigItem (F := F) c)]
  unfold sigItem
  iintro ⟨#HC, HZ, HW, HT, ⟨⟨Htk, Hp⟩, Hl⟩, ⟨%Ws, HO⟩⟩ Hk
  ihave #Hinv := (Cx_inv m K x' 52) $$ HC
  ihave #Hr := (Cx_reached m K x' 52) $$ HC
  iapply (Rounds.wp_signal 𝒱₀ ER (Rd m) (c : Thread nD τ) none (dst := (x' : Thread nD τ)) (κ := K (x', 52)) (r := 0) (d := c)
      (by rw [show ((x' : Thread nD τ), SemLoc.reg barS) = kcell x' 52 from rfl, duties_bar]; exact Finset.mem_univ _)
      ((amount_of m x' 52 c).trans (amt_bar x')) () (oweL ((l.map fun x => ((x, 52, 52) : Snd)) ++ sends c)) rfl) $$ [HO Htk Hp]
  · isplitr; · iexact Hinv
    isplitl [HO]; · iexact HO
    isplitl [Htk]; · iexact Htk
    isplitl [Hp]
    · iapply (pay_sig m c x')
      iexact Hp
    iexact Hr
  iintro HO
  iapply Hk
  isplitl [HZ]; · iexact HZ
  isplitl [HW]; · iexact HW
  isplitl [HT]; · iexact HT
  isplitl [Hl]; · iexact Hl
  iexists _; iexact HO

theorem wp_bar (c : Dev nD) (Z W : List KK) {n : ℕ} (hn : 8 = n) :
    iprop(Cx m K ∗ PreB (F := F) c [] Z W)
      ⊢ iprop((St (F := F) c (52 :: Z) W [] (sends c) -∗ wp frame (wpE (defs₀ (F := F)) 𝒱₀ (c : Thread nD τ) none) Set.univ (k' ⟨⟩) Q')
          -∗ wp frame (wpE (defs₀ (F := F)) 𝒱₀ (c : Thread nD τ) none) Set.univ (.op (.semWait barS n) k') Q') := by
  subst hn
  unfold PreB St
  rw [sepL_cons, sepL_nil, sepL_nil, sepL_cons, List.map_nil, List.nil_append]
  unfold wItem
  rw [if_pos (by decide), if_pos (by decide)]
  iintro ⟨#HC, HZ, ⟨⟨Hat, Hcr⟩, HW⟩, HT, -, ⟨%Ws, HO⟩⟩ Hk
  ihave #Hinv := (Cx_inv m K c 52) $$ HC
  ihave #Hlev := (Cx_lev m K) $$ HC
  iapply (Rounds.wp_wait_rest_token 𝒱₀ ER (Rd m) (c : Thread nD τ) none (κ := K (c, 52)) (sm := csem 52)
      (fun K' => wpE_semWait_eq 𝒱₀ (c : Thread nD τ) none Set.univ K') (Set.mem_univ _) () (O := oweL (sends c)) (W := Ws) (R := 0) (m := 0) (T := ∅)
      (by rw [Nat.zero_add, expect_bar])) $$ [Hcr HO Hat]
  · isplitr; · iexact Hinv
    isplitl [Hcr]; · iexact Hcr
    isplitl [HO]; · iexact HO
    isplitr; · iapply (mayWait_at c (csem 52) (sends c) 1 (le_of_eq (lv_kcell c 52)) (by revert c; decide)); iexact Hlev
    iexact Hat
  iintro ⟨HO, Hat, -, Hpay⟩
  ihave Hp := (Entails.of_eq (rest_bar m c)) $$ Hpay
  ihave Hp := (land_merge (F := F) c) $$ Hp
  imod (Rounds.cell_close ER (Rd m) (Set.mem_univ (K (c, 52))) (fun h => h) (R := 0 + 1) (duties_later m (kcell c 52))) $$ [Hat] with Hz
  · isplitr; · iexact Hinv
    iexact Hat
  iapply Hk
  isplitl [HZ Hz]
  · isplitl [Hz]; · unfold zItem; iexact Hz
    iexact HZ
  isplitl [HW]; · iexact HW
  isplitr; · iempintro
  isplitl [Hp HT]
  · iapply (tItems_of (F := F) c (sends c))
    isplitl [Hp] <;> iassumption
  iexists _; iexact HO

end Steps

theorem part47 (c : Dev nD) (Z W : List KK) (Q' : _ → sProp (MT nD τ sig Unit (Elt F) ℕ UU ℕ)) :
    iprop(Cx m K ∗ PreB (F := F) c devs Z W
      ∗ (PreB (F := F) c [7] Z W -∗ Q' ⟨c, vw c, SemArray.scalar (sig.barrier 0 rfl), Scalar.muli 7#32 1#32⟩))
      ⊢ Wp c (onBufs (k0_part47 (F := F))) Q' := by
  rw [k0_part47_eq_skeleton]
  unfold Wp onBufs k0_part47_skel
  simp only [semSignalWord, Prog.lift, Prog.bind_op, Prog.bind_ret, Prog.pure_eq_ret, wp_deviceId]
  iintro ⟨#HC, HB, Hk⟩
  iapply (wp_sig m K c 0 _ [1, 2, 3, 4, 5, 6, 7] Z W rfl (by decide)) $$ [HB]
  · isplitr; · iexact HC
    iexact HB
  iintro HB
  iapply (wp_sig m K c 1 _ [2, 3, 4, 5, 6, 7] Z W rfl (by decide)) $$ [HB]
  · isplitr; · iexact HC
    iexact HB
  iintro HB
  iapply (wp_sig m K c 2 _ [3, 4, 5, 6, 7] Z W rfl (by decide)) $$ [HB]
  · isplitr; · iexact HC
    iexact HB
  iintro HB
  iapply (wp_sig m K c 3 _ [4, 5, 6, 7] Z W rfl (by decide)) $$ [HB]
  · isplitr; · iexact HC
    iexact HB
  iintro HB
  iapply (wp_sig m K c 4 _ [5, 6, 7] Z W rfl (by decide)) $$ [HB]
  · isplitr; · iexact HC
    iexact HB
  iintro HB
  iapply (wp_sig m K c 5 _ [6, 7] Z W rfl (by decide)) $$ [HB]
  · isplitr; · iexact HC
    iexact HB
  iintro HB
  iapply (wp_sig m K c 6 _ [7] Z W rfl (by decide)) $$ [HB]
  · isplitr; · iexact HC
    iexact HB
  iintro HB
  rw [wp_ret]
  imodintro
  iapply Hk
  iexact HB

end Cert.Hand
-- ==== Proof.Send.lean ====
/-
# The part of the kernel that holds the sends of keys and values

The last signal and the wait for the barrier; then, by the device's place, the sends of device 0 and of device 1, the
passing on by devices 4 and 7, or nothing; then the projection of the first batch.
-/
module

public import proofs.«01_k».proof.Proof.Barrier

@[expose] public section

noncomputable section

namespace Cert.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ UU ℕ

variable (m : (ℓ : Loc nD τ sig) → Buf (Elt F) ℓ) (K : Dev nD × KK → ℕ)

section Steps
variable {α : Type} {Q' : α → sProp (MT nD τ sig Unit (Elt F) ℕ UU ℕ)} {k' : PUnit → Prog (TpuEff nD τ sig (Elt F) Λ₀ .tc) α}

/-- The last signal and the wait. -/
theorem pass (c x' : Dev nD) (Z W : List KK) {n n' : ℕ} (hx : x' = 7) (hn : 1 = n) (hn' : 8 = n') :
    iprop(Cx m K ∗ PreB (F := F) c [7] Z W)
      ⊢ iprop((St (F := F) c (52 :: Z) W [] (sends c) -∗ wp frame (wpE (defs₀ (F := F)) 𝒱₀ (c : Thread nD τ) none) Set.univ (k' ⟨⟩) Q')
          -∗ wp frame (wpE (defs₀ (F := F)) 𝒱₀ (c : Thread nD τ) none) Set.univ (.op (.semSignal (x' : Thread nD τ) barS n) fun _ => .op (.semWait barS n') k') Q') := by
  iintro ⟨#HC, HB⟩ Hk
  iapply (wp_sig m K c 7 x' [] Z W hx hn) $$ [HB]
  · isplitr; · iexact HC
    iexact HB
  iintro HB
  iapply (wp_bar m K c Z W hn') $$ [HB]
  · isplitr; · iexact HC
    iexact HB
  iexact Hk

end Steps

theorem back_none (c : Dev nD) (hW : postW c = []) (hr : relay c = []) : iprop(stgAll m c ∗ outAll (F := F) c) ⊢ kvBack m c := by
  unfold kvBack
  iintro ⟨HS, HO⟩
  isplitl [HS]; · iexact HS
  iintro -
  rw [hr, sepL_nil]
  isplitl [HO]; · iexact HO
  iempintro

theorem back_relay (c : Dev nD) (h : sepL (fun k => srcPay (F := F) m (c, k)) (postW c) = sepL (fun k => landAny (F := F) (c, k)) (relay c)) : iprop(stgAll m c ∗ outAll (F := F) c) ⊢ kvBack m c := by
  unfold kvBack
  iintro ⟨HS, HO⟩
  isplitl [HS]; · iexact HS
  iintro HP
  isplitl [HO]; · iexact HO
  iapply (Entails.of_eq h)
  iexact HP

set_option maxHeartbeats 1000000 in
theorem part48 (c : Dev nD) (Z W : List KK) (v3 : Sems sig S_) (hv3 : v3 = SemArray.scalar (sig.barrier 0 rfl)) (Q' : _ → sProp (MT nD τ sig Unit (Elt F) ℕ UU ℕ)) :
    iprop(Cx m K ∗ PreB (F := F) c [7] Z (relay c ++ W) ∗ stgAll m c ∗ outAll (F := F) c ∗ anyLo (F := F) c ∗ anyHi (F := F) c
      ∗ pc c cc0_stg0_0 Finset.univ (xF m c) ∗ pc c cc0_stg1_0 Finset.univ (wqF m c) ∗ anyOn (F := F) c cc0_scratch2 Finset.univ
      ∗ ((St c ((relay c).reverse ++ (52 :: Z)) W (postW c) (rsSends c) ∗ kvBack m c ∗ ownLo m c ∗ ownHi m c
          ∗ pc c cc0_stg0_0 Finset.univ (xF m c) ∗ pc c cc0_stg1_0 Finset.univ (wqF m c) ∗ (∃ g, pc c cc0_scratch2 Finset.univ (qP m c g)))
            -∗ Q' (k0_pay48 (fun j : S1x512x768.Idx => xF m c (ix3 1 (j 1) (j 2))) (wqF m c))))
      ⊢ Wp c (onBufs (k0_part48 (F := F)) c (vw c) v3 (Scalar.muli 7#32 1#32)) Q' := by
  subst hv3
  rw [k0_part48_eq_skeleton]
  unfold Wp onBufs k0_part48_skel
  rcases dev_cases c with rfl | rfl | rfl | rfl | ⟨h0, h1, h4, h7⟩
  · have g1 : (k0_cond1 0 = 1#1) = True := eq_true (by decide)
    have g2 : (k0_cond2 0 = 1#1) = False := eq_false (by decide)
    have g3 : (k0_cond3 0 = 1#1) = False := eq_false (by decide)
    have g4 : (k0_cond4 0 = 1#1) = False := eq_false (by decide)
    have hR : relay 0 = [] := by unfold relay; rfl
    rw [hR, show ([] : List KK).reverse = [] from rfl]
    unfold anyLo anyHi ownLo ownHi
    rw [if_pos rfl, if_neg (by decide), if_pos rfl, if_neg (by decide)]
    simp only [↓reduceDIte, g1, g2, g3, g4, semSignalWord, semWaitWord, Prog.lift, Prog.bind_op, Prog.bind_ret, Prog.pure_eq_ret, List.cons_append, List.nil_append]
    iintro ⟨#HC, HB, HS, HO, ⟨HL, HM⟩, -, HX, HW, ⟨%g, HQ⟩, Hk⟩
    iapply (pass m K 0 _ Z _ (by decide) (by decide) (by decide)) $$ [HB]
    · isplitr; · iexact HC
      iexact HB
    iintro HSt
    ihave HS := (stg_open m 0 512) $$ HS
    icases HS with ⟨R0, R1, RR⟩
    ihave HO := (out_open (F := F) 0 512 [6, 5, 1, 3, 4, 2, 7, 0] (by decide)) $$ HO
    icases HO with ⟨HK, HV, HK', HV'⟩
    rw [wp_bind]
    iapply (part18 m K (of_eq_true g1) (52 :: Z) W _)
    isplitr; · iexact HC
    isplitl [HSt]; · iexact HSt
    isplitl [R0]; · iexact R0
    isplitl [R1]; · iexact R1
    isplitl [HK]; · iexact HK
    isplitl [HV]; · iexact HV
    isplitl [HL]; · iexact HL
    iintro ⟨HSt, R0, R1, HK, HV, HL⟩
    icases HL with ⟨%f0, HL⟩
    iapply (st_kb 0 0 512 (kbF m 0) rfl (fun x => kc_own (kA m 0) _ 512 0 0 rfl rfl (fun i j h0 h1 h2 h3 => kcF_lo _ _ 0 i j h0 h1 (h2.trans (Nat.zero_add _)) h3) x)) $$ HL; iintro HL
    iapply (ld_vc 0 0 512 rfl) $$ HV; iintro HV
    icases HM with ⟨%f1, HM⟩
    iapply (ld_vb 0 0 512 rfl) $$ HM; iintro HM
    iapply (st_vb 0 0 512 (vbF m 0) rfl (fun x => kc_own (vA m 0) _ 512 0 0 rfl rfl (fun i j h0 h1 h2 h3 => kcF_lo _ _ 0 i j h0 h1 (h2.trans (Nat.zero_add _)) h3) x)) $$ HM; iintro HM
    ihave HS := (stg_close m 0 512) $$ [R0 R1 RR]
    · isplitl [R0]; · iexact R0
      isplitl [R1] <;> iassumption
    ihave HG := (back_of m 0 512 0 [6, 5, 1, 3, 4, 2, 7] (by decide) _ _ rfl rfl rfl rfl) $$ [HS HK HV HK' HV']
    · isplitl [HS]; · iexact HS
      isplitl [HK]; · iexact HK
      isplitl [HV]; · iexact HV
      isplitl [HK']; · iexact HK'
      iexact HV'
    iapply (proj0 m 0 g)
    isplitl [HX]; · iexact HX
    isplitl [HW]; · iexact HW
    isplitl [HQ]; · iexact HQ
    iintro ⟨HX, HW, HQ⟩
    iapply Hk
    isplitl [HSt]; · iexact HSt
    isplitl [HG]; · iexact HG
    isplitl [HL HM]; · isplitl [HL] <;> iassumption
    isplitr; · iempintro
    isplitl [HX]; · iexact HX
    isplitl [HW]; · iexact HW
    iexists g; iexact HQ
  · have g1 : (k0_cond1 1 = 1#1) = False := eq_false (by decide)
    have g2 : (k0_cond2 1 = 1#1) = True := eq_true (by decide)
    have g3 : (k0_cond3 1 = 1#1) = False := eq_false (by decide)
    have g4 : (k0_cond4 1 = 1#1) = False := eq_false (by decide)
    have hR : relay 1 = [] := by unfold relay; rfl
    rw [hR, show ([] : List KK).reverse = [] from rfl]
    unfold anyLo anyHi ownLo ownHi
    rw [if_neg (by decide), if_pos rfl, if_neg (by decide), if_pos rfl]
    simp only [↓reduceDIte, g1, g2, g3, g4, semSignalWord, semWaitWord, Prog.lift, Prog.bind_op, Prog.bind_ret, Prog.pure_eq_ret, List.cons_append, List.nil_append]
    iintro ⟨#HC, HB, HS, HO, -, ⟨HL, HM⟩, HX, HW, ⟨%g, HQ⟩, Hk⟩
    iapply (pass m K 1 _ Z _ (by decide) (by decide) (by decide)) $$ [HB]
    · isplitr; · iexact HC
      iexact HB
    iintro HSt
    ihave HS := (stg_open m 1 128) $$ HS
    icases HS with ⟨R0, R1, RR⟩
    ihave HO := (out_open (F := F) 1 128 [0, 2, 3, 4, 5, 6, 7, 1] (by decide)) $$ HO
    icases HO with ⟨HK, HV, HK', HV'⟩
    rw [wp_bind]
    iapply (part36 m K (of_eq_true g2) (52 :: Z) W _)
    isplitr; · iexact HC
    isplitl [HSt]; · iexact HSt
    isplitl [R0]; · iexact R0
    isplitl [R1]; · iexact R1
    isplitl [HK]; · iexact HK
    isplitl [HV]; · iexact HV
    isplitl [HL]; · iexact HL
    iintro ⟨HSt, R0, R1, HK, HV, HL⟩
    icases HM with ⟨%f1, HM⟩
    iapply (ld_vb 1 512 128 rfl) $$ HM; iintro HM
    iapply (st_vb 1 512 128 (vbF m 1) rfl (fun x => kc_own (vA m 1) _ 128 512 1 rfl rfl (fun i j h0 h1 h2 h3 => kcF_hi _ _ 1 i j h0 h1 h2 h3) x)) $$ HM; iintro HM
    ihave HS := (stg_close m 1 128) $$ [R0 R1 RR]
    · isplitl [R0]; · iexact R0
      isplitl [R1] <;> iassumption
    ihave HG := (back_of m 1 128 1 [0, 2, 3, 4, 5, 6, 7] (by decide) _ _ rfl rfl rfl rfl) $$ [HS HK HV HK' HV']
    · isplitl [HS]; · iexact HS
      isplitl [HK]; · iexact HK
      isplitl [HV]; · iexact HV
      isplitl [HK']; · iexact HK'
      iexact HV'
    iapply (proj0 m 1 g)
    isplitl [HX]; · iexact HX
    isplitl [HW]; · iexact HW
    isplitl [HQ]; · iexact HQ
    iintro ⟨HX, HW, HQ⟩
    iapply Hk
    isplitl [HSt]; · iexact HSt
    isplitl [HG]; · iexact HG
    isplitr; · iempintro
    isplitl [HL HM]; · isplitl [HL] <;> iassumption
    isplitl [HX]; · iexact HX
    isplitl [HW]; · iexact HW
    iexists g; iexact HQ
  · have g1 : (k0_cond1 4 = 1#1) = False := eq_false (by decide)
    have g2 : (k0_cond2 4 = 1#1) = False := eq_false (by decide)
    have g3 : (k0_cond3 4 = 1#1) = True := eq_true (by decide)
    have g4 : (k0_cond4 4 = 1#1) = False := eq_false (by decide)
    have hR : relay 4 = [22, 23, 24] := by unfold relay; rfl
    rw [hR, show ([22, 23, 24] : List KK).reverse = [24, 23, 22] from rfl]
    unfold anyLo anyHi ownLo ownHi
    rw [if_neg (by decide), if_neg (by decide), if_neg (by decide), if_neg (by decide)]
    simp only [↓reduceDIte, g1, g2, g3, g4, k0_part37_eq_skeleton, k0_part38_eq_skeleton, semSignalWord, semWaitWord, Prog.lift, Prog.bind_op, Prog.bind_ret, Prog.pure_eq_ret, List.cons_append, List.nil_append]
    unfold k0_part37_skel k0_part38_skel
    simp only [Prog.lift, Prog.bind_op, Prog.bind_ret, Prog.pure_eq_ret]
    iintro ⟨#HC, HB, HS, HO, -, -, HX, HW, ⟨%g, HQ⟩, Hk⟩
    iapply (pass m K 4 _ Z _ (by decide) (by decide) (by decide)) $$ [HB]
    · isplitr; · iexact HC
      iexact HB
    iintro HSt
    iapply (recv m K 4 22 (pc 4 cc0_scratch11 (plane 0) (rbF m 4)) _ _ _ (kT 4 0) rfl rfl (by decide) rfl rfl rfl rfl) $$ [HSt]
    · isplitr; · iexact HC
      iexact HSt
    iintro ⟨HSt, HP0⟩
    iapply (snd_rk m K 4 5 _ 0 25 _ _ [] [25] rfl (kT 4 0) (kT 4 1) rfl 0 rfl rfl (fun i h => by unfold rbF; rw [if_neg (by decide), if_pos h]) rfl rfl rfl (by decide) (by decide) rfl rfl rfl rfl rfl rfl rfl rfl rfl) $$ [HSt HP0]
    · isplitr; · iexact HC
      isplitl [HSt] <;> iassumption
    iintro HSt
    iapply (recv m K 4 23 (pc 4 cc0_scratch11 (plane 1) (rbF m 4)) _ _ _ (kT 4 1) rfl rfl (by decide) rfl rfl rfl rfl) $$ [HSt]
    · isplitr; · iexact HC
      iexact HSt
    iintro ⟨HSt, HP1⟩
    iapply (snd_rv m K 4 5 _ 1 26 _ _ [25] [25, 26] rfl (kT 4 1) (kT 4 2) rfl 1 rfl rfl (fun i h => by unfold rbF; rw [if_neg (by decide), if_neg (by rw [h]; decide), if_pos h]) rfl rfl rfl (by decide) (by decide) rfl rfl rfl rfl rfl rfl rfl rfl rfl) $$ [HSt HP1]
    · isplitr; · iexact HC
      isplitl [HSt] <;> iassumption
    iintro HSt
    iapply (recv m K 4 24 (pc 4 cc0_scratch11 (plane 2) (rbF m 4)) _ _ _ (kT 4 2) rfl rfl (by decide) rfl rfl rfl rfl) $$ [HSt]
    · isplitr; · iexact HC
      iexact HSt
    iintro ⟨HSt, HP2⟩
    iapply (snd_rv m K 4 6 _ 1 27 _ _ [25, 26] [25, 26, 27] rfl (kT 4 2) (kT 4 3) rfl 2 rfl rfl (fun i h => by unfold rbF; rw [if_neg (by decide), if_neg (by rw [h]; decide), if_neg (by rw [h]; decide)]) rfl rfl rfl (by decide) (by decide) rfl rfl rfl rfl rfl rfl rfl rfl rfl) $$ [HSt HP2]
    · isplitr; · iexact HC
      isplitl [HSt] <;> iassumption
    iintro HSt
    ihave HG := (back_relay m 4 rfl) $$ [HS HO]
    · isplitl [HS] <;> iassumption
    iapply (proj0 m 4 g)
    isplitl [HX]; · iexact HX
    isplitl [HW]; · iexact HW
    isplitl [HQ]; · iexact HQ
    iintro ⟨HX, HW, HQ⟩
    iapply Hk
    isplitl [HSt]; · iexact HSt
    isplitl [HG]; · iexact HG
    isplitr; · iempintro
    isplitr; · iempintro
    isplitl [HX]; · iexact HX
    isplitl [HW]; · iexact HW
    iexists g; iexact HQ
  · have g1 : (k0_cond1 7 = 1#1) = False := eq_false (by decide)
    have g2 : (k0_cond2 7 = 1#1) = False := eq_false (by decide)
    have g3 : (k0_cond3 7 = 1#1) = False := eq_false (by decide)
    have g4 : (k0_cond4 7 = 1#1) = True := eq_true (by decide)
    have hR : relay 7 = [22] := by unfold relay; rfl
    rw [hR, show ([22] : List KK).reverse = [22] from rfl]
    unfold anyLo anyHi ownLo ownHi
    rw [if_neg (by decide), if_neg (by decide), if_neg (by decide), if_neg (by decide)]
    simp only [↓reduceDIte, g1, g2, g3, g4, semSignalWord, semWaitWord, Prog.lift, Prog.bind_op, Prog.bind_ret, Prog.pure_eq_ret, List.cons_append, List.nil_append]
    iintro ⟨#HC, HB, HS, HO, -, -, HX, HW, ⟨%g, HQ⟩, Hk⟩
    iapply (pass m K 7 _ Z _ (by decide) (by decide) (by decide)) $$ [HB]
    · isplitr; · iexact HC
      iexact HB
    iintro HSt
    iapply (recv m K 7 22 (pc 7 cc0_scratch11 (plane 0) (rbF m 7)) _ _ _ (kT 7 0) rfl rfl (by decide) rfl rfl rfl rfl) $$ [HSt]
    · isplitr; · iexact HC
      iexact HSt
    iintro ⟨HSt, HP0⟩
    iapply (snd_rk m K 7 6 _ 0 25 _ _ [] [25] rfl (kT 7 0) (kT 7 1) rfl 0 rfl rfl (fun i h => by unfold rbF; rw [if_pos rfl]) rfl rfl rfl (by decide) (by decide) rfl rfl rfl rfl rfl rfl rfl rfl rfl) $$ [HSt HP0]
    · isplitr; · iexact HC
      isplitl [HSt] <;> iassumption
    iintro HSt
    ihave HG := (back_relay m 7 rfl) $$ [HS HO]
    · isplitl [HS] <;> iassumption
    iapply (proj0 m 7 g)
    isplitl [HX]; · iexact HX
    isplitl [HW]; · iexact HW
    isplitl [HQ]; · iexact HQ
    iintro ⟨HX, HW, HQ⟩
    iapply Hk
    isplitl [HSt]; · iexact HSt
    isplitl [HG]; · iexact HG
    isplitr; · iempintro
    isplitr; · iempintro
    isplitl [HX]; · iexact HX
    isplitl [HW]; · iexact HW
    iexists g; iexact HQ
  · have g1 : (k0_cond1 c = 1#1) = False := eq_false ((by decide : ∀ c : Dev nD, c ≠ 0 → ¬ k0_cond1 c = 1#1) c h0)
    have g2 : (k0_cond2 c = 1#1) = False := eq_false ((by decide : ∀ c : Dev nD, c ≠ 1 → ¬ k0_cond2 c = 1#1) c h1)
    have g3 : (k0_cond3 c = 1#1) = False := eq_false ((by decide : ∀ c : Dev nD, c ≠ 4 → ¬ k0_cond3 c = 1#1) c h4)
    have g4 : (k0_cond4 c = 1#1) = False := eq_false ((by decide : ∀ c : Dev nD, c ≠ 7 → ¬ k0_cond4 c = 1#1) c h7)
    have hR : relay c = [] := by unfold relay; rw [if_neg h4, if_neg h7]
    have hS : sends c = rsSends c := by unfold sends kvSends; rw [if_neg h0, if_neg h1, if_neg h4, if_neg h7, List.nil_append]
    have hP : postW c = [] := by unfold postW; rw [if_neg (by simp [h0, h1]), if_neg h4, if_neg h7]
    rw [hR, show ([] : List KK).reverse = [] from rfl]
    unfold anyLo anyHi ownLo ownHi
    rw [if_neg h0, if_neg h1, if_neg h0, if_neg h1]
    simp only [↓reduceDIte, g1, g2, g3, g4, semSignalWord, semWaitWord, Prog.lift, Prog.bind_op, Prog.bind_ret, Prog.pure_eq_ret, List.cons_append, List.nil_append]
    iintro ⟨#HC, HB, HS, HO, -, -, HX, HW, ⟨%g, HQ⟩, Hk⟩
    iapply (pass m K c _ Z _ (by decide) (by decide) (by decide)) $$ [HB]
    · isplitr; · iexact HC
      iexact HB
    iintro HSt
    ihave HG := (back_none m c hP hR) $$ [HS HO]
    · isplitl [HS] <;> iassumption
    rw [hS, hP]
    iapply (proj0 m c g)
    isplitl [HX]; · iexact HX
    isplitl [HW]; · iexact HW
    isplitl [HQ]; · iexact HQ
    iintro ⟨HX, HW, HQ⟩
    iapply Hk
    isplitl [HSt]; · iexact HSt
    isplitl [HG]; · iexact HG
    isplitr; · iempintro
    isplitr; · iempintro
    isplitl [HX]; · iexact HX
    isplitl [HW]; · iexact HW
    iexists g; iexact HQ

end Cert.Hand
-- ==== Proof.Body.lean ====
/-
# The kernel on one device, start to end

The parts of the kernel one after another: the barrier, the sends of keys and values, the projection, the attention of
both batches, the rounds of summation and of gathering, the last store. What each part leaves is what the next takes.
-/
module

public import proofs.«01_k».proof.Proof.Send

@[expose] public section

noncomputable section

namespace Cert.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ UU ℕ

variable (m : (ℓ : Loc nD τ sig) → Buf (Elt F) ℓ) (K : Dev nD × KK → ℕ)

theorem wp_then {α β : Type} (c : Dev nD) (p : Prog (TpuEff nD τ sig (Elt F) Λ₀ .tc) β) (k : β → Prog (TpuEff nD τ sig (Elt F) Λ₀ .tc) α)
    (Q : α → sProp (MT nD τ sig Unit (Elt F) ℕ UU ℕ)) : Wp c p (fun r => Wp c (k r) Q) ⊢ Wp c (p >>= k) Q := by
  unfold Wp; rw [wp_bind]

omit [FloatOps F] [Named F] in
theorem pc_join2 (c : Dev nD) (b : Ref sig .tc) (S T : Finset (Idx ((c : Thread nD τ).loc b))) (f g : Buf (Elt F) ((c : Thread nD τ).loc b)) (hd : Disjoint S T) :
    iprop(pc (F := F) c b S f ∗ pc c b T g) ⊢ anyOn (F := F) c b (S ∪ T) := by
  iintro ⟨H1, H2⟩
  ihave H := (pointsTo_join hd) $$ [H1 H2]
  · isplitl [H1]; · iexact H1
    iexact H2
  iexists _; iexact H

section Store
variable {α : Type} {Q' : α → sProp (MT nD τ sig Unit (Elt F) ℕ UU ℕ)}
/-- The store of the whole result. -/
theorem st_res (c : Dev nD) (f g : FVec F S2x512x768 .f32) {inb hx hm} {w : FVec F S2x512x768 .f32} {k' : PUnit → Prog (TpuEff nD τ sig (Elt F) Λ₀ .tc) α} (hw : w = g) :
    pc c cc0_stg3_0 Finset.univ f ⊢ iprop((pc c cc0_stg3_0 Finset.univ g -∗ wp frame (wpE (defs₀ (F := F)) 𝒱₀ (c : Thread nD τ) none) Set.univ (k' ⟨⟩) Q')
      -∗ wp frame (wpE (defs₀ (F := F)) 𝒱₀ (c : Thread nD τ) none) Set.univ (.op (.store (Memref.whole cc0_stg3_0) (Rect.unit (s := S2x512x768) ![0, 0, 0] S2x512x768.size inb) w Finset.univ hx hm) k') Q') := by
  subst hw
  have e : ∀ x : S2x512x768.Idx, (Rect.unit (s := S2x512x768) ![0, 0, 0] S2x512x768.size inb).emb x = x := fun x => funext fun a => Fin.ext ((emb_v0 x a).trans (by
    match a with
    | ⟨0, _⟩ => exact Nat.zero_add _
    | ⟨1, _⟩ => exact Nat.zero_add _
    | ⟨2, _⟩ => exact Nat.zero_add _))
  exact wp_st (F := F) c (M := Memref.whole cc0_stg3_0) (r := Rect.unit (s := S2x512x768) ![0, 0, 0] S2x512x768.size inb) (S := Finset.univ) (f := f) w (fun x _ => Finset.mem_univ _)
    (fun x => (congrArg w (e x)).symm) (fun i _ hi => absurd rfl (hi i (by
      have h0 : (i 0).val < 2 := (i 0).isLt
      have h1 : (i 1).val < 512 := (i 1).isLt
      have h2 : (i 2).val < 768 := (i 2).isLt
      have a0 : 0 ≤ (i 0).val ∧ (i 0).val < 0 + 2 := by omega
      have a1 : 0 ≤ (i 1).val ∧ (i 1).val < 0 + 512 := by omega
      have a2 : 0 ≤ (i 2).val ∧ (i 2).val < 0 + 768 := by omega
      rw [Rect.mem_set_unit]
      intro a
      match a with
      | ⟨0, _⟩ => exact a0
      | ⟨1, _⟩ => exact a1
      | ⟨2, _⟩ => exact a2)))
end Store
omit [FloatOps F] [Named F] in
theorem srows_join (c : Dev nD) (b n k l : ℕ) (hl : l = n + k) :
    iprop(anyOn (F := F) c cc0_scratch9 (srows b 0 n) ∗ anyOn (F := F) c cc0_scratch9 (srows b n k)) ⊢ anyOn (F := F) c cc0_scratch9 (srows b 0 l) := by
  subst hl
  have hd : Disjoint (srows b 0 n) (srows b n k) := Finset.disjoint_left.mpr fun i h1 h2 => by rw [mem_srows] at h1 h2; omega
  have hu : srows b 0 n ∪ srows b n k = srows b 0 (n + k) := Finset.ext fun i => by rw [Finset.mem_union, mem_srows, mem_srows, mem_srows]; omega
  iintro ⟨⟨%f, H1⟩, ⟨%g, H2⟩⟩
  ihave H := (pc_join2 (F := F) c cc0_scratch9 _ _ f g hd) $$ [H1 H2]
  · isplitl [H1]; · iexact H1
    iexact H2
  rw [← hu]
  iexact H

theorem rows_univ : rows 0 0 512 ∪ rows 1 0 512 = Finset.univ := Finset.ext fun i => by
  have h0 : (i 0).val < 2 := (i 0).isLt
  have h1 : (i 1).val < 512 := (i 1).isLt
  rw [Finset.mem_union, mem_rows, mem_rows]
  exact ⟨fun _ => Finset.mem_univ _, fun _ => by omega⟩
theorem rows_disj : Disjoint (rows 0 0 512) (rows 1 0 512) := Finset.disjoint_left.mpr fun i h1 h2 => by rw [mem_rows] at h1 h2; omega

/-- The rows received in the rounds of summation, at some contents. -/
theorem sums_land (c : Dev nD) : iprop(Rb m c 0 0 256 ∗ Rb m c 1 0 256 ∗ Rb m c 0 256 128 ∗ Rb m c 1 256 128 ∗ Rb m c 0 384 64 ∗ Rb m c 1 384 64)
    ⊢ sepL (fun k => landAny (F := F) (c, k)) [34, 35, 36, 37, 38, 39] := by
  show _ ⊢ iprop(anyOn (F := F) c cc0_scratch8 (rows 0 0 256) ∗ anyOn (F := F) c cc0_scratch8 (rows 1 0 256) ∗ anyOn (F := F) c cc0_scratch8 (rows 0 256 128)
    ∗ anyOn (F := F) c cc0_scratch8 (rows 1 256 128) ∗ anyOn (F := F) c cc0_scratch8 (rows 0 384 64) ∗ anyOn (F := F) c cc0_scratch8 (rows 1 384 64) ∗ emp)
  iintro ⟨HR0, HR1, HR2, HR3, HR4, HR5⟩
  isplitl [HR0]; · iexists _; iexact HR0
  isplitl [HR1]; · iexists _; iexact HR1
  isplitl [HR2]; · iexists _; iexact HR2
  isplitl [HR3]; · iexists _; iexact HR3
  isplitl [HR4]; · iexists _; iexact HR4
  isplitl [HR5]; · iexists _; iexact HR5
  iempintro

/-- The cells done with at the end, last first. -/
def zEnd (c : Dev nD) (Z : List KK) : List KK :=
  51 :: 45 :: 50 :: 44 :: 49 :: 43 :: 48 :: 42 :: 47 :: 41 :: 46 :: 40 :: 39 :: 33 :: 38 :: 32 :: 37 :: 31 :: 36 :: 30 :: 35 :: 29 :: 34 :: 28 ::
    ((postW c).reverse ++ ((kvW c).reverse ++ ((relay c).reverse ++ (52 :: Z))))

/-- What the kernel leaves on device `c`: every cell it used at zero, nothing owed, the result, and every buffer. -/
def After (c : Dev nD) (Z : List KK) : sProp (MT nD τ sig Unit (Elt F) ℕ UU ℕ) :=
  iprop(sepL (zItem (F := F) c) (zEnd c Z) ∗ (∃ Ws, owes (c : Thread nD τ) (0 : CellTallies nD τ sig Unit) Ws) ∗ stgAll m c ∗ outAll (F := F) c
    ∗ sepL (fun k => landAny (F := F) (c, k)) (relay c)
    ∗ pc c cc0_stg0_0 Finset.univ (xF m c) ∗ pc c cc0_stg1_0 Finset.univ (wqF m c) ∗ pc c cc0_stg2_0 Finset.univ (woF m c)
    ∗ pc c cc0_stg3_0 Finset.univ (resF m)
    ∗ anyOn (F := F) c cc0_scratch0 Finset.univ ∗ anyOn (F := F) c cc0_scratch1 Finset.univ ∗ anyOn (F := F) c cc0_scratch2 Finset.univ
    ∗ anyOn (F := F) c cc0_scratch3 Finset.univ ∗ anyOn (F := F) c cc0_scratch4 Finset.univ ∗ Sb (F := F) c 0 256 ∗ Sb (F := F) c 1 256
    ∗ anyOn (F := F) c cc0_scratch10 Finset.univ ∗ sepL (fun k => landAny (F := F) (c, k)) [34, 35, 36, 37, 38, 39])

set_option maxHeartbeats 8000000 in
/-- The kernel on one device, start to end. -/
theorem body_run (c : Dev nD) (Z : List KK) (Q' : PUnit → sProp (MT nD τ sig Unit (Elt F) ℕ UU ℕ)) :
    iprop(Cx m K ∗ PreB (F := F) c devs Z (relay c ++ (kvW c ++ (postW c ++ tailW))) ∗ stgAll m c ∗ outAll (F := F) c ∗ anyLo (F := F) c ∗ anyHi (F := F) c
      ∗ pc c cc0_stg0_0 Finset.univ (xF m c) ∗ pc c cc0_stg1_0 Finset.univ (wqF m c) ∗ anyOn (F := F) c cc0_scratch2 Finset.univ
      ∗ pc c cc0_stg2_0 Finset.univ (woF m c) ∗ anyOn (F := F) c cc0_scratch4 Finset.univ ∗ anyOn (F := F) c cc0_scratch3 Finset.univ
      ∗ anyOn (F := F) c cc0_stg3_0 Finset.univ ∗ Sb (F := F) c 0 256 ∗ Sb (F := F) c 1 256
      ∗ anyOn (F := F) c cc0_scratch10 (rows 0 (kp3 c) 64) ∗ anyOn (F := F) c cc0_scratch10 (rows 1 (kp3 c) 64)
      ∗ (After m c Z -∗ Q' ⟨⟩))
      ⊢ Wp c (onBufs (cc0_body (F := F))) Q' := by
  rw [cc0_body_eq_skeleton]
  unfold onBufs cc0_body_skel
  iintro ⟨#HC, HB, HSg, HO, HL, HH, HX, HWQ, HQB, HWO, HWB, ⟨%fc, HCT⟩, ⟨%f, HOUT⟩, HS0, HS1, HA0, HA1, Hk⟩
  iapply wp_then
  rw [k0_part80_eq_skeleton]
  unfold k0_part80_skel
  iapply wp_then
  iapply (part47 m K c Z _)
  isplitr; · iexact HC
  isplitl [HB]; · iexact HB
  iintro HB
  iapply wp_then
  iapply (part48 m K c Z (kvW c ++ (postW c ++ tailW)) _ rfl)
  isplitr; · iexact HC
  isplitl [HB]; · iexact HB
  isplitl [HSg]; · iexact HSg
  isplitl [HO]; · iexact HO
  isplitl [HL]; · iexact HL
  isplitl [HH]; · iexact HH
  isplitl [HX]; · iexact HX
  isplitl [HWQ]; · iexact HWQ
  isplitl [HQB]; · iexact HQB
  iintro ⟨HSt, HBk, HL, HH, HX, HWQ, ⟨%g, HQB⟩⟩
  iapply wp_then
  iapply (part49 m K c _ (postW c ++ tailW) (postW c) g)
  isplitr; · iexact HC
  isplitl [HSt]; · iexact HSt
  isplitl [HQB]; · iexact HQB
  isplitl [HWO]; · iexact HWO
  isplitl [HWB]; · iexact HWB
  isplitl [HL]; · iexact HL
  isplitl [HH]; · iexact HH
  iintro %v77 %v78 %v80 ⟨HSt, HQB, HKB, HVB, HWO, HWB⟩
  iapply wp_then
  iapply (part50 c)
  iintro %v104 %v121
  iapply wp_then
  iapply (part51 m c)
  isplitl [HQB HKB HVB HCT]
  · unfold Hd
    isplitl [HQB]; · iexact HQB
    isplitl [HKB]; · iexact HKB
    isplitl [HVB]; · iexact HVB
    iexists fc
    isplitr
    · ipureintro; intro i h; exact absurd h (by omega)
    iexact HCT
  iintro %v131 HD
  iapply wp_then
  iapply (part52 m c)
  isplitl [HD]; · iexact HD
  iintro HD
  iapply wp_then
  iapply (part53 m c)
  isplitl [HD]; · iexact HD
  iintro HD
  iapply wp_then
  iapply (part54 m c)
  isplitl [HD]; · iexact HD
  iintro HD
  iapply wp_then
  iapply (part55 m c)
  isplitl [HD]; · iexact HD
  iintro HD
  iapply wp_then
  iapply (part56 m c)
  isplitl [HD]; · iexact HD
  iintro HD
  iapply wp_then
  iapply (part57 m c f)
  isplitl [HD]; · iexact HD
  isplitl [HWB]; · iexact HWB
  isplitl [HOUT]; · iexact HOUT
  isplitl [HS0]; · iexact HS0
  iintro %v356 ⟨HD, HWB, HOUT, HS0⟩
  iapply wp_then
  iapply (part58 m K c _ (postW c ++ tailW) (postW c))
  isplitr; · iexact HC
  isplitl [HSt]; · iexact HSt
  isplitl [HS0]; · iexact HS0
  isplitl [HD]; · iexact HD
  iintro ⟨HSt, HD⟩
  iapply wp_then
  iapply (part59 m c)
  isplitl [HD]; · iexact HD
  iintro HD
  iapply wp_then
  iapply (part60 m c)
  isplitl [HD]; · iexact HD
  iintro HD
  iapply wp_then
  iapply (part61 m c)
  isplitl [HD]; · iexact HD
  iintro HD
  iapply wp_then
  iapply (part62 m c)
  isplitl [HD]; · iexact HD
  iintro HD
  iapply wp_then
  iapply (part63 m c)
  isplitl [HD]; · iexact HD
  iintro HD
  iapply wp_then
  iapply (part64 m K c _ (postW c ++ tailW) (postW c ++ [28]) f)
  isplitr; · iexact HC
  isplitl [HSt]; · iexact HSt
  isplitl [HWB]; · iexact HWB
  isplitl [HOUT]; · iexact HOUT
  isplitl [HS1]; · iexact HS1
  iintro ⟨HSt, HWB, HOUT⟩
  rw [List.append_assoc]
  iapply wp_then
  iapply (part65 m K c _ _ [29])
  isplitr; · iexact HC
  isplitl [HSt]; · iexact HSt
  iintro %r65 ⟨HSt, HP, HS0, HR0⟩
  ihave HS0 := (srows_cut (F := F) c 0 128 128 256 rfl) $$ HS0
  icases HS0 with ⟨HS0, HS0a⟩
  iapply wp_then
  iapply (part66 m K c [] [])
  isplitr; · iexact HC
  isplitl [HOUT]; · iexact HOUT
  isplitl [HR0]; · iexact HR0
  isplitl [HS0]; · iexact HS0
  iintro %r66 ⟨HOUT, HR0, HS0⟩
  obtain ⟨v629, v651⟩ := r66
  iapply wp_then
  iapply (part67 m K c)
  isplitr; · iexact HC
  isplitl [HSt]; · iexact HSt
  isplitl [HOUT]; · iexact HOUT
  isplitl [HS0]; · iexact HS0
  iintro %v677 ⟨HSt, HOUT, HS1, HR1⟩
  ihave HS1 := (srows_cut (F := F) c 1 128 128 256 rfl) $$ HS1
  icases HS1 with ⟨HS1, HS1a⟩
  iapply wp_then
  iapply (part68 m K c)
  isplitr; · iexact HC
  isplitl [HSt]; · iexact HSt
  isplitl [HOUT]; · iexact HOUT
  isplitl [HS1]; · iexact HS1
  iintro %v699 ⟨HSt, HOUT⟩
  iapply wp_then
  iapply (part69 m K c)
  isplitr; · iexact HC
  isplitl [HSt]; · iexact HSt
  isplitl [HOUT]; · iexact HOUT
  iintro %v725 ⟨HSt, HOUT, HS0, HR2⟩
  ihave HS0 := (srows_cut (F := F) c 0 64 64 128 rfl) $$ HS0
  icases HS0 with ⟨HS0, HS0b⟩
  iapply wp_then
  iapply (part70 m K c)
  isplitr; · iexact HC
  isplitl [HSt]; · iexact HSt
  isplitl [HS0]; · iexact HS0
  iintro %r70 ⟨HSt, HS1⟩
  obtain ⟨v747, v764⟩ := r70
  ihave HS1 := (srows_cut (F := F) c 1 64 64 128 rfl) $$ HS1
  icases HS1 with ⟨HS1, HS1b⟩
  iapply wp_then
  iapply (part71 m K c)
  isplitr; · iexact HC
  isplitl [HSt]; · iexact HSt
  isplitl [HOUT]; · iexact HOUT
  isplitl [HS1]; · iexact HS1
  iintro %r71 ⟨HSt, HOUT, HR3, HS1⟩
  obtain ⟨v773, v795⟩ := r71
  iapply wp_then
  iapply (part72 m K c)
  isplitr; · iexact HC
  isplitl [HSt]; · iexact HSt
  isplitl [HS1]; · iexact HS1
  iintro %v821 ⟨HSt, HS0, HR4⟩
  iapply wp_then
  iapply (part73 m K c)
  isplitr; · iexact HC
  isplitl [HSt]; · iexact HSt
  isplitl [HOUT]; · iexact HOUT
  isplitl [HR4]; · iexact HR4
  isplitl [HA0]; · iexact HA0
  iintro %r73 ⟨HSt, HOUT, HR4⟩
  obtain ⟨v841, v853⟩ := r73
  iapply wp_then
  iapply (part74 m K c)
  isplitr; · iexact HC
  isplitl [HSt]; · iexact HSt
  isplitl [HOUT]; · iexact HOUT
  iintro %v869 ⟨HSt, HOUT, HS1, HR5⟩
  iapply wp_then
  iapply (part75 m K c)
  isplitr; · iexact HC
  isplitl [HSt]; · iexact HSt
  isplitl [HOUT]; · iexact HOUT
  isplitl [HA1]; · iexact HA1
  iintro %r75 ⟨HSt, HOUT, HA0⟩
  obtain ⟨v889, v901⟩ := r75
  iapply wp_then
  iapply (part76 m K c)
  isplitr; · iexact HC
  isplitl [HSt]; · iexact HSt
  isplitl [HA0]; · iexact HA0
  iintro %v916 ⟨HSt, HA1⟩
  iapply wp_then
  iapply (part77 m K c)
  isplitr; · iexact HC
  isplitl [HSt]; · iexact HSt
  isplitl [HA1]; · iexact HA1
  iintro %v943 ⟨HSt, HA0⟩
  iapply wp_then
  iapply (part78 m K c)
  isplitr; · iexact HC
  isplitl [HSt]; · iexact HSt
  isplitl [HA0]; · iexact HA0
  iintro %v970 ⟨HSt, HA1⟩
  iapply wp_then
  iapply (part79 m K c)
  isplitr; · iexact HC
  isplitl [HSt]; · iexact HSt
  isplitl [HA1]; · iexact HA1
  iintro %r79 ⟨HSt, HA0⟩
  obtain ⟨v995, v1012⟩ := r79
  unfold Wp
  simp only [Prog.lift, Prog.bind_op, Prog.bind_ret, Prog.pure_eq_ret]
  iapply (recv m K c 50 (Ag m c 0 (kp1 (fl1 c)) 256) _ _ _ [] rfl rfl (by decide) rfl rfl rfl rfl) $$ [HSt]
  · isplitr; · iexact HC
    iexact HSt
  iintro ⟨HSt, HB0⟩
  iapply (sent m K c 45 (Ag m c 1 (kp1 c) 256) _ _ _ [] rfl rfl (by decide) rfl rfl rfl rfl) $$ [HSt]
  · isplitr; · iexact HC
    iexact HSt
  iintro ⟨HSt, HA1⟩
  rw [wp_ret]
  imodintro
  iapply (recv m K c 51 (Ag m c 1 (kp1 (fl1 c)) 256) _ _ _ [] rfl rfl (by decide) rfl rfl rfl rfl) $$ [HSt]
  · isplitr; · iexact HC
    iexact HSt
  iintro ⟨HSt, HB1⟩
  ihave HA0 := (rows_merge c 0 (kp1 c) (kp1 (fl1 c)) 0 256 (agF m) (kp_halves c).2.2) $$ [HA0 HB0]
  · isplitl [HA0] <;> iassumption
  ihave HA1 := (rows_merge c 1 (kp1 c) (kp1 (fl1 c)) 0 256 (agF m) (kp_halves c).2.2) $$ [HA1 HB1]
  · isplitl [HA1] <;> iassumption
  ihave HA := ((pc_two c cc0_scratch10 (rows 0 0 512) (rows 1 0 512) Finset.univ (agF m) rows_disj rows_univ).2) $$ [HA0 HA1]
  · isplitl [HA0]; · iexact HA0
    iexact HA1
  iapply (ld_whole c (M := Memref.whole cc0_scratch10) (f := agF m) (agF m) (fun _ => rfl) (by decide)) $$ HA; iintro HA
  iapply (ld_out c) $$ HOUT; iintro HOUT
  iapply (st_res c (outF m c 3 3) (resF m) rfl) $$ HOUT; iintro HOUT
  rw [wp_ret]
  imodintro
  iapply Hk
  unfold kvBack
  icases HBk with ⟨HSg, HBk⟩
  ihave HP := HBk $$ HP
  icases HP with ⟨HO, HRB⟩
  unfold St Hd
  icases HSt with ⟨HZ, -, -, -, HOw⟩
  icases HD with ⟨HQB, HKB, HVB, ⟨%fx, -, HCT⟩⟩
  ihave HS0 := (srows_join (F := F) c 0 64 64 128 rfl) $$ [HS0 HS0b]
  · isplitl [HS0] <;> iassumption
  ihave HS0 := (srows_join (F := F) c 0 128 128 256 rfl) $$ [HS0 HS0a]
  · isplitl [HS0] <;> iassumption
  ihave HS1 := (srows_join (F := F) c 1 64 64 128 rfl) $$ [HS1 HS1b]
  · isplitl [HS1] <;> iassumption
  ihave HS1 := (srows_join (F := F) c 1 128 128 256 rfl) $$ [HS1 HS1a]
  · isplitl [HS1] <;> iassumption
  unfold After
  isplitl [HZ]; · unfold zEnd; iexact HZ
  isplitl [HOw]; · iexact HOw
  isplitl [HSg]; · iexact HSg
  isplitl [HO]; · iexact HO
  isplitl [HRB]; · iexact HRB
  isplitl [HX]; · iexact HX
  isplitl [HWQ]; · iexact HWQ
  isplitl [HWO]; · iexact HWO
  isplitl [HOUT]; · iexact HOUT
  isplitl [HKB]; · iexists _; iexact HKB
  isplitl [HVB]; · iexists _; iexact HVB
  isplitl [HQB]; · iexists _; iexact HQB
  isplitl [HCT]; · iexists _; iexact HCT
  isplitl [HWB]; · iexists _; iexact HWB
  isplitl [HS0]; · iexact HS0
  isplitl [HS1]; · iexact HS1
  isplitl [HA]; · iexists _; iexact HA
  iapply (sums_land m c)
  isplitl [HR0]; · iexact HR0
  isplitl [HR1]; · iexact HR1
  isplitl [HR2]; · iexact HR2
  isplitl [HR3]; · iexact HR3
  isplitl [HR4] <;> iassumption

end Cert.Hand

end
-- ==== Proof.Fund.lean ====
/-
# What the launch hands out

The launch mints the cells and the rights to pay them, each right to the device that will use it; the semaphores at zero
become the cells, all devices' at once; and what every device owes at launch is credited to the cells it will arrive on.
-/
module

public import proofs.«01_k».proof.Proof.Body

@[expose] public section

noncomputable section

namespace Cert.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ UU ℕ

open Idealize.ShloMosaic.Rounds (roundState reached atPos dutyTok cellInv initOf)

variable (m : (ℓ : Loc nD τ sig) → Buf (Elt F) ℓ) (ρ : Dev nD → PrngReg)

/-! ## The cells and the rights to pay -/

theorem kcell_inj : Function.Injective (fun ck : Dev nD × KK => kcell ck.1 ck.2) := by
  rintro ⟨c, k⟩ ⟨c', k'⟩ h
  have h1 : c = c' := congrArg (fun g : GSem nD τ sig => g.1.1) h
  have h2 : k = k' := csem_inj (congrArg Prod.snd h)
  rw [h1, h2]

/-- Every cell. -/
def allCells : Finset (GSem nD τ sig) := Finset.univ.map ⟨fun ck : Dev nD × KK => kcell ck.1 ck.2, kcell_inj⟩

/-- The rights a device holds at launch: to signal every barrier, and to pay the two cells of each of its sends. -/
def payL (c : Dev nD) : List (Dev nD × KK × Dev nD) :=
  devs.map (fun x => (x, 52, c)) ++ (sends c).flatMap fun p => [(p.1, p.2.1, 0), (c, p.2.2, 0)]

/-- A right, by its cell and duty. -/
def tokOf (x : Dev nD × KK × Dev nD) : GSem nD τ sig × ℕ × Dev nD := (kcell x.1 x.2.1, 0, x.2.2)

theorem tokOf_inj : Function.Injective tokOf := by
  rintro ⟨c, k, d⟩ ⟨c', k', d'⟩ h
  have h1 : (c, k) = (c', k') := kcell_inj (congrArg Prod.fst h)
  have h2 : d = d' := congrArg (fun x : GSem nD τ sig × ℕ × Dev nD => x.2.2) h
  have h3 : c = c' := congrArg Prod.fst h1
  have h4 : k = k' := congrArg Prod.snd h1
  rw [h2, h3, h4]

theorem payL_nodup : (devs.flatMap payL).Nodup := by decide +kernel

/-- Every right to pay. -/
def allToks : Finset (GSem nD τ sig × ℕ × Dev nD) := (devs.flatMap payL).toFinset.map ⟨tokOf, tokOf_inj⟩

/-- What the launch mints: the pipeline's part and the cells'. -/
def u₀ : UU := (initOf (Pipeline.cells cfgs cellOf_inj) (Pipeline.launchToks cfgs cellOf_inj), (initOf allCells allToks, 1))

/-- The rights of device `c`. -/
def toks (c : Dev nD) : sProp (MT nD τ sig Unit (Elt F) ℕ UU ℕ) :=
  sepL (fun x : Dev nD × KK × Dev nD => dutyTok ER (kcell x.1 x.2.1) 0 x.2.2) (payL c)

/-- What the launch deals device `c`. -/
def G (c : Dev nD) : sProp (MT nD τ sig Unit (Elt F) ℕ UU ℕ) :=
  iprop((bigSep Finset.univ fun k : KK => roundState ER (Rd m) (kcell c k) 0)
    ∗ (bigSep Finset.univ fun k : KK => iprop(atPos ER (kcell c k) 0 ∅ 0 ∗ reached ER (kcell c k) 0)) ∗ toks (F := F) c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : KK => Φ (kcell c k) := by
    unfold allCells; rw [bigSep_map, bigSep_univ_prod]; rfl
  have hT : bigSep allToks (fun x => (dutyTok ER x.1 x.2.1 x.2.2 : sProp 𝕄)) ⊢ bigSep Finset.univ fun c : Dev nD => toks (F := F) c := by
    unfold allToks; rw [bigSep_map]
    exact (bigSep_list (F := F) _ _ payL_nodup).1.trans ((sepL_flatMap (F := F) _ _ _).2.trans (bigSep_devs (F := F) _).2)
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

theorem fund_all : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave HX := (own_pair_emb EBC _ _) $$ HX
  icases HX with ⟨HX, -⟩
  imod (fund_cells m) $$ HX with HG
  imodintro
  isplitl [HP]; · iexact HP
  iexact HG

/-! ## The semaphores at zero become the cells -/

/-- The kernel's own semaphores. -/
def osem (k : Fin 52) : SemLoc sig := .dma ⟨k.val + 4, Nat.lt_of_lt_of_eq (Nat.add_lt_add_right k.isLt 4) rfl⟩

theorem osem_eq (k : Fin 52) : osem k = csem k.castSucc := by
  unfold csem; rw [dif_pos (show k.castSucc.val < 52 from k.isLt)]; rfl

set_option maxRecDepth 20000 in
theorem ownSemFacts : Pipeline.OwnSemFacts cfg0.spec osem := by decide +kernel

omit [FloatOps F] [Named F] in
theorem unscopedSems0_eq (c : Dev nD) : (unscopedSems0 c : sProp 𝕄) = zItem (F := F) c 52 := by
  unfold unscopedSems0; rw [bigSep_eq_bigSepL_of_eq [SemLoc.reg barS] (by decide +kernel) (by decide)]; rfl

omit [FloatOps F] [Named F] in
theorem bigSep_last {n : ℕ} (Φ : Fin (n + 1) → sProp 𝕄) : bigSep Finset.univ Φ = iprop(Φ (Fin.last n) ∗ bigSep Finset.univ fun k : Fin n => Φ k.castSucc) := by
  rw [Fin.univ_castSuccEmb, Finset.cons_eq_insert, bigSep_insert (by simp), bigSep_map]; rfl

omit [FloatOps F] [Named F] in
theorem sems0_eq (c : Dev nD) :
    (bigSep Finset.univ fun k : KK => zItem (F := F) c k)
      = iprop((unscopedSems0 c : sProp 𝕄) ∗ Pipeline.ownSems0 (Ix := Unit) (Name := ℕ) (U := UU) (Lvl := ℕ) (Val := Elt F) (τ := τ) osem c) := by
  rw [unscopedSems0_eq, bigSep_last]
  unfold Pipeline.ownSems0
  refine congrArg₂ _ rfl (bigSep_congr fun k _ => ?_)
  rw [osem_eq]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell c k)))
          ∗ (bigSep Finset.univ fun k => iprop(atPos ER (kcell c k) 0 ∅ 0 ∗ reached ER (kcell c k) 0)) ∗ toks (F := F) c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : KK => zItem (F := F) c k) ∗ bigSep Finset.univ fun k : KK => roundState ER (Rd m) (kcell c k) 0)
      ⊢ (|={Set.univ}=> bigSep Finset.univ fun k => iprop(∃ κ : ℕ, cellInv ER (Rd m) κ (kcell c k)) : sProp 𝕄) from by
        rw [← bigSep_sep']
        exact (bigSep_mono fun k _ => (Rounds.body_intro ER (Rd m) (kcell c k)).trans inv_alloc).trans (bigSep_fupd _ _)) $$ [Hv Hst] with Hinv
  · isplitl [Hv] <;> iassumption
  imodintro
  isplitl [Hinv]; · iexact Hinv
  isplitl [Hat]; · iexact Hat
  iexact Htok

/-- Each cell's invariant and that it is at its first round. -/
def records (K : Dev nD × KK → ℕ) : sProp (MT nD τ sig Unit (Elt F) ℕ UU ℕ) :=
  iprop((bigSep Finset.univ fun ck : Dev nD × KK => cellInv ER (Rd m) (K ck) (kcell ck.1 ck.2))
    ∗ bigSep Finset.univ fun ck : Dev nD × KK => reached ER (kcell ck.1 ck.2) 0)

instance records_persistent (K : Dev nD × KK → ℕ) : BI.Persistent (records (F := F) m K) := by unfold records; infer_instance

/-- What is device `c`'s alone: its places in its cells' rounds, and its rights to pay. -/
def linear (c : Dev nD) : sProp (MT nD τ sig Unit (Elt F) ℕ UU ℕ) :=
  iprop((bigSep Finset.univ fun k : KK => atPos ER (kcell c k) 0 ∅ 0) ∗ toks (F := F) c)

/-- What each device has after all cells are set up. -/
def G' (c : Dev nD) : sProp (MT nD τ sig Unit (Elt F) ℕ UU ℕ) := iprop((∃ K, records (F := F) m K) ∗ linear (F := F) c)

theorem ghost_intro (K : Dev nD × KK → ℕ) (c : Dev nD) : iprop(records (F := F) m K ∗ linear (F := F) c) ⊢ G' m c := by
  unfold G'
  iintro ⟨HR, HL⟩
  isplitl [HR]; · iexists K; iexact HR
  iexact HL

omit [FloatOps F] [Named F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell c k)))
          ∗ (bigSep Finset.univ fun k => iprop(atPos ER (kcell c k) 0 ∅ 0 ∗ reached ER (kcell c k) 0)) ∗ toks (F := F) c) : sProp 𝕄)
      ⊢ bigSep Finset.univ (G' m) := by
  rw [bigSep_sep', bigSep_sep', ← bigSep_univ_prod (fun ck : Dev nD × KK => iprop(∃ κ : ℕ, cellInv ER (Rd m) κ (kcell ck.1 ck.2))),
    bigSep_congr (s := Finset.univ) (fun (c : Dev nD) _ => bigSep_sep' Finset.univ (fun k : KK => (atPos ER (kcell c k) 0 ∅ 0 : sProp 𝕄)) (fun k => reached ER (kcell c k) 0)),
    bigSep_sep', ← bigSep_univ_prod (fun ck : Dev nD × KK => (reached ER (kcell ck.1 ck.2) 0 : sProp 𝕄))]
  iintro ⟨HI, ⟨Hat, #HR⟩, Htok⟩
  ihave HK := (BI.bigSep_exists_pi Finset.univ (fun (ck : Dev nD × KK) (κ : ℕ) => (cellInv ER (Rd m) κ (kcell ck.1 ck.2) : sProp 𝕄))) $$ HI
  icases HK with ⟨%K, #HI⟩
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : KK => (atPos ER (kcell c k) 0 ∅ 0 : sProp 𝕄)) (toks (F := F))).symm).trans
      (bigSep_mono fun c _ => show _ ⊢ linear (F := F) c from Entails.rfl))
    isplitl [Hat]; · iexact Hat
    iexact Htok

/-- The set-up of every cell of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of what is owed at launch -/

/-- What device `c` owes at launch: a signal to every barrier, and its sends. -/
def owedL (c : Dev nD) : List Snd := (devs.map fun x => ((x, 52, 52) : Snd)) ++ sends c
def O₀ (c : Dev nD) : CellTallies nD τ sig Unit := oweL (owedL c)

/-- How often a list of sends goes to a cell. -/
def cnt (T : List Snd) (c : Dev nD) (k : KK) : ℕ := (T.filter fun p => p.1 = c ∧ p.2.1 = k).length

theorem oweL_cell (T : List Snd) (c : Dev nD) (k : KK) : oweL T (kcell c k) () = cnt T c k * amt c k := by
  induction T with
  | nil => unfold cnt oweL; rw [List.filter_nil, List.length_nil, Nat.zero_mul]; rfl
  | cons p T ih =>
    unfold oweL
    rw [Pi.add_apply, Finsupp.add_apply, tallyAt_apply, ih]
    by_cases h : p.1 = c ∧ p.2.1 = k
    · obtain ⟨h1, h2⟩ := h
      rw [if_pos ⟨by rw [h1, h2], rfl⟩]
      unfold cnt
      rw [List.filter_cons_of_pos (by simp [h1, h2]), List.length_cons, Nat.add_mul, Nat.one_mul, h1, h2]
    · rw [if_neg fun he => h (by have := kcell_inj (a₁ := (c, k)) (a₂ := (p.1, p.2.1)) he.1; exact ⟨(congrArg Prod.fst this).symm, (congrArg Prod.snd this).symm⟩)]
      unfold cnt
      rw [List.filter_cons_of_neg (by simpa using h), Nat.add_zero]

theorem cnt_all (c : Dev nD) (k : KK) : (∑ d : Dev nD, cnt (owedL d) c k) = if k.val = 52 then 8 else if isRecv k && used c k then 1 else 0 := by
  revert c k; decide +kernel

/-- The credit of a cell of device `c`, if something arrives there. -/
def credK (c : Dev nD) (k : KK) : sProp (MT nD τ sig Unit (Elt F) ℕ UU ℕ) :=
  if isRecv k && used c k then cred (tallyAt (kcell c k) () (if k.val = 52 then 8 else amt c k)) else iprop(emp)

omit [FloatOps F] [Named F] in
theorem credK_of (c : Dev nD) (k : KK) :
    (cred (tallyOn (kcell c k) (launchCredit (Pipeline.owing O₀) 0 (kcell c k))) : sProp 𝕄) ⊢ credK (F := F) c k := by
  unfold credK
  split
  · rename_i h
    refine Entails.of_eq (congrArg _ ?_)
    unfold tallyAt; refine congrArg _ (Finsupp.ext fun u => ?_); cases u
    have e : (∑ d : Dev nD, O₀ d (kcell c k) ()) = (∑ d : Dev nD, cnt (owedL d) c k) * amt c k := by
      rw [Finset.sum_mul]; exact Finset.sum_congr rfl fun d _ => oweL_cell (owedL d) c k
    rw [Pipeline.launchCredit_owing, Finsupp.single_eq_same]
    refine e.trans ?_
    rw [cnt_all]
    by_cases hk : k.val = 52
    · have : k = 52 := Fin.ext hk
      subst this; rw [if_pos hk, if_pos hk, amt_bar]
    · rw [if_neg hk, if_neg hk, if_pos h, Nat.one_mul]
  · iintro -; iempintro

omit [FloatOps F] [Named F] in
theorem creds (c : Dev nD) : (Pipeline.launchCred O₀ c : sProp 𝕄) ⊢ bigSep Finset.univ fun k : KK => credK (F := F) c k := by
  unfold Pipeline.launchCred
  refine (bigSep_subset (t := Finset.univ.map ⟨csem, csem_inj⟩) (Finset.subset_univ _)).trans ?_
  rw [bigSep_map]
  exact bigSep_mono fun k _ => credK_of (F := F) c k

end Cert.Hand

end
-- ==== Proof.Start.lean ====
/-
# A device's start and end

At the start a device sorts its cells into those it will wait on and those it leaves alone, and cuts its buffers into
the places things arrive in and its own; at the end all its cells are at zero and its buffers are whole.
-/
module

public import proofs.«01_k».proof.Proof.Fund

@[expose] public section

noncomputable section

namespace Cert.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ UU ℕ

variable (m : (ℓ : Loc nD τ sig) → Buf (Elt F) ℓ) (K : Dev nD × KK → ℕ)

/-! ## Lists -/

omit [FloatOps F] [Named F] in
theorem sepL_monoL {ι : Type} {Φ Ψ : ι → sProp 𝕄} (l : List ι) (h : ∀ a ∈ l, Φ a ⊢ Ψ a) : sepL Φ l ⊢ sepL Ψ l := by
  induction l with
  | nil => exact Entails.rfl
  | cons a l ih =>
    rw [sepL_cons, sepL_cons]
    exact BI.sep_mono (h a List.mem_cons_self) (ih fun b hb => h b (List.mem_cons_of_mem _ hb))

omit [FloatOps F] [Named F] in
theorem sepL_fupd {ι : Type} {R : sProp 𝕄} [BI.Persistent R] {Φ Ψ : ι → sProp 𝕄} (l : List ι)
    (h : ∀ a ∈ l, iprop(R ∗ Φ a) ⊢ (|={Set.univ}=> Ψ a : sProp 𝕄)) : iprop(R ∗ sepL Φ l) ⊢ (|={Set.univ}=> sepL Ψ l : sProp 𝕄) := by
  induction l with
  | nil =>
    rw [sepL_nil, sepL_nil]
    iintro -; imodintro; iempintro
  | cons a l ih =>
    rw [sepL_cons, sepL_cons]
    iintro ⟨#HR, H1, H2⟩
    imod (h a List.mem_cons_self) $$ [H1] with H1
    · isplitr; · iexact HR
      iexact H1
    imod (ih fun b hb => h b (List.mem_cons_of_mem _ hb)) $$ [H2] with H2
    · isplitr; · iexact HR
      iexact H2
    imodintro
    isplitl [H1]; · iexact H1
    iexact H2

/-! ## The cells -/

/-- The cells device `c` does not use. -/
def idle (c : Dev nD) : List KK := (List.finRange 53).filter fun k => !used c k && !(decide (18 ≤ k.val) && decide (k.val < 22))

theorem cells_perm (c : Dev nD) : (List.finRange 53).Perm (waits c ++ (idle c ++ [18, 19, 20, 21])) := by
  revert c; decide +kernel

theorem idle_unused (c : Dev nD) : ∀ k ∈ idle c ++ [18, 19, 20, 21], k.val ≠ 52 ∧ used c k = false := by
  revert c; decide +kernel

theorem waits_used (c : Dev nD) : ∀ k ∈ waits c, isRecv k = true → (isRecv k && used c k) = true := by
  revert c; decide +kernel

theorem ends_perm (c : Dev nD) : (zEnd c (idle c) ++ [18, 19, 20, 21]).Perm (List.finRange 53) := by
  revert c; decide +kernel

theorem finRange_univ : (Finset.univ : Finset KK) = (List.finRange 53).toFinset := by
  ext k; simp

/-- A cell not used closes at once. -/
theorem close_idle (c : Dev nD) (k : KK) (h : k.val ≠ 52 ∧ used c k = false) :
    iprop(Cx (F := F) m K ∗ (Rounds.atPos ER (kcell c k) 0 ∅ 0 ∗ credK (F := F) c k)) ⊢ (|={Set.univ}=> zItem (F := F) c k : sProp 𝕄) := by
  iintro ⟨#HC, Hat, -⟩
  ihave #Hinv := (Cx_inv m K c k) $$ HC
  imod (Rounds.cell_close ER (Rd m) (Set.mem_univ (K (c, k))) (fun h => h) (R := 0) (duties_unused m h.1 h.2)) $$ [Hat] with Hz
  · isplitr; · iexact Hinv
    iexact Hat
  imodintro
  unfold zItem
  iexact Hz

omit [FloatOps F] [Named F] in
theorem wItem_of (c : Dev nD) (k : KK) (h : k ∈ waits c) : iprop(Rounds.atPos ER (kcell c k) 0 ∅ 0 ∗ credK (F := F) c k) ⊢ wItem (F := F) c k := by
  unfold wItem
  refine sep_mono_right ?_
  by_cases hr : isRecv k = true
  · unfold credK; rw [if_pos (waits_used c k h hr), if_pos hr]
  · rw [if_neg hr]; iintro -; iempintro

/-- The cells at the start: those to be waited on, those not used. -/
theorem cells_in (c : Dev nD) :
    iprop(Cx (F := F) m K ∗ (bigSep Finset.univ fun k : KK => Rounds.atPos ER (kcell c k) 0 ∅ 0) ∗ (bigSep Finset.univ fun k : KK => credK (F := F) c k))
      ⊢ (|={Set.univ}=> (sepL (wItem (F := F) c) (waits c) ∗ sepL (zItem (F := F) c) (idle c) ∗ sepL (zItem (F := F) c) [18, 19, 20, 21]) : sProp 𝕄) := by
  iintro ⟨#HC, Hat, Hcr⟩
  ihave H := (Entails.of_eq (bigSep_sep' Finset.univ (fun k : KK => (Rounds.atPos ER (kcell c k) 0 ∅ 0 : sProp 𝕄)) (fun k => credK (F := F) c k)).symm) $$ [Hat Hcr]
  · isplitl [Hat] <;> iassumption
  ihave H := ((Entails.of_eq (congrArg (fun S => bigSep S fun k : KK => (iprop(Rounds.atPos ER (kcell c k) 0 ∅ 0 ∗ credK (F := F) c k) : sProp 𝕄)) finRange_univ)).trans
    ((bigSep_list (F := F) _ _ (List.nodup_finRange 53)).1.trans ((sepL_perm (F := F) _ (cells_perm c)).trans (sepL_append (F := F) _ _ _).1))) $$ H
  icases H with ⟨HW, HZ⟩
  ihave HW := (sepL_monoL (F := F) _ fun k hk => wItem_of c k hk) $$ HW
  imod (sepL_fupd (F := F) (R := Cx m K) (Ψ := zItem (F := F) c) (idle c ++ [18, 19, 20, 21]) fun k hk => close_idle m K c k (idle_unused c k hk)) $$ [HZ] with HZ
  · isplitr; · iexact HC
    iexact HZ
  ihave HZ := (sepL_append (F := F) _ _ _).1 $$ HZ
  imodintro
  isplitl [HW]; · iexact HW
  iexact HZ

omit [FloatOps F] [Named F] in
/-- The cells at the end: all at zero. -/
theorem cells_out (c : Dev nD) : iprop(sepL (zItem (F := F) c) (zEnd c (idle c)) ∗ sepL (zItem (F := F) c) [18, 19, 20, 21]) ⊢ bigSep Finset.univ fun k : KK => zItem (F := F) c k :=
  (sepL_append (F := F) _ _ _).2.trans ((sepL_perm (F := F) _ (ends_perm c)).trans ((bigSep_list (F := F) _ _ (List.nodup_finRange 53)).2.trans
    (Entails.of_eq (congrArg (fun S => bigSep S (zItem (F := F) c)) finRange_univ.symm))))

omit [FloatOps F] [Named F] in
/-- The rights to pay: of the signals, of the sends. -/
theorem toks_in (c : Dev nD) : toks (F := F) c ⊢ iprop(sepL (fun x : Dev nD => Rounds.dutyTok ER (kcell x 52) 0 c) devs ∗ sepL (tokItem (F := F) c) (sends c)) := by
  unfold toks payL
  refine (sepL_append (F := F) _ _ _).1.trans (BI.sep_mono (Entails.of_eq (sepL_map (F := F) _ _ _)) ((sepL_flatMap (F := F) _ _ _).2.trans (sepL_monoL (F := F) _ fun p _ => ?_)))
  rw [sepL_cons, sepL_cons, sepL_nil]
  unfold tokItem
  iintro ⟨H1, H2, -⟩
  isplitl [H1] <;> iassumption

/-! ## The buffers -/

theorem rows_apart {b lo n b' lo' n' : ℕ} (h : b ≠ b' ∨ lo + n ≤ lo' ∨ lo' + n' ≤ lo) : Disjoint (rows b lo n) (rows b' lo' n') := by
  rw [Finset.disjoint_left]; intro i h1 h2; rw [mem_rows] at h1 h2; omega
theorem srows_apart {b lo n b' lo' n' : ℕ} (h : b ≠ b' ∨ lo + n ≤ lo' ∨ lo' + n' ≤ lo) : Disjoint (srows b lo n) (srows b' lo' n') := by
  rw [Finset.disjoint_left]; intro i h1 h2; rw [mem_srows] at h1 h2; omega
theorem plane_apart {j j' : ℕ} (h : j ≠ j') : Disjoint (plane j) (plane j') := by
  rw [Finset.disjoint_left]; intro i h1 h2; rw [mem_plane] at h1 h2; omega

/-- Two blocks of rows with no row in common. -/
abbrev Apart (p q : ℕ × ℕ × ℕ) : Prop := p.1 ≠ q.1 ∨ p.2.1 + p.2.2 ≤ q.2.1 ∨ q.2.1 + q.2.2 ≤ p.2.1

/-- The rows the sums arrive in. -/
abbrev sumRows : List (Finset S2x512x768.Idx) := [(0, 0, 256), (1, 0, 256), (0, 256, 128), (1, 256, 128), (0, 384, 64), (1, 384, 64)].map fun p : ℕ × ℕ × ℕ => rows p.1 p.2.1 p.2.2
theorem sumRows_disj : sumRows.Pairwise Disjoint :=
  List.pairwise_map.mpr ((by decide : List.Pairwise Apart [(0, 0, 256), (1, 0, 256), (0, 256, 128), (1, 256, 128), (0, 384, 64), (1, 384, 64)]).imp fun h => rows_apart h)

/-- The rows the results arrive in, and the device's own. -/
abbrev agPieces (c : Dev nD) : List (ℕ × ℕ × ℕ) :=
  [(0, kp3 (fl2 c), 64), (1, kp3 (fl2 c), 64), (0, kp2 (fl4 c), 128), (1, kp2 (fl4 c), 128), (0, kp1 (fl1 c), 256), (1, kp1 (fl1 c), 256), (0, kp3 c, 64), (1, kp3 c, 64)]
abbrev agRows (c : Dev nD) : List (Finset S2x512x768.Idx) := (agPieces c).map fun p => rows p.1 p.2.1 p.2.2
theorem agRows_disj (c : Dev nD) : (agRows c).Pairwise Disjoint :=
  List.pairwise_map.mpr ((by revert c; decide : List.Pairwise Apart (agPieces c)).imp fun h => rows_apart h)

/-- The two halves the sums leave from. -/
abbrev outRows : List (Finset S2x256x768.Idx) := [(0, 0, 256), (1, 0, 256)].map fun p : ℕ × ℕ × ℕ => srows p.1 p.2.1 p.2.2
theorem outRows_disj : outRows.Pairwise Disjoint :=
  List.pairwise_map.mpr ((by decide : List.Pairwise Apart [(0, 0, 256), (1, 0, 256)]).imp fun h => srows_apart h)

/-- The planes a relay receives in. -/
abbrev relPlanes (c : Dev nD) : List (Finset S3x2x512x512.Idx) := (if c = 4 then [0, 1, 2] else if c = 7 then [0] else []).map plane
theorem relPlanes_disj (c : Dev nD) : (relPlanes c).Pairwise Disjoint :=
  List.pairwise_map.mpr ((by revert c; decide : List.Pairwise (· ≠ ·) (if c = 4 then [0, 1, 2] else if c = 7 then [0] else [] : List ℕ)).imp fun h => plane_apart h)

omit [FloatOps F] [Named F] in
theorem relay_land (c : Dev nD) : sepL (fun k => landAny (F := F) (c, k)) (relay c) = sepL (anyOn (F := F) c cc0_scratch11) (relPlanes c) := by
  unfold relay relPlanes
  by_cases h4 : c = 4
  · subst h4; rfl
  · by_cases h7 : c = 7
    · subst h7; rfl
    · rw [if_neg h4, if_neg h4, if_neg h7, if_neg h7]; rfl

omit [FloatOps F] [Named F] in
theorem sum_land (c : Dev nD) : sepL (fun k => landAny (F := F) (c, k)) [34, 35, 36, 37, 38, 39] = sepL (anyOn (F := F) c cc0_scratch8) sumRows := rfl

omit [FloatOps F] [Named F] in
theorem ag_land (c : Dev nD) : sepL (anyOn (F := F) c cc0_scratch10) (agRows c)
    ⊢ iprop(sepL (fun k => landAny (F := F) (c, k)) [46, 47, 48, 49, 50, 51] ∗ anyOn (F := F) c cc0_scratch10 (rows 0 (kp3 c) 64) ∗ anyOn (F := F) c cc0_scratch10 (rows 1 (kp3 c) 64)) := by
  have h : sepL (anyOn (F := F) c cc0_scratch10) (agRows c) = sepL (anyOn (F := F) c cc0_scratch10)
      ((agRows c).take 6 ++ [rows 0 (kp3 c) 64, rows 1 (kp3 c) 64]) := rfl
  have h6 : sepL (anyOn (F := F) c cc0_scratch10) ((agRows c).take 6) = sepL (fun k => landAny (F := F) (c, k)) [46, 47, 48, 49, 50, 51] := rfl
  rw [h]
  refine (sepL_append (F := F) _ _ _).1.trans ?_
  rw [h6, sepL_cons (anyOn (F := F) c cc0_scratch10), sepL_cons (anyOn (F := F) c cc0_scratch10), sepL_nil (anyOn (F := F) c cc0_scratch10)]
  iintro ⟨H0, H1, H2, -⟩
  isplitl [H0]; · iexact H0
  isplitl [H1] <;> iassumption

omit [FloatOps F] [Named F] in
theorem half_any (c : Dev nD) (b : Ref sig .tc) (S T : Finset (Idx ((c : Thread nD τ).loc b))) (hST : Disjoint S T) :
    anyOn (F := F) c b Finset.univ ⊢ iprop(anyOn (F := F) c b S ∗ anyOn (F := F) c b T) := by
  refine (anyOn_parts (F := F) c b [S, T] (by simp [hST])).trans ?_
  rw [sepL_cons, sepL_cons, sepL_nil]
  iintro ⟨⟨H1, H2, -⟩, -⟩
  isplitl [H1] <;> iassumption

omit [FloatOps F] [Named F] in
/-- The key and value buffers: the rows that arrive, the rows computed here. -/
theorem kv_land (c : Dev nD) : iprop(anyOn (F := F) c cc0_scratch0 Finset.univ ∗ anyOn (F := F) c cc0_scratch1 Finset.univ)
    ⊢ iprop(sepL (fun k => landAny (F := F) (c, k)) (kvW c) ∗ anyLo (F := F) c ∗ anyHi (F := F) c) := by
  iintro ⟨HK, HV⟩
  ihave HK := (half_any (F := F) c cc0_scratch0 (krows 0 512) (krows 512 128) krows_disj) $$ HK
  ihave HV := (half_any (F := F) c cc0_scratch1 (krows 0 512) (krows 512 128) krows_disj) $$ HV
  icases HK with ⟨HK0, HK1⟩
  icases HV with ⟨HV0, HV1⟩
  unfold anyLo anyHi kvW
  by_cases h0 : c = 0
  · have h1 : c ≠ 1 := by rw [h0]; decide
    rw [if_neg (not_not.mpr h0), if_pos h1, if_pos h0, if_neg h1]
    isplitl [HK1 HV1]
    · iapply (show iprop(anyOn (F := F) c cc0_scratch0 (krows 512 128) ∗ anyOn (F := F) c cc0_scratch1 (krows 512 128) ∗ emp) ⊢ sepL (fun k => landAny (F := F) (c, k)) ([] ++ [2, 3]) from Entails.rfl)
      isplitl [HK1]; · iexact HK1
      isplitl [HV1]; · iexact HV1
      iempintro
    isplitl [HK0 HV0]
    · isplitl [HK0] <;> iassumption
    iempintro
  · by_cases h1 : c = 1
    · rw [if_pos h0, if_neg (not_not.mpr h1), if_neg h0, if_pos h1]
      isplitl [HK0 HV0]
      · iapply (show iprop(anyOn (F := F) c cc0_scratch0 (krows 0 512) ∗ anyOn (F := F) c cc0_scratch1 (krows 0 512) ∗ emp) ⊢ sepL (fun k => landAny (F := F) (c, k)) ([0, 1] ++ []) from Entails.rfl)
        isplitl [HK0]; · iexact HK0
        isplitl [HV0]; · iexact HV0
        iempintro
      isplitr; · iempintro
      isplitl [HK1] <;> iassumption
    · rw [if_pos h0, if_pos h1, if_neg h0, if_neg h1]
      isplitl
      · iapply (show iprop(anyOn (F := F) c cc0_scratch0 (krows 0 512) ∗ anyOn (F := F) c cc0_scratch1 (krows 0 512) ∗ anyOn (F := F) c cc0_scratch0 (krows 512 128) ∗ anyOn (F := F) c cc0_scratch1 (krows 512 128) ∗ emp)
          ⊢ sepL (fun k => landAny (F := F) (c, k)) ([0, 1] ++ [2, 3]) from Entails.rfl)
        isplitl [HK0]; · iexact HK0
        isplitl [HV0]; · iexact HV0
        isplitl [HK1]; · iexact HK1
        isplitl [HV1]; · iexact HV1
        iempintro
      isplitr <;> iempintro

/-- What of the relay's and the sums' buffers nothing arrives in. -/
def left (c : Dev nD) : sProp (MT nD τ sig Unit (Elt F) ℕ UU ℕ) :=
  iprop(anyOn (F := F) c cc0_scratch11 (Finset.univ \ (relPlanes c).foldr (· ∪ ·) ∅) ∗ anyOn (F := F) c cc0_scratch8 (Finset.univ \ sumRows.foldr (· ∪ ·) ∅)
    ∗ anyOn (F := F) c cc0_scratch9 (Finset.univ \ outRows.foldr (· ∪ ·) ∅))

omit [FloatOps F] [Named F] in
/-- The buffers cut into the places things arrive in and the device's own. -/
theorem bufs_in (c : Dev nD) :
    iprop(anyOn (F := F) c cc0_scratch0 Finset.univ ∗ anyOn (F := F) c cc0_scratch1 Finset.univ ∗ anyOn (F := F) c cc0_scratch8 Finset.univ
        ∗ anyOn (F := F) c cc0_scratch9 Finset.univ ∗ anyOn (F := F) c cc0_scratch10 Finset.univ ∗ anyOn (F := F) c cc0_scratch11 Finset.univ)
      ⊢ iprop(sepL (fun k => landAny (F := F) (c, k)) (myLand c) ∗ anyLo (F := F) c ∗ anyHi (F := F) c ∗ Sb (F := F) c 0 256 ∗ Sb (F := F) c 1 256
        ∗ anyOn (F := F) c cc0_scratch10 (rows 0 (kp3 c) 64) ∗ anyOn (F := F) c cc0_scratch10 (rows 1 (kp3 c) 64) ∗ left (F := F) c) := by
  iintro ⟨HK, HV, HR, HS, HA, HB⟩
  ihave HKV := (kv_land (F := F) c) $$ [HK HV]
  · isplitl [HK] <;> iassumption
  icases HKV with ⟨HKV, HL, HH⟩
  ihave HR := (anyOn_parts (F := F) c cc0_scratch8 sumRows sumRows_disj) $$ HR
  icases HR with ⟨HR, HR'⟩
  ihave HS := (anyOn_parts (F := F) c cc0_scratch9 outRows outRows_disj) $$ HS
  icases HS with ⟨HS, HS'⟩
  ihave HS := (show sepL (anyOn (F := F) c cc0_scratch9) outRows ⊢ iprop(Sb (F := F) c 0 256 ∗ Sb (F := F) c 1 256 ∗ emp) from Entails.rfl) $$ HS
  icases HS with ⟨HS0, HS1, -⟩
  ihave HA := (anyOn_parts (F := F) c cc0_scratch10 (agRows c) (agRows_disj c)) $$ HA
  icases HA with ⟨HA, -⟩
  ihave HA := (ag_land (F := F) c) $$ HA
  icases HA with ⟨HA, HA0, HA1⟩
  ihave HB := (anyOn_parts (F := F) c cc0_scratch11 (relPlanes c) (relPlanes_disj c)) $$ HB
  icases HB with ⟨HB, HB'⟩
  isplitl [HKV HB HR HA]
  · unfold myLand
    iapply (sepL_append (F := F) _ _ _).2
    isplitl [HKV]; · iexact HKV
    iapply (sepL_append (F := F) _ _ _).2
    isplitl [HB]; · iapply (Entails.of_eq (relay_land (F := F) c).symm); iexact HB
    iapply (sepL_append (F := F) _ [34, 35, 36, 37, 38, 39] [46, 47, 48, 49, 50, 51]).2
    isplitl [HR]; · iapply (Entails.of_eq (sum_land (F := F) c).symm); iexact HR
    iexact HA
  isplitl [HL]; · iexact HL
  isplitl [HH]; · iexact HH
  isplitl [HS0]; · iexact HS0
  isplitl [HS1]; · iexact HS1
  isplitl [HA0]; · iexact HA0
  isplitl [HA1]; · iexact HA1
  unfold left
  isplitl [HB']; · iexact HB'
  isplitl [HR']; · iexact HR'
  iexact HS'

omit [FloatOps F] [Named F] in
/-- The same buffers whole again. -/
theorem bufs_out (c : Dev nD) :
    iprop(left (F := F) c ∗ sepL (fun k => landAny (F := F) (c, k)) (relay c) ∗ sepL (fun k => landAny (F := F) (c, k)) [34, 35, 36, 37, 38, 39]
        ∗ Sb (F := F) c 0 256 ∗ Sb (F := F) c 1 256)
      ⊢ iprop(anyOn (F := F) c cc0_scratch8 Finset.univ ∗ anyOn (F := F) c cc0_scratch9 Finset.univ ∗ anyOn (F := F) c cc0_scratch11 Finset.univ) := by
  unfold left
  iintro ⟨⟨HB', HR', HS'⟩, HB, HR, HS0, HS1⟩
  isplitl [HR HR']
  · iapply (anyOn_whole (F := F) c cc0_scratch8 sumRows sumRows_disj)
    isplitl [HR]; · iapply (Entails.of_eq (sum_land (F := F) c)); iexact HR
    iexact HR'
  isplitl [HS0 HS1 HS']
  · iapply (anyOn_whole (F := F) c cc0_scratch9 outRows outRows_disj)
    isplitl [HS0 HS1]
    · iapply (show iprop(Sb (F := F) c 0 256 ∗ Sb (F := F) c 1 256 ∗ emp) ⊢ sepL (anyOn (F := F) c cc0_scratch9) outRows from Entails.rfl)
      isplitl [HS0]; · iexact HS0
      isplitl [HS1]; · iexact HS1
      iempintro
    iexact HS'
  iapply (anyOn_whole (F := F) c cc0_scratch11 (relPlanes c) (relPlanes_disj c))
  isplitl [HB]; · iapply (Entails.of_eq (relay_land (F := F) c)); iexact HB
  iexact HB'

end Cert.Hand

end
-- ==== Proof.Launch.lean ====
/-
# The run

The body on every device is what the launch needs of it, and the launch gives the run of the whole program: it
terminates, and at the end each array holds what the data says.
-/
module

public import proofs.«01_k».proof.Proof.Start
public import Idealize.ShloMosaic.Lib.Pipeline.CollectiveSegs

@[expose] public section

noncomputable section

namespace Cert.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg) (K : Dev nD × KK → ℕ)

/-- The launched memory. -/
abbrev s₀ : MemSt nD τ sig (Elt F) := ⟨m, fun _ => 0, ρ⟩

/-- The buffers of the kernel that no window stages, at some contents. -/
def scratch (c : Dev nD) : sProp (MT nD τ sig Unit (Elt F) ℕ UU ℕ) :=
  iprop(anyOn (F := F) c cc0_scratch0 Finset.univ ∗ anyOn (F := F) c cc0_scratch1 Finset.univ ∗ anyOn (F := F) c cc0_scratch2 Finset.univ
    ∗ anyOn (F := F) c cc0_scratch3 Finset.univ ∗ anyOn (F := F) c cc0_scratch4 Finset.univ ∗ anyOn (F := F) c cc0_scratch5 Finset.univ
    ∗ anyOn (F := F) c cc0_scratch6 Finset.univ ∗ anyOn (F := F) c cc0_scratch7 Finset.univ ∗ anyOn (F := F) c cc0_scratch8 Finset.univ
    ∗ anyOn (F := F) c cc0_scratch9 Finset.univ ∗ anyOn (F := F) c cc0_scratch10 Finset.univ ∗ anyOn (F := F) c cc0_scratch11 Finset.univ)

/-- The arrays of keys and values, which the kernel reads itself. -/
def arrs (c : Dev nD) : sProp (MT nD τ sig Unit (Elt F) ℕ UU ℕ) := iprop(pc c main_arg2 Finset.univ (kA m c) ∗ pc c main_arg3 Finset.univ (vA m c))

/-- What a device starts from, its buffers aside. -/
def start (c : Dev nD) : sProp (MT nD τ sig Unit (Elt F) ℕ UU ℕ) :=
  iprop((∃ K, Cx (F := F) m K) ∗ linear (F := F) c ∗ (bigSep Finset.univ fun k : KK => credK (F := F) c k) ∗ arrs m c)

def Φ₀ (c : Dev nD) : sProp (MT nD τ sig Unit (Elt F) ℕ UU ℕ) := iprop(start m c ∗ scratch (F := F) c)
def Φ₁ (c : Dev nD) : sProp (MT nD τ sig Unit (Elt F) ℕ UU ℕ) :=
  iprop((bigSep Finset.univ fun k : KK => zItem (F := F) c k) ∗ arrs m c ∗ scratch (F := F) c)

/-- The run's data: what each window's staging buffer holds after the one point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xF m c
    | ⟨1, _⟩ => wqF m c
    | ⟨2, _⟩ => woF m c
    | ⟨3, _⟩ => resF m
  Φ t := match t with
    | ⟨0, _⟩ => Φ₀ m c
    | ⟨_ + 1, _⟩ => Φ₁ m c
  q _ := fullShare
  owed t := match t with
    | ⟨0, _⟩ => O₀ c
    | ⟨_ + 1, _⟩ => 0

theorem before_0 (c : Dev nD) (d) : (dats m ρ 0 c).before (0 : Fin 4) t0_0 d = xF m c := by
  unfold Dat.before; rw [if_pos (fetch0_0 t0_0)]; rfl
theorem before_1 (c : Dev nD) (d) : (dats m ρ 0 c).before (1 : Fin 4) t0_0 d = wqF m c := by
  unfold Dat.before; rw [if_pos (fetch0_1 t0_0)]; rfl
theorem before_2 (c : Dev nD) (d) : (dats m ρ 0 c).before (2 : Fin 4) t0_0 d = woF m c := by
  unfold Dat.before; rw [if_pos (fetch0_2 t0_0)]; rfl

abbrev stg (c : Dev nD) (b : Ref sig .tc) (X : b.ty.Contents (Elt F)) : sProp (MT nD τ sig Unit (Elt F) ℕ UU ℕ) :=
  iprop(∃ f : Buf (Elt F) (((c : Dev nD) : Thread nD τ).loc b), ⌜f = X⌝ ∗ (((c : Thread nD τ).loc b) ↦{fullShare} f))

def bodyPre (c : Dev nD) : sProp (MT nD τ sig Unit (Elt F) ℕ UU ℕ) :=
  iprop(Φ₀ m c ∗ (dats m ρ 0 c).owesAt () t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))

def bodyPost (c : Dev nD) : sProp (MT nD τ sig Unit (Elt F) ℕ UU ℕ) :=
  iprop(Φ₁ m c ∗ (dats m ρ 0 c).owesAt () t0_0.succ ∗ stg c cc0_stg0_0 (xF m c) ∗ stg c cc0_stg1_0 (wqF m c) ∗ stg c cc0_stg2_0 (woF m c)
    ∗ stg c cc0_stg3_0 (resF m))

/-- The end of the body: everything back. -/
theorem body_end (c : Dev nD) : iprop(left (F := F) c ∗ After m c (idle c)) ⊢ bodyPost m ρ c := by
  unfold After stgAll bodyPost Φ₁ Dat.owesAt Pipeline.owesWithin
  rw [show (dats m ρ 0 c).owed t0_0.succ = 0 from rfl]
  iintro ⟨HL, HZ, ⟨%Ws, HO⟩, ⟨HKA, HVA, H7, Z18, Z19, Z20, Z21⟩, HOut, HRel, HX, HWQ, HWO, HR, H0, H1, H2, H3, H4, HS0, HS1, H10, HSum⟩
  ihave HZ := (cells_out (F := F) c) $$ [HZ Z18 Z19 Z20 Z21]
  · isplitl [HZ]; · iexact HZ
    rw [sepL_cons, sepL_cons, sepL_cons, sepL_cons, sepL_nil]
    isplitl [Z18]; · iexact Z18
    isplitl [Z19]; · iexact Z19
    isplitl [Z20]; · iexact Z20
    isplitl [Z21]; · iexact Z21
    iempintro
  ihave HB := (bufs_out (F := F) c) $$ [HL HRel HSum HS0 HS1]
  · isplitl [HL]; · iexact HL
    isplitl [HRel]; · iexact HRel
    isplitl [HSum]; · iexact HSum
    isplitl [HS0] <;> iassumption
  icases HB with ⟨H8, H9, H11⟩
  unfold outAll
  icases HOut with ⟨H5, H6⟩
  isplitl [HZ HKA HVA H0 H1 H2 H3 H4 H5 H6 H7 H8 H9 H10 H11]
  · isplitl [HZ]; · iexact HZ
    isplitl [HKA HVA]
    · unfold arrs; isplitl [HKA] <;> iassumption
    unfold scratch
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [HO]
  · iexists Ws
    isplitr; · ipureintro; exact fun _ _ => Or.inl trivial
    iexact HO
  isplitl [HX]
  · iexists _; isplitr; · (ipureintro; rfl)
    iexact HX
  isplitl [HWQ]
  · iexists _; isplitr; · (ipureintro; rfl)
    iexact HWQ
  isplitl [HWO]
  · iexists _; isplitr; · (ipureintro; rfl)
    iexact HWO
  iexists _; isplitr; · (ipureintro; rfl)
  iexact HR

/-- The body of the kernel on device `c`. -/
theorem sound_body (c : Dev nD) : bodyPre m ρ c ⊢ Wp c (onBufs (cc0_body (F := F))) (fun _ => bodyPost m ρ c) := by
  unfold bodyPre Φ₀ start linear arrs scratch
  iintro ⟨⟨⟨⟨%K, #HC⟩, ⟨Hat, Htk⟩, Hcr, HKA, HVA⟩, H0, H1, H2, H3, H4, H5, H6, H7, H8, H9, H10, H11⟩, Ho,
    ⟨%d0, %g0, %hg0, HX⟩, ⟨%d1, %g1, %hg1, HWQ⟩, ⟨%d2, %g2, %hg2, HWO⟩, ⟨%d3, %g3, %hg3, HOUT⟩⟩
  have e0 : g0 = xF m c := hg0.trans (before_0 m ρ c d0)
  have e1 : g1 = wqF m c := hg1.trans (before_1 m ρ c d1)
  have e2 : g2 = woF m c := hg2.trans (before_2 m ρ c d2)
  subst e0 e1 e2
  unfold Dat.owesAt Pipeline.owesWithin
  icases Ho with ⟨%W, %hW, HO⟩
  rw [show (dats m ρ 0 c).owed t0_0.castSucc = O₀ c from rfl]
  imod (cells_in m K c) $$ [Hat Hcr] with ⟨HW, HZ, HZ4⟩
  · isplitr; · iexact HC
    isplitl [Hat] <;> iassumption
  ihave Htk := (toks_in (F := F) c) $$ Htk
  icases Htk with ⟨Hsg, Htk⟩
  ihave HB := (bufs_in (F := F) c) $$ [H0 H1 H8 H9 H10 H11]
  · isplitl [H0]; · iexact H0
    isplitl [H1]; · iexact H1
    isplitl [H8]; · iexact H8
    isplitl [H9]; · iexact H9
    isplitl [H10]; · iexact H10
    iexact H11
  icases HB with ⟨Hland, HL, HH, HS0, HS1, HA0, HA1, Hleft⟩
  ihave Hland := (land_split (F := F) c) $$ Hland
  ihave Hsg := (sepL_sep (F := F) (fun x : Dev nD => Rounds.dutyTok ER (kcell x 52) 0 c) (fun x => barPay (F := F) x c) devs).1 $$ [Hsg Hland]
  · isplitl [Hsg] <;> iassumption
  ihave HZ4 := (Entails.of_eq (show sepL (zItem (F := F) c) [18, 19, 20, 21] = iprop(zItem c 18 ∗ zItem c 19 ∗ zItem c 20 ∗ zItem c 21 ∗ emp) from rfl)) $$ HZ4
  icases HZ4 with ⟨Z18, Z19, Z20, Z21, -⟩
  iapply (body_run m K c (idle c) (fun _ => bodyPost m ρ c))
  isplitr; · iexact HC
  isplitl [HZ HW Htk Hsg HO]
  · unfold PreB
    isplitl [HZ]; · iexact HZ
    isplitl [HW]; · iexact HW
    isplitl [Htk]; · iexact Htk
    isplitl [Hsg]; · iexact Hsg
    iexists W; iexact HO
  isplitl [HKA HVA H7 Z18 Z19 Z20 Z21]
  · unfold stgAll
    isplitl [HKA]; · iexact HKA
    isplitl [HVA]; · iexact HVA
    isplitl [H7]; · iexact H7
    isplitl [Z18]; · iexact Z18
    isplitl [Z19]; · iexact Z19
    isplitl [Z20]; · iexact Z20
    iexact Z21
  isplitl [H5 H6]
  · unfold outAll; isplitl [H5] <;> iassumption
  isplitl [HL]; · iexact HL
  isplitl [HH]; · iexact HH
  isplitl [HX]; · iexact HX
  isplitl [HWQ]; · iexact HWQ
  isplitl [H2]; · iexact H2
  isplitl [HWO]; · iexact HWO
  isplitl [H4]; · iexact H4
  isplitl [H3]; · iexact H3
  isplitl [HOUT]; · iexists _; iexact HOUT
  isplitl [HS0]; · iexact HS0
  isplitl [HS1]; · iexact HS1
  isplitl [HA0]; · iexact HA0
  isplitl [HA1]; · iexact HA1
  iintro HAf
  iapply (body_end m ρ c)
  isplitl [Hleft] <;> iassumption

set_option maxRecDepth 8000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ Wp c (onBufs (cc0_body (F := F))) (fun _ => bodyPost m ρ c)
  exact sound_body m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start records Cx arrs
  iintro ⟨⟨HKA, HVA⟩, Hlev, Hcr, -, ⟨%K, HR1, HR2⟩, HLin⟩
  ihave Hc := (creds (F := F) c) $$ Hcr
  imodintro
  isplitl
  · isplitl [HR1 HR2 Hlev]
    · iexists K
      isplitl [HR1]; · iexact HR1
      isplitl [HR2] <;> iassumption
    isplitl [HLin]; · iexact HLin
    isplitl [Hc]; · iexact Hc
    isplitl [HKA]; · iexact HKA
    iexact HVA
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop((unscopedSems0 c ∗ arrs m c) ∗ Pipeline.ownSems0 osem c ∗ Pipeline.scopedRest cfg0.spec c) := by
  rw [show (dats m ρ 0 c).Φ (Fin.last cfg0.N) = Φ₁ m c from rfl, scopedRest0_eq]
  unfold Φ₁ scratch
  rw [sems0_eq]
  iintro ⟨⟨HU, HO⟩, HA, Hr⟩
  isplitl [HU HA]
  · isplitl [HU] <;> iassumption
  isplitl [HO]; · iexact HO
  iexact Hr

theorem waits_ok (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_at c _ (owedL c) 0 (le_of_eq (by fin_cases w <;> fin_cases s <;> rfl)) (by revert c; decide)
    · exact (show (levAts L lv : sProp 𝕄) ⊢ MayWait (c : Thread nD τ) _ () 0 from by rw [MayWait_zero]; iintro -; iempintro)

/-- The arrays of keys and values, read back. -/
theorem arrs_read (c : Dev nD) (s' : Phys nD τ sig (Elt F)) :
    iprop(arrs m c ∗ SI s') ⊢ iprop(⌜s'.mem.mem ((c : Thread nD τ).loc main_arg2) = kA m c ∧ s'.mem.mem ((c : Thread nD τ).loc main_arg3) = vA m c⌝ ∗ SI s') := by
  have h := pointsTo_read_all (Ix := Unit) (Name := ℕ) (U := UU) (Lvl := ℕ) (Finset.univ : Finset (Fin 2))
    (fun i => (c : Thread nD τ).loc (if i = 0 then main_arg2 else main_arg3)) (fun i => m ((c : Thread nD τ).loc (if i = 0 then main_arg2 else main_arg3))) s'
  rw [bigSep_univ_eq_bigSepL [(0 : Fin 2), 1] (by decide) (by decide)] at h
  refine (show iprop(arrs m c ∗ SI s') ⊢ _ from h).trans ?_
  iintro ⟨%hh, HS⟩
  isplitr; · ipureintro; exact ⟨hh 0 (Finset.mem_univ _), hh 1 (Finset.mem_univ _)⟩
  iexact HS

/-- What the run leaves: each window's array at the data's contents, the arrays of keys and values as they were. -/
def QC : PUnit × MemSt nD τ sig (Elt F) → Prop := fun r =>
  ∀ c : Dev nD, (∀ w : Fin cfg0.W, r.2.mem ((cfg0.win w).arr.view.loc (c : Thread nD τ)) = (dats m ρ 0 c).arrAt w cfg0.N)
    ∧ r.2.mem ((c : Thread nD τ).loc main_arg2) = kA m c ∧ r.2.mem ((c : Thread nD τ).loc main_arg3) = vA m c

set_option maxRecDepth 8000 in
/-- On eight devices, for any float values, from any memory with zero counters, every weakly fair execution terminates;
    every final state has the windows' arrays at the data's contents, the arrays of keys and values as they were, and
    every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits_ok m ρ)
    (G := G m) (G' := G' m) (u₀ := u₀)
    (hu₀ := fund_all m)
    (hglob := glob m)
    (hA := fun _ _ => rfl) (hpf := fun _ k => k.elim0)
    (X := start m) (Y := fun c => iprop(unscopedSems0 c ∗ arrs m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = kA m c ∧ s.mem ((c : Thread nD τ).loc main_arg3) = vA m c)
    (hY := fun c s' => by
      iintro ⟨⟨Hu, HA⟩, -, HSI⟩
      ihave H := (arrs_read m c s') $$ [HA HSI]
      · isplitl [HA] <;> iassumption
      icases H with ⟨%hA, HSI⟩
      imod (Pipeline.unscopedSems0_read (X := unscopedSems0 c) (c := c) fupd_intro s') $$ [Hu HSI] with ⟨%hS, HSI⟩
      · isplitl [Hu] <;> iassumption
      imodintro
      isplitr; · ipureintro; exact ⟨hS, hA⟩
      iexact HSI)
    (hQ := fun _ h hs => ⟨fun c => ⟨fun w => (h c).1 w, (h c).2.2.2⟩, sem_eq_zero hs fun c => (h c).2.2.1⟩)

end Cert.Hand

end
-- ==== Proof.Frames.lean ====
/-
# The frames

The run with its values dropped, at the extended reals and at the machine's floats.
-/
module

public import proofs.«01_k».proof.Proof.Launch
public import proofs.«01_k».proof.Defs
public import proofs.«01_k».proof.Proof.Gen.Kernel

@[expose] public section

noncomputable section

namespace Cert.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ UU ℕ

variable (m : (ℓ : Loc nD τ sig) → Buf (Elt F) ℓ) (ρ : Dev nD → PrngReg)

/-- Each array after the run: the arguments as launched. -/
theorem args_kept {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans ((dats m ρ 0 c).arrAt_in 0 rfl _), ((h c).1 1).trans ((dats m ρ 0 c).arrAt_in 1 rfl _), (h c).2.1, (h c).2.2,
    ((h c).1 2).trans ((dats m ρ 0 c).arrAt_in 2 rfl _)⟩

/-- The run with its values dropped. -/
theorem run_frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => args_kept m ρ h.1 c, h.2⟩) (run_main m ρ)

/-- The idealized kernel's frame. -/
theorem frame_ideal : Cert.quiescent_KernelIdeal (hKernelIdeal := Cert.KernelIdeal.Gen.facts) := fun m ρ _ => run_frame (F := Ideal) m ρ

/-- At the machine's floats a named constant is the one its bits denote. -/
instance namedBits : Named Bits where
  named _ _ {φ} bits := FloatOps.ofBits φ bits

set_option maxRecDepth 100000 in
/-- At the machine's floats the two programs' bodies are one. -/
theorem defs₀_eq [Cert.Kernel.Facts] [Cert.KernelIdeal.Facts] : Cert.Kernel.defs₀ (F := Bits) = Cert.KernelIdeal.defs₀ (F := Bits) := by
  unfold Cert.Kernel.defs₀ Cert.KernelIdeal.defs₀
  congr 1
  funext l a
  obtain ⟨t, s⟩ := l
  cases t with
  | zero => obtain ⟨t, s⟩ := a; rfl
  | succ n => exact absurd s (Nat.not_lt.2 (Nat.le_add_left _ _))

set_option maxRecDepth 100000 in
/-- At the machine's floats the two programs' tables are one. -/
theorem defs_eq [Cert.Kernel.Facts] [Cert.KernelIdeal.Facts] : Cert.Kernel.defs (F := Bits) = Cert.KernelIdeal.defs (F := Bits) := by
  unfold Cert.Kernel.defs Cert.KernelIdeal.defs
  rw [defs₀_eq]
  rfl

/-- The kernel's frame: at the machine's floats it is the idealized program. -/
theorem frame_kernel : Cert.quiescent_Kernel (hKernel := Cert.Kernel.Gen.facts) := by
  letI := Cert.Kernel.Gen.facts
  intro m ρ _
  rw [defs_eq]
  exact run_frame (F := Bits) m ρ

end Cert.Hand

end
-- ==== Proof.Claims.lean ====
/-
# The claims about values

The algebraic claim, from the run of the kernel, the run of the reference and the equality of their results.
-/
module

public import proofs.«01_k».proof.Proof.Algebraic
public import proofs.«01_k».proof.Proof.Frames
public import Idealize.ShloMosaic.Lib.Pipeline.ValueKit
public import Idealize.ShloMosaic.Lib.Quiescent

@[expose] public section

noncomputable section

namespace Cert.Hand

open Cert.KernelIdeal Cert.KernelIdeal.Gen
open Idealize.ShloMosaic Idealize.ShloMosaic.TcCoe Idealize.SL.Sem

set_option maxRecDepth 16384

theorem ix3_zero (t : Fin cfg0.N) : win0_3.index t = ![0, 0, 0] := (by decide +kernel : ∀ t : Fin grid0.N, win0_3.index t = ![0, 0, 0]) t

/-- The result array after the run. -/
theorem result_at (m : (ℓ : Loc nD τ sig) → Buf (Elt Ideal) ℓ) (ρ : Dev nD → PrngReg) (c : Dev nD) :
    (dats m ρ 0 c).arrAt 3 cfg0.N = resF m := by
  refine (dats m ρ 0 c).arrAt_eq_of_covers 3 _ (by decide +kernel) fun t hf y => ?_
  show resF m _ = resF m _
  refine congrArg (resF m) ?_
  blk_ext [ix3_zero]

/-- The reference's frame. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The mask's constant is the idealized one. -/
theorem preserves : Cert.preserves_Kernel_KernelIdeal :=
  IdealRules.named_const.statement Cert.KernelIdeal.κ "mask" .f32 0xCE6E6B28#32 ⊥ rfl

/-- The kernel computes the reference. -/
theorem algebraic : Cert.algebraic_KernelIdeal_ReferenceIdeal_pre_scores_finite_KernelIdeal
    (hKernelIdeal := Cert.KernelIdeal.Gen.facts) (hReferenceIdeal := Cert.ReferenceIdeal.Gen.facts)
    (hPre_scores_finite_KernelIdeal := preFacts) := by
  intro m g m' g' hp h
  refine ⟨Cert.ReferenceIdeal.Value.res_main_v36 m' 0, ?_, ?_⟩
  · exact (θ_run defs _ _).mono (fun r hr c => ⟨((hr.1 c).1 3).trans ((result_at m g c).trans (res_eq m m' hp h)), args_kept m g hr.1 c⟩) (run_main m g)
  · exact (θ_run Cert.ReferenceIdeal.defs _ _).mono (fun r hr => hr 0) (Cert.ReferenceIdeal.Value.run (F := Ideal) m' g')

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Hand.preFacts, Cert.Hand.preFactsRef,
    Cert.Hand.frame_kernel, Cert.Hand.frame_ideal, fun m ρ _ => Cert.Hand.frame_ideal m ρ trivial,
    Cert.Hand.frame_reference, fun m ρ _ => Cert.Hand.frame_reference m ρ trivial, Cert.Hand.preserves, Cert.Hand.algebraic⟩

end Cert.Proof

end
